-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_v10_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts) (hPre_routed : Cert.Pre_routed.Facts),
    quiescent_Kernel (hKernel := hKernel) (hPre_in_range := hPre_in_range)
    ∧ quiescent_KernelIdeal (hKernelIdeal := hKernelIdeal) (hPre_in_range := hPre_in_range)
    ∧ quiescent_KernelIdeal_pre_routed (hKernelIdeal := hKernelIdeal) (hPre_routed := hPre_routed)
    ∧ quiescent_ReferenceIdeal (hReferenceIdeal := hReferenceIdeal) (hPre_in_range := hPre_in_range)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_in_range.lean ====
abbrev S16x1x2816 : Shape := ⟨3, ![16, 1, 2816]⟩
abbrev S16x1x8 : Shape := ⟨3, ![16, 1, 8]⟩
abbrev S16 : Shape := ⟨1, ![16]⟩
abbrev S32x2816x3072 : Shape := ⟨3, ![32, 2816, 3072]⟩
abbrev S32x3072 : Shape := ⟨2, ![32, 3072]⟩
abbrev S32x1536x2816 : Shape := ⟨3, ![32, 1536, 2816]⟩
abbrev S32x2816 : Shape := ⟨2, ![32, 2816]⟩
abbrev S32x8x2816x16 : Shape := ⟨4, ![32, 8, 2816, 16]⟩
abbrev S32x8x16x3072 : Shape := ⟨4, ![32, 8, 16, 3072]⟩
abbrev S_ : Shape := ⟨0, ![]⟩

class Facts : Prop where
  bcast_S_S16x1x8 : S_.BroadcastsInDim S16x1x8 (![] : Fin 0 → Fin S16x1x8.rank)
  bcast_S_S16 : S_.BroadcastsInDim S16 (![] : Fin 0 → Fin S16.rank)

variable [Facts]

def fn {F : FTy → Type} [FloatOps F] (main_arg0 : FVec F S16x1x2816 .bf16) (main_arg1 : IVec S16x1x8 32) (main_arg2 : FVec F S16x1x8 .f32) (main_arg3 : IVec S16 32) (main_arg4 : FVec F S32x2816x3072 .fp8e4m3) (main_arg5 : FVec F S32x3072 .f32) (main_arg6 : FVec F S32x1536x2816 .fp8e4m3) (main_arg7 : FVec F S32x2816 .f32) (main_arg8 : FVec F S32x8x2816x16 .bf16) (main_arg9 : FVec F S32x8x16x3072 .bf16) : IVec S16x1x8 1 × IVec S16x1x8 1 × IVec S16 1 × IVec S16 1 :=
  let main_c : IVec S_ 32 := constantI S_ 32 0#32
  let main_v0 : IVec S16x1x8 32 := broadcastInDim S16x1x8 ![] bcast_S_S16x1x8 main_c
  let main_v1 : IVec S16x1x8 1 := cmpi .sge main_arg1 main_v0
  let main_c_0 : IVec S_ 32 := constantI S_ 32 32#32
  let main_v2 : IVec S16x1x8 32 := broadcastInDim S16x1x8 ![] bcast_S_S16x1x8 main_c_0
  let main_v3 : IVec S16x1x8 1 := cmpi .slt main_arg1 main_v2
  let main_c_1 : IVec S_ 32 := constantI S_ 32 0#32
  let main_v4 : IVec S16 32 := broadcastInDim S16 ![] bcast_S_S16 main_c_1
  let main_v5 : IVec S16 1 := cmpi .sge main_arg3 main_v4
  let main_c_2 : IVec S_ 32 := constantI S_ 32 8#32
  let main_v6 : IVec S16 32 := broadcastInDim S16 ![] bcast_S_S16 main_c_2
  let main_v7 : IVec S16 1 := cmpi .slt main_arg3 main_v6
  (main_v1, main_v3, main_v5, main_v7)
-- ==== Pre_routed.lean ====
abbrev S16x1x2816 : Shape := ⟨3, ![16, 1, 2816]⟩
abbrev S16x1x8 : Shape := ⟨3, ![16, 1, 8]⟩
abbrev S16 : Shape := ⟨1, ![16]⟩
abbrev S32x2816x3072 : Shape := ⟨3, ![32, 2816, 3072]⟩
abbrev S32x3072 : Shape := ⟨2, ![32, 3072]⟩
abbrev S32x1536x2816 : Shape := ⟨3, ![32, 1536, 2816]⟩
abbrev S32x2816 : Shape := ⟨2, ![32, 2816]⟩
abbrev S32x8x2816x16 : Shape := ⟨4, ![32, 8, 2816, 16]⟩
abbrev S32x8x16x3072 : Shape := ⟨4, ![32, 8, 16, 3072]⟩
abbrev S16x1x8x1 : Shape := ⟨4, ![16, 1, 8, 1]⟩
abbrev S16x1x1x8 : Shape := ⟨4, ![16, 1, 1, 8]⟩
abbrev S8 : Shape := ⟨1, ![8]⟩
abbrev S16x1x8x8 : Shape := ⟨4, ![16, 1, 8, 8]⟩
abbrev S8x1 : Shape := ⟨2, ![8, 1]⟩
abbrev S1x8 : Shape := ⟨2, ![1, 8]⟩
abbrev S8x8 : Shape := ⟨2, ![8, 8]⟩
abbrev S1x1x8x8 : Shape := ⟨4, ![1, 1, 8, 8]⟩
abbrev S_ : Shape := ⟨0, ![]⟩

class Facts : Prop where
  bcast_S16x1x8_S16x1x8x1_0_1_2 : S16x1x8.BroadcastsInDim S16x1x8x1 (![0, 1, 2] : Fin 3 → Fin S16x1x8x1.rank)
  bcast_S16x1x8_S16x1x1x8_0_1_3 : S16x1x8.BroadcastsInDim S16x1x1x8 (![0, 1, 3] : Fin 3 → Fin S16x1x1x8.rank)
  bcast_S16x1x8x1_S16x1x8x8_0_1_2_3 : S16x1x8x1.BroadcastsInDim S16x1x8x8 (![0, 1, 2, 3] : Fin 4 → Fin S16x1x8x8.rank)
  bcast_S16x1x1x8_S16x1x8x8_0_1_2_3 : S16x1x1x8.BroadcastsInDim S16x1x8x8 (![0, 1, 2, 3] : Fin 4 → Fin S16x1x8x8.rank)
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S8x8_S1x1x8x8_2_3 : S8x8.BroadcastsInDim S1x1x8x8 (![2, 3] : Fin 2 → Fin S1x1x8x8.rank)
  bcast_S1x1x8x8_S16x1x8x8_0_1_2_3 : S1x1x8x8.BroadcastsInDim S16x1x8x8 (![0, 1, 2, 3] : Fin 4 → Fin S16x1x8x8.rank)
  bcast_S_S16x1x8 : S_.BroadcastsInDim S16x1x8 (![] : Fin 0 → Fin S16x1x8.rank)
  bcast_S_S16 : S_.BroadcastsInDim S16 (![] : Fin 0 → Fin S16.rank)

variable [Facts]

def fn_part1 {F : FTy → Type} [FloatOps F] (main_arg3 : IVec S16 32) (main_v13 : IVec S16x1x8x8 1) (main_v15 : IVec S16x1x8 1) (main_v17 : IVec S16x1x8 1) (main_v19 : IVec S16 1) (main_c_2 : IVec S_ 32) : IVec S16x1x8x8 1 × IVec S16x1x8 1 × IVec S16x1x8 1 × IVec S16 1 × IVec S16 1 :=
  let main_v20 : IVec S16 32 := broadcastInDim S16 ![] bcast_S_S16 main_c_2
  let main_v21 : IVec S16 1 := cmpi .slt main_arg3 main_v20
  (main_v13, main_v15, main_v17, main_v19, main_v21)

def fn {F : FTy → Type} [FloatOps F] (main_arg0 : FVec F S16x1x2816 .bf16) (main_arg1 : IVec S16x1x8 32) (main_arg2 : FVec F S16x1x8 .f32) (main_arg3 : IVec S16 32) (main_arg4 : FVec F S32x2816x3072 .fp8e4m3) (main_arg5 : FVec F S32x3072 .f32) (main_arg6 : FVec F S32x1536x2816 .fp8e4m3) (main_arg7 : FVec F S32x2816 .f32) (main_arg8 : FVec F S32x8x2816x16 .bf16) (main_arg9 : FVec F S32x8x16x3072 .bf16) : IVec S16x1x8x8 1 × IVec S16x1x8 1 × IVec S16x1x8 1 × IVec S16 1 × IVec S16 1 :=
  let main_v0 : IVec S16x1x8x1 32 := broadcastInDim S16x1x8x1 ![0, 1, 2] bcast_S16x1x8_S16x1x8x1_0_1_2 main_arg1
  let main_v1 : IVec S16x1x1x8 32 := broadcastInDim S16x1x1x8 ![0, 1, 3] bcast_S16x1x8_S16x1x1x8_0_1_3 main_arg1
  let main_v2 : IVec S8 32 := iotaInDim S8 32 0
  let main_v3 : IVec S16x1x8x8 32 := broadcastInDim S16x1x8x8 ![0, 1, 2, 3] bcast_S16x1x8x1_S16x1x8x8_0_1_2_3 main_v0
  let main_v4 : IVec S16x1x8x8 32 := broadcastInDim S16x1x8x8 ![0, 1, 2, 3] bcast_S16x1x1x8_S16x1x8x8_0_1_2_3 main_v1
  let main_v5 : IVec S16x1x8x8 1 := cmpi .ne main_v3 main_v4
  let main_v6 : IVec S8x1 32 := broadcastInDim S8x1 ![0] bcast_S8_S8x1_0 main_v2
  let main_v7 : IVec S1x8 32 := broadcastInDim S1x8 ![1] bcast_S8_S1x8_1 main_v2
  let main_v8 : IVec S8x8 32 := broadcastInDim S8x8 ![0, 1] bcast_S8x1_S8x8_0_1 main_v6
  let main_v9 : IVec S8x8 32 := broadcastInDim S8x8 ![0, 1] bcast_S1x8_S8x8_0_1 main_v7
  let main_v10 : IVec S8x8 1 := cmpi .eq main_v8 main_v9
  let main_v11 : IVec S1x1x8x8 1 := broadcastInDim S1x1x8x8 ![2, 3] bcast_S8x8_S1x1x8x8_2_3 main_v10
  let main_v12 : IVec S16x1x8x8 1 := broadcastInDim S16x1x8x8 ![0, 1, 2, 3] bcast_S1x1x8x8_S16x1x8x8_0_1_2_3 main_v11
  let main_v13 : IVec S16x1x8x8 1 := ori main_v5 main_v12
  let main_c : IVec S_ 32 := constantI S_ 32 0#32
  let main_v14 : IVec S16x1x8 32 := broadcastInDim S16x1x8 ![] bcast_S_S16x1x8 main_c
  let main_v15 : IVec S16x1x8 1 := cmpi .sge main_arg1 main_v14
  let main_c_0 : IVec S_ 32 := constantI S_ 32 32#32
  let main_v16 : IVec S16x1x8 32 := broadcastInDim S16x1x8 ![] bcast_S_S16x1x8 main_c_0
  let main_v17 : IVec S16x1x8 1 := cmpi .slt main_arg1 main_v16
  let main_c_1 : IVec S_ 32 := constantI S_ 32 0#32
  let main_v18 : IVec S16 32 := broadcastInDim S16 ![] bcast_S_S16 main_c_1
  let main_v19 : IVec S16 1 := cmpi .sge main_arg3 main_v18
  let main_c_2 : IVec S_ 32 := constantI S_ 32 8#32
  fn_part1 (F := F) main_arg3 main_v13 main_v15 main_v17 main_v19 main_c_2
-- ==== Kernel.lean ====
abbrev S16x1x2816 : Shape := ⟨3, ![16, 1, 2816]⟩
abbrev S16x1x8 : Shape := ⟨3, ![16, 1, 8]⟩
abbrev S16 : Shape := ⟨1, ![16]⟩
abbrev S32x2816x3072 : Shape := ⟨3, ![32, 2816, 3072]⟩
abbrev S32x3072 : Shape := ⟨2, ![32, 3072]⟩
abbrev S32x1536x2816 : Shape := ⟨3, ![32, 1536, 2816]⟩
abbrev S32x2816 : Shape := ⟨2, ![32, 2816]⟩
abbrev S32x8x2816x16 : Shape := ⟨4, ![32, 8, 2816, 16]⟩
abbrev S32x8x16x3072 : Shape := ⟨4, ![32, 8, 16, 3072]⟩
abbrev S16x8 : Shape := ⟨2, ![16, 8]⟩
abbrev S8x16 : Shape := ⟨2, ![8, 16]⟩
abbrev S16x2816 : Shape := ⟨2, ![16, 2816]⟩
abbrev S32x8x16x2816 : Shape := ⟨4, ![32, 8, 16, 2816]⟩
abbrev S32x128x2816 : Shape := ⟨3, ![32, 128, 2816]⟩
abbrev S32x128x3072 : Shape := ⟨3, ![32, 128, 3072]⟩
abbrev S1x16 : Shape := ⟨2, ![1, 16]⟩
abbrev S2x2816x3072 : Shape := ⟨3, ![2, 2816, 3072]⟩
abbrev S2x1536x2816 : Shape := ⟨3, ![2, 1536, 2816]⟩
abbrev S2x128x2816 : Shape := ⟨3, ![2, 128, 2816]⟩
abbrev S2x128x3072 : Shape := ⟨3, ![2, 128, 3072]⟩
abbrev S33 : Shape := ⟨1, ![33]⟩
abbrev S32 : Shape := ⟨1, ![32]⟩
abbrev S_ : Shape := ⟨0, ![]⟩
abbrev S2 : Shape := ⟨1, ![2]⟩
abbrev S1 : Shape := ⟨1, ![1]⟩
abbrev S1x1 : Shape := ⟨2, ![1, 1]⟩
abbrev S1x1408x3072 : Shape := ⟨3, ![1, 1408, 3072]⟩
abbrev S1408x3072 : Shape := ⟨2, ![1408, 3072]⟩
abbrev S1x128x2816 : Shape := ⟨3, ![1, 128, 2816]⟩
abbrev S128x2816 : Shape := ⟨2, ![128, 2816]⟩
abbrev S1x128x3072 : Shape := ⟨3, ![1, 128, 3072]⟩
abbrev S128x3072 : Shape := ⟨2, ![128, 3072]⟩
abbrev S1x1536x2816 : Shape := ⟨3, ![1, 1536, 2816]⟩
abbrev S1536x2816 : Shape := ⟨2, ![1536, 2816]⟩
abbrev S16x1 : Shape := ⟨2, ![16, 1]⟩
abbrev S16x256 : Shape := ⟨2, ![16, 256]⟩
abbrev S16x16 : Shape := ⟨2, ![16, 16]⟩
abbrev S16x128 : Shape := ⟨2, ![16, 128]⟩
abbrev S1x2816x3072 : Shape := ⟨3, ![1, 2816, 3072]⟩
abbrev S2816x3072 : Shape := ⟨2, ![2816, 3072]⟩
abbrev S1x2816x512 : Shape := ⟨3, ![1, 2816, 512]⟩
abbrev S2816x512 : Shape := ⟨2, ![2816, 512]⟩
abbrev S16x512 : Shape := ⟨2, ![16, 512]⟩
abbrev S1x128x512 : Shape := ⟨3, ![1, 128, 512]⟩
abbrev S128x512 : Shape := ⟨2, ![128, 512]⟩
abbrev S1x512 : Shape := ⟨2, ![1, 512]⟩
abbrev S16x1536 : Shape := ⟨2, ![16, 1536]⟩
abbrev S1x1536x512 : Shape := ⟨3, ![1, 1536, 512]⟩
abbrev S1536x512 : Shape := ⟨2, ![1536, 512]⟩
abbrev S1x1536x256 : Shape := ⟨3, ![1, 1536, 256]⟩
abbrev S1536x256 : Shape := ⟨2, ![1536, 256]⟩
abbrev S1x256 : Shape := ⟨2, ![1, 256]⟩

abbrev nBuf : Space → Nat
  | .hbm => 21
  | .vmem => 13
  | .smem => 4
  | _ => 0

abbrev bufTy : (tb : Table) → Fin (tcTables nBuf tb) → BufTy
  | .hbm, ⟨0, _⟩ => ⟨S16x1x2816, .bf16⟩
  | .hbm, ⟨1, _⟩ => ⟨S16x1x8, .i32⟩
  | .hbm, ⟨2, _⟩ => ⟨S16x1x8, .f32⟩
  | .hbm, ⟨3, _⟩ => ⟨S16, .i32⟩
  | .hbm, ⟨4, _⟩ => ⟨S32x2816x3072, .fp8e4m3⟩
  | .hbm, ⟨5, _⟩ => ⟨S32x3072, .f32⟩
  | .hbm, ⟨6, _⟩ => ⟨S32x1536x2816, .fp8e4m3⟩
  | .hbm, ⟨7, _⟩ => ⟨S32x2816, .f32⟩
  | .hbm, ⟨8, _⟩ => ⟨S32x8x2816x16, .bf16⟩
  | .hbm, ⟨9, _⟩ => ⟨S32x8x16x3072, .bf16⟩
  | .hbm, ⟨10, _⟩ => ⟨S16x8, .i32⟩
  | .hbm, ⟨11, _⟩ => ⟨S8x16, .i32⟩
  | .hbm, ⟨12, _⟩ => ⟨S16x8, .f32⟩
  | .hbm, ⟨13, _⟩ => ⟨S8x16, .f32⟩
  | .hbm, ⟨14, _⟩ => ⟨S16x2816, .bf16⟩
  | .hbm, ⟨15, _⟩ => ⟨S32x8x16x2816, .bf16⟩
  | .hbm, ⟨16, _⟩ => ⟨S32x128x2816, .bf16⟩
  | .hbm, ⟨17, _⟩ => ⟨S32x128x3072, .bf16⟩
  | .hbm, ⟨18, _⟩ => ⟨S16x2816, .bf16⟩
  | .hbm, ⟨19, _⟩ => ⟨S16x2816, .fp8e4m3⟩
  | .hbm, ⟨20, _⟩ => ⟨S1x16, .f32⟩
  | .local _ .vmem, ⟨0, _⟩ => ⟨S16x2816, .bf16⟩
  | .local _ .vmem, ⟨1, _⟩ => ⟨S16x2816, .fp8e4m3⟩
  | .local _ .vmem, ⟨2, _⟩ => ⟨S1x16, .f32⟩
  | .local _ .vmem, ⟨3, _⟩ => ⟨S8x16, .i32⟩
  | .local _ .vmem, ⟨4, _⟩ => ⟨S8x16, .f32⟩
  | .local _ .vmem, ⟨5, _⟩ => ⟨S16x2816, .bf16⟩
  | .local _ .vmem, ⟨6, _⟩ => ⟨S32x3072, .f32⟩
  | .local _ .vmem, ⟨7, _⟩ => ⟨S32x2816, .f32⟩
  | .local _ .vmem, ⟨8, _⟩ => ⟨S2x2816x3072, .fp8e4m3⟩
  | .local _ .vmem, ⟨9, _⟩ => ⟨S2x1536x2816, .fp8e4m3⟩
  | .local _ .vmem, ⟨10, _⟩ => ⟨S2x128x2816, .bf16⟩
  | .local _ .vmem, ⟨11, _⟩ => ⟨S2x128x3072, .bf16⟩
  | .local _ .vmem, ⟨12, _⟩ => ⟨S16x2816, .f32⟩
  | .local _ .smem, ⟨0, _⟩ => ⟨S8x16, .i32⟩
  | .local _ .smem, ⟨1, _⟩ => ⟨S16, .i32⟩
  | .local _ .smem, ⟨2, _⟩ => ⟨S33, .i32⟩
  | .local _ .smem, ⟨3, _⟩ => ⟨S32, .i32⟩
  | _, _ => ⟨S16x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch0 : Ref sig .tc := ⟨.smem, 0, rfl⟩
abbrev cc0_scratch1 : Ref sig .tc := ⟨.smem, 1, rfl⟩
abbrev cc0_scratch12 : Ref sig .tc := ⟨.smem, 2, rfl⟩
abbrev cc0_scratch13 : Ref sig .tc := ⟨.smem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_38 : BitVec 32 := 0#32
  let c2_i32 : BitVec 32 := 2#32
  let v39 : BitVec 32 := Scalar.remsi c0_i32_38 c2_i32
  ![v39.toNat]
def k0_off2 : Fin 3 → Nat :=
  let c0_i32_38 : BitVec 32 := 0#32
  let c2_i32 : BitVec 32 := 2#32
  let v39 : BitVec 32 := Scalar.remsi c0_i32_38 c2_i32
  let c0_i32_39 : BitVec 32 := 0#32
  let c0_i32_40 : BitVec 32 := 0#32
  ![v39.toNat, 0, 0]
def k0_off3 (v38 : BitVec 32) : Fin 3 → Nat :=
  let c0_i32_41 : BitVec 32 := 0#32
  let c0_i32_42 : BitVec 32 := 0#32
  ![v38.toNat, 0, 0]

def k0_chk1 (v38 : BitVec 32) : Prop :=
  (∀ a, (k0_off3 v38) a + S1x1408x3072.size a ≤ S32x2816x3072.size a) ∧
  (∀ (hinb : ∀ a, (k0_off3 v38) a + S1x1408x3072.size a ≤ S32x2816x3072.size a), (Rect.unit (s := S32x2816x3072) (k0_off3 v38) S1x1408x3072.size hinb).WholeWords (EltTy.packing .fp8e4m3))
theorem k0_off3_inb : ∀ (v38 : BitVec 32) (k0_hw1 : k0_chk1 v38), ∀ a, (k0_off3 v38) a + S1x1408x3072.size a ≤ S32x2816x3072.size a := fun v38 k0_hw1 => k0_hw1.1
theorem k0_off3_wordsfp8e4m3 : ∀ (v38 : BitVec 32) (k0_hw1 : k0_chk1 v38), (Rect.unit (s := S32x2816x3072) (k0_off3 v38) S1x1408x3072.size (k0_off3_inb v38 k0_hw1)).WholeWords (EltTy.packing .fp8e4m3) := fun v38 k0_hw1 => k0_hw1.2 (k0_off3_inb v38 k0_hw1)

def k0_off4 : Fin 1 → Nat :=
  let c0_i32_44 : BitVec 32 := 0#32
  let c2_i32_45 : BitVec 32 := 2#32
  let v47 : BitVec 32 := Scalar.remsi c0_i32_44 c2_i32_45
  ![v47.toNat]
def k0_off5 : Fin 3 → Nat :=
  let c0_i32_44 : BitVec 32 := 0#32
  let c2_i32_45 : BitVec 32 := 2#32
  let v47 : BitVec 32 := Scalar.remsi c0_i32_44 c2_i32_45
  let c1408_i32 : BitVec 32 := 1408#32
  let c0_i32_46 : BitVec 32 := 0#32
  ![v47.toNat, 1408, 0]
def k0_off6 (v46 : BitVec 32) : Fin 3 → Nat :=
  let c1408_i32_47 : BitVec 32 := 1408#32
  let c0_i32_48 : BitVec 32 := 0#32
  ![v46.toNat, 1408, 0]

def k0_chk2 (v46 : BitVec 32) : Prop :=
  (∀ a, (k0_off6 v46) a + S1x1408x3072.size a ≤ S32x2816x3072.size a) ∧
  (∀ (hinb : ∀ a, (k0_off6 v46) a + S1x1408x3072.size a ≤ S32x2816x3072.size a), (Rect.unit (s := S32x2816x3072) (k0_off6 v46) S1x1408x3072.size hinb).WholeWords (EltTy.packing .fp8e4m3))
theorem k0_off6_inb : ∀ (v46 : BitVec 32) (k0_hw2 : k0_chk2 v46), ∀ a, (k0_off6 v46) a + S1x1408x3072.size a ≤ S32x2816x3072.size a := fun v46 k0_hw2 => k0_hw2.1
theorem k0_off6_wordsfp8e4m3 : ∀ (v46 : BitVec 32) (k0_hw2 : k0_chk2 v46), (Rect.unit (s := S32x2816x3072) (k0_off6 v46) S1x1408x3072.size (k0_off6_inb v46 k0_hw2)).WholeWords (EltTy.packing .fp8e4m3) := fun v46 k0_hw2 => k0_hw2.2 (k0_off6_inb v46 k0_hw2)

@[reducible] def k0_t1_loop : Scf.Loop 32 :=
  let c0_i32_50 : BitVec 32 := 0#32
  let c16_i32 : BitVec 32 := 16#32
  let v54 : BitVec 32 := Scalar.addi c0_i32_50 c16_i32
  let c1_i32 : BitVec 32 := 1#32
  ⟨c0_i32_50, v54, c1_i32⟩
def k0_off7 (k0_t1 : Fin k0_t1_loop.trips) : Fin 1 → Nat :=
  let c0_i32_50 : BitVec 32 := 0#32
  let c1_i32 : BitVec 32 := 1#32
  let arg35 : BitVec 32 := Scf.iv c0_i32_50 c1_i32 k0_t1
  let v542 : Index := Scalar.indexCast arg35
  ![v542.toNat]
def k0_off8 (k0_t1 : Fin k0_t1_loop.trips) : Fin 2 → Nat :=
  let c0_216 : Index := 0#32
  let c0_i32_50 : BitVec 32 := 0#32
  let c1_i32 : BitVec 32 := 1#32
  let arg35 : BitVec 32 := Scf.iv c0_i32_50 c1_i32 k0_t1
  let v545 : Index := Scalar.indexCast arg35
  ![0, v545.toNat]
def k0_off9 (v546 : BitVec 32) : Fin 1 → Nat :=
  let v547 : Index := Scalar.indexCast v546
  ![v547.toNat]

def k0_off10 (arg36 : BitVec 32) : Fin 1 → Nat :=
  let v549 : Index := Scalar.indexCast arg36
  ![v549.toNat]

def k0_chk4 (arg36 : BitVec 32) : Prop :=
  (∀ a, (k0_off10 arg36) a + S1.size a ≤ S33.size a)
theorem k0_off10_inb : ∀ (arg36 : BitVec 32) (k0_hw4 : k0_chk4 arg36), ∀ a, (k0_off10 arg36) a + S1.size a ≤ S33.size a := fun arg36 k0_hw4 => k0_hw4

def k0_off11 (v546 : BitVec 32) : Fin 1 → Nat :=
  let v555 : Index := Scalar.indexCast v546
  ![v555.toNat]

def k0_chk3 (v546 : BitVec 32) : Prop :=
  (∀ a, (k0_off9 v546) a + S1.size a ≤ S32.size a) ∧
  (∀ a, (k0_off11 v546) a + S1.size a ≤ S32.size a)
theorem k0_off9_inb : ∀ (v546 : BitVec 32) (k0_hw3 : k0_chk3 v546), ∀ a, (k0_off9 v546) a + S1.size a ≤ S32.size a := fun v546 k0_hw3 => k0_hw3.1
theorem k0_off11_inb : ∀ (v546 : BitVec 32) (k0_hw3 : k0_chk3 v546), ∀ a, (k0_off11 v546) a + S1.size a ≤ S32.size a := fun v546 k0_hw3 => k0_hw3.2

def k0_off12 (k0_t1 : Fin k0_t1_loop.trips) : Fin 2 → Nat :=
  let c1_218 : Index := 1#32
  let c0_i32_50 : BitVec 32 := 0#32
  let c1_i32 : BitVec 32 := 1#32
  let arg35 : BitVec 32 := Scf.iv c0_i32_50 c1_i32 k0_t1
  let v557 : Index := Scalar.indexCast arg35
  ![1, v557.toNat]
def k0_off13 (v558 : BitVec 32) : Fin 1 → Nat :=
  let v559 : Index := Scalar.indexCast v558
  ![v559.toNat]

def k0_off14 (arg36 : BitVec 32) (v548 : BitVec 32) : Fin 1 → Nat :=
  let c0_i32_217 : BitVec 32 := 0#32
  let v551 : BitVec 1 := Scalar.cmpi .eq v548 c0_i32_217
  let v552 : BitVec 32 := Scalar.extui v551
  let v553 : BitVec 32 := Scalar.addi arg36 v552
  let v561 : Index := Scalar.indexCast v553
  ![v561.toNat]

def k0_chk6 (arg36 : BitVec 32) (v548 : BitVec 32) : Prop :=
  (∀ a, (k0_off14 arg36 v548) a + S1.size a ≤ S33.size a)
theorem k0_off14_inb : ∀ (arg36 : BitVec 32) (v548 : BitVec 32) (k0_hw6 : k0_chk6 arg36 v548), ∀ a, (k0_off14 arg36 v548) a + S1.size a ≤ S33.size a := fun arg36 v548 k0_hw6 => k0_hw6

def k0_off15 (v558 : BitVec 32) : Fin 1 → Nat :=
  let v567 : Index := Scalar.indexCast v558
  ![v567.toNat]

def k0_chk5 (v558 : BitVec 32) : Prop :=
  (∀ a, (k0_off13 v558) a + S1.size a ≤ S32.size a) ∧
  (∀ a, (k0_off15 v558) a + S1.size a ≤ S32.size a)
theorem k0_off13_inb : ∀ (v558 : BitVec 32) (k0_hw5 : k0_chk5 v558), ∀ a, (k0_off13 v558) a + S1.size a ≤ S32.size a := fun v558 k0_hw5 => k0_hw5.1
theorem k0_off15_inb : ∀ (v558 : BitVec 32) (k0_hw5 : k0_chk5 v558), ∀ a, (k0_off15 v558) a + S1.size a ≤ S32.size a := fun v558 k0_hw5 => k0_hw5.2

def k0_off16 (k0_t1 : Fin k0_t1_loop.trips) : Fin 2 → Nat :=
  let c2_220 : Index := 2#32
  let c0_i32_50 : BitVec 32 := 0#32
  let c1_i32 : BitVec 32 := 1#32
  let arg35 : BitVec 32 := Scf.iv c0_i32_50 c1_i32 k0_t1
  let v569 : Index := Scalar.indexCast arg35
  ![2, v569.toNat]
def k0_off17 (v570 : BitVec 32) : Fin 1 → Nat :=
  let v571 : Index := Scalar.indexCast v570
  ![v571.toNat]

def k0_off18 (arg36 : BitVec 32) (v548 : BitVec 32) (v560 : BitVec 32) : Fin 1 → Nat :=
  let c0_i32_217 : BitVec 32 := 0#32
  let v551 : BitVec 1 := Scalar.cmpi .eq v548 c0_i32_217
  let v552 : BitVec 32 := Scalar.extui v551
  let v553 : BitVec 32 := Scalar.addi arg36 v552
  let c0_i32_219 : BitVec 32 := 0#32
  let v563 : BitVec 1 := Scalar.cmpi .eq v560 c0_i32_219
  let v564 : BitVec 32 := Scalar.extui v563
  let v565 : BitVec 32 := Scalar.addi v553 v564
  let v573 : Index := Scalar.indexCast v565
  ![v573.toNat]

def k0_chk8 (arg36 : BitVec 32) (v548 : BitVec 32) (v560 : BitVec 32) : Prop :=
  (∀ a, (k0_off18 arg36 v548 v560) a + S1.size a ≤ S33.size a)
theorem k0_off18_inb : ∀ (arg36 : BitVec 32) (v548 : BitVec 32) (v560 : BitVec 32) (k0_hw8 : k0_chk8 arg36 v548 v560), ∀ a, (k0_off18 arg36 v548 v560) a + S1.size a ≤ S33.size a := fun arg36 v548 v560 k0_hw8 => k0_hw8

def k0_off19 (v570 : BitVec 32) : Fin 1 → Nat :=
  let v579 : Index := Scalar.indexCast v570
  ![v579.toNat]

def k0_chk7 (v570 : BitVec 32) : Prop :=
  (∀ a, (k0_off17 v570) a + S1.size a ≤ S32.size a) ∧
  (∀ a, (k0_off19 v570) a + S1.size a ≤ S32.size a)
theorem k0_off17_inb : ∀ (v570 : BitVec 32) (k0_hw7 : k0_chk7 v570), ∀ a, (k0_off17 v570) a + S1.size a ≤ S32.size a := fun v570 k0_hw7 => k0_hw7.1
theorem k0_off19_inb : ∀ (v570 : BitVec 32) (k0_hw7 : k0_chk7 v570), ∀ a, (k0_off19 v570) a + S1.size a ≤ S32.size a := fun v570 k0_hw7 => k0_hw7.2

def k0_off20 (k0_t1 : Fin k0_t1_loop.trips) : Fin 2 → Nat :=
  let c3_222 : Index := 3#32
  let c0_i32_50 : BitVec 32 := 0#32
  let c1_i32 : BitVec 32 := 1#32
  let arg35 : BitVec 32 := Scf.iv c0_i32_50 c1_i32 k0_t1
  let v581 : Index := Scalar.indexCast arg35
  ![3, v581.toNat]
def k0_off21 (v582 : BitVec 32) : Fin 1 → Nat :=
  let v583 : Index := Scalar.indexCast v582
  ![v583.toNat]

def k0_off22 (arg36 : BitVec 32) (v548 : BitVec 32) (v560 : BitVec 32) (v572 : BitVec 32) : Fin 1 → Nat :=
  let c0_i32_217 : BitVec 32 := 0#32
  let v551 : BitVec 1 := Scalar.cmpi .eq v548 c0_i32_217
  let v552 : BitVec 32 := Scalar.extui v551
  let v553 : BitVec 32 := Scalar.addi arg36 v552
  let c0_i32_219 : BitVec 32 := 0#32
  let v563 : BitVec 1 := Scalar.cmpi .eq v560 c0_i32_219
  let v564 : BitVec 32 := Scalar.extui v563
  let v565 : BitVec 32 := Scalar.addi v553 v564
  let c0_i32_221 : BitVec 32 := 0#32
  let v575 : BitVec 1 := Scalar.cmpi .eq v572 c0_i32_221
  let v576 : BitVec 32 := Scalar.extui v575
  let v577 : BitVec 32 := Scalar.addi v565 v576
  let v585 : Index := Scalar.indexCast v577
  ![v585.toNat]

def k0_chk10 (arg36 : BitVec 32) (v548 : BitVec 32) (v560 : BitVec 32) (v572 : BitVec 32) : Prop :=
  (∀ a, (k0_off22 arg36 v548 v560 v572) a + S1.size a ≤ S33.size a)
theorem k0_off22_inb : ∀ (arg36 : BitVec 32) (v548 : BitVec 32) (v560 : BitVec 32) (v572 : BitVec 32) (k0_hw10 : k0_chk10 arg36 v548 v560 v572), ∀ a, (k0_off22 arg36 v548 v560 v572) a + S1.size a ≤ S33.size a := fun arg36 v548 v560 v572 k0_hw10 => k0_hw10

def k0_off23 (v582 : BitVec 32) : Fin 1 → Nat :=
  let v591 : Index := Scalar.indexCast v582
  ![v591.toNat]

def k0_chk9 (v582 : BitVec 32) : Prop :=
  (∀ a, (k0_off21 v582) a + S1.size a ≤ S32.size a) ∧
  (∀ a, (k0_off23 v582) a + S1.size a ≤ S32.size a)
theorem k0_off21_inb : ∀ (v582 : BitVec 32) (k0_hw9 : k0_chk9 v582), ∀ a, (k0_off21 v582) a + S1.size a ≤ S32.size a := fun v582 k0_hw9 => k0_hw9.1
theorem k0_off23_inb : ∀ (v582 : BitVec 32) (k0_hw9 : k0_chk9 v582), ∀ a, (k0_off23 v582) a + S1.size a ≤ S32.size a := fun v582 k0_hw9 => k0_hw9.2

def k0_off24 (k0_t1 : Fin k0_t1_loop.trips) : Fin 2 → Nat :=
  let c4_224 : Index := 4#32
  let c0_i32_50 : BitVec 32 := 0#32
  let c1_i32 : BitVec 32 := 1#32
  let arg35 : BitVec 32 := Scf.iv c0_i32_50 c1_i32 k0_t1
  let v593 : Index := Scalar.indexCast arg35
  ![4, v593.toNat]
def k0_off25 (v594 : BitVec 32) : Fin 1 → Nat :=
  let v595 : Index := Scalar.indexCast v594
  ![v595.toNat]

def k0_off26 (arg36 : BitVec 32) (v548 : BitVec 32) (v560 : BitVec 32) (v572 : BitVec 32) (v584 : BitVec 32) : Fin 1 → Nat :=
  let c0_i32_217 : BitVec 32 := 0#32
  let v551 : BitVec 1 := Scalar.cmpi .eq v548 c0_i32_217
  let v552 : BitVec 32 := Scalar.extui v551
  let v553 : BitVec 32 := Scalar.addi arg36 v552
  let c0_i32_219 : BitVec 32 := 0#32
  let v563 : BitVec 1 := Scalar.cmpi .eq v560 c0_i32_219
  let v564 : BitVec 32 := Scalar.extui v563
  let v565 : BitVec 32 := Scalar.addi v553 v564
  let c0_i32_221 : BitVec 32 := 0#32
  let v575 : BitVec 1 := Scalar.cmpi .eq v572 c0_i32_221
  let v576 : BitVec 32 := Scalar.extui v575
  let v577 : BitVec 32 := Scalar.addi v565 v576
  let c0_i32_223 : BitVec 32 := 0#32
  let v587 : BitVec 1 := Scalar.cmpi .eq v584 c0_i32_223
  let v588 : BitVec 32 := Scalar.extui v587
  let v589 : BitVec 32 := Scalar.addi v577 v588
  let v597 : Index := Scalar.indexCast v589
  ![v597.toNat]

def k0_chk12 (arg36 : BitVec 32) (v548 : BitVec 32) (v560 : BitVec 32) (v572 : BitVec 32) (v584 : BitVec 32) : Prop :=
  (∀ a, (k0_off26 arg36 v548 v560 v572 v584) a + S1.size a ≤ S33.size a)
theorem k0_off26_inb : ∀ (arg36 : BitVec 32) (v548 : BitVec 32) (v560 : BitVec 32) (v572 : BitVec 32) (v584 : BitVec 32) (k0_hw12 : k0_chk12 arg36 v548 v560 v572 v584), ∀ a, (k0_off26 arg36 v548 v560 v572 v584) a + S1.size a ≤ S33.size a := fun arg36 v548 v560 v572 v584 k0_hw12 => k0_hw12

def k0_off27 (v594 : BitVec 32) : Fin 1 → Nat :=
  let v603 : Index := Scalar.indexCast v594
  ![v603.toNat]

def k0_chk11 (v594 : BitVec 32) : Prop :=
  (∀ a, (k0_off25 v594) a + S1.size a ≤ S32.size a) ∧
  (∀ a, (k0_off27 v594) a + S1.size a ≤ S32.size a)
theorem k0_off25_inb : ∀ (v594 : BitVec 32) (k0_hw11 : k0_chk11 v594), ∀ a, (k0_off25 v594) a + S1.size a ≤ S32.size a := fun v594 k0_hw11 => k0_hw11.1
theorem k0_off27_inb : ∀ (v594 : BitVec 32) (k0_hw11 : k0_chk11 v594), ∀ a, (k0_off27 v594) a + S1.size a ≤ S32.size a := fun v594 k0_hw11 => k0_hw11.2

def k0_off28 (k0_t1 : Fin k0_t1_loop.trips) : Fin 2 → Nat :=
  let c5_226 : Index := 5#32
  let c0_i32_50 : BitVec 32 := 0#32
  let c1_i32 : BitVec 32 := 1#32
  let arg35 : BitVec 32 := Scf.iv c0_i32_50 c1_i32 k0_t1
  let v605 : Index := Scalar.indexCast arg35
  ![5, v605.toNat]
def k0_off29 (v606 : BitVec 32) : Fin 1 → Nat :=
  let v607 : Index := Scalar.indexCast v606
  ![v607.toNat]

def k0_off30 (arg36 : BitVec 32) (v548 : BitVec 32) (v560 : BitVec 32) (v572 : BitVec 32) (v584 : BitVec 32) (v596 : BitVec 32) : Fin 1 → Nat :=
  let c0_i32_217 : BitVec 32 := 0#32
  let v551 : BitVec 1 := Scalar.cmpi .eq v548 c0_i32_217
  let v552 : BitVec 32 := Scalar.extui v551
  let v553 : BitVec 32 := Scalar.addi arg36 v552
  let c0_i32_219 : BitVec 32 := 0#32
  let v563 : BitVec 1 := Scalar.cmpi .eq v560 c0_i32_219
  let v564 : BitVec 32 := Scalar.extui v563
  let v565 : BitVec 32 := Scalar.addi v553 v564
  let c0_i32_221 : BitVec 32 := 0#32
  let v575 : BitVec 1 := Scalar.cmpi .eq v572 c0_i32_221
  let v576 : BitVec 32 := Scalar.extui v575
  let v577 : BitVec 32 := Scalar.addi v565 v576
  let c0_i32_223 : BitVec 32 := 0#32
  let v587 : BitVec 1 := Scalar.cmpi .eq v584 c0_i32_223
  let v588 : BitVec 32 := Scalar.extui v587
  let v589 : BitVec 32 := Scalar.addi v577 v588
  let c0_i32_225 : BitVec 32 := 0#32
  let v599 : BitVec 1 := Scalar.cmpi .eq v596 c0_i32_225
  let v600 : BitVec 32 := Scalar.extui v599
  let v601 : BitVec 32 := Scalar.addi v589 v600
  let v609 : Index := Scalar.indexCast v601
  ![v609.toNat]

def k0_chk14 (arg36 : BitVec 32) (v548 : BitVec 32) (v560 : BitVec 32) (v572 : BitVec 32) (v584 : BitVec 32) (v596 : BitVec 32) : Prop :=
  (∀ a, (k0_off30 arg36 v548 v560 v572 v584 v596) a + S1.size a ≤ S33.size a)
theorem k0_off30_inb : ∀ (arg36 : BitVec 32) (v548 : BitVec 32) (v560 : BitVec 32) (v572 : BitVec 32) (v584 : BitVec 32) (v596 : BitVec 32) (k0_hw14 : k0_chk14 arg36 v548 v560 v572 v584 v596), ∀ a, (k0_off30 arg36 v548 v560 v572 v584 v596) a + S1.size a ≤ S33.size a := fun arg36 v548 v560 v572 v584 v596 k0_hw14 => k0_hw14

def k0_off31 (v606 : BitVec 32) : Fin 1 → Nat :=
  let v615 : Index := Scalar.indexCast v606
  ![v615.toNat]

def k0_chk13 (v606 : BitVec 32) : Prop :=
  (∀ a, (k0_off29 v606) a + S1.size a ≤ S32.size a) ∧
  (∀ a, (k0_off31 v606) a + S1.size a ≤ S32.size a)
theorem k0_off29_inb : ∀ (v606 : BitVec 32) (k0_hw13 : k0_chk13 v606), ∀ a, (k0_off29 v606) a + S1.size a ≤ S32.size a := fun v606 k0_hw13 => k0_hw13.1
theorem k0_off31_inb : ∀ (v606 : BitVec 32) (k0_hw13 : k0_chk13 v606), ∀ a, (k0_off31 v606) a + S1.size a ≤ S32.size a := fun v606 k0_hw13 => k0_hw13.2

def k0_off32 (k0_t1 : Fin k0_t1_loop.trips) : Fin 2 → Nat :=
  let c6_228 : Index := 6#32
  let c0_i32_50 : BitVec 32 := 0#32
  let c1_i32 : BitVec 32 := 1#32
  let arg35 : BitVec 32 := Scf.iv c0_i32_50 c1_i32 k0_t1
  let v617 : Index := Scalar.indexCast arg35
  ![6, v617.toNat]
def k0_off33 (v618 : BitVec 32) : Fin 1 → Nat :=
  let v619 : Index := Scalar.indexCast v618
  ![v619.toNat]

def k0_off34 (arg36 : BitVec 32) (v548 : BitVec 32) (v560 : BitVec 32) (v572 : BitVec 32) (v584 : BitVec 32) (v596 : BitVec 32) (v608 : BitVec 32) : Fin 1 → Nat :=
  let c0_i32_217 : BitVec 32 := 0#32
  let v551 : BitVec 1 := Scalar.cmpi .eq v548 c0_i32_217
  let v552 : BitVec 32 := Scalar.extui v551
  let v553 : BitVec 32 := Scalar.addi arg36 v552
  let c0_i32_219 : BitVec 32 := 0#32
  let v563 : BitVec 1 := Scalar.cmpi .eq v560 c0_i32_219
  let v564 : BitVec 32 := Scalar.extui v563
  let v565 : BitVec 32 := Scalar.addi v553 v564
  let c0_i32_221 : BitVec 32 := 0#32
  let v575 : BitVec 1 := Scalar.cmpi .eq v572 c0_i32_221
  let v576 : BitVec 32 := Scalar.extui v575
  let v577 : BitVec 32 := Scalar.addi v565 v576
  let c0_i32_223 : BitVec 32 := 0#32
  let v587 : BitVec 1 := Scalar.cmpi .eq v584 c0_i32_223
  let v588 : BitVec 32 := Scalar.extui v587
  let v589 : BitVec 32 := Scalar.addi v577 v588
  let c0_i32_225 : BitVec 32 := 0#32
  let v599 : BitVec 1 := Scalar.cmpi .eq v596 c0_i32_225
  let v600 : BitVec 32 := Scalar.extui v599
  let v601 : BitVec 32 := Scalar.addi v589 v600
  let c0_i32_227 : BitVec 32 := 0#32
  let v611 : BitVec 1 := Scalar.cmpi .eq v608 c0_i32_227
  let v612 : BitVec 32 := Scalar.extui v611
  let v613 : BitVec 32 := Scalar.addi v601 v612
  let v621 : Index := Scalar.indexCast v613
  ![v621.toNat]

def k0_chk16 (arg36 : BitVec 32) (v548 : BitVec 32) (v560 : BitVec 32) (v572 : BitVec 32) (v584 : BitVec 32) (v596 : BitVec 32) (v608 : BitVec 32) : Prop :=
  (∀ a, (k0_off34 arg36 v548 v560 v572 v584 v596 v608) a + S1.size a ≤ S33.size a)
theorem k0_off34_inb : ∀ (arg36 : BitVec 32) (v548 : BitVec 32) (v560 : BitVec 32) (v572 : BitVec 32) (v584 : BitVec 32) (v596 : BitVec 32) (v608 : BitVec 32) (k0_hw16 : k0_chk16 arg36 v548 v560 v572 v584 v596 v608), ∀ a, (k0_off34 arg36 v548 v560 v572 v584 v596 v608) a + S1.size a ≤ S33.size a := fun arg36 v548 v560 v572 v584 v596 v608 k0_hw16 => k0_hw16

def k0_off35 (v618 : BitVec 32) : Fin 1 → Nat :=
  let v627 : Index := Scalar.indexCast v618
  ![v627.toNat]

def k0_chk15 (v618 : BitVec 32) : Prop :=
  (∀ a, (k0_off33 v618) a + S1.size a ≤ S32.size a) ∧
  (∀ a, (k0_off35 v618) a + S1.size a ≤ S32.size a)
theorem k0_off33_inb : ∀ (v618 : BitVec 32) (k0_hw15 : k0_chk15 v618), ∀ a, (k0_off33 v618) a + S1.size a ≤ S32.size a := fun v618 k0_hw15 => k0_hw15.1
theorem k0_off35_inb : ∀ (v618 : BitVec 32) (k0_hw15 : k0_chk15 v618), ∀ a, (k0_off35 v618) a + S1.size a ≤ S32.size a := fun v618 k0_hw15 => k0_hw15.2

def k0_off36 (k0_t1 : Fin k0_t1_loop.trips) : Fin 2 → Nat :=
  let c7_230 : Index := 7#32
  let c0_i32_50 : BitVec 32 := 0#32
  let c1_i32 : BitVec 32 := 1#32
  let arg35 : BitVec 32 := Scf.iv c0_i32_50 c1_i32 k0_t1
  let v629 : Index := Scalar.indexCast arg35
  ![7, v629.toNat]
def k0_off37 (v630 : BitVec 32) : Fin 1 → Nat :=
  let v631 : Index := Scalar.indexCast v630
  ![v631.toNat]

def k0_off38 (arg36 : BitVec 32) (v548 : BitVec 32) (v560 : BitVec 32) (v572 : BitVec 32) (v584 : BitVec 32) (v596 : BitVec 32) (v608 : BitVec 32) (v620 : BitVec 32) : Fin 1 → Nat :=
  let c0_i32_217 : BitVec 32 := 0#32
  let v551 : BitVec 1 := Scalar.cmpi .eq v548 c0_i32_217
  let v552 : BitVec 32 := Scalar.extui v551
  let v553 : BitVec 32 := Scalar.addi arg36 v552
  let c0_i32_219 : BitVec 32 := 0#32
  let v563 : BitVec 1 := Scalar.cmpi .eq v560 c0_i32_219
  let v564 : BitVec 32 := Scalar.extui v563
  let v565 : BitVec 32 := Scalar.addi v553 v564
  let c0_i32_221 : BitVec 32 := 0#32
  let v575 : BitVec 1 := Scalar.cmpi .eq v572 c0_i32_221
  let v576 : BitVec 32 := Scalar.extui v575
  let v577 : BitVec 32 := Scalar.addi v565 v576
  let c0_i32_223 : BitVec 32 := 0#32
  let v587 : BitVec 1 := Scalar.cmpi .eq v584 c0_i32_223
  let v588 : BitVec 32 := Scalar.extui v587
  let v589 : BitVec 32 := Scalar.addi v577 v588
  let c0_i32_225 : BitVec 32 := 0#32
  let v599 : BitVec 1 := Scalar.cmpi .eq v596 c0_i32_225
  let v600 : BitVec 32 := Scalar.extui v599
  let v601 : BitVec 32 := Scalar.addi v589 v600
  let c0_i32_227 : BitVec 32 := 0#32
  let v611 : BitVec 1 := Scalar.cmpi .eq v608 c0_i32_227
  let v612 : BitVec 32 := Scalar.extui v611
  let v613 : BitVec 32 := Scalar.addi v601 v612
  let c0_i32_229 : BitVec 32 := 0#32
  let v623 : BitVec 1 := Scalar.cmpi .eq v620 c0_i32_229
  let v624 : BitVec 32 := Scalar.extui v623
  let v625 : BitVec 32 := Scalar.addi v613 v624
  let v633 : Index := Scalar.indexCast v625
  ![v633.toNat]

def k0_chk18 (arg36 : BitVec 32) (v548 : BitVec 32) (v560 : BitVec 32) (v572 : BitVec 32) (v584 : BitVec 32) (v596 : BitVec 32) (v608 : BitVec 32) (v620 : BitVec 32) : Prop :=
  (∀ a, (k0_off38 arg36 v548 v560 v572 v584 v596 v608 v620) a + S1.size a ≤ S33.size a)
theorem k0_off38_inb : ∀ (arg36 : BitVec 32) (v548 : BitVec 32) (v560 : BitVec 32) (v572 : BitVec 32) (v584 : BitVec 32) (v596 : BitVec 32) (v608 : BitVec 32) (v620 : BitVec 32) (k0_hw18 : k0_chk18 arg36 v548 v560 v572 v584 v596 v608 v620), ∀ a, (k0_off38 arg36 v548 v560 v572 v584 v596 v608 v620) a + S1.size a ≤ S33.size a := fun arg36 v548 v560 v572 v584 v596 v608 v620 k0_hw18 => k0_hw18

def k0_off39 (v630 : BitVec 32) : Fin 1 → Nat :=
  let v639 : Index := Scalar.indexCast v630
  ![v639.toNat]

def k0_chk17 (v630 : BitVec 32) : Prop :=
  (∀ a, (k0_off37 v630) a + S1.size a ≤ S32.size a) ∧
  (∀ a, (k0_off39 v630) a + S1.size a ≤ S32.size a)
theorem k0_off37_inb : ∀ (v630 : BitVec 32) (k0_hw17 : k0_chk17 v630), ∀ a, (k0_off37 v630) a + S1.size a ≤ S32.size a := fun v630 k0_hw17 => k0_hw17.1
theorem k0_off39_inb : ∀ (v630 : BitVec 32) (k0_hw17 : k0_chk17 v630), ∀ a, (k0_off39 v630) a + S1.size a ≤ S32.size a := fun v630 k0_hw17 => k0_hw17.2

def k0_off40 : Fin 1 → Nat :=
  let c0_i32_53 : BitVec 32 := 0#32
  let c2_i32_54 : BitVec 32 := 2#32
  let v57 : BitVec 32 := Scalar.remsi c0_i32_53 c2_i32_54
  ![v57.toNat]
def k0_off41 : Fin 3 → Nat :=
  let c0_i32_53 : BitVec 32 := 0#32
  let c2_i32_54 : BitVec 32 := 2#32
  let v57 : BitVec 32 := Scalar.remsi c0_i32_53 c2_i32_54
  let c0_i32_55 : BitVec 32 := 0#32
  let c0_i32_56 : BitVec 32 := 0#32
  ![v57.toNat, 0, 0]
def k0_off42 (v56 : BitVec 32) : Fin 3 → Nat :=
  let c0_i32_57 : BitVec 32 := 0#32
  let c0_i32_58 : BitVec 32 := 0#32
  ![v56.toNat, 0, 0]

def k0_off43 : Fin 1 → Nat :=
  let c0_i32_53 : BitVec 32 := 0#32
  let c2_i32_54 : BitVec 32 := 2#32
  let v57 : BitVec 32 := Scalar.remsi c0_i32_53 c2_i32_54
  ![v57.toNat]
def k0_off44 : Fin 3 → Nat :=
  let c0_i32_53 : BitVec 32 := 0#32
  let c2_i32_54 : BitVec 32 := 2#32
  let v57 : BitVec 32 := Scalar.remsi c0_i32_53 c2_i32_54
  let c0_i32_59 : BitVec 32 := 0#32
  let c0_i32_60 : BitVec 32 := 0#32
  ![v57.toNat, 0, 0]
def k0_off45 (v56 : BitVec 32) : Fin 3 → Nat :=
  let c0_i32_61 : BitVec 32 := 0#32
  let c0_i32_62 : BitVec 32 := 0#32
  ![v56.toNat, 0, 0]

def k0_chk19 (v56 : BitVec 32) : Prop :=
  (∀ a, (k0_off42 v56) a + S1x128x2816.size a ≤ S32x128x2816.size a) ∧
  (∀ (hinb : ∀ a, (k0_off42 v56) a + S1x128x2816.size a ≤ S32x128x2816.size a), (Rect.unit (s := S32x128x2816) (k0_off42 v56) S1x128x2816.size hinb).WholeWords (EltTy.packing .bf16)) ∧
  (∀ a, (k0_off45 v56) a + S1x128x3072.size a ≤ S32x128x3072.size a) ∧
  (∀ (hinb : ∀ a, (k0_off45 v56) a + S1x128x3072.size a ≤ S32x128x3072.size a), (Rect.unit (s := S32x128x3072) (k0_off45 v56) S1x128x3072.size hinb).WholeWords (EltTy.packing .bf16))
theorem k0_off42_inb : ∀ (v56 : BitVec 32) (k0_hw19 : k0_chk19 v56), ∀ a, (k0_off42 v56) a + S1x128x2816.size a ≤ S32x128x2816.size a := fun v56 k0_hw19 => k0_hw19.1
theorem k0_off42_wordsbf16 : ∀ (v56 : BitVec 32) (k0_hw19 : k0_chk19 v56), (Rect.unit (s := S32x128x2816) (k0_off42 v56) S1x128x2816.size (k0_off42_inb v56 k0_hw19)).WholeWords (EltTy.packing .bf16) := fun v56 k0_hw19 => k0_hw19.2.1 (k0_off42_inb v56 k0_hw19)
theorem k0_off45_inb : ∀ (v56 : BitVec 32) (k0_hw19 : k0_chk19 v56), ∀ a, (k0_off45 v56) a + S1x128x3072.size a ≤ S32x128x3072.size a := fun v56 k0_hw19 => k0_hw19.2.2.1
theorem k0_off45_wordsbf16 : ∀ (v56 : BitVec 32) (k0_hw19 : k0_chk19 v56), (Rect.unit (s := S32x128x3072) (k0_off45 v56) S1x128x3072.size (k0_off45_inb v56 k0_hw19)).WholeWords (EltTy.packing .bf16) := fun v56 k0_hw19 => k0_hw19.2.2.2 (k0_off45_inb v56 k0_hw19)

def k0_off46 : Fin 3 → Nat :=
  let c0_i32_64 : BitVec 32 := 0#32
  let c2_i32_65 : BitVec 32 := 2#32
  let v71 : BitVec 32 := Scalar.remsi c0_i32_64 c2_i32_65
  let c0_i32_66 : BitVec 32 := 0#32
  let c0_i32_67 : BitVec 32 := 0#32
  ![v71.toNat, 0, 0]
def k0_off47 (v70 : BitVec 32) : Fin 3 → Nat :=
  let c0_i32_68 : BitVec 32 := 0#32
  let c0_i32_69 : BitVec 32 := 0#32
  ![v70.toNat, 0, 0]

def k0_chk20 (v70 : BitVec 32) : Prop :=
  (∀ a, (k0_off47 v70) a + S1x1536x2816.size a ≤ S32x1536x2816.size a) ∧
  (∀ (hinb : ∀ a, (k0_off47 v70) a + S1x1536x2816.size a ≤ S32x1536x2816.size a), (Rect.unit (s := S32x1536x2816) (k0_off47 v70) S1x1536x2816.size hinb).WholeWords (EltTy.packing .fp8e4m3))
theorem k0_off47_inb : ∀ (v70 : BitVec 32) (k0_hw20 : k0_chk20 v70), ∀ a, (k0_off47 v70) a + S1x1536x2816.size a ≤ S32x1536x2816.size a := fun v70 k0_hw20 => k0_hw20.1
theorem k0_off47_wordsfp8e4m3 : ∀ (v70 : BitVec 32) (k0_hw20 : k0_chk20 v70), (Rect.unit (s := S32x1536x2816) (k0_off47 v70) S1x1536x2816.size (k0_off47_inb v70 k0_hw20)).WholeWords (EltTy.packing .fp8e4m3) := fun v70 k0_hw20 => k0_hw20.2 (k0_off47_inb v70 k0_hw20)

@[reducible] def k0_t2_loop (v55 : BitVec 32) : Scf.Loop 32 :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_209 : BitVec 32 := 1#32
  ⟨c0_i32_207, v538, c1_i32_209⟩

def k0_off48 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let v893 : Index := Scalar.indexCast v892
  ![v893.toNat]
def k0_cond1 (v55 : BitVec 32) (k0_t2 : Fin (k0_t2_loop v55).trips) : BitVec 1 :=
  let c0_i32_207 : BitVec 32 := 0#32
  let c1_i32_209 : BitVec 32 := 1#32
  let arg35 : BitVec 32 := Scf.iv c0_i32_207 c1_i32_209 k0_t2
  let c1_i32_215 : BitVec 32 := 1#32
  let v542 : BitVec 32 := Scalar.addi arg35 c1_i32_215
  let v543 : BitVec 1 := Scalar.cmpi .slt v542 v55
  let v544 : BitVec 32 := Scalar.extui v543
  let c0_i32_216 : BitVec 32 := 0#32
  let v545 : BitVec 1 := Scalar.cmpi .ne v544 c0_i32_216
  v545

def k0_off49 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let c2_i32_364 : BitVec 32 := 2#32
  let v895 : BitVec 32 := Scalar.remsi v892 c2_i32_364
  ![v895.toNat]
def k0_off50 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let c2_i32_364 : BitVec 32 := 2#32
  let v895 : BitVec 32 := Scalar.remsi v892 c2_i32_364
  let c0_i32_365 : BitVec 32 := 0#32
  let c0_i32_366 : BitVec 32 := 0#32
  ![v895.toNat, 0, 0]
def k0_off51 (v894 : BitVec 32) : Fin 3 → Nat :=
  let c0_i32_367 : BitVec 32 := 0#32
  let c0_i32_368 : BitVec 32 := 0#32
  ![v894.toNat, 0, 0]

def k0_off52 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let c2_i32_364 : BitVec 32 := 2#32
  let v895 : BitVec 32 := Scalar.remsi v892 c2_i32_364
  ![v895.toNat]
def k0_off53 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let c2_i32_364 : BitVec 32 := 2#32
  let v895 : BitVec 32 := Scalar.remsi v892 c2_i32_364
  let c0_i32_369 : BitVec 32 := 0#32
  let c0_i32_370 : BitVec 32 := 0#32
  ![v895.toNat, 0, 0]
def k0_off54 (v894 : BitVec 32) : Fin 3 → Nat :=
  let c0_i32_371 : BitVec 32 := 0#32
  let c0_i32_372 : BitVec 32 := 0#32
  ![v894.toNat, 0, 0]

def k0_chk22 (v55 : BitVec 32) (k0_t2 : Fin (k0_t2_loop v55).trips) (v894 : BitVec 32) : Prop :=
  (∀ (k0_h1 : k0_cond1 v55 k0_t2 = 1#1), ∀ a, (k0_off51 v894) a + S1x128x2816.size a ≤ S32x128x2816.size a) ∧
  (∀ (k0_h1 : k0_cond1 v55 k0_t2 = 1#1), ∀ (hinb : ∀ a, (k0_off51 v894) a + S1x128x2816.size a ≤ S32x128x2816.size a), (Rect.unit (s := S32x128x2816) (k0_off51 v894) S1x128x2816.size hinb).WholeWords (EltTy.packing .bf16)) ∧
  (∀ (k0_h1 : k0_cond1 v55 k0_t2 = 1#1), ∀ a, (k0_off54 v894) a + S1x128x3072.size a ≤ S32x128x3072.size a) ∧
  (∀ (k0_h1 : k0_cond1 v55 k0_t2 = 1#1), ∀ (hinb : ∀ a, (k0_off54 v894) a + S1x128x3072.size a ≤ S32x128x3072.size a), (Rect.unit (s := S32x128x3072) (k0_off54 v894) S1x128x3072.size hinb).WholeWords (EltTy.packing .bf16))
theorem k0_off51_inb : ∀ (v55 : BitVec 32) (k0_t2 : Fin (k0_t2_loop v55).trips) (v894 : BitVec 32) (k0_hw22 : k0_chk22 v55 k0_t2 v894), ∀ (k0_h1 : k0_cond1 v55 k0_t2 = 1#1), ∀ a, (k0_off51 v894) a + S1x128x2816.size a ≤ S32x128x2816.size a := fun v55 k0_t2 v894 k0_hw22 k0_h1 => k0_hw22.1 k0_h1
theorem k0_off51_wordsbf16 : ∀ (v55 : BitVec 32) (k0_t2 : Fin (k0_t2_loop v55).trips) (v894 : BitVec 32) (k0_hw22 : k0_chk22 v55 k0_t2 v894), ∀ (k0_h1 : k0_cond1 v55 k0_t2 = 1#1), (Rect.unit (s := S32x128x2816) (k0_off51 v894) S1x128x2816.size (k0_off51_inb v55 k0_t2 v894 k0_hw22 k0_h1)).WholeWords (EltTy.packing .bf16) := fun v55 k0_t2 v894 k0_hw22 k0_h1 => k0_hw22.2.1 k0_h1 (k0_off51_inb v55 k0_t2 v894 k0_hw22 k0_h1)
theorem k0_off54_inb : ∀ (v55 : BitVec 32) (k0_t2 : Fin (k0_t2_loop v55).trips) (v894 : BitVec 32) (k0_hw22 : k0_chk22 v55 k0_t2 v894), ∀ (k0_h1 : k0_cond1 v55 k0_t2 = 1#1), ∀ a, (k0_off54 v894) a + S1x128x3072.size a ≤ S32x128x3072.size a := fun v55 k0_t2 v894 k0_hw22 k0_h1 => k0_hw22.2.2.1 k0_h1
theorem k0_off54_wordsbf16 : ∀ (v55 : BitVec 32) (k0_t2 : Fin (k0_t2_loop v55).trips) (v894 : BitVec 32) (k0_hw22 : k0_chk22 v55 k0_t2 v894), ∀ (k0_h1 : k0_cond1 v55 k0_t2 = 1#1), (Rect.unit (s := S32x128x3072) (k0_off54 v894) S1x128x3072.size (k0_off54_inb v55 k0_t2 v894 k0_hw22 k0_h1)).WholeWords (EltTy.packing .bf16) := fun v55 k0_t2 v894 k0_hw22 k0_h1 => k0_hw22.2.2.2 k0_h1 (k0_off54_inb v55 k0_t2 v894 k0_hw22 k0_h1)

def k0_off55 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let v908 : Index := Scalar.indexCast v892
  ![v908.toNat]
def k0_off56 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let c2_i32_373 : BitVec 32 := 2#32
  let v910 : BitVec 32 := Scalar.remsi v892 c2_i32_373
  let c0_i32_374 : BitVec 32 := 0#32
  let c0_i32_375 : BitVec 32 := 0#32
  ![v910.toNat, 0, 0]
def k0_off57 (v909 : BitVec 32) : Fin 3 → Nat :=
  let c0_i32_376 : BitVec 32 := 0#32
  let c0_i32_377 : BitVec 32 := 0#32
  ![v909.toNat, 0, 0]

def k0_chk23 (v55 : BitVec 32) (k0_t2 : Fin (k0_t2_loop v55).trips) (v909 : BitVec 32) : Prop :=
  (∀ (k0_h1 : k0_cond1 v55 k0_t2 = 1#1), ∀ a, (k0_off57 v909) a + S1x1408x3072.size a ≤ S32x2816x3072.size a) ∧
  (∀ (k0_h1 : k0_cond1 v55 k0_t2 = 1#1), ∀ (hinb : ∀ a, (k0_off57 v909) a + S1x1408x3072.size a ≤ S32x2816x3072.size a), (Rect.unit (s := S32x2816x3072) (k0_off57 v909) S1x1408x3072.size hinb).WholeWords (EltTy.packing .fp8e4m3))
theorem k0_off57_inb : ∀ (v55 : BitVec 32) (k0_t2 : Fin (k0_t2_loop v55).trips) (v909 : BitVec 32) (k0_hw23 : k0_chk23 v55 k0_t2 v909), ∀ (k0_h1 : k0_cond1 v55 k0_t2 = 1#1), ∀ a, (k0_off57 v909) a + S1x1408x3072.size a ≤ S32x2816x3072.size a := fun v55 k0_t2 v909 k0_hw23 k0_h1 => k0_hw23.1 k0_h1
theorem k0_off57_wordsfp8e4m3 : ∀ (v55 : BitVec 32) (k0_t2 : Fin (k0_t2_loop v55).trips) (v909 : BitVec 32) (k0_hw23 : k0_chk23 v55 k0_t2 v909), ∀ (k0_h1 : k0_cond1 v55 k0_t2 = 1#1), (Rect.unit (s := S32x2816x3072) (k0_off57 v909) S1x1408x3072.size (k0_off57_inb v55 k0_t2 v909 k0_hw23 k0_h1)).WholeWords (EltTy.packing .fp8e4m3) := fun v55 k0_t2 v909 k0_hw23 k0_h1 => k0_hw23.2 k0_h1 (k0_off57_inb v55 k0_t2 v909 k0_hw23 k0_h1)

def k0_off58 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let v917 : Index := Scalar.indexCast v892
  ![v917.toNat]
def k0_off59 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let c2_i32_378 : BitVec 32 := 2#32
  let v919 : BitVec 32 := Scalar.remsi v892 c2_i32_378
  ![v919.toNat]
def k0_off60 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let c2_i32_378 : BitVec 32 := 2#32
  let v919 : BitVec 32 := Scalar.remsi v892 c2_i32_378
  let c1408_i32_379 : BitVec 32 := 1408#32
  let c0_i32_380 : BitVec 32 := 0#32
  ![v919.toNat, 1408, 0]
def k0_off61 (v918 : BitVec 32) : Fin 3 → Nat :=
  let c1408_i32_381 : BitVec 32 := 1408#32
  let c0_i32_382 : BitVec 32 := 0#32
  ![v918.toNat, 1408, 0]

def k0_chk24 (v55 : BitVec 32) (k0_t2 : Fin (k0_t2_loop v55).trips) (v918 : BitVec 32) : Prop :=
  (∀ (k0_h1 : k0_cond1 v55 k0_t2 = 1#1), ∀ a, (k0_off61 v918) a + S1x1408x3072.size a ≤ S32x2816x3072.size a) ∧
  (∀ (k0_h1 : k0_cond1 v55 k0_t2 = 1#1), ∀ (hinb : ∀ a, (k0_off61 v918) a + S1x1408x3072.size a ≤ S32x2816x3072.size a), (Rect.unit (s := S32x2816x3072) (k0_off61 v918) S1x1408x3072.size hinb).WholeWords (EltTy.packing .fp8e4m3))
theorem k0_off61_inb : ∀ (v55 : BitVec 32) (k0_t2 : Fin (k0_t2_loop v55).trips) (v918 : BitVec 32) (k0_hw24 : k0_chk24 v55 k0_t2 v918), ∀ (k0_h1 : k0_cond1 v55 k0_t2 = 1#1), ∀ a, (k0_off61 v918) a + S1x1408x3072.size a ≤ S32x2816x3072.size a := fun v55 k0_t2 v918 k0_hw24 k0_h1 => k0_hw24.1 k0_h1
theorem k0_off61_wordsfp8e4m3 : ∀ (v55 : BitVec 32) (k0_t2 : Fin (k0_t2_loop v55).trips) (v918 : BitVec 32) (k0_hw24 : k0_chk24 v55 k0_t2 v918), ∀ (k0_h1 : k0_cond1 v55 k0_t2 = 1#1), (Rect.unit (s := S32x2816x3072) (k0_off61 v918) S1x1408x3072.size (k0_off61_inb v55 k0_t2 v918 k0_hw24 k0_h1)).WholeWords (EltTy.packing .fp8e4m3) := fun v55 k0_t2 v918 k0_hw24 k0_h1 => k0_hw24.2 k0_h1 (k0_off61_inb v55 k0_t2 v918 k0_hw24 k0_h1)

def k0_off62 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let v926 : Index := Scalar.indexCast v892
  ![v926.toNat]
def k0_off63 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let c2_i32_383 : BitVec 32 := 2#32
  let v928 : BitVec 32 := Scalar.remsi v892 c2_i32_383
  ![v928.toNat]
def k0_off64 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c1_i32_363 : BitVec 32 := 1#32
  let v892 : BitVec 32 := Scalar.addi arg35 c1_i32_363
  let c2_i32_383 : BitVec 32 := 2#32
  let v928 : BitVec 32 := Scalar.remsi v892 c2_i32_383
  let c0_i32_384 : BitVec 32 := 0#32
  let c0_i32_385 : BitVec 32 := 0#32
  ![v928.toNat, 0, 0]
def k0_off65 (v927 : BitVec 32) : Fin 3 → Nat :=
  let c0_i32_386 : BitVec 32 := 0#32
  let c0_i32_387 : BitVec 32 := 0#32
  ![v927.toNat, 0, 0]

def k0_chk25 (v55 : BitVec 32) (k0_t2 : Fin (k0_t2_loop v55).trips) (v927 : BitVec 32) : Prop :=
  (∀ (k0_h1 : k0_cond1 v55 k0_t2 = 1#1), ∀ a, (k0_off65 v927) a + S1x1536x2816.size a ≤ S32x1536x2816.size a) ∧
  (∀ (k0_h1 : k0_cond1 v55 k0_t2 = 1#1), ∀ (hinb : ∀ a, (k0_off65 v927) a + S1x1536x2816.size a ≤ S32x1536x2816.size a), (Rect.unit (s := S32x1536x2816) (k0_off65 v927) S1x1536x2816.size hinb).WholeWords (EltTy.packing .fp8e4m3))
theorem k0_off65_inb : ∀ (v55 : BitVec 32) (k0_t2 : Fin (k0_t2_loop v55).trips) (v927 : BitVec 32) (k0_hw25 : k0_chk25 v55 k0_t2 v927), ∀ (k0_h1 : k0_cond1 v55 k0_t2 = 1#1), ∀ a, (k0_off65 v927) a + S1x1536x2816.size a ≤ S32x1536x2816.size a := fun v55 k0_t2 v927 k0_hw25 k0_h1 => k0_hw25.1 k0_h1
theorem k0_off65_wordsfp8e4m3 : ∀ (v55 : BitVec 32) (k0_t2 : Fin (k0_t2_loop v55).trips) (v927 : BitVec 32) (k0_hw25 : k0_chk25 v55 k0_t2 v927), ∀ (k0_h1 : k0_cond1 v55 k0_t2 = 1#1), (Rect.unit (s := S32x1536x2816) (k0_off65 v927) S1x1536x2816.size (k0_off65_inb v55 k0_t2 v927 k0_hw25 k0_h1)).WholeWords (EltTy.packing .fp8e4m3) := fun v55 k0_t2 v927 k0_hw25 k0_h1 => k0_hw25.2 k0_h1 (k0_off65_inb v55 k0_t2 v927 k0_hw25 k0_h1)

def k0_off66 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let v546 : Index := Scalar.indexCast arg35
  ![v546.toNat]
def k0_off67 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c2_i32_218 : BitVec 32 := 2#32
  let v551 : BitVec 32 := Scalar.remsi arg35 c2_i32_218
  ![v551.toNat]
def k0_off68 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_218 : BitVec 32 := 2#32
  let v551 : BitVec 32 := Scalar.remsi arg35 c2_i32_218
  let c0_i32_219 : BitVec 32 := 0#32
  let c0_i32_220 : BitVec 32 := 0#32
  ![v551.toNat, 0, 0]
def k0_off69 (v550 : BitVec 32) : Fin 3 → Nat :=
  let c0_i32_221 : BitVec 32 := 0#32
  let c0_i32_222 : BitVec 32 := 0#32
  ![v550.toNat, 0, 0]

def k0_off70 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c2_i32_218 : BitVec 32 := 2#32
  let v551 : BitVec 32 := Scalar.remsi arg35 c2_i32_218
  ![v551.toNat]
def k0_off71 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_218 : BitVec 32 := 2#32
  let v551 : BitVec 32 := Scalar.remsi arg35 c2_i32_218
  let c0_i32_223 : BitVec 32 := 0#32
  let c0_i32_224 : BitVec 32 := 0#32
  ![v551.toNat, 0, 0]
def k0_off72 (v550 : BitVec 32) : Fin 3 → Nat :=
  let c0_i32_225 : BitVec 32 := 0#32
  let c0_i32_226 : BitVec 32 := 0#32
  ![v550.toNat, 0, 0]

def k0_chk26 (v550 : BitVec 32) : Prop :=
  (∀ a, (k0_off69 v550) a + S1x128x2816.size a ≤ S32x128x2816.size a) ∧
  (∀ (hinb : ∀ a, (k0_off69 v550) a + S1x128x2816.size a ≤ S32x128x2816.size a), (Rect.unit (s := S32x128x2816) (k0_off69 v550) S1x128x2816.size hinb).WholeWords (EltTy.packing .bf16)) ∧
  (∀ a, (k0_off72 v550) a + S1x128x3072.size a ≤ S32x128x3072.size a) ∧
  (∀ (hinb : ∀ a, (k0_off72 v550) a + S1x128x3072.size a ≤ S32x128x3072.size a), (Rect.unit (s := S32x128x3072) (k0_off72 v550) S1x128x3072.size hinb).WholeWords (EltTy.packing .bf16))
theorem k0_off69_inb : ∀ (v550 : BitVec 32) (k0_hw26 : k0_chk26 v550), ∀ a, (k0_off69 v550) a + S1x128x2816.size a ≤ S32x128x2816.size a := fun v550 k0_hw26 => k0_hw26.1
theorem k0_off69_wordsbf16 : ∀ (v550 : BitVec 32) (k0_hw26 : k0_chk26 v550), (Rect.unit (s := S32x128x2816) (k0_off69 v550) S1x128x2816.size (k0_off69_inb v550 k0_hw26)).WholeWords (EltTy.packing .bf16) := fun v550 k0_hw26 => k0_hw26.2.1 (k0_off69_inb v550 k0_hw26)
theorem k0_off72_inb : ∀ (v550 : BitVec 32) (k0_hw26 : k0_chk26 v550), ∀ a, (k0_off72 v550) a + S1x128x3072.size a ≤ S32x128x3072.size a := fun v550 k0_hw26 => k0_hw26.2.2.1
theorem k0_off72_wordsbf16 : ∀ (v550 : BitVec 32) (k0_hw26 : k0_chk26 v550), (Rect.unit (s := S32x128x3072) (k0_off72 v550) S1x128x3072.size (k0_off72_inb v550 k0_hw26)).WholeWords (EltTy.packing .bf16) := fun v550 k0_hw26 => k0_hw26.2.2.2 (k0_off72_inb v550 k0_hw26)

def k0_off73 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v564 : Index := Scalar.indexCast v548
  let c0_227 : Index := 0#32
  let c0_228 : Index := 0#32
  ![v564.toNat, 0, 0]
def k0_off74 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let v571 : Index := Scalar.indexCast arg35
  ![v571.toNat]
def k0_off75 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_231 : BitVec 32 := 2#32
  let v573 : BitVec 32 := Scalar.remsi arg35 c2_i32_231
  let c0_i32_232 : BitVec 32 := 0#32
  let c0_i32_233 : BitVec 32 := 0#32
  ![v573.toNat, 0, 0]
def k0_off76 (v572 : BitVec 32) : Fin 3 → Nat :=
  let c0_i32_234 : BitVec 32 := 0#32
  let c0_i32_235 : BitVec 32 := 0#32
  ![v572.toNat, 0, 0]

def k0_chk27 (v572 : BitVec 32) : Prop :=
  (∀ a, (k0_off76 v572) a + S1x2816x3072.size a ≤ S32x2816x3072.size a) ∧
  (∀ (hinb : ∀ a, (k0_off76 v572) a + S1x2816x3072.size a ≤ S32x2816x3072.size a), (Rect.unit (s := S32x2816x3072) (k0_off76 v572) S1x2816x3072.size hinb).WholeWords (EltTy.packing .fp8e4m3))
theorem k0_off76_inb : ∀ (v572 : BitVec 32) (k0_hw27 : k0_chk27 v572), ∀ a, (k0_off76 v572) a + S1x2816x3072.size a ≤ S32x2816x3072.size a := fun v572 k0_hw27 => k0_hw27.1
theorem k0_off76_wordsfp8e4m3 : ∀ (v572 : BitVec 32) (k0_hw27 : k0_chk27 v572), (Rect.unit (s := S32x2816x3072) (k0_off76 v572) S1x2816x3072.size (k0_off76_inb v572 k0_hw27)).WholeWords (EltTy.packing .fp8e4m3) := fun v572 k0_hw27 => k0_hw27.2 (k0_off76_inb v572 k0_hw27)

def k0_off77 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v580 : Index := Scalar.indexCast v548
  let c0_236 : Index := 0#32
  let c0_237 : Index := 0#32
  ![v580.toNat, 0, 0]
def k0_off78 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v584 : Index := Scalar.indexCast v548
  let c0_239 : Index := 0#32
  let c0_240 : Index := 0#32
  ![v584.toNat, 0, 0]
def k0_off79 (v547 : BitVec 32) : Fin 2 → Nat :=
  let v590 : Index := Scalar.indexCast v547
  let c0_242 : Index := 0#32
  ![v590.toNat, 0]

def k0_off80 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v599 : Index := Scalar.indexCast v548
  let c0_244 : Index := 0#32
  let c1536 : Index := 1536#32
  ![v599.toNat, 0, 1536]
def k0_off81 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v603 : Index := Scalar.indexCast v548
  let c0_246 : Index := 0#32
  let c1536_247 : Index := 1536#32
  ![v603.toNat, 0, 1536]
def k0_off82 (v547 : BitVec 32) : Fin 2 → Nat :=
  let v609 : Index := Scalar.indexCast v547
  let c1536_249 : Index := 1536#32
  ![v609.toNat, 1536]
def k0_off83 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v617 : Index := Scalar.indexCast v548
  let c0_251 : Index := 0#32
  let c512 : Index := 512#32
  ![v617.toNat, 0, 512]
def k0_off84 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v621 : Index := Scalar.indexCast v548
  let c0_253 : Index := 0#32
  let c512_254 : Index := 512#32
  ![v621.toNat, 0, 512]
def k0_off85 (v547 : BitVec 32) : Fin 2 → Nat :=
  let v627 : Index := Scalar.indexCast v547
  let c512_256 : Index := 512#32
  ![v627.toNat, 512]
def k0_off86 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v636 : Index := Scalar.indexCast v548
  let c0_258 : Index := 0#32
  let c2048 : Index := 2048#32
  ![v636.toNat, 0, 2048]
def k0_off87 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v640 : Index := Scalar.indexCast v548
  let c0_260 : Index := 0#32
  let c2048_261 : Index := 2048#32
  ![v640.toNat, 0, 2048]
def k0_off88 (v547 : BitVec 32) : Fin 2 → Nat :=
  let v646 : Index := Scalar.indexCast v547
  let c2048_263 : Index := 2048#32
  ![v646.toNat, 2048]
def k0_off89 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v654 : Index := Scalar.indexCast v548
  let c0_265 : Index := 0#32
  let c1024 : Index := 1024#32
  ![v654.toNat, 0, 1024]
def k0_off90 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v658 : Index := Scalar.indexCast v548
  let c0_267 : Index := 0#32
  let c1024_268 : Index := 1024#32
  ![v658.toNat, 0, 1024]
def k0_off91 (v547 : BitVec 32) : Fin 2 → Nat :=
  let v664 : Index := Scalar.indexCast v547
  let c1024_270 : Index := 1024#32
  ![v664.toNat, 1024]
def k0_off92 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v673 : Index := Scalar.indexCast v548
  let c0_272 : Index := 0#32
  let c2560 : Index := 2560#32
  ![v673.toNat, 0, 2560]
def k0_off93 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v677 : Index := Scalar.indexCast v548
  let c0_274 : Index := 0#32
  let c2560_275 : Index := 2560#32
  ![v677.toNat, 0, 2560]
def k0_off94 (v547 : BitVec 32) : Fin 2 → Nat :=
  let v683 : Index := Scalar.indexCast v547
  let c2560_277 : Index := 2560#32
  ![v683.toNat, 2560]
def k0_off95 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let v757 : Index := Scalar.indexCast arg35
  ![v757.toNat]
def k0_off96 (v55 : BitVec 32) (k0_t2 : Fin (k0_t2_loop v55).trips) : Fin 1 → Nat :=
  let c0_i32_207 : BitVec 32 := 0#32
  let c1_i32_209 : BitVec 32 := 1#32
  let arg35 : BitVec 32 := Scf.iv c0_i32_207 c1_i32_209 k0_t2
  let c2_i32_304 : BitVec 32 := 2#32
  let v759 : BitVec 32 := Scalar.remsi arg35 c2_i32_304
  ![v759.toNat]
def k0_off97 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_304 : BitVec 32 := 2#32
  let v759 : BitVec 32 := Scalar.remsi arg35 c2_i32_304
  let c0_i32_305 : BitVec 32 := 0#32
  let c0_i32_306 : BitVec 32 := 0#32
  ![v759.toNat, 0, 0]
def k0_off98 (v758 : BitVec 32) : Fin 3 → Nat :=
  let c0_i32_307 : BitVec 32 := 0#32
  let c0_i32_308 : BitVec 32 := 0#32
  ![v758.toNat, 0, 0]

def k0_chk29 (v758 : BitVec 32) : Prop :=
  (∀ a, (k0_off98 v758) a + S1x1536x2816.size a ≤ S32x1536x2816.size a) ∧
  (∀ (hinb : ∀ a, (k0_off98 v758) a + S1x1536x2816.size a ≤ S32x1536x2816.size a), (Rect.unit (s := S32x1536x2816) (k0_off98 v758) S1x1536x2816.size hinb).WholeWords (EltTy.packing .fp8e4m3))
theorem k0_off98_inb : ∀ (v758 : BitVec 32) (k0_hw29 : k0_chk29 v758), ∀ a, (k0_off98 v758) a + S1x1536x2816.size a ≤ S32x1536x2816.size a := fun v758 k0_hw29 => k0_hw29.1
theorem k0_off98_wordsfp8e4m3 : ∀ (v758 : BitVec 32) (k0_hw29 : k0_chk29 v758), (Rect.unit (s := S32x1536x2816) (k0_off98 v758) S1x1536x2816.size (k0_off98_inb v758 k0_hw29)).WholeWords (EltTy.packing .fp8e4m3) := fun v758 k0_hw29 => k0_hw29.2 (k0_off98_inb v758 k0_hw29)

def k0_off99 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v766 : Index := Scalar.indexCast v548
  let c0_309 : Index := 0#32
  let c0_310 : Index := 0#32
  ![v766.toNat, 0, 0]
def k0_off100 (v547 : BitVec 32) : Fin 2 → Nat :=
  let v772 : Index := Scalar.indexCast v547
  let c0_312 : Index := 0#32
  ![v772.toNat, 0]
def k0_off101 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v787 : Index := Scalar.indexCast v548
  let c0_318 : Index := 0#32
  let c512_319 : Index := 512#32
  ![v787.toNat, 0, 512]
def k0_off102 (v547 : BitVec 32) : Fin 2 → Nat :=
  let v793 : Index := Scalar.indexCast v547
  let c512_321 : Index := 512#32
  ![v793.toNat, 512]
def k0_off103 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v808 : Index := Scalar.indexCast v548
  let c0_327 : Index := 0#32
  let c1024_328 : Index := 1024#32
  ![v808.toNat, 0, 1024]
def k0_off104 (v547 : BitVec 32) : Fin 2 → Nat :=
  let v814 : Index := Scalar.indexCast v547
  let c1024_330 : Index := 1024#32
  ![v814.toNat, 1024]
def k0_off105 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v829 : Index := Scalar.indexCast v548
  let c0_336 : Index := 0#32
  let c1536_337 : Index := 1536#32
  ![v829.toNat, 0, 1536]
def k0_off106 (v547 : BitVec 32) : Fin 2 → Nat :=
  let v835 : Index := Scalar.indexCast v547
  let c1536_339 : Index := 1536#32
  ![v835.toNat, 1536]
def k0_off107 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v850 : Index := Scalar.indexCast v548
  let c0_345 : Index := 0#32
  let c2048_346 : Index := 2048#32
  ![v850.toNat, 0, 2048]
def k0_off108 (v547 : BitVec 32) : Fin 2 → Nat :=
  let v856 : Index := Scalar.indexCast v547
  let c2048_348 : Index := 2048#32
  ![v856.toNat, 2048]
def k0_off109 (v55 : BitVec 32) (k0_t2 : Fin (k0_t2_loop v55).trips) : Fin 3 → Nat :=
  let c0_i32_207 : BitVec 32 := 0#32
  let c1_i32_209 : BitVec 32 := 1#32
  let arg35 : BitVec 32 := Scf.iv c0_i32_207 c1_i32_209 k0_t2
  let c2_i32_217 : BitVec 32 := 2#32
  let v548 : BitVec 32 := Scalar.remsi arg35 c2_i32_217
  let v871 : Index := Scalar.indexCast v548
  let c0_354 : Index := 0#32
  let c2560_355 : Index := 2560#32
  ![v871.toNat, 0, 2560]
def k0_off110 (v547 : BitVec 32) : Fin 2 → Nat :=
  let v877 : Index := Scalar.indexCast v547
  let c2560_357 : Index := 2560#32
  ![v877.toNat, 2560]

def k0_chk28 (v547 : BitVec 32) : Prop :=
  (∀ a, (k0_off79 v547) a + S1x512.size a ≤ S32x3072.size a) ∧
  (∀ a, (k0_off82 v547) a + S1x512.size a ≤ S32x3072.size a) ∧
  (∀ a, (k0_off85 v547) a + S1x512.size a ≤ S32x3072.size a) ∧
  (∀ a, (k0_off88 v547) a + S1x512.size a ≤ S32x3072.size a) ∧
  (∀ a, (k0_off91 v547) a + S1x512.size a ≤ S32x3072.size a) ∧
  (∀ a, (k0_off94 v547) a + S1x512.size a ≤ S32x3072.size a) ∧
  (∀ a, (k0_off100 v547) a + S1x512.size a ≤ S32x2816.size a) ∧
  (∀ a, (k0_off102 v547) a + S1x512.size a ≤ S32x2816.size a) ∧
  (∀ a, (k0_off104 v547) a + S1x512.size a ≤ S32x2816.size a) ∧
  (∀ a, (k0_off106 v547) a + S1x512.size a ≤ S32x2816.size a) ∧
  (∀ a, (k0_off108 v547) a + S1x512.size a ≤ S32x2816.size a) ∧
  (∀ a, (k0_off110 v547) a + S1x256.size a ≤ S32x2816.size a)
theorem k0_off79_inb : ∀ (v547 : BitVec 32) (k0_hw28 : k0_chk28 v547), ∀ a, (k0_off79 v547) a + S1x512.size a ≤ S32x3072.size a := fun v547 k0_hw28 => k0_hw28.1
theorem k0_off82_inb : ∀ (v547 : BitVec 32) (k0_hw28 : k0_chk28 v547), ∀ a, (k0_off82 v547) a + S1x512.size a ≤ S32x3072.size a := fun v547 k0_hw28 => k0_hw28.2.1
theorem k0_off85_inb : ∀ (v547 : BitVec 32) (k0_hw28 : k0_chk28 v547), ∀ a, (k0_off85 v547) a + S1x512.size a ≤ S32x3072.size a := fun v547 k0_hw28 => k0_hw28.2.2.1
theorem k0_off88_inb : ∀ (v547 : BitVec 32) (k0_hw28 : k0_chk28 v547), ∀ a, (k0_off88 v547) a + S1x512.size a ≤ S32x3072.size a := fun v547 k0_hw28 => k0_hw28.2.2.2.1
theorem k0_off91_inb : ∀ (v547 : BitVec 32) (k0_hw28 : k0_chk28 v547), ∀ a, (k0_off91 v547) a + S1x512.size a ≤ S32x3072.size a := fun v547 k0_hw28 => k0_hw28.2.2.2.2.1
theorem k0_off94_inb : ∀ (v547 : BitVec 32) (k0_hw28 : k0_chk28 v547), ∀ a, (k0_off94 v547) a + S1x512.size a ≤ S32x3072.size a := fun v547 k0_hw28 => k0_hw28.2.2.2.2.2.1
theorem k0_off100_inb : ∀ (v547 : BitVec 32) (k0_hw28 : k0_chk28 v547), ∀ a, (k0_off100 v547) a + S1x512.size a ≤ S32x2816.size a := fun v547 k0_hw28 => k0_hw28.2.2.2.2.2.2.1
theorem k0_off102_inb : ∀ (v547 : BitVec 32) (k0_hw28 : k0_chk28 v547), ∀ a, (k0_off102 v547) a + S1x512.size a ≤ S32x2816.size a := fun v547 k0_hw28 => k0_hw28.2.2.2.2.2.2.2.1
theorem k0_off104_inb : ∀ (v547 : BitVec 32) (k0_hw28 : k0_chk28 v547), ∀ a, (k0_off104 v547) a + S1x512.size a ≤ S32x2816.size a := fun v547 k0_hw28 => k0_hw28.2.2.2.2.2.2.2.2.1
theorem k0_off106_inb : ∀ (v547 : BitVec 32) (k0_hw28 : k0_chk28 v547), ∀ a, (k0_off106 v547) a + S1x512.size a ≤ S32x2816.size a := fun v547 k0_hw28 => k0_hw28.2.2.2.2.2.2.2.2.2.1
theorem k0_off108_inb : ∀ (v547 : BitVec 32) (k0_hw28 : k0_chk28 v547), ∀ a, (k0_off108 v547) a + S1x512.size a ≤ S32x2816.size a := fun v547 k0_hw28 => k0_hw28.2.2.2.2.2.2.2.2.2.2.1
theorem k0_off110_inb : ∀ (v547 : BitVec 32) (k0_hw28 : k0_chk28 v547), ∀ a, (k0_off110 v547) a + S1x256.size a ≤ S32x2816.size a := fun v547 k0_hw28 => k0_hw28.2.2.2.2.2.2.2.2.2.2.2

@[reducible] def k0_t3_loop (v55 : BitVec 32) : Scf.Loop 32 :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let v535 : BitVec 32 := Scalar.addi c0_i32_207 v534
  let c1_i32_210 : BitVec 32 := 1#32
  ⟨v538, v535, c1_i32_210⟩
def k0_off111 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let v893 : Index := Scalar.indexCast v892
  ![v893.toNat]
def k0_cond2 (v55 : BitVec 32) (k0_t3 : Fin (k0_t3_loop v55).trips) : BitVec 1 :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_215 : BitVec 32 := 1#32
  let v542 : BitVec 32 := Scalar.addi arg35 c1_i32_215
  let v543 : BitVec 1 := Scalar.cmpi .slt v542 v55
  let v544 : BitVec 32 := Scalar.extui v543
  let c0_i32_216 : BitVec 32 := 0#32
  let v545 : BitVec 1 := Scalar.cmpi .ne v544 c0_i32_216
  v545

def k0_off112 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let c2_i32_364 : BitVec 32 := 2#32
  let v895 : BitVec 32 := Scalar.remsi v892 c2_i32_364
  ![v895.toNat]
def k0_off113 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let c2_i32_364 : BitVec 32 := 2#32
  let v895 : BitVec 32 := Scalar.remsi v892 c2_i32_364
  let c0_i32_365 : BitVec 32 := 0#32
  let c0_i32_366 : BitVec 32 := 0#32
  ![v895.toNat, 0, 0]
def k0_off114 (v894 : BitVec 32) : Fin 3 → Nat :=
  let c0_i32_367 : BitVec 32 := 0#32
  let c0_i32_368 : BitVec 32 := 0#32
  ![v894.toNat, 0, 0]

def k0_off115 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let c2_i32_364 : BitVec 32 := 2#32
  let v895 : BitVec 32 := Scalar.remsi v892 c2_i32_364
  ![v895.toNat]
def k0_off116 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let c2_i32_364 : BitVec 32 := 2#32
  let v895 : BitVec 32 := Scalar.remsi v892 c2_i32_364
  let c0_i32_369 : BitVec 32 := 0#32
  let c0_i32_370 : BitVec 32 := 0#32
  ![v895.toNat, 0, 0]
def k0_off117 (v894 : BitVec 32) : Fin 3 → Nat :=
  let c0_i32_371 : BitVec 32 := 0#32
  let c0_i32_372 : BitVec 32 := 0#32
  ![v894.toNat, 0, 0]

def k0_chk30 (v55 : BitVec 32) (k0_t3 : Fin (k0_t3_loop v55).trips) (v894 : BitVec 32) : Prop :=
  (∀ (k0_h2 : k0_cond2 v55 k0_t3 = 1#1), ∀ a, (k0_off114 v894) a + S1x128x2816.size a ≤ S32x128x2816.size a) ∧
  (∀ (k0_h2 : k0_cond2 v55 k0_t3 = 1#1), ∀ (hinb : ∀ a, (k0_off114 v894) a + S1x128x2816.size a ≤ S32x128x2816.size a), (Rect.unit (s := S32x128x2816) (k0_off114 v894) S1x128x2816.size hinb).WholeWords (EltTy.packing .bf16)) ∧
  (∀ (k0_h2 : k0_cond2 v55 k0_t3 = 1#1), ∀ a, (k0_off117 v894) a + S1x128x3072.size a ≤ S32x128x3072.size a) ∧
  (∀ (k0_h2 : k0_cond2 v55 k0_t3 = 1#1), ∀ (hinb : ∀ a, (k0_off117 v894) a + S1x128x3072.size a ≤ S32x128x3072.size a), (Rect.unit (s := S32x128x3072) (k0_off117 v894) S1x128x3072.size hinb).WholeWords (EltTy.packing .bf16))
theorem k0_off114_inb : ∀ (v55 : BitVec 32) (k0_t3 : Fin (k0_t3_loop v55).trips) (v894 : BitVec 32) (k0_hw30 : k0_chk30 v55 k0_t3 v894), ∀ (k0_h2 : k0_cond2 v55 k0_t3 = 1#1), ∀ a, (k0_off114 v894) a + S1x128x2816.size a ≤ S32x128x2816.size a := fun v55 k0_t3 v894 k0_hw30 k0_h2 => k0_hw30.1 k0_h2
theorem k0_off114_wordsbf16 : ∀ (v55 : BitVec 32) (k0_t3 : Fin (k0_t3_loop v55).trips) (v894 : BitVec 32) (k0_hw30 : k0_chk30 v55 k0_t3 v894), ∀ (k0_h2 : k0_cond2 v55 k0_t3 = 1#1), (Rect.unit (s := S32x128x2816) (k0_off114 v894) S1x128x2816.size (k0_off114_inb v55 k0_t3 v894 k0_hw30 k0_h2)).WholeWords (EltTy.packing .bf16) := fun v55 k0_t3 v894 k0_hw30 k0_h2 => k0_hw30.2.1 k0_h2 (k0_off114_inb v55 k0_t3 v894 k0_hw30 k0_h2)
theorem k0_off117_inb : ∀ (v55 : BitVec 32) (k0_t3 : Fin (k0_t3_loop v55).trips) (v894 : BitVec 32) (k0_hw30 : k0_chk30 v55 k0_t3 v894), ∀ (k0_h2 : k0_cond2 v55 k0_t3 = 1#1), ∀ a, (k0_off117 v894) a + S1x128x3072.size a ≤ S32x128x3072.size a := fun v55 k0_t3 v894 k0_hw30 k0_h2 => k0_hw30.2.2.1 k0_h2
theorem k0_off117_wordsbf16 : ∀ (v55 : BitVec 32) (k0_t3 : Fin (k0_t3_loop v55).trips) (v894 : BitVec 32) (k0_hw30 : k0_chk30 v55 k0_t3 v894), ∀ (k0_h2 : k0_cond2 v55 k0_t3 = 1#1), (Rect.unit (s := S32x128x3072) (k0_off117 v894) S1x128x3072.size (k0_off117_inb v55 k0_t3 v894 k0_hw30 k0_h2)).WholeWords (EltTy.packing .bf16) := fun v55 k0_t3 v894 k0_hw30 k0_h2 => k0_hw30.2.2.2 k0_h2 (k0_off117_inb v55 k0_t3 v894 k0_hw30 k0_h2)

def k0_off118 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let v908 : Index := Scalar.indexCast v892
  ![v908.toNat]
def k0_off119 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let c2_i32_373 : BitVec 32 := 2#32
  let v910 : BitVec 32 := Scalar.remsi v892 c2_i32_373
  let c0_i32_374 : BitVec 32 := 0#32
  let c0_i32_375 : BitVec 32 := 0#32
  ![v910.toNat, 0, 0]
def k0_off120 (v909 : BitVec 32) : Fin 3 → Nat :=
  let c0_i32_376 : BitVec 32 := 0#32
  let c0_i32_377 : BitVec 32 := 0#32
  ![v909.toNat, 0, 0]

def k0_chk31 (v55 : BitVec 32) (k0_t3 : Fin (k0_t3_loop v55).trips) (v909 : BitVec 32) : Prop :=
  (∀ (k0_h2 : k0_cond2 v55 k0_t3 = 1#1), ∀ a, (k0_off120 v909) a + S1x1408x3072.size a ≤ S32x2816x3072.size a) ∧
  (∀ (k0_h2 : k0_cond2 v55 k0_t3 = 1#1), ∀ (hinb : ∀ a, (k0_off120 v909) a + S1x1408x3072.size a ≤ S32x2816x3072.size a), (Rect.unit (s := S32x2816x3072) (k0_off120 v909) S1x1408x3072.size hinb).WholeWords (EltTy.packing .fp8e4m3))
theorem k0_off120_inb : ∀ (v55 : BitVec 32) (k0_t3 : Fin (k0_t3_loop v55).trips) (v909 : BitVec 32) (k0_hw31 : k0_chk31 v55 k0_t3 v909), ∀ (k0_h2 : k0_cond2 v55 k0_t3 = 1#1), ∀ a, (k0_off120 v909) a + S1x1408x3072.size a ≤ S32x2816x3072.size a := fun v55 k0_t3 v909 k0_hw31 k0_h2 => k0_hw31.1 k0_h2
theorem k0_off120_wordsfp8e4m3 : ∀ (v55 : BitVec 32) (k0_t3 : Fin (k0_t3_loop v55).trips) (v909 : BitVec 32) (k0_hw31 : k0_chk31 v55 k0_t3 v909), ∀ (k0_h2 : k0_cond2 v55 k0_t3 = 1#1), (Rect.unit (s := S32x2816x3072) (k0_off120 v909) S1x1408x3072.size (k0_off120_inb v55 k0_t3 v909 k0_hw31 k0_h2)).WholeWords (EltTy.packing .fp8e4m3) := fun v55 k0_t3 v909 k0_hw31 k0_h2 => k0_hw31.2 k0_h2 (k0_off120_inb v55 k0_t3 v909 k0_hw31 k0_h2)

def k0_off121 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let v917 : Index := Scalar.indexCast v892
  ![v917.toNat]
def k0_off122 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let c2_i32_378 : BitVec 32 := 2#32
  let v919 : BitVec 32 := Scalar.remsi v892 c2_i32_378
  ![v919.toNat]
def k0_off123 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let c2_i32_378 : BitVec 32 := 2#32
  let v919 : BitVec 32 := Scalar.remsi v892 c2_i32_378
  let c1408_i32_379 : BitVec 32 := 1408#32
  let c0_i32_380 : BitVec 32 := 0#32
  ![v919.toNat, 1408, 0]
def k0_off124 (v918 : BitVec 32) : Fin 3 → Nat :=
  let c1408_i32_381 : BitVec 32 := 1408#32
  let c0_i32_382 : BitVec 32 := 0#32
  ![v918.toNat, 1408, 0]

def k0_chk32 (v55 : BitVec 32) (k0_t3 : Fin (k0_t3_loop v55).trips) (v918 : BitVec 32) : Prop :=
  (∀ (k0_h2 : k0_cond2 v55 k0_t3 = 1#1), ∀ a, (k0_off124 v918) a + S1x1408x3072.size a ≤ S32x2816x3072.size a) ∧
  (∀ (k0_h2 : k0_cond2 v55 k0_t3 = 1#1), ∀ (hinb : ∀ a, (k0_off124 v918) a + S1x1408x3072.size a ≤ S32x2816x3072.size a), (Rect.unit (s := S32x2816x3072) (k0_off124 v918) S1x1408x3072.size hinb).WholeWords (EltTy.packing .fp8e4m3))
theorem k0_off124_inb : ∀ (v55 : BitVec 32) (k0_t3 : Fin (k0_t3_loop v55).trips) (v918 : BitVec 32) (k0_hw32 : k0_chk32 v55 k0_t3 v918), ∀ (k0_h2 : k0_cond2 v55 k0_t3 = 1#1), ∀ a, (k0_off124 v918) a + S1x1408x3072.size a ≤ S32x2816x3072.size a := fun v55 k0_t3 v918 k0_hw32 k0_h2 => k0_hw32.1 k0_h2
theorem k0_off124_wordsfp8e4m3 : ∀ (v55 : BitVec 32) (k0_t3 : Fin (k0_t3_loop v55).trips) (v918 : BitVec 32) (k0_hw32 : k0_chk32 v55 k0_t3 v918), ∀ (k0_h2 : k0_cond2 v55 k0_t3 = 1#1), (Rect.unit (s := S32x2816x3072) (k0_off124 v918) S1x1408x3072.size (k0_off124_inb v55 k0_t3 v918 k0_hw32 k0_h2)).WholeWords (EltTy.packing .fp8e4m3) := fun v55 k0_t3 v918 k0_hw32 k0_h2 => k0_hw32.2 k0_h2 (k0_off124_inb v55 k0_t3 v918 k0_hw32 k0_h2)

def k0_off125 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let v926 : Index := Scalar.indexCast v892
  ![v926.toNat]
def k0_off126 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let c2_i32_383 : BitVec 32 := 2#32
  let v928 : BitVec 32 := Scalar.remsi v892 c2_i32_383
  ![v928.toNat]
def k0_off127 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c1_i32_363 : BitVec 32 := 1#32
  let v892 : BitVec 32 := Scalar.addi arg35 c1_i32_363
  let c2_i32_383 : BitVec 32 := 2#32
  let v928 : BitVec 32 := Scalar.remsi v892 c2_i32_383
  let c0_i32_384 : BitVec 32 := 0#32
  let c0_i32_385 : BitVec 32 := 0#32
  ![v928.toNat, 0, 0]
def k0_off128 (v927 : BitVec 32) : Fin 3 → Nat :=
  let c0_i32_386 : BitVec 32 := 0#32
  let c0_i32_387 : BitVec 32 := 0#32
  ![v927.toNat, 0, 0]

def k0_chk33 (v55 : BitVec 32) (k0_t3 : Fin (k0_t3_loop v55).trips) (v927 : BitVec 32) : Prop :=
  (∀ (k0_h2 : k0_cond2 v55 k0_t3 = 1#1), ∀ a, (k0_off128 v927) a + S1x1536x2816.size a ≤ S32x1536x2816.size a) ∧
  (∀ (k0_h2 : k0_cond2 v55 k0_t3 = 1#1), ∀ (hinb : ∀ a, (k0_off128 v927) a + S1x1536x2816.size a ≤ S32x1536x2816.size a), (Rect.unit (s := S32x1536x2816) (k0_off128 v927) S1x1536x2816.size hinb).WholeWords (EltTy.packing .fp8e4m3))
theorem k0_off128_inb : ∀ (v55 : BitVec 32) (k0_t3 : Fin (k0_t3_loop v55).trips) (v927 : BitVec 32) (k0_hw33 : k0_chk33 v55 k0_t3 v927), ∀ (k0_h2 : k0_cond2 v55 k0_t3 = 1#1), ∀ a, (k0_off128 v927) a + S1x1536x2816.size a ≤ S32x1536x2816.size a := fun v55 k0_t3 v927 k0_hw33 k0_h2 => k0_hw33.1 k0_h2
theorem k0_off128_wordsfp8e4m3 : ∀ (v55 : BitVec 32) (k0_t3 : Fin (k0_t3_loop v55).trips) (v927 : BitVec 32) (k0_hw33 : k0_chk33 v55 k0_t3 v927), ∀ (k0_h2 : k0_cond2 v55 k0_t3 = 1#1), (Rect.unit (s := S32x1536x2816) (k0_off128 v927) S1x1536x2816.size (k0_off128_inb v55 k0_t3 v927 k0_hw33 k0_h2)).WholeWords (EltTy.packing .fp8e4m3) := fun v55 k0_t3 v927 k0_hw33 k0_h2 => k0_hw33.2 k0_h2 (k0_off128_inb v55 k0_t3 v927 k0_hw33 k0_h2)

def k0_off129 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let v546 : Index := Scalar.indexCast arg35
  ![v546.toNat]
def k0_off130 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_218 : BitVec 32 := 2#32
  let v551 : BitVec 32 := Scalar.remsi arg35 c2_i32_218
  ![v551.toNat]
def k0_off131 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_218 : BitVec 32 := 2#32
  let v551 : BitVec 32 := Scalar.remsi arg35 c2_i32_218
  let c0_i32_219 : BitVec 32 := 0#32
  let c0_i32_220 : BitVec 32 := 0#32
  ![v551.toNat, 0, 0]
def k0_off132 (v550 : BitVec 32) : Fin 3 → Nat :=
  let c0_i32_221 : BitVec 32 := 0#32
  let c0_i32_222 : BitVec 32 := 0#32
  ![v550.toNat, 0, 0]

def k0_off133 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_218 : BitVec 32 := 2#32
  let v551 : BitVec 32 := Scalar.remsi arg35 c2_i32_218
  ![v551.toNat]
def k0_off134 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_218 : BitVec 32 := 2#32
  let v551 : BitVec 32 := Scalar.remsi arg35 c2_i32_218
  let c0_i32_223 : BitVec 32 := 0#32
  let c0_i32_224 : BitVec 32 := 0#32
  ![v551.toNat, 0, 0]
def k0_off135 (v550 : BitVec 32) : Fin 3 → Nat :=
  let c0_i32_225 : BitVec 32 := 0#32
  let c0_i32_226 : BitVec 32 := 0#32
  ![v550.toNat, 0, 0]

def k0_chk34 (v550 : BitVec 32) : Prop :=
  (∀ a, (k0_off132 v550) a + S1x128x2816.size a ≤ S32x128x2816.size a) ∧
  (∀ (hinb : ∀ a, (k0_off132 v550) a + S1x128x2816.size a ≤ S32x128x2816.size a), (Rect.unit (s := S32x128x2816) (k0_off132 v550) S1x128x2816.size hinb).WholeWords (EltTy.packing .bf16)) ∧
  (∀ a, (k0_off135 v550) a + S1x128x3072.size a ≤ S32x128x3072.size a) ∧
  (∀ (hinb : ∀ a, (k0_off135 v550) a + S1x128x3072.size a ≤ S32x128x3072.size a), (Rect.unit (s := S32x128x3072) (k0_off135 v550) S1x128x3072.size hinb).WholeWords (EltTy.packing .bf16))
theorem k0_off132_inb : ∀ (v550 : BitVec 32) (k0_hw34 : k0_chk34 v550), ∀ a, (k0_off132 v550) a + S1x128x2816.size a ≤ S32x128x2816.size a := fun v550 k0_hw34 => k0_hw34.1
theorem k0_off132_wordsbf16 : ∀ (v550 : BitVec 32) (k0_hw34 : k0_chk34 v550), (Rect.unit (s := S32x128x2816) (k0_off132 v550) S1x128x2816.size (k0_off132_inb v550 k0_hw34)).WholeWords (EltTy.packing .bf16) := fun v550 k0_hw34 => k0_hw34.2.1 (k0_off132_inb v550 k0_hw34)
theorem k0_off135_inb : ∀ (v550 : BitVec 32) (k0_hw34 : k0_chk34 v550), ∀ a, (k0_off135 v550) a + S1x128x3072.size a ≤ S32x128x3072.size a := fun v550 k0_hw34 => k0_hw34.2.2.1
theorem k0_off135_wordsbf16 : ∀ (v550 : BitVec 32) (k0_hw34 : k0_chk34 v550), (Rect.unit (s := S32x128x3072) (k0_off135 v550) S1x128x3072.size (k0_off135_inb v550 k0_hw34)).WholeWords (EltTy.packing .bf16) := fun v550 k0_hw34 => k0_hw34.2.2.2 (k0_off135_inb v550 k0_hw34)

def k0_off136 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v564 : Index := Scalar.indexCast v548
  let c0_227 : Index := 0#32
  let c0_228 : Index := 0#32
  ![v564.toNat, 0, 0]
def k0_off137 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let v571 : Index := Scalar.indexCast arg35
  ![v571.toNat]
def k0_off138 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_231 : BitVec 32 := 2#32
  let v573 : BitVec 32 := Scalar.remsi arg35 c2_i32_231
  let c0_i32_232 : BitVec 32 := 0#32
  let c0_i32_233 : BitVec 32 := 0#32
  ![v573.toNat, 0, 0]
def k0_off139 (v572 : BitVec 32) : Fin 3 → Nat :=
  let c0_i32_234 : BitVec 32 := 0#32
  let c0_i32_235 : BitVec 32 := 0#32
  ![v572.toNat, 0, 0]

def k0_chk35 (v572 : BitVec 32) : Prop :=
  (∀ a, (k0_off139 v572) a + S1x2816x3072.size a ≤ S32x2816x3072.size a) ∧
  (∀ (hinb : ∀ a, (k0_off139 v572) a + S1x2816x3072.size a ≤ S32x2816x3072.size a), (Rect.unit (s := S32x2816x3072) (k0_off139 v572) S1x2816x3072.size hinb).WholeWords (EltTy.packing .fp8e4m3))
theorem k0_off139_inb : ∀ (v572 : BitVec 32) (k0_hw35 : k0_chk35 v572), ∀ a, (k0_off139 v572) a + S1x2816x3072.size a ≤ S32x2816x3072.size a := fun v572 k0_hw35 => k0_hw35.1
theorem k0_off139_wordsfp8e4m3 : ∀ (v572 : BitVec 32) (k0_hw35 : k0_chk35 v572), (Rect.unit (s := S32x2816x3072) (k0_off139 v572) S1x2816x3072.size (k0_off139_inb v572 k0_hw35)).WholeWords (EltTy.packing .fp8e4m3) := fun v572 k0_hw35 => k0_hw35.2 (k0_off139_inb v572 k0_hw35)

def k0_off140 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v580 : Index := Scalar.indexCast v548
  let c0_236 : Index := 0#32
  let c0_237 : Index := 0#32
  ![v580.toNat, 0, 0]
def k0_off141 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v584 : Index := Scalar.indexCast v548
  let c0_239 : Index := 0#32
  let c0_240 : Index := 0#32
  ![v584.toNat, 0, 0]
def k0_off142 (v547 : BitVec 32) : Fin 2 → Nat :=
  let v590 : Index := Scalar.indexCast v547
  let c0_242 : Index := 0#32
  ![v590.toNat, 0]

def k0_off143 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v599 : Index := Scalar.indexCast v548
  let c0_244 : Index := 0#32
  let c1536 : Index := 1536#32
  ![v599.toNat, 0, 1536]
def k0_off144 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v603 : Index := Scalar.indexCast v548
  let c0_246 : Index := 0#32
  let c1536_247 : Index := 1536#32
  ![v603.toNat, 0, 1536]
def k0_off145 (v547 : BitVec 32) : Fin 2 → Nat :=
  let v609 : Index := Scalar.indexCast v547
  let c1536_249 : Index := 1536#32
  ![v609.toNat, 1536]
def k0_off146 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v617 : Index := Scalar.indexCast v548
  let c0_251 : Index := 0#32
  let c512 : Index := 512#32
  ![v617.toNat, 0, 512]
def k0_off147 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v621 : Index := Scalar.indexCast v548
  let c0_253 : Index := 0#32
  let c512_254 : Index := 512#32
  ![v621.toNat, 0, 512]
def k0_off148 (v547 : BitVec 32) : Fin 2 → Nat :=
  let v627 : Index := Scalar.indexCast v547
  let c512_256 : Index := 512#32
  ![v627.toNat, 512]
def k0_off149 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v636 : Index := Scalar.indexCast v548
  let c0_258 : Index := 0#32
  let c2048 : Index := 2048#32
  ![v636.toNat, 0, 2048]
def k0_off150 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v640 : Index := Scalar.indexCast v548
  let c0_260 : Index := 0#32
  let c2048_261 : Index := 2048#32
  ![v640.toNat, 0, 2048]
def k0_off151 (v547 : BitVec 32) : Fin 2 → Nat :=
  let v646 : Index := Scalar.indexCast v547
  let c2048_263 : Index := 2048#32
  ![v646.toNat, 2048]
def k0_off152 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v654 : Index := Scalar.indexCast v548
  let c0_265 : Index := 0#32
  let c1024 : Index := 1024#32
  ![v654.toNat, 0, 1024]
def k0_off153 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v658 : Index := Scalar.indexCast v548
  let c0_267 : Index := 0#32
  let c1024_268 : Index := 1024#32
  ![v658.toNat, 0, 1024]
def k0_off154 (v547 : BitVec 32) : Fin 2 → Nat :=
  let v664 : Index := Scalar.indexCast v547
  let c1024_270 : Index := 1024#32
  ![v664.toNat, 1024]
def k0_off155 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v673 : Index := Scalar.indexCast v548
  let c0_272 : Index := 0#32
  let c2560 : Index := 2560#32
  ![v673.toNat, 0, 2560]
def k0_off156 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v677 : Index := Scalar.indexCast v548
  let c0_274 : Index := 0#32
  let c2560_275 : Index := 2560#32
  ![v677.toNat, 0, 2560]
def k0_off157 (v547 : BitVec 32) : Fin 2 → Nat :=
  let v683 : Index := Scalar.indexCast v547
  let c2560_277 : Index := 2560#32
  ![v683.toNat, 2560]
def k0_off158 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let v757 : Index := Scalar.indexCast arg35
  ![v757.toNat]
def k0_off159 (v55 : BitVec 32) (k0_t3 : Fin (k0_t3_loop v55).trips) : Fin 1 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_304 : BitVec 32 := 2#32
  let v759 : BitVec 32 := Scalar.remsi arg35 c2_i32_304
  ![v759.toNat]
def k0_off160 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_304 : BitVec 32 := 2#32
  let v759 : BitVec 32 := Scalar.remsi arg35 c2_i32_304
  let c0_i32_305 : BitVec 32 := 0#32
  let c0_i32_306 : BitVec 32 := 0#32
  ![v759.toNat, 0, 0]
def k0_off161 (v758 : BitVec 32) : Fin 3 → Nat :=
  let c0_i32_307 : BitVec 32 := 0#32
  let c0_i32_308 : BitVec 32 := 0#32
  ![v758.toNat, 0, 0]

def k0_chk37 (v758 : BitVec 32) : Prop :=
  (∀ a, (k0_off161 v758) a + S1x1536x2816.size a ≤ S32x1536x2816.size a) ∧
  (∀ (hinb : ∀ a, (k0_off161 v758) a + S1x1536x2816.size a ≤ S32x1536x2816.size a), (Rect.unit (s := S32x1536x2816) (k0_off161 v758) S1x1536x2816.size hinb).WholeWords (EltTy.packing .fp8e4m3))
theorem k0_off161_inb : ∀ (v758 : BitVec 32) (k0_hw37 : k0_chk37 v758), ∀ a, (k0_off161 v758) a + S1x1536x2816.size a ≤ S32x1536x2816.size a := fun v758 k0_hw37 => k0_hw37.1
theorem k0_off161_wordsfp8e4m3 : ∀ (v758 : BitVec 32) (k0_hw37 : k0_chk37 v758), (Rect.unit (s := S32x1536x2816) (k0_off161 v758) S1x1536x2816.size (k0_off161_inb v758 k0_hw37)).WholeWords (EltTy.packing .fp8e4m3) := fun v758 k0_hw37 => k0_hw37.2 (k0_off161_inb v758 k0_hw37)

def k0_off162 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v766 : Index := Scalar.indexCast v548
  let c0_309 : Index := 0#32
  let c0_310 : Index := 0#32
  ![v766.toNat, 0, 0]
def k0_off163 (v547 : BitVec 32) : Fin 2 → Nat :=
  let v772 : Index := Scalar.indexCast v547
  let c0_312 : Index := 0#32
  ![v772.toNat, 0]
def k0_off164 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v787 : Index := Scalar.indexCast v548
  let c0_318 : Index := 0#32
  let c512_319 : Index := 512#32
  ![v787.toNat, 0, 512]
def k0_off165 (v547 : BitVec 32) : Fin 2 → Nat :=
  let v793 : Index := Scalar.indexCast v547
  let c512_321 : Index := 512#32
  ![v793.toNat, 512]
def k0_off166 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v808 : Index := Scalar.indexCast v548
  let c0_327 : Index := 0#32
  let c1024_328 : Index := 1024#32
  ![v808.toNat, 0, 1024]
def k0_off167 (v547 : BitVec 32) : Fin 2 → Nat :=
  let v814 : Index := Scalar.indexCast v547
  let c1024_330 : Index := 1024#32
  ![v814.toNat, 1024]
def k0_off168 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v829 : Index := Scalar.indexCast v548
  let c0_336 : Index := 0#32
  let c1536_337 : Index := 1536#32
  ![v829.toNat, 0, 1536]
def k0_off169 (v547 : BitVec 32) : Fin 2 → Nat :=
  let v835 : Index := Scalar.indexCast v547
  let c1536_339 : Index := 1536#32
  ![v835.toNat, 1536]
def k0_off170 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v850 : Index := Scalar.indexCast v548
  let c0_345 : Index := 0#32
  let c2048_346 : Index := 2048#32
  ![v850.toNat, 0, 2048]
def k0_off171 (v547 : BitVec 32) : Fin 2 → Nat :=
  let v856 : Index := Scalar.indexCast v547
  let c2048_348 : Index := 2048#32
  ![v856.toNat, 2048]
def k0_off172 (v55 : BitVec 32) (k0_t3 : Fin (k0_t3_loop v55).trips) : Fin 3 → Nat :=
  let c0_i32_207 : BitVec 32 := 0#32
  let v534 : BitVec 32 := Scalar.subi v55 c0_i32_207
  let c1_i32_208 : BitVec 32 := 1#32
  let v536 : BitVec 32 := Scalar.divsi v534 c1_i32_208
  let v537 : BitVec 32 := Scalar.muli v536 c1_i32_208
  let v538 : BitVec 32 := Scalar.addi c0_i32_207 v537
  let c1_i32_210 : BitVec 32 := 1#32
  let arg35 : BitVec 32 := Scf.iv v538 c1_i32_210 k0_t3
  let c2_i32_217 : BitVec 32 := 2#32
  let v548 : BitVec 32 := Scalar.remsi arg35 c2_i32_217
  let v871 : Index := Scalar.indexCast v548
  let c0_354 : Index := 0#32
  let c2560_355 : Index := 2560#32
  ![v871.toNat, 0, 2560]

def k0_chk21_0 (v55 : BitVec 32) : Prop :=
  ((k0_t2_loop v55).OK) ∧
  (∀ k0_t2 : Fin (k0_t2_loop v55).trips, ∀ (k0_h1 : k0_cond1 v55 k0_t2 = 1#1), ∀ a, (k0_off48 v55 k0_t2) a + S1.size a ≤ S33.size a) ∧
  (∀ k0_t2 : Fin (k0_t2_loop v55).trips, ∀ (k0_h1 : k0_cond1 v55 k0_t2 = 1#1), ∀ a, (k0_off49 v55 k0_t2) a + S1.size a ≤ S2.size a) ∧
  (∀ k0_t2 : Fin (k0_t2_loop v55).trips, ∀ (k0_h1 : k0_cond1 v55 k0_t2 = 1#1), ∀ a, (k0_off50 v55 k0_t2) a + S1x128x2816.size a ≤ S2x128x2816.size a) ∧
  (∀ k0_t2 : Fin (k0_t2_loop v55).trips, ∀ (k0_h1 : k0_cond1 v55 k0_t2 = 1#1), ∀ (hinb : ∀ a, (k0_off50 v55 k0_t2) a + S1x128x2816.size a ≤ S2x128x2816.size a), (Rect.unit (s := S2x128x2816) (k0_off50 v55 k0_t2) S1x128x2816.size hinb).WholeWords (EltTy.packing .bf16)) ∧
  (∀ k0_t2 : Fin (k0_t2_loop v55).trips, ∀ (k0_h1 : k0_cond1 v55 k0_t2 = 1#1), ∀ a, (k0_off52 v55 k0_t2) a + S1.size a ≤ S2.size a) ∧
  (∀ k0_t2 : Fin (k0_t2_loop v55).trips, ∀ (k0_h1 : k0_cond1 v55 k0_t2 = 1#1), ∀ a, (k0_off53 v55 k0_t2) a + S1x128x3072.size a ≤ S2x128x3072.size a) ∧
  (∀ k0_t2 : Fin (k0_t2_loop v55).trips, ∀ (k0_h1 : k0_cond1 v55 k0_t2 = 1#1), ∀ (hinb : ∀ a, (k0_off53 v55 k0_t2) a + S1x128x3072.size a ≤ S2x128x3072.size a), (Rect.unit (s := S2x128x3072) (k0_off53 v55 k0_t2) S1x128x3072.size hinb).WholeWords (EltTy.packing .bf16)) ∧
  (∀ k0_t2 : Fin (k0_t2_loop v55).trips, ∀ (k0_h1 : k0_cond1 v55 k0_t2 = 1#1), ∀ a, (k0_off55 v55 k0_t2) a + S1.size a ≤ S33.size a) ∧
  (∀ k0_t2 : Fin (k0_t2_loop v55).trips, ∀ (k0_h1 : k0_cond1 v55 k0_t2 = 1#1), ∀ a, (k0_off56 v55 k0_t2) a + S1x1408x3072.size a ≤ S2x2816x3072.size a) ∧
  (∀ k0_t2 : Fin (k0_t2_loop v55).trips, ∀ (k0_h1 : k0_cond1 v55 k0_t2 = 1#1), ∀ (hinb : ∀ a, (k0_off56 v55 k0_t2) a + S1x1408x3072.size a ≤ S2x2816x3072.size a), (Rect.unit (s := S2x2816x3072) (k0_off56 v55 k0_t2) S1x1408x3072.size hinb).WholeWords (EltTy.packing .fp8e4m3)) ∧
  (∀ k0_t2 : Fin (k0_t2_loop v55).trips, ∀ (k0_h1 : k0_cond1 v55 k0_t2 = 1#1), ∀ a, (k0_off58 v55 k0_t2) a + S1.size a ≤ S33.size a) ∧
  (∀ k0_t2 : Fin (k0_t2_loop v55).trips, ∀ (k0_h1 : k0_cond1 v55 k0_t2 = 1#1), ∀ a, (k0_off59 v55 k0_t2) a + S1.size a ≤ S2.size a) ∧
  (∀ k0_t2 : Fin (k0_t2_loop v55).trips, ∀ (k0_h1 : k0_cond1 v55 k0_t2 = 1#1), ∀ a, (k0_off60 v55 k0_t2) a + S1x1408x3072.size a ≤ S2x2816x3072.size a) ∧
  (∀ k0_t2 : Fin (k0_t2_loop v55).trips, ∀ (k0_h1 : k0_cond1 v55 k0_t2 = 1#1), ∀ (hinb : ∀ a, (k0_off60 v55 k0_t2) a + S1x1408x3072.size a ≤ S2x2816x3072.size a), (Rect.unit (s := S2x2816x3072) (k0_off60 v55 k0_t2) S1x1408x3072.size hinb).WholeWords (EltTy.packing .fp8e4m3)) ∧
  (∀ k0_t2 : Fin (k0_t2_loop v55).trips, ∀ (k0_h1 : k0_cond1 v55 k0_t2 = 1#1), ∀ a, (k0_off62 v55 k0_t2) a + S1.size a ≤ S33.size a) ∧
  (∀ k0_t2 : Fin (k0_t2_loop v55).trips, ∀ (k0_h1 : k0_cond1 v55 k0_t2 = 1#1), ∀ a, (k0_off63 v55 k0_t2) a + S1.size a ≤ S2.size a) ∧
  (∀ k0_t2 : Fin (k0_t2_loop v55).trips, ∀ (k0_h1 : k0_cond1 v55 k0_t2 = 1#1), ∀ a, (k0_off64 v55 k0_t2) a + S1x1536x2816.size a ≤ S2x1536x2816.size a) ∧
  (∀ k0_t2 : Fin (k0_t2_loop v55).trips, ∀ (k0_h1 : k0_cond1 v55 k0_t2 = 1#1), ∀ (hinb : ∀ a, (k0_off64 v55 k0_t2) a + S1x1536x2816.size a ≤ S2x1536x2816.size a), (Rect.unit (s := S2x1536x2816) (k0_off64 v55 k0_t2) S1x1536x2816.size hinb).WholeWords (EltTy.packing .fp8e4m3)) ∧
  (∀ k0_t2 : Fin (k0_t2_loop v55).trips, ∀ a, (k0_off66 v55 k0_t2) a + S1.size a ≤ S33.size a) ∧
  (∀ k0_t2 : Fin (k0_t2_loop v55).trips, ∀ a, (k0_off67 v55 k0_t2) a + S1.size a ≤ S2.size a) ∧
  (∀ k0_t2 : Fin (k0_t2_loop v55).trips, ∀ a, (k0_off68 v55 k0_t2) a + S1x128x2816.size a ≤ S2x128x2816.size a) ∧
  (∀ k0_t2 : Fin (k0_t2_loop v55).trips, ∀ (hinb : ∀ a, (k0_off68 v55 k0_t2) a + S1x128x2816.size a ≤ S2x128x2816.size a), (Rect.unit (s := S2x128x2816) (k0_off68 v55 k0_t2) S1x128x2816.size hinb).WholeWords (EltTy.packing .bf16)) ∧
  (∀ k0_t2 : Fin (k0_t2_loop v55).trips, ∀ a, (k0_off70 v55 k0_t2) a + S1.size a ≤ S2.size a) ∧
  (∀ k0_t2 : Fin (k0_t2_loop v55).trips, ∀ a, (k0_off71 v55 k0_t2) a + S1x128x3072.size a ≤ S2x128x3072.size a) ∧
  (∀ k0_t2 : Fin (k0_t2_loop v55).trips, ∀ (hinb : ∀ a, (k0_off71 v55 k0_t2) a + S1x128x3072.size a ≤ S2x128x3072.size a), (Rect.unit (s := S2x128x3072) (k0_off71 v55 k0_t2) S1x128x3072.size hinb).WholeWords (EltTy.packing .bf16)) ∧
  (∀ k0_t2 : Fin (k0_t2_loop v55).trips, ∀ a, (k0_off73 v55 k0_t2) a + S1x128x2816.size a ≤ S2x128x2816.size a) ∧
  (∀ k0_t2 : Fin (k0_t2_loop v55).trips, ∀ a, (k0_off74 v55 k0_t2) a + S1.size a ≤ S33.size a) ∧
  (∀ k0_t2 : Fin (k0_t2_loop v55).trips, ∀ a, (k0_off75 v55 k0_t2) a + S1x2816x3072.size a ≤ S2x2816x3072.size a) ∧
  (∀ k0_t2 : Fin (k0_t2_loop v55).trips, ∀ (hinb : ∀ a, (k0_off75 v55 k0_t2) a + S1x2816x3072.size a ≤ S2x2816x3072.size a), (Rect.unit (s := S2x2816x3072) (k0_off75 v55 k0_t2) S1x2816x3072.size hinb).WholeWords (EltTy.packing .fp8e4m3)) ∧
  (∀ k0_t2 : Fin (k0_t2_loop v55).trips, ∀ a, (k0_off77 v55 k0_t2) a + S1x2816x512.size a ≤ S2x2816x3072.size a) ∧
  (∀ k0_t2 : Fin (k0_t2_loop v55).trips, ∀ a, (k0_off78 v55 k0_t2) a + S1x128x512.size a ≤ S2x128x3072.size a)
def k0_chk21_1 (v55 : BitVec 32) : Prop :=
  (∀ k0_t2 : Fin (k0_t2_loop v55).trips, ∀ a, (k0_off80 v55 k0_t2) a + S1x2816x512.size a ≤ S2x2816x3072.size a) ∧
  (∀ k0_t2 : Fin (k0_t2_loop v55).trips, ∀ a, (k0_off81 v55 k0_t2) a + S1x128x512.size a ≤ S2x128x3072.size a) ∧
  (∀ k0_t2 : Fin (k0_t2_loop v55).trips, ∀ a, (k0_off83 v55 k0_t2) a + S1x2816x512.size a ≤ S2x2816x3072.size a) ∧
  (∀ k0_t2 : Fin (k0_t2_loop v55).trips, ∀ a, (k0_off84 v55 k0_t2) a + S1x128x512.size a ≤ S2x128x3072.size a) ∧
  (∀ k0_t2 : Fin (k0_t2_loop v55).trips, ∀ a, (k0_off86 v55 k0_t2) a + S1x2816x512.size a ≤ S2x2816x3072.size a) ∧
  (∀ k0_t2 : Fin (k0_t2_loop v55).trips, ∀ a, (k0_off87 v55 k0_t2) a + S1x128x512.size a ≤ S2x128x3072.size a) ∧
  (∀ k0_t2 : Fin (k0_t2_loop v55).trips, ∀ a, (k0_off89 v55 k0_t2) a + S1x2816x512.size a ≤ S2x2816x3072.size a) ∧
  (∀ k0_t2 : Fin (k0_t2_loop v55).trips, ∀ a, (k0_off90 v55 k0_t2) a + S1x128x512.size a ≤ S2x128x3072.size a) ∧
  (∀ k0_t2 : Fin (k0_t2_loop v55).trips, ∀ a, (k0_off92 v55 k0_t2) a + S1x2816x512.size a ≤ S2x2816x3072.size a) ∧
  (∀ k0_t2 : Fin (k0_t2_loop v55).trips, ∀ a, (k0_off93 v55 k0_t2) a + S1x128x512.size a ≤ S2x128x3072.size a) ∧
  (∀ k0_t2 : Fin (k0_t2_loop v55).trips, ∀ a, (k0_off95 v55 k0_t2) a + S1.size a ≤ S33.size a) ∧
  (∀ k0_t2 : Fin (k0_t2_loop v55).trips, ∀ a, (k0_off96 v55 k0_t2) a + S1.size a ≤ S2.size a) ∧
  (∀ k0_t2 : Fin (k0_t2_loop v55).trips, ∀ a, (k0_off97 v55 k0_t2) a + S1x1536x2816.size a ≤ S2x1536x2816.size a) ∧
  (∀ k0_t2 : Fin (k0_t2_loop v55).trips, ∀ (hinb : ∀ a, (k0_off97 v55 k0_t2) a + S1x1536x2816.size a ≤ S2x1536x2816.size a), (Rect.unit (s := S2x1536x2816) (k0_off97 v55 k0_t2) S1x1536x2816.size hinb).WholeWords (EltTy.packing .fp8e4m3)) ∧
  (∀ k0_t2 : Fin (k0_t2_loop v55).trips, ∀ a, (k0_off99 v55 k0_t2) a + S1x1536x512.size a ≤ S2x1536x2816.size a) ∧
  (∀ k0_t2 : Fin (k0_t2_loop v55).trips, ∀ a, (k0_off101 v55 k0_t2) a + S1x1536x512.size a ≤ S2x1536x2816.size a) ∧
  (∀ k0_t2 : Fin (k0_t2_loop v55).trips, ∀ a, (k0_off103 v55 k0_t2) a + S1x1536x512.size a ≤ S2x1536x2816.size a) ∧
  (∀ k0_t2 : Fin (k0_t2_loop v55).trips, ∀ a, (k0_off105 v55 k0_t2) a + S1x1536x512.size a ≤ S2x1536x2816.size a) ∧
  (∀ k0_t2 : Fin (k0_t2_loop v55).trips, ∀ a, (k0_off107 v55 k0_t2) a + S1x1536x512.size a ≤ S2x1536x2816.size a) ∧
  (∀ k0_t2 : Fin (k0_t2_loop v55).trips, ∀ a, (k0_off109 v55 k0_t2) a + S1x1536x256.size a ≤ S2x1536x2816.size a) ∧
  ((k0_t3_loop v55).OK) ∧
  (∀ k0_t3 : Fin (k0_t3_loop v55).trips, ∀ (k0_h2 : k0_cond2 v55 k0_t3 = 1#1), ∀ a, (k0_off111 v55 k0_t3) a + S1.size a ≤ S33.size a) ∧
  (∀ k0_t3 : Fin (k0_t3_loop v55).trips, ∀ (k0_h2 : k0_cond2 v55 k0_t3 = 1#1), ∀ a, (k0_off112 v55 k0_t3) a + S1.size a ≤ S2.size a) ∧
  (∀ k0_t3 : Fin (k0_t3_loop v55).trips, ∀ (k0_h2 : k0_cond2 v55 k0_t3 = 1#1), ∀ a, (k0_off113 v55 k0_t3) a + S1x128x2816.size a ≤ S2x128x2816.size a) ∧
  (∀ k0_t3 : Fin (k0_t3_loop v55).trips, ∀ (k0_h2 : k0_cond2 v55 k0_t3 = 1#1), ∀ (hinb : ∀ a, (k0_off113 v55 k0_t3) a + S1x128x2816.size a ≤ S2x128x2816.size a), (Rect.unit (s := S2x128x2816) (k0_off113 v55 k0_t3) S1x128x2816.size hinb).WholeWords (EltTy.packing .bf16)) ∧
  (∀ k0_t3 : Fin (k0_t3_loop v55).trips, ∀ (k0_h2 : k0_cond2 v55 k0_t3 = 1#1), ∀ a, (k0_off115 v55 k0_t3) a + S1.size a ≤ S2.size a) ∧
  (∀ k0_t3 : Fin (k0_t3_loop v55).trips, ∀ (k0_h2 : k0_cond2 v55 k0_t3 = 1#1), ∀ a, (k0_off116 v55 k0_t3) a + S1x128x3072.size a ≤ S2x128x3072.size a) ∧
  (∀ k0_t3 : Fin (k0_t3_loop v55).trips, ∀ (k0_h2 : k0_cond2 v55 k0_t3 = 1#1), ∀ (hinb : ∀ a, (k0_off116 v55 k0_t3) a + S1x128x3072.size a ≤ S2x128x3072.size a), (Rect.unit (s := S2x128x3072) (k0_off116 v55 k0_t3) S1x128x3072.size hinb).WholeWords (EltTy.packing .bf16)) ∧
  (∀ k0_t3 : Fin (k0_t3_loop v55).trips, ∀ (k0_h2 : k0_cond2 v55 k0_t3 = 1#1), ∀ a, (k0_off118 v55 k0_t3) a + S1.size a ≤ S33.size a) ∧
  (∀ k0_t3 : Fin (k0_t3_loop v55).trips, ∀ (k0_h2 : k0_cond2 v55 k0_t3 = 1#1), ∀ a, (k0_off119 v55 k0_t3) a + S1x1408x3072.size a ≤ S2x2816x3072.size a) ∧
  (∀ k0_t3 : Fin (k0_t3_loop v55).trips, ∀ (k0_h2 : k0_cond2 v55 k0_t3 = 1#1), ∀ (hinb : ∀ a, (k0_off119 v55 k0_t3) a + S1x1408x3072.size a ≤ S2x2816x3072.size a), (Rect.unit (s := S2x2816x3072) (k0_off119 v55 k0_t3) S1x1408x3072.size hinb).WholeWords (EltTy.packing .fp8e4m3)) ∧
  (∀ k0_t3 : Fin (k0_t3_loop v55).trips, ∀ (k0_h2 : k0_cond2 v55 k0_t3 = 1#1), ∀ a, (k0_off121 v55 k0_t3) a + S1.size a ≤ S33.size a)
def k0_chk21_2 (v55 : BitVec 32) : Prop :=
  (∀ k0_t3 : Fin (k0_t3_loop v55).trips, ∀ (k0_h2 : k0_cond2 v55 k0_t3 = 1#1), ∀ a, (k0_off122 v55 k0_t3) a + S1.size a ≤ S2.size a) ∧
  (∀ k0_t3 : Fin (k0_t3_loop v55).trips, ∀ (k0_h2 : k0_cond2 v55 k0_t3 = 1#1), ∀ a, (k0_off123 v55 k0_t3) a + S1x1408x3072.size a ≤ S2x2816x3072.size a) ∧
  (∀ k0_t3 : Fin (k0_t3_loop v55).trips, ∀ (k0_h2 : k0_cond2 v55 k0_t3 = 1#1), ∀ (hinb : ∀ a, (k0_off123 v55 k0_t3) a + S1x1408x3072.size a ≤ S2x2816x3072.size a), (Rect.unit (s := S2x2816x3072) (k0_off123 v55 k0_t3) S1x1408x3072.size hinb).WholeWords (EltTy.packing .fp8e4m3)) ∧
  (∀ k0_t3 : Fin (k0_t3_loop v55).trips, ∀ (k0_h2 : k0_cond2 v55 k0_t3 = 1#1), ∀ a, (k0_off125 v55 k0_t3) a + S1.size a ≤ S33.size a) ∧
  (∀ k0_t3 : Fin (k0_t3_loop v55).trips, ∀ (k0_h2 : k0_cond2 v55 k0_t3 = 1#1), ∀ a, (k0_off126 v55 k0_t3) a + S1.size a ≤ S2.size a) ∧
  (∀ k0_t3 : Fin (k0_t3_loop v55).trips, ∀ (k0_h2 : k0_cond2 v55 k0_t3 = 1#1), ∀ a, (k0_off127 v55 k0_t3) a + S1x1536x2816.size a ≤ S2x1536x2816.size a) ∧
  (∀ k0_t3 : Fin (k0_t3_loop v55).trips, ∀ (k0_h2 : k0_cond2 v55 k0_t3 = 1#1), ∀ (hinb : ∀ a, (k0_off127 v55 k0_t3) a + S1x1536x2816.size a ≤ S2x1536x2816.size a), (Rect.unit (s := S2x1536x2816) (k0_off127 v55 k0_t3) S1x1536x2816.size hinb).WholeWords (EltTy.packing .fp8e4m3)) ∧
  (∀ k0_t3 : Fin (k0_t3_loop v55).trips, ∀ a, (k0_off129 v55 k0_t3) a + S1.size a ≤ S33.size a) ∧
  (∀ k0_t3 : Fin (k0_t3_loop v55).trips, ∀ a, (k0_off130 v55 k0_t3) a + S1.size a ≤ S2.size a) ∧
  (∀ k0_t3 : Fin (k0_t3_loop v55).trips, ∀ a, (k0_off131 v55 k0_t3) a + S1x128x2816.size a ≤ S2x128x2816.size a) ∧
  (∀ k0_t3 : Fin (k0_t3_loop v55).trips, ∀ (hinb : ∀ a, (k0_off131 v55 k0_t3) a + S1x128x2816.size a ≤ S2x128x2816.size a), (Rect.unit (s := S2x128x2816) (k0_off131 v55 k0_t3) S1x128x2816.size hinb).WholeWords (EltTy.packing .bf16)) ∧
  (∀ k0_t3 : Fin (k0_t3_loop v55).trips, ∀ a, (k0_off133 v55 k0_t3) a + S1.size a ≤ S2.size a) ∧
  (∀ k0_t3 : Fin (k0_t3_loop v55).trips, ∀ a, (k0_off134 v55 k0_t3) a + S1x128x3072.size a ≤ S2x128x3072.size a) ∧
  (∀ k0_t3 : Fin (k0_t3_loop v55).trips, ∀ (hinb : ∀ a, (k0_off134 v55 k0_t3) a + S1x128x3072.size a ≤ S2x128x3072.size a), (Rect.unit (s := S2x128x3072) (k0_off134 v55 k0_t3) S1x128x3072.size hinb).WholeWords (EltTy.packing .bf16)) ∧
  (∀ k0_t3 : Fin (k0_t3_loop v55).trips, ∀ a, (k0_off136 v55 k0_t3) a + S1x128x2816.size a ≤ S2x128x2816.size a) ∧
  (∀ k0_t3 : Fin (k0_t3_loop v55).trips, ∀ a, (k0_off137 v55 k0_t3) a + S1.size a ≤ S33.size a) ∧
  (∀ k0_t3 : Fin (k0_t3_loop v55).trips, ∀ a, (k0_off138 v55 k0_t3) a + S1x2816x3072.size a ≤ S2x2816x3072.size a) ∧
  (∀ k0_t3 : Fin (k0_t3_loop v55).trips, ∀ (hinb : ∀ a, (k0_off138 v55 k0_t3) a + S1x2816x3072.size a ≤ S2x2816x3072.size a), (Rect.unit (s := S2x2816x3072) (k0_off138 v55 k0_t3) S1x2816x3072.size hinb).WholeWords (EltTy.packing .fp8e4m3)) ∧
  (∀ k0_t3 : Fin (k0_t3_loop v55).trips, ∀ a, (k0_off140 v55 k0_t3) a + S1x2816x512.size a ≤ S2x2816x3072.size a) ∧
  (∀ k0_t3 : Fin (k0_t3_loop v55).trips, ∀ a, (k0_off141 v55 k0_t3) a + S1x128x512.size a ≤ S2x128x3072.size a) ∧
  (∀ k0_t3 : Fin (k0_t3_loop v55).trips, ∀ a, (k0_off143 v55 k0_t3) a + S1x2816x512.size a ≤ S2x2816x3072.size a) ∧
  (∀ k0_t3 : Fin (k0_t3_loop v55).trips, ∀ a, (k0_off144 v55 k0_t3) a + S1x128x512.size a ≤ S2x128x3072.size a) ∧
  (∀ k0_t3 : Fin (k0_t3_loop v55).trips, ∀ a, (k0_off146 v55 k0_t3) a + S1x2816x512.size a ≤ S2x2816x3072.size a) ∧
  (∀ k0_t3 : Fin (k0_t3_loop v55).trips, ∀ a, (k0_off147 v55 k0_t3) a + S1x128x512.size a ≤ S2x128x3072.size a) ∧
  (∀ k0_t3 : Fin (k0_t3_loop v55).trips, ∀ a, (k0_off149 v55 k0_t3) a + S1x2816x512.size a ≤ S2x2816x3072.size a) ∧
  (∀ k0_t3 : Fin (k0_t3_loop v55).trips, ∀ a, (k0_off150 v55 k0_t3) a + S1x128x512.size a ≤ S2x128x3072.size a) ∧
  (∀ k0_t3 : Fin (k0_t3_loop v55).trips, ∀ a, (k0_off152 v55 k0_t3) a + S1x2816x512.size a ≤ S2x2816x3072.size a) ∧
  (∀ k0_t3 : Fin (k0_t3_loop v55).trips, ∀ a, (k0_off153 v55 k0_t3) a + S1x128x512.size a ≤ S2x128x3072.size a) ∧
  (∀ k0_t3 : Fin (k0_t3_loop v55).trips, ∀ a, (k0_off155 v55 k0_t3) a + S1x2816x512.size a ≤ S2x2816x3072.size a) ∧
  (∀ k0_t3 : Fin (k0_t3_loop v55).trips, ∀ a, (k0_off156 v55 k0_t3) a + S1x128x512.size a ≤ S2x128x3072.size a) ∧
  (∀ k0_t3 : Fin (k0_t3_loop v55).trips, ∀ a, (k0_off158 v55 k0_t3) a + S1.size a ≤ S33.size a) ∧
  (∀ k0_t3 : Fin (k0_t3_loop v55).trips, ∀ a, (k0_off159 v55 k0_t3) a + S1.size a ≤ S2.size a)
def k0_chk21_3 (v55 : BitVec 32) : Prop :=
  (∀ k0_t3 : Fin (k0_t3_loop v55).trips, ∀ a, (k0_off160 v55 k0_t3) a + S1x1536x2816.size a ≤ S2x1536x2816.size a) ∧
  (∀ k0_t3 : Fin (k0_t3_loop v55).trips, ∀ (hinb : ∀ a, (k0_off160 v55 k0_t3) a + S1x1536x2816.size a ≤ S2x1536x2816.size a), (Rect.unit (s := S2x1536x2816) (k0_off160 v55 k0_t3) S1x1536x2816.size hinb).WholeWords (EltTy.packing .fp8e4m3)) ∧
  (∀ k0_t3 : Fin (k0_t3_loop v55).trips, ∀ a, (k0_off162 v55 k0_t3) a + S1x1536x512.size a ≤ S2x1536x2816.size a) ∧
  (∀ k0_t3 : Fin (k0_t3_loop v55).trips, ∀ a, (k0_off164 v55 k0_t3) a + S1x1536x512.size a ≤ S2x1536x2816.size a) ∧
  (∀ k0_t3 : Fin (k0_t3_loop v55).trips, ∀ a, (k0_off166 v55 k0_t3) a + S1x1536x512.size a ≤ S2x1536x2816.size a) ∧
  (∀ k0_t3 : Fin (k0_t3_loop v55).trips, ∀ a, (k0_off168 v55 k0_t3) a + S1x1536x512.size a ≤ S2x1536x2816.size a) ∧
  (∀ k0_t3 : Fin (k0_t3_loop v55).trips, ∀ a, (k0_off170 v55 k0_t3) a + S1x1536x512.size a ≤ S2x1536x2816.size a) ∧
  (∀ k0_t3 : Fin (k0_t3_loop v55).trips, ∀ a, (k0_off172 v55 k0_t3) a + S1x1536x256.size a ≤ S2x1536x2816.size a)
def k0_chk21 (v55 : BitVec 32) : Prop :=
  k0_chk21_0 v55 ∧
  k0_chk21_1 v55 ∧
  k0_chk21_2 v55 ∧
  k0_chk21_3 v55
theorem k0_t2_ok : ∀ (v55 : BitVec 32) (k0_hw21 : k0_chk21 v55), (k0_t2_loop v55).OK := fun v55 k0_hw21 => k0_hw21.1.1
theorem k0_off48_inb : ∀ (v55 : BitVec 32) (k0_hw21 : k0_chk21 v55) (k0_t2 : Fin (k0_t2_loop v55).trips), ∀ (k0_h1 : k0_cond1 v55 k0_t2 = 1#1), ∀ a, (k0_off48 v55 k0_t2) a + S1.size a ≤ S33.size a := fun v55 k0_hw21 k0_t2 k0_h1 => k0_hw21.1.2.1 k0_t2 k0_h1
theorem k0_off49_inb : ∀ (v55 : BitVec 32) (k0_hw21 : k0_chk21 v55) (k0_t2 : Fin (k0_t2_loop v55).trips), ∀ (k0_h1 : k0_cond1 v55 k0_t2 = 1#1), ∀ a, (k0_off49 v55 k0_t2) a + S1.size a ≤ S2.size a := fun v55 k0_hw21 k0_t2 k0_h1 => k0_hw21.1.2.2.1 k0_t2 k0_h1
theorem k0_off50_inb : ∀ (v55 : BitVec 32) (k0_hw21 : k0_chk21 v55) (k0_t2 : Fin (k0_t2_loop v55).trips), ∀ (k0_h1 : k0_cond1 v55 k0_t2 = 1#1), ∀ a, (k0_off50 v55 k0_t2) a + S1x128x2816.size a ≤ S2x128x2816.size a := fun v55 k0_hw21 k0_t2 k0_h1 => k0_hw21.1.2.2.2.1 k0_t2 k0_h1
theorem k0_off50_wordsbf16 : ∀ (v55 : BitVec 32) (k0_hw21 : k0_chk21 v55) (k0_t2 : Fin (k0_t2_loop v55).trips), ∀ (k0_h1 : k0_cond1 v55 k0_t2 = 1#1), (Rect.unit (s := S2x128x2816) (k0_off50 v55 k0_t2) S1x128x2816.size (k0_off50_inb v55 k0_hw21 k0_t2 k0_h1)).WholeWords (EltTy.packing .bf16) := fun v55 k0_hw21 k0_t2 k0_h1 => k0_hw21.1.2.2.2.2.1 k0_t2 k0_h1 (k0_off50_inb v55 k0_hw21 k0_t2 k0_h1)
theorem k0_off52_inb : ∀ (v55 : BitVec 32) (k0_hw21 : k0_chk21 v55) (k0_t2 : Fin (k0_t2_loop v55).trips), ∀ (k0_h1 : k0_cond1 v55 k0_t2 = 1#1), ∀ a, (k0_off52 v55 k0_t2) a + S1.size a ≤ S2.size a := fun v55 k0_hw21 k0_t2 k0_h1 => k0_hw21.1.2.2.2.2.2.1 k0_t2 k0_h1
theorem k0_off53_inb : ∀ (v55 : BitVec 32) (k0_hw21 : k0_chk21 v55) (k0_t2 : Fin (k0_t2_loop v55).trips), ∀ (k0_h1 : k0_cond1 v55 k0_t2 = 1#1), ∀ a, (k0_off53 v55 k0_t2) a + S1x128x3072.size a ≤ S2x128x3072.size a := fun v55 k0_hw21 k0_t2 k0_h1 => k0_hw21.1.2.2.2.2.2.2.1 k0_t2 k0_h1
theorem k0_off53_wordsbf16 : ∀ (v55 : BitVec 32) (k0_hw21 : k0_chk21 v55) (k0_t2 : Fin (k0_t2_loop v55).trips), ∀ (k0_h1 : k0_cond1 v55 k0_t2 = 1#1), (Rect.unit (s := S2x128x3072) (k0_off53 v55 k0_t2) S1x128x3072.size (k0_off53_inb v55 k0_hw21 k0_t2 k0_h1)).WholeWords (EltTy.packing .bf16) := fun v55 k0_hw21 k0_t2 k0_h1 => k0_hw21.1.2.2.2.2.2.2.2.1 k0_t2 k0_h1 (k0_off53_inb v55 k0_hw21 k0_t2 k0_h1)
theorem k0_off55_inb : ∀ (v55 : BitVec 32) (k0_hw21 : k0_chk21 v55) (k0_t2 : Fin (k0_t2_loop v55).trips), ∀ (k0_h1 : k0_cond1 v55 k0_t2 = 1#1), ∀ a, (k0_off55 v55 k0_t2) a + S1.size a ≤ S33.size a := fun v55 k0_hw21 k0_t2 k0_h1 => k0_hw21.1.2.2.2.2.2.2.2.2.1 k0_t2 k0_h1
theorem k0_off56_inb : ∀ (v55 : BitVec 32) (k0_hw21 : k0_chk21 v55) (k0_t2 : Fin (k0_t2_loop v55).trips), ∀ (k0_h1 : k0_cond1 v55 k0_t2 = 1#1), ∀ a, (k0_off56 v55 k0_t2) a + S1x1408x3072.size a ≤ S2x2816x3072.size a := fun v55 k0_hw21 k0_t2 k0_h1 => k0_hw21.1.2.2.2.2.2.2.2.2.2.1 k0_t2 k0_h1
theorem k0_off56_wordsfp8e4m3 : ∀ (v55 : BitVec 32) (k0_hw21 : k0_chk21 v55) (k0_t2 : Fin (k0_t2_loop v55).trips), ∀ (k0_h1 : k0_cond1 v55 k0_t2 = 1#1), (Rect.unit (s := S2x2816x3072) (k0_off56 v55 k0_t2) S1x1408x3072.size (k0_off56_inb v55 k0_hw21 k0_t2 k0_h1)).WholeWords (EltTy.packing .fp8e4m3) := fun v55 k0_hw21 k0_t2 k0_h1 => k0_hw21.1.2.2.2.2.2.2.2.2.2.2.1 k0_t2 k0_h1 (k0_off56_inb v55 k0_hw21 k0_t2 k0_h1)
theorem k0_off58_inb : ∀ (v55 : BitVec 32) (k0_hw21 : k0_chk21 v55) (k0_t2 : Fin (k0_t2_loop v55).trips), ∀ (k0_h1 : k0_cond1 v55 k0_t2 = 1#1), ∀ a, (k0_off58 v55 k0_t2) a + S1.size a ≤ S33.size a := fun v55 k0_hw21 k0_t2 k0_h1 => k0_hw21.1.2.2.2.2.2.2.2.2.2.2.2.1 k0_t2 k0_h1
theorem k0_off59_inb : ∀ (v55 : BitVec 32) (k0_hw21 : k0_chk21 v55) (k0_t2 : Fin (k0_t2_loop v55).trips), ∀ (k0_h1 : k0_cond1 v55 k0_t2 = 1#1), ∀ a, (k0_off59 v55 k0_t2) a + S1.size a ≤ S2.size a := fun v55 k0_hw21 k0_t2 k0_h1 => k0_hw21.1.2.2.2.2.2.2.2.2.2.2.2.2.1 k0_t2 k0_h1
theorem k0_off60_inb : ∀ (v55 : BitVec 32) (k0_hw21 : k0_chk21 v55) (k0_t2 : Fin (k0_t2_loop v55).trips), ∀ (k0_h1 : k0_cond1 v55 k0_t2 = 1#1), ∀ a, (k0_off60 v55 k0_t2) a + S1x1408x3072.size a ≤ S2x2816x3072.size a := fun v55 k0_hw21 k0_t2 k0_h1 => k0_hw21.1.2.2.2.2.2.2.2.2.2.2.2.2.2.1 k0_t2 k0_h1
theorem k0_off60_wordsfp8e4m3 : ∀ (v55 : BitVec 32) (k0_hw21 : k0_chk21 v55) (k0_t2 : Fin (k0_t2_loop v55).trips), ∀ (k0_h1 : k0_cond1 v55 k0_t2 = 1#1), (Rect.unit (s := S2x2816x3072) (k0_off60 v55 k0_t2) S1x1408x3072.size (k0_off60_inb v55 k0_hw21 k0_t2 k0_h1)).WholeWords (EltTy.packing .fp8e4m3) := fun v55 k0_hw21 k0_t2 k0_h1 => k0_hw21.1.2.2.2.2.2.2.2.2.2.2.2.2.2.2.1 k0_t2 k0_h1 (k0_off60_inb v55 k0_hw21 k0_t2 k0_h1)
theorem k0_off62_inb : ∀ (v55 : BitVec 32) (k0_hw21 : k0_chk21 v55) (k0_t2 : Fin (k0_t2_loop v55).trips), ∀ (k0_h1 : k0_cond1 v55 k0_t2 = 1#1), ∀ a, (k0_off62 v55 k0_t2) a + S1.size a ≤ S33.size a := fun v55 k0_hw21 k0_t2 k0_h1 => k0_hw21.1.2.2.2.2.2.2.2.2.2.2.2.2.2.2.2.1 k0_t2 k0_h1
theorem k0_off63_inb : ∀ (v55 : BitVec 32) (k0_hw21 : k0_chk21 v55) (k0_t2 : Fin (k0_t2_loop v55).trips), ∀ (k0_h1 : k0_cond1 v55 k0_t2 = 1#1), ∀ a, (k0_off63 v55 k0_t2) a + S1.size a ≤ S2.size a := fun v55 k0_hw21 k0_t2 k0_h1 => k0_hw21.1.2.2.2.2.2.2.2.2.2.2.2.2.2.2.2.2.1 k0_t2 k0_h1
theorem k0_off64_inb : ∀ (v55 : BitVec 32) (k0_hw21 : k0_chk21 v55) (k0_t2 : Fin (k0_t2_loop v55).trips), ∀ (k0_h1 : k0_cond1 v55 k0_t2 = 1#1), ∀ a, (k0_off64 v55 k0_t2) a + S1x1536x2816.size a ≤ S2x1536x2816.size a := fun v55 k0_hw21 k0_t2 k0_h1 => k0_hw21.1.2.2.2.2.2.2.2.2.2.2.2.2.2.2.2.2.2.1 k0_t2 k0_h1
theorem k0_off64_wordsfp8e4m3 : ∀ (v55 : BitVec 32) (k0_hw21 : k0_chk21 v55) (k0_t2 : Fin (k0_t2_loop v55).trips), ∀ (k0_h1 : k0_cond1 v55 k0_t2 = 1#1), (Rect.unit (s := S2x1536x2816) (k0_off64 v55 k0_t2) S1x1536x2816.size (k0_off64_inb v55 k0_hw21 k0_t2 k0_h1)).WholeWords (EltTy.packing .fp8e4m3) := fun v55 k0_hw21 k0_t2 k0_h1 => k0_hw21.1.2.2.2.2.2.2.2.2.2.2.2.2.2.2.2.2.2.2.1 k0_t2 k0_h1 (k0_off64_inb v55 k0_hw21 k0_t2 k0_h1)
theorem k0_off66_inb : ∀ (v55 : BitVec 32) (k0_hw21 : k0_chk21 v55) (k0_t2 : Fin (k0_t2_loop v55).trips), ∀ a, (k0_off66 v55 k0_t2) a + S1.size a ≤ S33.size a := fun v55 k0_hw21 k0_t2 => k0_hw21.1.2.2.2.2.2.2.2.2.2.2.2.2.2.2.2.2.2.2.2.1 k0_t2
theorem k0_off67_inb : ∀ (v55 : BitVec 32) (k0_hw21 : k0_chk21 v55) (k0_t2 : Fin (k0_t2_loop v55).trips), ∀ a, (k0_off67 v55 k0_t2) a + S1.size a ≤ S2.size a := fun v55 k0_hw21 k0_t2 => k0_hw21.1.2.2.2.2.2.2.2.2.2.2.2.2.2.2.2.2.2.2.2.2.1 k0_t2
theorem k0_off68_inb : ∀ (v55 : BitVec 32) (k0_hw21 : k0_chk21 v55) (k0_t2 : Fin (k0_t2_loop v55).trips), ∀ a, (k0_off68 v55 k0_t2) a + S1x128x2816.size a ≤ S2x128x2816.size a := fun v55 k0_hw21 k0_t2 => k0_hw21.1.2.2.2.2.2.2.2.2.2.2.2.2.2.2.2.2.2.2.2.2.2.1 k0_t2
theorem k0_off68_wordsbf16 : ∀ (v55 : BitVec 32) (k0_hw21 : k0_chk21 v55) (k0_t2 : Fin (k0_t2_loop v55).trips), (Rect.unit (s := S2x128x2816) (k0_off68 v55 k0_t2) S1x128x2816.size (k0_off68_inb v55 k0_hw21 k0_t2)).WholeWords (EltTy.packing .bf16) := fun v55 k0_hw21 k0_t2 => k0_hw21.1.2.2.2.2.2.2.2.2.2.2.2.2.2.2.2.2.2.2.2.2.2.2.1 k0_t2 (k0_off68_inb v55 k0_hw21 k0_t2)
theorem k0_off70_inb : ∀ (v55 : BitVec 32) (k0_hw21 : k0_chk21 v55) (k0_t2 : Fin (k0_t2_loop v55).trips), ∀ a, (k0_off70 v55 k0_t2) a + S1.size a ≤ S2.size a := fun v55 k0_hw21 k0_t2 => k0_hw21.1.2.2.2.2.2.2.2.2.2.2.2.2.2.2.2.2.2.2.2.2.2.2.2.1 k0_t2
theorem k0_off71_inb : ∀ (v55 : BitVec 32) (k0_hw21 : k0_chk21 v55) (k0_t2 : Fin (k0_t2_loop v55).trips), ∀ a, (k0_off71 v55 k0_t2) a + S1x128x3072.size a ≤ S2x128x3072.size a := fun v55 k0_hw21 k0_t2 => k0_hw21.1.2.2.2.2.2.2.2.2.2.2.2.2.2.2.2.2.2.2.2.2.2.2.2.2.1 k0_t2
theorem k0_off71_wordsbf16 : ∀ (v55 : BitVec 32) (k0_hw21 : k0_chk21 v55) (k0_t2 : Fin (k0_t2_loop v55).trips), (Rect.unit (s := S2x128x3072) (k0_off71 v55 k0_t2) S1x128x3072.size (k0_off71_inb v55 k0_hw21 k0_t2)).WholeWords (EltTy.packing .bf16) := fun v55 k0_hw21 k0_t2 => k0_hw21.1.2.2.2.2.2.2.2.2.2.2.2.2.2.2.2.2.2.2.2.2.2.2.2.2.2.1 k0_t2 (k0_off71_inb v55 k0_hw21 k0_t2)
theorem k0_off73_inb : ∀ (v55 : BitVec 32) (k0_hw21 : k0_chk21 v55) (k0_t2 : Fin (k0_t2_loop v55).trips), ∀ a, (k0_off73 v55 k0_t2) a + S1x128x2816.size a ≤ S2x128x2816.size a := fun v55 k0_hw21 k0_t2 => k0_hw21.1.2.2.2.2.2.2.2.2.2.2.2.2.2.2.2.2.2.2.2.2.2.2.2.2.2.2.1 k0_t2
theorem k0_off74_inb : ∀ (v55 : BitVec 32) (k0_hw21 : k0_chk21 v55) (k0_t2 : Fin (k0_t2_loop v55).trips), ∀ a, (k0_off74 v55 k0_t2) a + S1.size a ≤ S33.size a := fun v55 k0_hw21 k0_t2 => k0_hw21.1.2.2.2.2.2.2.2.2.2.2.2.2.2.2.2.2.2.2.2.2.2.2.2.2.2.2.2.1 k0_t2
theorem k0_off75_inb : ∀ (v55 : BitVec 32) (k0_hw21 : k0_chk21 v55) (k0_t2 : Fin (k0_t2_loop v55).trips), ∀ a, (k0_off75 v55 k0_t2) a + S1x2816x3072.size a ≤ S2x2816x3072.size a := fun v55 k0_hw21 k0_t2 => k0_hw21.1.2.2.2.2.2.2.2.2.2.2.2.2.2.2.2.2.2.2.2.2.2.2.2.2.2.2.2.2.1 k0_t2
theorem k0_off75_wordsfp8e4m3 : ∀ (v55 : BitVec 32) (k0_hw21 : k0_chk21 v55) (k0_t2 : Fin (k0_t2_loop v55).trips), (Rect.unit (s := S2x2816x3072) (k0_off75 v55 k0_t2) S1x2816x3072.size (k0_off75_inb v55 k0_hw21 k0_t2)).WholeWords (EltTy.packing .fp8e4m3) := fun v55 k0_hw21 k0_t2 => k0_hw21.1.2.2.2.2.2.2.2.2.2.2.2.2.2.2.2.2.2.2.2.2.2.2.2.2.2.2.2.2.2.1 k0_t2 (k0_off75_inb v55 k0_hw21 k0_t2)
theorem k0_off77_inb : ∀ (v55 : BitVec 32) (k0_hw21 : k0_chk21 v55) (k0_t2 : Fin (k0_t2_loop v55).trips), ∀ a, (k0_off77 v55 k0_t2) a + S1x2816x512.size a ≤ S2x2816x3072.size a := fun v55 k0_hw21 k0_t2 => k0_hw21.1.2.2.2.2.2.2.2.2.2.2.2.2.2.2.2.2.2.2.2.2.2.2.2.2.2.2.2.2.2.2.1 k0_t2
theorem k0_off78_inb : ∀ (v55 : BitVec 32) (k0_hw21 : k0_chk21 v55) (k0_t2 : Fin (k0_t2_loop v55).trips), ∀ a, (k0_off78 v55 k0_t2) a + S1x128x512.size a ≤ S2x128x3072.size a := fun v55 k0_hw21 k0_t2 => k0_hw21.1.2.2.2.2.2.2.2.2.2.2.2.2.2.2.2.2.2.2.2.2.2.2.2.2.2.2.2.2.2.2.2 k0_t2
theorem k0_off80_inb : ∀ (v55 : BitVec 32) (k0_hw21 : k0_chk21 v55) (k0_t2 : Fin (k0_t2_loop v55).trips), ∀ a, (k0_off80 v55 k0_t2) a + S1x2816x512.size a ≤ S2x2816x3072.size a := fun v55 k0_hw21 k0_t2 => k0_hw21.2.1.1 k0_t2
theorem k0_off81_inb : ∀ (v55 : BitVec 32) (k0_hw21 : k0_chk21 v55) (k0_t2 : Fin (k0_t2_loop v55).trips), ∀ a, (k0_off81 v55 k0_t2) a + S1x128x512.size a ≤ S2x128x3072.size a := fun v55 k0_hw21 k0_t2 => k0_hw21.2.1.2.1 k0_t2
theorem k0_off83_inb : ∀ (v55 : BitVec 32) (k0_hw21 : k0_chk21 v55) (k0_t2 : Fin (k0_t2_loop v55).trips), ∀ a, (k0_off83 v55 k0_t2) a + S1x2816x512.size a ≤ S2x2816x3072.size a := fun v55 k0_hw21 k0_t2 => k0_hw21.2.1.2.2.1 k0_t2
theorem k0_off84_inb : ∀ (v55 : BitVec 32) (k0_hw21 : k0_chk21 v55) (k0_t2 : Fin (k0_t2_loop v55).trips), ∀ a, (k0_off84 v55 k0_t2) a + S1x128x512.size a ≤ S2x128x3072.size a := fun v55 k0_hw21 k0_t2 => k0_hw21.2.1.2.2.2.1 k0_t2
theorem k0_off86_inb : ∀ (v55 : BitVec 32) (k0_hw21 : k0_chk21 v55) (k0_t2 : Fin (k0_t2_loop v55).trips), ∀ a, (k0_off86 v55 k0_t2) a + S1x2816x512.size a ≤ S2x2816x3072.size a := fun v55 k0_hw21 k0_t2 => k0_hw21.2.1.2.2.2.2.1 k0_t2
theorem k0_off87_inb : ∀ (v55 : BitVec 32) (k0_hw21 : k0_chk21 v55) (k0_t2 : Fin (k0_t2_loop v55).trips), ∀ a, (k0_off87 v55 k0_t2) a + S1x128x512.size a ≤ S2x128x3072.size a := fun v55 k0_hw21 k0_t2 => k0_hw21.2.1.2.2.2.2.2.1 k0_t2
theorem k0_off89_inb : ∀ (v55 : BitVec 32) (k0_hw21 : k0_chk21 v55) (k0_t2 : Fin (k0_t2_loop v55).trips), ∀ a, (k0_off89 v55 k0_t2) a + S1x2816x512.size a ≤ S2x2816x3072.size a := fun v55 k0_hw21 k0_t2 => k0_hw21.2.1.2.2.2.2.2.2.1 k0_t2
theorem k0_off90_inb : ∀ (v55 : BitVec 32) (k0_hw21 : k0_chk21 v55) (k0_t2 : Fin (k0_t2_loop v55).trips), ∀ a, (k0_off90 v55 k0_t2) a + S1x128x512.size a ≤ S2x128x3072.size a := fun v55 k0_hw21 k0_t2 => k0_hw21.2.1.2.2.2.2.2.2.2.1 k0_t2
theorem k0_off92_inb : ∀ (v55 : BitVec 32) (k0_hw21 : k0_chk21 v55) (k0_t2 : Fin (k0_t2_loop v55).trips), ∀ a, (k0_off92 v55 k0_t2) a + S1x2816x512.size a ≤ S2x2816x3072.size a := fun v55 k0_hw21 k0_t2 => k0_hw21.2.1.2.2.2.2.2.2.2.2.1 k0_t2
theorem k0_off93_inb : ∀ (v55 : BitVec 32) (k0_hw21 : k0_chk21 v55) (k0_t2 : Fin (k0_t2_loop v55).trips), ∀ a, (k0_off93 v55 k0_t2) a + S1x128x512.size a ≤ S2x128x3072.size a := fun v55 k0_hw21 k0_t2 => k0_hw21.2.1.2.2.2.2.2.2.2.2.2.1 k0_t2
theorem k0_off95_inb : ∀ (v55 : BitVec 32) (k0_hw21 : k0_chk21 v55) (k0_t2 : Fin (k0_t2_loop v55).trips), ∀ a, (k0_off95 v55 k0_t2) a + S1.size a ≤ S33.size a := fun v55 k0_hw21 k0_t2 => k0_hw21.2.1.2.2.2.2.2.2.2.2.2.2.1 k0_t2
theorem k0_off96_inb : ∀ (v55 : BitVec 32) (k0_hw21 : k0_chk21 v55) (k0_t2 : Fin (k0_t2_loop v55).trips), ∀ a, (k0_off96 v55 k0_t2) a + S1.size a ≤ S2.size a := fun v55 k0_hw21 k0_t2 => k0_hw21.2.1.2.2.2.2.2.2.2.2.2.2.2.1 k0_t2
theorem k0_off97_inb : ∀ (v55 : BitVec 32) (k0_hw21 : k0_chk21 v55) (k0_t2 : Fin (k0_t2_loop v55).trips), ∀ a, (k0_off97 v55 k0_t2) a + S1x1536x2816.size a ≤ S2x1536x2816.size a := fun v55 k0_hw21 k0_t2 => k0_hw21.2.1.2.2.2.2.2.2.2.2.2.2.2.2.1 k0_t2
theorem k0_off97_wordsfp8e4m3 : ∀ (v55 : BitVec 32) (k0_hw21 : k0_chk21 v55) (k0_t2 : Fin (k0_t2_loop v55).trips), (Rect.unit (s := S2x1536x2816) (k0_off97 v55 k0_t2) S1x1536x2816.size (k0_off97_inb v55 k0_hw21 k0_t2)).WholeWords (EltTy.packing .fp8e4m3) := fun v55 k0_hw21 k0_t2 => k0_hw21.2.1.2.2.2.2.2.2.2.2.2.2.2.2.2.1 k0_t2 (k0_off97_inb v55 k0_hw21 k0_t2)
theorem k0_off99_inb : ∀ (v55 : BitVec 32) (k0_hw21 : k0_chk21 v55) (k0_t2 : Fin (k0_t2_loop v55).trips), ∀ a, (k0_off99 v55 k0_t2) a + S1x1536x512.size a ≤ S2x1536x2816.size a := fun v55 k0_hw21 k0_t2 => k0_hw21.2.1.2.2.2.2.2.2.2.2.2.2.2.2.2.2.1 k0_t2
theorem k0_off101_inb : ∀ (v55 : BitVec 32) (k0_hw21 : k0_chk21 v55) (k0_t2 : Fin (k0_t2_loop v55).trips), ∀ a, (k0_off101 v55 k0_t2) a + S1x1536x512.size a ≤ S2x1536x2816.size a := fun v55 k0_hw21 k0_t2 => k0_hw21.2.1.2.2.2.2.2.2.2.2.2.2.2.2.2.2.2.1 k0_t2
theorem k0_off103_inb : ∀ (v55 : BitVec 32) (k0_hw21 : k0_chk21 v55) (k0_t2 : Fin (k0_t2_loop v55).trips), ∀ a, (k0_off103 v55 k0_t2) a + S1x1536x512.size a ≤ S2x1536x2816.size a := fun v55 k0_hw21 k0_t2 => k0_hw21.2.1.2.2.2.2.2.2.2.2.2.2.2.2.2.2.2.2.1 k0_t2
theorem k0_off105_inb : ∀ (v55 : BitVec 32) (k0_hw21 : k0_chk21 v55) (k0_t2 : Fin (k0_t2_loop v55).trips), ∀ a, (k0_off105 v55 k0_t2) a + S1x1536x512.size a ≤ S2x1536x2816.size a := fun v55 k0_hw21 k0_t2 => k0_hw21.2.1.2.2.2.2.2.2.2.2.2.2.2.2.2.2.2.2.2.1 k0_t2
theorem k0_off107_inb : ∀ (v55 : BitVec 32) (k0_hw21 : k0_chk21 v55) (k0_t2 : Fin (k0_t2_loop v55).trips), ∀ a, (k0_off107 v55 k0_t2) a + S1x1536x512.size a ≤ S2x1536x2816.size a := fun v55 k0_hw21 k0_t2 => k0_hw21.2.1.2.2.2.2.2.2.2.2.2.2.2.2.2.2.2.2.2.2.1 k0_t2
theorem k0_off109_inb : ∀ (v55 : BitVec 32) (k0_hw21 : k0_chk21 v55) (k0_t2 : Fin (k0_t2_loop v55).trips), ∀ a, (k0_off109 v55 k0_t2) a + S1x1536x256.size a ≤ S2x1536x2816.size a := fun v55 k0_hw21 k0_t2 => k0_hw21.2.1.2.2.2.2.2.2.2.2.2.2.2.2.2.2.2.2.2.2.2.1 k0_t2
theorem k0_t3_ok : ∀ (v55 : BitVec 32) (k0_hw21 : k0_chk21 v55), (k0_t3_loop v55).OK := fun v55 k0_hw21 => k0_hw21.2.1.2.2.2.2.2.2.2.2.2.2.2.2.2.2.2.2.2.2.2.2.1
theorem k0_off111_inb : ∀ (v55 : BitVec 32) (k0_hw21 : k0_chk21 v55) (k0_t3 : Fin (k0_t3_loop v55).trips), ∀ (k0_h2 : k0_cond2 v55 k0_t3 = 1#1), ∀ a, (k0_off111 v55 k0_t3) a + S1.size a ≤ S33.size a := fun v55 k0_hw21 k0_t3 k0_h2 => k0_hw21.2.1.2.2.2.2.2.2.2.2.2.2.2.2.2.2.2.2.2.2.2.2.2.1 k0_t3 k0_h2
theorem k0_off112_inb : ∀ (v55 : BitVec 32) (k0_hw21 : k0_chk21 v55) (k0_t3 : Fin (k0_t3_loop v55).trips), ∀ (k0_h2 : k0_cond2 v55 k0_t3 = 1#1), ∀ a, (k0_off112 v55 k0_t3) a + S1.size a ≤ S2.size a := fun v55 k0_hw21 k0_t3 k0_h2 => k0_hw21.2.1.2.2.2.2.2.2.2.2.2.2.2.2.2.2.2.2.2.2.2.2.2.2.1 k0_t3 k0_h2
theorem k0_off113_inb : ∀ (v55 : BitVec 32) (k0_hw21 : k0_chk21 v55) (k0_t3 : Fin (k0_t3_loop v55).trips), ∀ (k0_h2 : k0_cond2 v55 k0_t3 = 1#1), ∀ a, (k0_off113 v55 k0_t3) a + S1x128x2816.size a ≤ S2x128x2816.size a := fun v55 k0_hw21 k0_t3 k0_h2 => k0_hw21.2.1.2.2.2.2.2.2.2.2.2.2.2.2.2.2.2.2.2.2.2.2.2.2.2.1 k0_t3 k0_h2
theorem k0_off113_wordsbf16 : ∀ (v55 : BitVec 32) (k0_hw21 : k0_chk21 v55) (k0_t3 : Fin (k0_t3_loop v55).trips), ∀ (k0_h2 : k0_cond2 v55 k0_t3 = 1#1), (Rect.unit (s := S2x128x2816) (k0_off113 v55 k0_t3) S1x128x2816.size (k0_off113_inb v55 k0_hw21 k0_t3 k0_h2)).WholeWords (EltTy.packing .bf16) := fun v55 k0_hw21 k0_t3 k0_h2 => k0_hw21.2.1.2.2.2.2.2.2.2.2.2.2.2.2.2.2.2.2.2.2.2.2.2.2.2.2.1 k0_t3 k0_h2 (k0_off113_inb v55 k0_hw21 k0_t3 k0_h2)
theorem k0_off115_inb : ∀ (v55 : BitVec 32) (k0_hw21 : k0_chk21 v55) (k0_t3 : Fin (k0_t3_loop v55).trips), ∀ (k0_h2 : k0_cond2 v55 k0_t3 = 1#1), ∀ a, (k0_off115 v55 k0_t3) a + S1.size a ≤ S2.size a := fun v55 k0_hw21 k0_t3 k0_h2 => k0_hw21.2.1.2.2.2.2.2.2.2.2.2.2.2.2.2.2.2.2.2.2.2.2.2.2.2.2.2.1 k0_t3 k0_h2
theorem k0_off116_inb : ∀ (v55 : BitVec 32) (k0_hw21 : k0_chk21 v55) (k0_t3 : Fin (k0_t3_loop v55).trips), ∀ (k0_h2 : k0_cond2 v55 k0_t3 = 1#1), ∀ a, (k0_off116 v55 k0_t3) a + S1x128x3072.size a ≤ S2x128x3072.size a := fun v55 k0_hw21 k0_t3 k0_h2 => k0_hw21.2.1.2.2.2.2.2.2.2.2.2.2.2.2.2.2.2.2.2.2.2.2.2.2.2.2.2.2.1 k0_t3 k0_h2
theorem k0_off116_wordsbf16 : ∀ (v55 : BitVec 32) (k0_hw21 : k0_chk21 v55) (k0_t3 : Fin (k0_t3_loop v55).trips), ∀ (k0_h2 : k0_cond2 v55 k0_t3 = 1#1), (Rect.unit (s := S2x128x3072) (k0_off116 v55 k0_t3) S1x128x3072.size (k0_off116_inb v55 k0_hw21 k0_t3 k0_h2)).WholeWords (EltTy.packing .bf16) := fun v55 k0_hw21 k0_t3 k0_h2 => k0_hw21.2.1.2.2.2.2.2.2.2.2.2.2.2.2.2.2.2.2.2.2.2.2.2.2.2.2.2.2.2.1 k0_t3 k0_h2 (k0_off116_inb v55 k0_hw21 k0_t3 k0_h2)
theorem k0_off118_inb : ∀ (v55 : BitVec 32) (k0_hw21 : k0_chk21 v55) (k0_t3 : Fin (k0_t3_loop v55).trips), ∀ (k0_h2 : k0_cond2 v55 k0_t3 = 1#1), ∀ a, (k0_off118 v55 k0_t3) a + S1.size a ≤ S33.size a := fun v55 k0_hw21 k0_t3 k0_h2 => k0_hw21.2.1.2.2.2.2.2.2.2.2.2.2.2.2.2.2.2.2.2.2.2.2.2.2.2.2.2.2.2.2.1 k0_t3 k0_h2
theorem k0_off119_inb : ∀ (v55 : BitVec 32) (k0_hw21 : k0_chk21 v55) (k0_t3 : Fin (k0_t3_loop v55).trips), ∀ (k0_h2 : k0_cond2 v55 k0_t3 = 1#1), ∀ a, (k0_off119 v55 k0_t3) a + S1x1408x3072.size a ≤ S2x2816x3072.size a := fun v55 k0_hw21 k0_t3 k0_h2 => k0_hw21.2.1.2.2.2.2.2.2.2.2.2.2.2.2.2.2.2.2.2.2.2.2.2.2.2.2.2.2.2.2.2.1 k0_t3 k0_h2
theorem k0_off119_wordsfp8e4m3 : ∀ (v55 : BitVec 32) (k0_hw21 : k0_chk21 v55) (k0_t3 : Fin (k0_t3_loop v55).trips), ∀ (k0_h2 : k0_cond2 v55 k0_t3 = 1#1), (Rect.unit (s := S2x2816x3072) (k0_off119 v55 k0_t3) S1x1408x3072.size (k0_off119_inb v55 k0_hw21 k0_t3 k0_h2)).WholeWords (EltTy.packing .fp8e4m3) := fun v55 k0_hw21 k0_t3 k0_h2 => k0_hw21.2.1.2.2.2.2.2.2.2.2.2.2.2.2.2.2.2.2.2.2.2.2.2.2.2.2.2.2.2.2.2.2.1 k0_t3 k0_h2 (k0_off119_inb v55 k0_hw21 k0_t3 k0_h2)
theorem k0_off121_inb : ∀ (v55 : BitVec 32) (k0_hw21 : k0_chk21 v55) (k0_t3 : Fin (k0_t3_loop v55).trips), ∀ (k0_h2 : k0_cond2 v55 k0_t3 = 1#1), ∀ a, (k0_off121 v55 k0_t3) a + S1.size a ≤ S33.size a := fun v55 k0_hw21 k0_t3 k0_h2 => k0_hw21.2.1.2.2.2.2.2.2.2.2.2.2.2.2.2.2.2.2.2.2.2.2.2.2.2.2.2.2.2.2.2.2.2 k0_t3 k0_h2
theorem k0_off122_inb : ∀ (v55 : BitVec 32) (k0_hw21 : k0_chk21 v55) (k0_t3 : Fin (k0_t3_loop v55).trips), ∀ (k0_h2 : k0_cond2 v55 k0_t3 = 1#1), ∀ a, (k0_off122 v55 k0_t3) a + S1.size a ≤ S2.size a := fun v55 k0_hw21 k0_t3 k0_h2 => k0_hw21.2.2.1.1 k0_t3 k0_h2
theorem k0_off123_inb : ∀ (v55 : BitVec 32) (k0_hw21 : k0_chk21 v55) (k0_t3 : Fin (k0_t3_loop v55).trips), ∀ (k0_h2 : k0_cond2 v55 k0_t3 = 1#1), ∀ a, (k0_off123 v55 k0_t3) a + S1x1408x3072.size a ≤ S2x2816x3072.size a := fun v55 k0_hw21 k0_t3 k0_h2 => k0_hw21.2.2.1.2.1 k0_t3 k0_h2
theorem k0_off123_wordsfp8e4m3 : ∀ (v55 : BitVec 32) (k0_hw21 : k0_chk21 v55) (k0_t3 : Fin (k0_t3_loop v55).trips), ∀ (k0_h2 : k0_cond2 v55 k0_t3 = 1#1), (Rect.unit (s := S2x2816x3072) (k0_off123 v55 k0_t3) S1x1408x3072.size (k0_off123_inb v55 k0_hw21 k0_t3 k0_h2)).WholeWords (EltTy.packing .fp8e4m3) := fun v55 k0_hw21 k0_t3 k0_h2 => k0_hw21.2.2.1.2.2.1 k0_t3 k0_h2 (k0_off123_inb v55 k0_hw21 k0_t3 k0_h2)
theorem k0_off125_inb : ∀ (v55 : BitVec 32) (k0_hw21 : k0_chk21 v55) (k0_t3 : Fin (k0_t3_loop v55).trips), ∀ (k0_h2 : k0_cond2 v55 k0_t3 = 1#1), ∀ a, (k0_off125 v55 k0_t3) a + S1.size a ≤ S33.size a := fun v55 k0_hw21 k0_t3 k0_h2 => k0_hw21.2.2.1.2.2.2.1 k0_t3 k0_h2
theorem k0_off126_inb : ∀ (v55 : BitVec 32) (k0_hw21 : k0_chk21 v55) (k0_t3 : Fin (k0_t3_loop v55).trips), ∀ (k0_h2 : k0_cond2 v55 k0_t3 = 1#1), ∀ a, (k0_off126 v55 k0_t3) a + S1.size a ≤ S2.size a := fun v55 k0_hw21 k0_t3 k0_h2 => k0_hw21.2.2.1.2.2.2.2.1 k0_t3 k0_h2
theorem k0_off127_inb : ∀ (v55 : BitVec 32) (k0_hw21 : k0_chk21 v55) (k0_t3 : Fin (k0_t3_loop v55).trips), ∀ (k0_h2 : k0_cond2 v55 k0_t3 = 1#1), ∀ a, (k0_off127 v55 k0_t3) a + S1x1536x2816.size a ≤ S2x1536x2816.size a := fun v55 k0_hw21 k0_t3 k0_h2 => k0_hw21.2.2.1.2.2.2.2.2.1 k0_t3 k0_h2
theorem k0_off127_wordsfp8e4m3 : ∀ (v55 : BitVec 32) (k0_hw21 : k0_chk21 v55) (k0_t3 : Fin (k0_t3_loop v55).trips), ∀ (k0_h2 : k0_cond2 v55 k0_t3 = 1#1), (Rect.unit (s := S2x1536x2816) (k0_off127 v55 k0_t3) S1x1536x2816.size (k0_off127_inb v55 k0_hw21 k0_t3 k0_h2)).WholeWords (EltTy.packing .fp8e4m3) := fun v55 k0_hw21 k0_t3 k0_h2 => k0_hw21.2.2.1.2.2.2.2.2.2.1 k0_t3 k0_h2 (k0_off127_inb v55 k0_hw21 k0_t3 k0_h2)
theorem k0_off129_inb : ∀ (v55 : BitVec 32) (k0_hw21 : k0_chk21 v55) (k0_t3 : Fin (k0_t3_loop v55).trips), ∀ a, (k0_off129 v55 k0_t3) a + S1.size a ≤ S33.size a := fun v55 k0_hw21 k0_t3 => k0_hw21.2.2.1.2.2.2.2.2.2.2.1 k0_t3
theorem k0_off130_inb : ∀ (v55 : BitVec 32) (k0_hw21 : k0_chk21 v55) (k0_t3 : Fin (k0_t3_loop v55).trips), ∀ a, (k0_off130 v55 k0_t3) a + S1.size a ≤ S2.size a := fun v55 k0_hw21 k0_t3 => k0_hw21.2.2.1.2.2.2.2.2.2.2.2.1 k0_t3
theorem k0_off131_inb : ∀ (v55 : BitVec 32) (k0_hw21 : k0_chk21 v55) (k0_t3 : Fin (k0_t3_loop v55).trips), ∀ a, (k0_off131 v55 k0_t3) a + S1x128x2816.size a ≤ S2x128x2816.size a := fun v55 k0_hw21 k0_t3 => k0_hw21.2.2.1.2.2.2.2.2.2.2.2.2.1 k0_t3
theorem k0_off131_wordsbf16 : ∀ (v55 : BitVec 32) (k0_hw21 : k0_chk21 v55) (k0_t3 : Fin (k0_t3_loop v55).trips), (Rect.unit (s := S2x128x2816) (k0_off131 v55 k0_t3) S1x128x2816.size (k0_off131_inb v55 k0_hw21 k0_t3)).WholeWords (EltTy.packing .bf16) := fun v55 k0_hw21 k0_t3 => k0_hw21.2.2.1.2.2.2.2.2.2.2.2.2.2.1 k0_t3 (k0_off131_inb v55 k0_hw21 k0_t3)
theorem k0_off133_inb : ∀ (v55 : BitVec 32) (k0_hw21 : k0_chk21 v55) (k0_t3 : Fin (k0_t3_loop v55).trips), ∀ a, (k0_off133 v55 k0_t3) a + S1.size a ≤ S2.size a := fun v55 k0_hw21 k0_t3 => k0_hw21.2.2.1.2.2.2.2.2.2.2.2.2.2.2.1 k0_t3
theorem k0_off134_inb : ∀ (v55 : BitVec 32) (k0_hw21 : k0_chk21 v55) (k0_t3 : Fin (k0_t3_loop v55).trips), ∀ a, (k0_off134 v55 k0_t3) a + S1x128x3072.size a ≤ S2x128x3072.size a := fun v55 k0_hw21 k0_t3 => k0_hw21.2.2.1.2.2.2.2.2.2.2.2.2.2.2.2.1 k0_t3
theorem k0_off134_wordsbf16 : ∀ (v55 : BitVec 32) (k0_hw21 : k0_chk21 v55) (k0_t3 : Fin (k0_t3_loop v55).trips), (Rect.unit (s := S2x128x3072) (k0_off134 v55 k0_t3) S1x128x3072.size (k0_off134_inb v55 k0_hw21 k0_t3)).WholeWords (EltTy.packing .bf16) := fun v55 k0_hw21 k0_t3 => k0_hw21.2.2.1.2.2.2.2.2.2.2.2.2.2.2.2.2.1 k0_t3 (k0_off134_inb v55 k0_hw21 k0_t3)
theorem k0_off136_inb : ∀ (v55 : BitVec 32) (k0_hw21 : k0_chk21 v55) (k0_t3 : Fin (k0_t3_loop v55).trips), ∀ a, (k0_off136 v55 k0_t3) a + S1x128x2816.size a ≤ S2x128x2816.size a := fun v55 k0_hw21 k0_t3 => k0_hw21.2.2.1.2.2.2.2.2.2.2.2.2.2.2.2.2.2.1 k0_t3
theorem k0_off137_inb : ∀ (v55 : BitVec 32) (k0_hw21 : k0_chk21 v55) (k0_t3 : Fin (k0_t3_loop v55).trips), ∀ a, (k0_off137 v55 k0_t3) a + S1.size a ≤ S33.size a := fun v55 k0_hw21 k0_t3 => k0_hw21.2.2.1.2.2.2.2.2.2.2.2.2.2.2.2.2.2.2.1 k0_t3
theorem k0_off138_inb : ∀ (v55 : BitVec 32) (k0_hw21 : k0_chk21 v55) (k0_t3 : Fin (k0_t3_loop v55).trips), ∀ a, (k0_off138 v55 k0_t3) a + S1x2816x3072.size a ≤ S2x2816x3072.size a := fun v55 k0_hw21 k0_t3 => k0_hw21.2.2.1.2.2.2.2.2.2.2.2.2.2.2.2.2.2.2.2.1 k0_t3
theorem k0_off138_wordsfp8e4m3 : ∀ (v55 : BitVec 32) (k0_hw21 : k0_chk21 v55) (k0_t3 : Fin (k0_t3_loop v55).trips), (Rect.unit (s := S2x2816x3072) (k0_off138 v55 k0_t3) S1x2816x3072.size (k0_off138_inb v55 k0_hw21 k0_t3)).WholeWords (EltTy.packing .fp8e4m3) := fun v55 k0_hw21 k0_t3 => k0_hw21.2.2.1.2.2.2.2.2.2.2.2.2.2.2.2.2.2.2.2.2.1 k0_t3 (k0_off138_inb v55 k0_hw21 k0_t3)
theorem k0_off140_inb : ∀ (v55 : BitVec 32) (k0_hw21 : k0_chk21 v55) (k0_t3 : Fin (k0_t3_loop v55).trips), ∀ a, (k0_off140 v55 k0_t3) a + S1x2816x512.size a ≤ S2x2816x3072.size a := fun v55 k0_hw21 k0_t3 => k0_hw21.2.2.1.2.2.2.2.2.2.2.2.2.2.2.2.2.2.2.2.2.2.1 k0_t3
theorem k0_off141_inb : ∀ (v55 : BitVec 32) (k0_hw21 : k0_chk21 v55) (k0_t3 : Fin (k0_t3_loop v55).trips), ∀ a, (k0_off141 v55 k0_t3) a + S1x128x512.size a ≤ S2x128x3072.size a := fun v55 k0_hw21 k0_t3 => k0_hw21.2.2.1.2.2.2.2.2.2.2.2.2.2.2.2.2.2.2.2.2.2.2.1 k0_t3
theorem k0_off143_inb : ∀ (v55 : BitVec 32) (k0_hw21 : k0_chk21 v55) (k0_t3 : Fin (k0_t3_loop v55).trips), ∀ a, (k0_off143 v55 k0_t3) a + S1x2816x512.size a ≤ S2x2816x3072.size a := fun v55 k0_hw21 k0_t3 => k0_hw21.2.2.1.2.2.2.2.2.2.2.2.2.2.2.2.2.2.2.2.2.2.2.2.1 k0_t3
theorem k0_off144_inb : ∀ (v55 : BitVec 32) (k0_hw21 : k0_chk21 v55) (k0_t3 : Fin (k0_t3_loop v55).trips), ∀ a, (k0_off144 v55 k0_t3) a + S1x128x512.size a ≤ S2x128x3072.size a := fun v55 k0_hw21 k0_t3 => k0_hw21.2.2.1.2.2.2.2.2.2.2.2.2.2.2.2.2.2.2.2.2.2.2.2.2.1 k0_t3
theorem k0_off146_inb : ∀ (v55 : BitVec 32) (k0_hw21 : k0_chk21 v55) (k0_t3 : Fin (k0_t3_loop v55).trips), ∀ a, (k0_off146 v55 k0_t3) a + S1x2816x512.size a ≤ S2x2816x3072.size a := fun v55 k0_hw21 k0_t3 => k0_hw21.2.2.1.2.2.2.2.2.2.2.2.2.2.2.2.2.2.2.2.2.2.2.2.2.2.1 k0_t3
theorem k0_off147_inb : ∀ (v55 : BitVec 32) (k0_hw21 : k0_chk21 v55) (k0_t3 : Fin (k0_t3_loop v55).trips), ∀ a, (k0_off147 v55 k0_t3) a + S1x128x512.size a ≤ S2x128x3072.size a := fun v55 k0_hw21 k0_t3 => k0_hw21.2.2.1.2.2.2.2.2.2.2.2.2.2.2.2.2.2.2.2.2.2.2.2.2.2.2.1 k0_t3
theorem k0_off149_inb : ∀ (v55 : BitVec 32) (k0_hw21 : k0_chk21 v55) (k0_t3 : Fin (k0_t3_loop v55).trips), ∀ a, (k0_off149 v55 k0_t3) a + S1x2816x512.size a ≤ S2x2816x3072.size a := fun v55 k0_hw21 k0_t3 => k0_hw21.2.2.1.2.2.2.2.2.2.2.2.2.2.2.2.2.2.2.2.2.2.2.2.2.2.2.2.1 k0_t3
theorem k0_off150_inb : ∀ (v55 : BitVec 32) (k0_hw21 : k0_chk21 v55) (k0_t3 : Fin (k0_t3_loop v55).trips), ∀ a, (k0_off150 v55 k0_t3) a + S1x128x512.size a ≤ S2x128x3072.size a := fun v55 k0_hw21 k0_t3 => k0_hw21.2.2.1.2.2.2.2.2.2.2.2.2.2.2.2.2.2.2.2.2.2.2.2.2.2.2.2.2.1 k0_t3
theorem k0_off152_inb : ∀ (v55 : BitVec 32) (k0_hw21 : k0_chk21 v55) (k0_t3 : Fin (k0_t3_loop v55).trips), ∀ a, (k0_off152 v55 k0_t3) a + S1x2816x512.size a ≤ S2x2816x3072.size a := fun v55 k0_hw21 k0_t3 => k0_hw21.2.2.1.2.2.2.2.2.2.2.2.2.2.2.2.2.2.2.2.2.2.2.2.2.2.2.2.2.2.1 k0_t3
theorem k0_off153_inb : ∀ (v55 : BitVec 32) (k0_hw21 : k0_chk21 v55) (k0_t3 : Fin (k0_t3_loop v55).trips), ∀ a, (k0_off153 v55 k0_t3) a + S1x128x512.size a ≤ S2x128x3072.size a := fun v55 k0_hw21 k0_t3 => k0_hw21.2.2.1.2.2.2.2.2.2.2.2.2.2.2.2.2.2.2.2.2.2.2.2.2.2.2.2.2.2.2.1 k0_t3
theorem k0_off155_inb : ∀ (v55 : BitVec 32) (k0_hw21 : k0_chk21 v55) (k0_t3 : Fin (k0_t3_loop v55).trips), ∀ a, (k0_off155 v55 k0_t3) a + S1x2816x512.size a ≤ S2x2816x3072.size a := fun v55 k0_hw21 k0_t3 => k0_hw21.2.2.1.2.2.2.2.2.2.2.2.2.2.2.2.2.2.2.2.2.2.2.2.2.2.2.2.2.2.2.2.1 k0_t3
theorem k0_off156_inb : ∀ (v55 : BitVec 32) (k0_hw21 : k0_chk21 v55) (k0_t3 : Fin (k0_t3_loop v55).trips), ∀ a, (k0_off156 v55 k0_t3) a + S1x128x512.size a ≤ S2x128x3072.size a := fun v55 k0_hw21 k0_t3 => k0_hw21.2.2.1.2.2.2.2.2.2.2.2.2.2.2.2.2.2.2.2.2.2.2.2.2.2.2.2.2.2.2.2.2.1 k0_t3
theorem k0_off158_inb : ∀ (v55 : BitVec 32) (k0_hw21 : k0_chk21 v55) (k0_t3 : Fin (k0_t3_loop v55).trips), ∀ a, (k0_off158 v55 k0_t3) a + S1.size a ≤ S33.size a := fun v55 k0_hw21 k0_t3 => k0_hw21.2.2.1.2.2.2.2.2.2.2.2.2.2.2.2.2.2.2.2.2.2.2.2.2.2.2.2.2.2.2.2.2.2.1 k0_t3
theorem k0_off159_inb : ∀ (v55 : BitVec 32) (k0_hw21 : k0_chk21 v55) (k0_t3 : Fin (k0_t3_loop v55).trips), ∀ a, (k0_off159 v55 k0_t3) a + S1.size a ≤ S2.size a := fun v55 k0_hw21 k0_t3 => k0_hw21.2.2.1.2.2.2.2.2.2.2.2.2.2.2.2.2.2.2.2.2.2.2.2.2.2.2.2.2.2.2.2.2.2.2 k0_t3
theorem k0_off160_inb : ∀ (v55 : BitVec 32) (k0_hw21 : k0_chk21 v55) (k0_t3 : Fin (k0_t3_loop v55).trips), ∀ a, (k0_off160 v55 k0_t3) a + S1x1536x2816.size a ≤ S2x1536x2816.size a := fun v55 k0_hw21 k0_t3 => k0_hw21.2.2.2.1 k0_t3
theorem k0_off160_wordsfp8e4m3 : ∀ (v55 : BitVec 32) (k0_hw21 : k0_chk21 v55) (k0_t3 : Fin (k0_t3_loop v55).trips), (Rect.unit (s := S2x1536x2816) (k0_off160 v55 k0_t3) S1x1536x2816.size (k0_off160_inb v55 k0_hw21 k0_t3)).WholeWords (EltTy.packing .fp8e4m3) := fun v55 k0_hw21 k0_t3 => k0_hw21.2.2.2.2.1 k0_t3 (k0_off160_inb v55 k0_hw21 k0_t3)
theorem k0_off162_inb : ∀ (v55 : BitVec 32) (k0_hw21 : k0_chk21 v55) (k0_t3 : Fin (k0_t3_loop v55).trips), ∀ a, (k0_off162 v55 k0_t3) a + S1x1536x512.size a ≤ S2x1536x2816.size a := fun v55 k0_hw21 k0_t3 => k0_hw21.2.2.2.2.2.1 k0_t3
theorem k0_off164_inb : ∀ (v55 : BitVec 32) (k0_hw21 : k0_chk21 v55) (k0_t3 : Fin (k0_t3_loop v55).trips), ∀ a, (k0_off164 v55 k0_t3) a + S1x1536x512.size a ≤ S2x1536x2816.size a := fun v55 k0_hw21 k0_t3 => k0_hw21.2.2.2.2.2.2.1 k0_t3
theorem k0_off166_inb : ∀ (v55 : BitVec 32) (k0_hw21 : k0_chk21 v55) (k0_t3 : Fin (k0_t3_loop v55).trips), ∀ a, (k0_off166 v55 k0_t3) a + S1x1536x512.size a ≤ S2x1536x2816.size a := fun v55 k0_hw21 k0_t3 => k0_hw21.2.2.2.2.2.2.2.1 k0_t3
theorem k0_off168_inb : ∀ (v55 : BitVec 32) (k0_hw21 : k0_chk21 v55) (k0_t3 : Fin (k0_t3_loop v55).trips), ∀ a, (k0_off168 v55 k0_t3) a + S1x1536x512.size a ≤ S2x1536x2816.size a := fun v55 k0_hw21 k0_t3 => k0_hw21.2.2.2.2.2.2.2.2.1 k0_t3
theorem k0_off170_inb : ∀ (v55 : BitVec 32) (k0_hw21 : k0_chk21 v55) (k0_t3 : Fin (k0_t3_loop v55).trips), ∀ a, (k0_off170 v55 k0_t3) a + S1x1536x512.size a ≤ S2x1536x2816.size a := fun v55 k0_hw21 k0_t3 => k0_hw21.2.2.2.2.2.2.2.2.2.1 k0_t3
theorem k0_off172_inb : ∀ (v55 : BitVec 32) (k0_hw21 : k0_chk21 v55) (k0_t3 : Fin (k0_t3_loop v55).trips), ∀ a, (k0_off172 v55 k0_t3) a + S1x1536x256.size a ≤ S2x1536x2816.size a := fun v55 k0_hw21 k0_t3 => k0_hw21.2.2.2.2.2.2.2.2.2.2 k0_t3

def k0_off173 (v547 : BitVec 32) : Fin 2 → Nat :=
  let v877 : Index := Scalar.indexCast v547
  let c2560_357 : Index := 2560#32
  ![v877.toNat, 2560]

def k0_chk36 (v547 : BitVec 32) : Prop :=
  (∀ a, (k0_off142 v547) a + S1x512.size a ≤ S32x3072.size a) ∧
  (∀ a, (k0_off145 v547) a + S1x512.size a ≤ S32x3072.size a) ∧
  (∀ a, (k0_off148 v547) a + S1x512.size a ≤ S32x3072.size a) ∧
  (∀ a, (k0_off151 v547) a + S1x512.size a ≤ S32x3072.size a) ∧
  (∀ a, (k0_off154 v547) a + S1x512.size a ≤ S32x3072.size a) ∧
  (∀ a, (k0_off157 v547) a + S1x512.size a ≤ S32x3072.size a) ∧
  (∀ a, (k0_off163 v547) a + S1x512.size a ≤ S32x2816.size a) ∧
  (∀ a, (k0_off165 v547) a + S1x512.size a ≤ S32x2816.size a) ∧
  (∀ a, (k0_off167 v547) a + S1x512.size a ≤ S32x2816.size a) ∧
  (∀ a, (k0_off169 v547) a + S1x512.size a ≤ S32x2816.size a) ∧
  (∀ a, (k0_off171 v547) a + S1x512.size a ≤ S32x2816.size a) ∧
  (∀ a, (k0_off173 v547) a + S1x256.size a ≤ S32x2816.size a)
theorem k0_off142_inb : ∀ (v547 : BitVec 32) (k0_hw36 : k0_chk36 v547), ∀ a, (k0_off142 v547) a + S1x512.size a ≤ S32x3072.size a := fun v547 k0_hw36 => k0_hw36.1
theorem k0_off145_inb : ∀ (v547 : BitVec 32) (k0_hw36 : k0_chk36 v547), ∀ a, (k0_off145 v547) a + S1x512.size a ≤ S32x3072.size a := fun v547 k0_hw36 => k0_hw36.2.1
theorem k0_off148_inb : ∀ (v547 : BitVec 32) (k0_hw36 : k0_chk36 v547), ∀ a, (k0_off148 v547) a + S1x512.size a ≤ S32x3072.size a := fun v547 k0_hw36 => k0_hw36.2.2.1
theorem k0_off151_inb : ∀ (v547 : BitVec 32) (k0_hw36 : k0_chk36 v547), ∀ a, (k0_off151 v547) a + S1x512.size a ≤ S32x3072.size a := fun v547 k0_hw36 => k0_hw36.2.2.2.1
theorem k0_off154_inb : ∀ (v547 : BitVec 32) (k0_hw36 : k0_chk36 v547), ∀ a, (k0_off154 v547) a + S1x512.size a ≤ S32x3072.size a := fun v547 k0_hw36 => k0_hw36.2.2.2.2.1
theorem k0_off157_inb : ∀ (v547 : BitVec 32) (k0_hw36 : k0_chk36 v547), ∀ a, (k0_off157 v547) a + S1x512.size a ≤ S32x3072.size a := fun v547 k0_hw36 => k0_hw36.2.2.2.2.2.1
theorem k0_off163_inb : ∀ (v547 : BitVec 32) (k0_hw36 : k0_chk36 v547), ∀ a, (k0_off163 v547) a + S1x512.size a ≤ S32x2816.size a := fun v547 k0_hw36 => k0_hw36.2.2.2.2.2.2.1
theorem k0_off165_inb : ∀ (v547 : BitVec 32) (k0_hw36 : k0_chk36 v547), ∀ a, (k0_off165 v547) a + S1x512.size a ≤ S32x2816.size a := fun v547 k0_hw36 => k0_hw36.2.2.2.2.2.2.2.1
theorem k0_off167_inb : ∀ (v547 : BitVec 32) (k0_hw36 : k0_chk36 v547), ∀ a, (k0_off167 v547) a + S1x512.size a ≤ S32x2816.size a := fun v547 k0_hw36 => k0_hw36.2.2.2.2.2.2.2.2.1
theorem k0_off169_inb : ∀ (v547 : BitVec 32) (k0_hw36 : k0_chk36 v547), ∀ a, (k0_off169 v547) a + S1x512.size a ≤ S32x2816.size a := fun v547 k0_hw36 => k0_hw36.2.2.2.2.2.2.2.2.2.1
theorem k0_off171_inb : ∀ (v547 : BitVec 32) (k0_hw36 : k0_chk36 v547), ∀ a, (k0_off171 v547) a + S1x512.size a ≤ S32x2816.size a := fun v547 k0_hw36 => k0_hw36.2.2.2.2.2.2.2.2.2.2.1
theorem k0_off173_inb : ∀ (v547 : BitVec 32) (k0_hw36 : k0_chk36 v547), ∀ a, (k0_off173 v547) a + S1x256.size a ≤ S32x2816.size a := fun v547 k0_hw36 => k0_hw36.2.2.2.2.2.2.2.2.2.2.2

abbrev stage0_0 : Fin 1 → Memref sig .tc .vmem S16x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16x1x2816 : Shape := ⟨3, ![16, 1, 2816]⟩
abbrev S16x1x8 : Shape := ⟨3, ![16, 1, 8]⟩
abbrev S16 : Shape := ⟨1, ![16]⟩
abbrev S32x2816x3072 : Shape := ⟨3, ![32, 2816, 3072]⟩
abbrev S32x3072 : Shape := ⟨2, ![32, 3072]⟩
abbrev S32x1536x2816 : Shape := ⟨3, ![32, 1536, 2816]⟩
abbrev S32x2816 : Shape := ⟨2, ![32, 2816]⟩
abbrev S32x8x2816x16 : Shape := ⟨4, ![32, 8, 2816, 16]⟩
abbrev S32x8x16x3072 : Shape := ⟨4, ![32, 8, 16, 3072]⟩
abbrev S128 : Shape := ⟨1, ![128]⟩
abbrev S16x1x1 : Shape := ⟨3, ![16, 1, 1]⟩
abbrev S16x8x2816 : Shape := ⟨3, ![16, 8, 2816]⟩
abbrev S128x1x2816 : Shape := ⟨3, ![128, 1, 2816]⟩
abbrev S16x2816 : Shape := ⟨2, ![16, 2816]⟩
abbrev S16x8x1 : Shape := ⟨3, ![16, 8, 1]⟩
abbrev S32x1x3072 : Shape := ⟨3, ![32, 1, 3072]⟩
abbrev S32x1x2816 : Shape := ⟨3, ![32, 1, 2816]⟩
abbrev S1x16 : Shape := ⟨2, ![1, 16]⟩
abbrev S16x1 : Shape := ⟨2, ![16, 1]⟩
abbrev S1x256 : Shape := ⟨2, ![1, 256]⟩
abbrev S16x256 : Shape := ⟨2, ![16, 256]⟩
abbrev S1 : Shape := ⟨1, ![1]⟩
abbrev S1x1x2816 : Shape := ⟨3, ![1, 1, 2816]⟩
abbrev S1x2816 : Shape := ⟨2, ![1, 2816]⟩
abbrev S1x1 : Shape := ⟨2, ![1, 1]⟩
abbrev S1x2816x3072 : Shape := ⟨3, ![1, 2816, 3072]⟩
abbrev S2816x3072 : Shape := ⟨2, ![2816, 3072]⟩
abbrev S1x3072 : Shape := ⟨2, ![1, 3072]⟩
abbrev S1x1x3072 : Shape := ⟨3, ![1, 1, 3072]⟩
abbrev S1x1x2816x16 : Shape := ⟨4, ![1, 1, 2816, 16]⟩
abbrev S2816x16 : Shape := ⟨2, ![2816, 16]⟩
abbrev S1x1x16x3072 : Shape := ⟨4, ![1, 1, 16, 3072]⟩
abbrev S16x3072 : Shape := ⟨2, ![16, 3072]⟩
abbrev S1x1536 : Shape := ⟨2, ![1, 1536]⟩
abbrev S1x1536x2816 : Shape := ⟨3, ![1, 1536, 2816]⟩
abbrev S1536x2816 : Shape := ⟨2, ![1536, 2816]⟩

abbrev nBuf : Space → Nat
  | .hbm => 23
  | .vmem => 13
  | .smem => 2
  | _ => 0

abbrev bufTy : (tb : Table) → Fin (tcTables nBuf tb) → BufTy
  | .hbm, ⟨0, _⟩ => ⟨S16x1x2816, .bf16⟩
  | .hbm, ⟨1, _⟩ => ⟨S16x1x8, .i32⟩
  | .hbm, ⟨2, _⟩ => ⟨S16x1x8, .f32⟩
  | .hbm, ⟨3, _⟩ => ⟨S16, .i32⟩
  | .hbm, ⟨4, _⟩ => ⟨S32x2816x3072, .fp8e4m3⟩
  | .hbm, ⟨5, _⟩ => ⟨S32x3072, .f32⟩
  | .hbm, ⟨6, _⟩ => ⟨S32x1536x2816, .fp8e4m3⟩
  | .hbm, ⟨7, _⟩ => ⟨S32x2816, .f32⟩
  | .hbm, ⟨8, _⟩ => ⟨S32x8x2816x16, .bf16⟩
  | .hbm, ⟨9, _⟩ => ⟨S32x8x16x3072, .bf16⟩
  | .hbm, ⟨10, _⟩ => ⟨S128, .i32⟩
  | .hbm, ⟨11, _⟩ => ⟨S16x1x1, .i32⟩
  | .hbm, ⟨12, _⟩ => ⟨S16x1x8, .i32⟩
  | .hbm, ⟨13, _⟩ => ⟨S128, .i32⟩
  | .hbm, ⟨14, _⟩ => ⟨S16x8x2816, .bf16⟩
  | .hbm, ⟨15, _⟩ => ⟨S128x1x2816, .bf16⟩
  | .hbm, ⟨16, _⟩ => ⟨S16x2816, .bf16⟩
  | .hbm, ⟨17, _⟩ => ⟨S16x8x1, .f32⟩
  | .hbm, ⟨18, _⟩ => ⟨S32x1x3072, .f32⟩
  | .hbm, ⟨19, _⟩ => ⟨S32x1x2816, .f32⟩
  | .hbm, ⟨20, _⟩ => ⟨S16x2816, .bf16⟩
  | .hbm, ⟨21, _⟩ => ⟨S16x2816, .fp8e4m3⟩
  | .hbm, ⟨22, _⟩ => ⟨S1x16, .f32⟩
  | .local _ .vmem, ⟨0, _⟩ => ⟨S16x2816, .bf16⟩
  | .local _ .vmem, ⟨1, _⟩ => ⟨S128x1x2816, .bf16⟩
  | .local _ .vmem, ⟨2, _⟩ => ⟨S16x8x1, .f32⟩
  | .local _ .vmem, ⟨3, _⟩ => ⟨S32x2816x3072, .fp8e4m3⟩
  | .local _ .vmem, ⟨4, _⟩ => ⟨S32x1x3072, .f32⟩
  | .local _ .vmem, ⟨5, _⟩ => ⟨S32x1536x2816, .fp8e4m3⟩
  | .local _ .vmem, ⟨6, _⟩ => ⟨S32x1x2816, .f32⟩
  | .local _ .vmem, ⟨7, _⟩ => ⟨S32x8x2816x16, .bf16⟩
  | .local _ .vmem, ⟨8, _⟩ => ⟨S32x8x16x3072, .bf16⟩
  | .local _ .vmem, ⟨9, _⟩ => ⟨S16x2816, .bf16⟩
  | .local _ .vmem, ⟨10, _⟩ => ⟨S16x2816, .fp8e4m3⟩
  | .local _ .vmem, ⟨11, _⟩ => ⟨S1x16, .f32⟩
  | .local _ .vmem, ⟨12, _⟩ => ⟨S128x1x2816, .f32⟩
  | .local _ .smem, ⟨0, _⟩ => ⟨S128, .i32⟩
  | .local _ .smem, ⟨1, _⟩ => ⟨S128, .i32⟩
  | _, _ => ⟨S16x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_scratch0 : Ref sig .tc := ⟨.vmem, 12, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v45 : BitVec 32 := Scalar.addi c0_i32 c128_i32
  let c1_i32 : BitVec 32 := 1#32
  ⟨c0_i32, v45, c1_i32⟩
def k0_off1 (k0_t1 : Fin k0_t1_loop.trips) : Fin 1 → Nat :=
  let c0_i32 : BitVec 32 := 0#32
  let c1_i32 : BitVec 32 := 1#32
  let arg15 : BitVec 32 := Scf.iv c0_i32 c1_i32 k0_t1
  let v55 : Index := Scalar.indexCast arg15
  ![v55.toNat]
def k0_off2 (k0_t1 : Fin k0_t1_loop.trips) : Fin 3 → Nat :=
  let c0_i32 : BitVec 32 := 0#32
  let c1_i32 : BitVec 32 := 1#32
  let arg15 : BitVec 32 := Scf.iv c0_i32 c1_i32 k0_t1
  let v59 : Index := Scalar.indexCast arg15
  let c0_25 : Index := 0#32
  let c0_26 : Index := 0#32
  ![v59.toNat, 0, 0]
def k0_off3 (v56 : BitVec 32) : Fin 3 → Nat :=
  let v99 : Index := Scalar.indexCast v56
  let c0_40 : Index := 0#32
  let c0_41 : Index := 0#32
  ![v99.toNat, 0, 0]

def k0_off4 (v56 : BitVec 32) : Fin 3 → Nat :=
  let v105 : Index := Scalar.indexCast v56
  let c0_43 : Index := 0#32
  let c0_44 : Index := 0#32
  ![v105.toNat, 0, 0]
def k0_off5 (v56 : BitVec 32) (v58 : BitVec 32) : Fin 4 → Nat :=
  let v109 : Index := Scalar.indexCast v56
  let v110 : Index := Scalar.indexCast v58
  let c0_45 : Index := 0#32
  let c0_46 : Index := 0#32
  ![v109.toNat, v110.toNat, 0, 0]

def k0_off6 (v56 : BitVec 32) (v58 : BitVec 32) : Fin 4 → Nat :=
  let v115 : Index := Scalar.indexCast v56
  let v116 : Index := Scalar.indexCast v58
  let c0_48 : Index := 0#32
  let c0_49 : Index := 0#32
  ![v115.toNat, v116.toNat, 0, 0]

def k0_chk2 (v56 : BitVec 32) (v58 : BitVec 32) : Prop :=
  (∀ a, (k0_off5 v56 v58) a + S1x1x2816x16.size a ≤ S32x8x2816x16.size a) ∧
  (∀ a, (k0_off6 v56 v58) a + S1x1x16x3072.size a ≤ S32x8x16x3072.size a)
theorem k0_off5_inb : ∀ (v56 : BitVec 32) (v58 : BitVec 32) (k0_hw2 : k0_chk2 v56 v58), ∀ a, (k0_off5 v56 v58) a + S1x1x2816x16.size a ≤ S32x8x2816x16.size a := fun v56 v58 k0_hw2 => k0_hw2.1
theorem k0_off6_inb : ∀ (v56 : BitVec 32) (v58 : BitVec 32) (k0_hw2 : k0_chk2 v56 v58), ∀ a, (k0_off6 v56 v58) a + S1x1x16x3072.size a ≤ S32x8x16x3072.size a := fun v56 v58 k0_hw2 => k0_hw2.2

def k0_off7 (v56 : BitVec 32) : Fin 3 → Nat :=
  let v164 : Index := Scalar.indexCast v56
  let c0_65 : Index := 0#32
  let c0_66 : Index := 0#32
  ![v164.toNat, 0, 0]
def k0_off8 (v56 : BitVec 32) : Fin 3 → Nat :=
  let v170 : Index := Scalar.indexCast v56
  let c0_68 : Index := 0#32
  let c0_69 : Index := 0#32
  ![v170.toNat, 0, 0]

def k0_chk1 (v56 : BitVec 32) : Prop :=
  (∀ a, (k0_off3 v56) a + S1x2816x3072.size a ≤ S32x2816x3072.size a) ∧
  (∀ a, (k0_off4 v56) a + S1x1x3072.size a ≤ S32x1x3072.size a) ∧
  (∀ a, (k0_off7 v56) a + S1x1536x2816.size a ≤ S32x1536x2816.size a) ∧
  (∀ a, (k0_off8 v56) a + S1x1x2816.size a ≤ S32x1x2816.size a)
theorem k0_off3_inb : ∀ (v56 : BitVec 32) (k0_hw1 : k0_chk1 v56), ∀ a, (k0_off3 v56) a + S1x2816x3072.size a ≤ S32x2816x3072.size a := fun v56 k0_hw1 => k0_hw1.1
theorem k0_off4_inb : ∀ (v56 : BitVec 32) (k0_hw1 : k0_chk1 v56), ∀ a, (k0_off4 v56) a + S1x1x3072.size a ≤ S32x1x3072.size a := fun v56 k0_hw1 => k0_hw1.2.1
theorem k0_off7_inb : ∀ (v56 : BitVec 32) (k0_hw1 : k0_chk1 v56), ∀ a, (k0_off7 v56) a + S1x1536x2816.size a ≤ S32x1536x2816.size a := fun v56 k0_hw1 => k0_hw1.2.2.1
theorem k0_off8_inb : ∀ (v56 : BitVec 32) (k0_hw1 : k0_chk1 v56), ∀ a, (k0_off8 v56) a + S1x1x2816.size a ≤ S32x1x2816.size a := fun v56 k0_hw1 => k0_hw1.2.2.2

def k0_off9 (k0_t1 : Fin k0_t1_loop.trips) : Fin 3 → Nat :=
  let c0_i32 : BitVec 32 := 0#32
  let c1_i32 : BitVec 32 := 1#32
  let arg15 : BitVec 32 := Scf.iv c0_i32 c1_i32 k0_t1
  let v174 : Index := Scalar.indexCast arg15
  let c0_70 : Index := 0#32
  let c0_71 : Index := 0#32
  ![v174.toNat, 0, 0]
abbrev stage0_0 : Fin 1 → Memref sig .tc .vmem S16x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x2816x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1536x2816 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x8x2816x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x8x16x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x2816 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Words.lean ====
module

public import proofs.«01_k».proof.Proof.Gen.Kernel.Skeleton

@[expose] public section

set_option maxRecDepth 100000

noncomputable section

namespace Cert.Kernel.Hand

open Cert.Kernel Cert.Kernel.Gen
open Idealize.ShloMosaic Idealize.ShloMosaic.TcCoe

/-! # The integer side conditions the kernel assumes

Each is a fact about one word below 32 (an expert), below 33 (a length), or about a trip number: finitely many
cases, decided. -/

theorem chk21_all : ∀ n : Fin 33, k0_chk21 (BitVec.ofNat 32 n) := by decide +kernel
theorem chk1_all : ∀ e : Fin 32, k0_chk1 (BitVec.ofNat 32 e) := by decide +kernel
theorem chk2_all : ∀ e : Fin 32, k0_chk2 (BitVec.ofNat 32 e) := by decide +kernel

/-! ## Offsets that depend on the trip of the expert loop: its number, the next one, and their parities -/

theorem iv_words : ∀ k : Fin 32,
    (Scalar.indexCast (Scf.iv 0#32 1#32 k.val)).toNat = k.val
    ∧ (Scalar.indexCast (Scalar.addi (Scf.iv 0#32 1#32 k.val) 1#32)).toNat = k.val + 1
    ∧ (Scalar.remsi (Scf.iv 0#32 1#32 k.val) 2#32).toNat = k.val % 2
    ∧ (Scalar.remsi (Scalar.addi (Scf.iv 0#32 1#32 k.val) 1#32) 2#32).toNat = (k.val + 1) % 2 := by decide +kernel

variable (w : BitVec 32) (k : Fin (k0_t2_loop w).trips) (hk : k.val < 32)
include hk

theorem off48_eq : k0_off48 w k = ![k.val + 1] := congrArg (fun x : ℕ => ![x]) (iv_words ⟨k.val, hk⟩).2.1
theorem off49_eq : k0_off49 w k = ![(k.val + 1) % 2] := congrArg (fun x : ℕ => ![x]) (iv_words ⟨k.val, hk⟩).2.2.2
theorem off50_eq : k0_off50 w k = ![(k.val + 1) % 2, 0, 0] := congrArg (fun x : ℕ => ![x, 0, 0]) (iv_words ⟨k.val, hk⟩).2.2.2
theorem off52_eq : k0_off52 w k = ![(k.val + 1) % 2] := congrArg (fun x : ℕ => ![x]) (iv_words ⟨k.val, hk⟩).2.2.2
theorem off53_eq : k0_off53 w k = ![(k.val + 1) % 2, 0, 0] := congrArg (fun x : ℕ => ![x, 0, 0]) (iv_words ⟨k.val, hk⟩).2.2.2
theorem off55_eq : k0_off55 w k = ![k.val + 1] := congrArg (fun x : ℕ => ![x]) (iv_words ⟨k.val, hk⟩).2.1
theorem off56_eq : k0_off56 w k = ![(k.val + 1) % 2, 0, 0] := congrArg (fun x : ℕ => ![x, 0, 0]) (iv_words ⟨k.val, hk⟩).2.2.2
theorem off58_eq : k0_off58 w k = ![k.val + 1] := congrArg (fun x : ℕ => ![x]) (iv_words ⟨k.val, hk⟩).2.1
theorem off59_eq : k0_off59 w k = ![(k.val + 1) % 2] := congrArg (fun x : ℕ => ![x]) (iv_words ⟨k.val, hk⟩).2.2.2
theorem off60_eq : k0_off60 w k = ![(k.val + 1) % 2, 1408, 0] := congrArg (fun x : ℕ => ![x, 1408, 0]) (iv_words ⟨k.val, hk⟩).2.2.2
theorem off62_eq : k0_off62 w k = ![k.val + 1] := congrArg (fun x : ℕ => ![x]) (iv_words ⟨k.val, hk⟩).2.1
theorem off63_eq : k0_off63 w k = ![(k.val + 1) % 2] := congrArg (fun x : ℕ => ![x]) (iv_words ⟨k.val, hk⟩).2.2.2
theorem off64_eq : k0_off64 w k = ![(k.val + 1) % 2, 0, 0] := congrArg (fun x : ℕ => ![x, 0, 0]) (iv_words ⟨k.val, hk⟩).2.2.2
theorem off66_eq : k0_off66 w k = ![k.val] := congrArg (fun x : ℕ => ![x]) (iv_words ⟨k.val, hk⟩).1
theorem off67_eq : k0_off67 w k = ![k.val % 2] := congrArg (fun x : ℕ => ![x]) (iv_words ⟨k.val, hk⟩).2.2.1
theorem off68_eq : k0_off68 w k = ![k.val % 2, 0, 0] := congrArg (fun x : ℕ => ![x, 0, 0]) (iv_words ⟨k.val, hk⟩).2.2.1
theorem off70_eq : k0_off70 w k = ![k.val % 2] := congrArg (fun x : ℕ => ![x]) (iv_words ⟨k.val, hk⟩).2.2.1
theorem off71_eq : k0_off71 w k = ![k.val % 2, 0, 0] := congrArg (fun x : ℕ => ![x, 0, 0]) (iv_words ⟨k.val, hk⟩).2.2.1
theorem off73_eq : k0_off73 w k = ![k.val % 2, 0, 0] := congrArg (fun x : ℕ => ![x, 0, 0]) (iv_words ⟨k.val, hk⟩).2.2.1
theorem off74_eq : k0_off74 w k = ![k.val] := congrArg (fun x : ℕ => ![x]) (iv_words ⟨k.val, hk⟩).1
theorem off75_eq : k0_off75 w k = ![k.val % 2, 0, 0] := congrArg (fun x : ℕ => ![x, 0, 0]) (iv_words ⟨k.val, hk⟩).2.2.1
theorem off77_eq : k0_off77 w k = ![k.val % 2, 0, 0] := congrArg (fun x : ℕ => ![x, 0, 0]) (iv_words ⟨k.val, hk⟩).2.2.1
theorem off78_eq : k0_off78 w k = ![k.val % 2, 0, 0] := congrArg (fun x : ℕ => ![x, 0, 0]) (iv_words ⟨k.val, hk⟩).2.2.1
theorem off80_eq : k0_off80 w k = ![k.val % 2, 0, 1536] := congrArg (fun x : ℕ => ![x, 0, 1536]) (iv_words ⟨k.val, hk⟩).2.2.1
theorem off81_eq : k0_off81 w k = ![k.val % 2, 0, 1536] := congrArg (fun x : ℕ => ![x, 0, 1536]) (iv_words ⟨k.val, hk⟩).2.2.1
theorem off83_eq : k0_off83 w k = ![k.val % 2, 0, 512] := congrArg (fun x : ℕ => ![x, 0, 512]) (iv_words ⟨k.val, hk⟩).2.2.1
theorem off84_eq : k0_off84 w k = ![k.val % 2, 0, 512] := congrArg (fun x : ℕ => ![x, 0, 512]) (iv_words ⟨k.val, hk⟩).2.2.1
theorem off86_eq : k0_off86 w k = ![k.val % 2, 0, 2048] := congrArg (fun x : ℕ => ![x, 0, 2048]) (iv_words ⟨k.val, hk⟩).2.2.1
theorem off87_eq : k0_off87 w k = ![k.val % 2, 0, 2048] := congrArg (fun x : ℕ => ![x, 0, 2048]) (iv_words ⟨k.val, hk⟩).2.2.1
theorem off89_eq : k0_off89 w k = ![k.val % 2, 0, 1024] := congrArg (fun x : ℕ => ![x, 0, 1024]) (iv_words ⟨k.val, hk⟩).2.2.1
theorem off90_eq : k0_off90 w k = ![k.val % 2, 0, 1024] := congrArg (fun x : ℕ => ![x, 0, 1024]) (iv_words ⟨k.val, hk⟩).2.2.1
theorem off92_eq : k0_off92 w k = ![k.val % 2, 0, 2560] := congrArg (fun x : ℕ => ![x, 0, 2560]) (iv_words ⟨k.val, hk⟩).2.2.1
theorem off93_eq : k0_off93 w k = ![k.val % 2, 0, 2560] := congrArg (fun x : ℕ => ![x, 0, 2560]) (iv_words ⟨k.val, hk⟩).2.2.1
theorem off95_eq : k0_off95 w k = ![k.val] := congrArg (fun x : ℕ => ![x]) (iv_words ⟨k.val, hk⟩).1
theorem off96_eq : k0_off96 w k = ![k.val % 2] := congrArg (fun x : ℕ => ![x]) (iv_words ⟨k.val, hk⟩).2.2.1
theorem off97_eq : k0_off97 w k = ![k.val % 2, 0, 0] := congrArg (fun x : ℕ => ![x, 0, 0]) (iv_words ⟨k.val, hk⟩).2.2.1
theorem off99_eq : k0_off99 w k = ![k.val % 2, 0, 0] := congrArg (fun x : ℕ => ![x, 0, 0]) (iv_words ⟨k.val, hk⟩).2.2.1
theorem off101_eq : k0_off101 w k = ![k.val % 2, 0, 512] := congrArg (fun x : ℕ => ![x, 0, 512]) (iv_words ⟨k.val, hk⟩).2.2.1
theorem off103_eq : k0_off103 w k = ![k.val % 2, 0, 1024] := congrArg (fun x : ℕ => ![x, 0, 1024]) (iv_words ⟨k.val, hk⟩).2.2.1
theorem off105_eq : k0_off105 w k = ![k.val % 2, 0, 1536] := congrArg (fun x : ℕ => ![x, 0, 1536]) (iv_words ⟨k.val, hk⟩).2.2.1
theorem off107_eq : k0_off107 w k = ![k.val % 2, 0, 2048] := congrArg (fun x : ℕ => ![x, 0, 2048]) (iv_words ⟨k.val, hk⟩).2.2.1
theorem off109_eq : k0_off109 w k = ![k.val % 2, 0, 2560] := congrArg (fun x : ℕ => ![x, 0, 2560]) (iv_words ⟨k.val, hk⟩).2.2.1

omit hk
theorem cond1_all : ∀ n : Fin 33, ∀ k : Fin (k0_t2_loop (BitVec.ofNat 32 n)).trips,
    (k0_cond1 (BitVec.ofNat 32 n) k = 1#1 ↔ k.val + 1 < n.val) := by decide +kernel
theorem trips_all : ∀ n : Fin 33, (k0_t2_loop (BitVec.ofNat 32 n)).trips = n.val
    ∧ (k0_t3_loop (BitVec.ofNat 32 n)).trips = 0 := by decide +kernel

/-! ## The side conditions of an expert's number and of a list index -/

theorem chk19_all : ∀ e : Fin 32, k0_chk19 (BitVec.ofNat 32 e) := by decide +kernel
theorem chk20_all : ∀ e : Fin 32, k0_chk20 (BitVec.ofNat 32 e) := by decide +kernel
theorem chk26_all : ∀ e : Fin 32, k0_chk26 (BitVec.ofNat 32 e) := by decide +kernel
theorem chk27_all : ∀ e : Fin 32, k0_chk27 (BitVec.ofNat 32 e) := by decide +kernel
theorem chk28_all : ∀ e : Fin 32, k0_chk28 (BitVec.ofNat 32 e) := by decide +kernel
theorem chk29_all : ∀ e : Fin 32, k0_chk29 (BitVec.ofNat 32 e) := by decide +kernel
theorem chk22_all (e : Fin 32) : k0_chk22 w k (BitVec.ofNat 32 e) :=
  ⟨fun _ => (chk26_all e).1, fun _ => (chk26_all e).2.1, fun _ => (chk26_all e).2.2.1, fun _ => (chk26_all e).2.2.2⟩
theorem chk23_all (e : Fin 32) : k0_chk23 w k (BitVec.ofNat 32 e) := ⟨fun _ => (chk1_all e).1, fun _ => (chk1_all e).2⟩
theorem chk24_all (e : Fin 32) : k0_chk24 w k (BitVec.ofNat 32 e) := ⟨fun _ => (chk2_all e).1, fun _ => (chk2_all e).2⟩
theorem chk25_all (e : Fin 32) : k0_chk25 w k (BitVec.ofNat 32 e) := ⟨fun _ => (chk20_all e).1, fun _ => (chk20_all e).2⟩
theorem chk3_all : ∀ e : Fin 32, k0_chk3 (BitVec.ofNat 32 e) := by decide +kernel
theorem chk4_all : ∀ n : Fin 33, k0_chk4 (BitVec.ofNat 32 n) := by decide +kernel

end Cert.Kernel.Hand
end
-- ==== Proof.Steps.lean ====
/-
  The steps of the kernel's body, one rule per kind of operation: a word read from or written to scalar
  memory, a rectangle read or written in vector memory, an assumption, a copy issued on a cell and a wait for
  it. Each rule is stated on a program that begins with the operation and goes on with a continuation, so that
  a proof walks a printed body from the top.
-/
module

public import proofs.«01_k».proof.Proof.Words
public import Idealize.ShloMosaic.Lib.Pipeline.FrameBody
public import Idealize.ShloMosaic.Lib.Ring
public import Idealize.ShloMosaic.Lib.MixedBatch
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The weakest precondition of a piece of the body on core `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable (c : Dev nD) {α β : Type}
  {Q : α → sProp (MT nD τ sig Unit (Elt F) ℕ (Pipeline.UD sig nD τ) ℕ)}

theorem st_assume {P : Prop} {d : Decidable P} (h : P)
    {k : PLift P → Prog (TpuEff nD τ sig (Elt F) Λ₀ .tc) α} :
    WP c (k ⟨h⟩) Q ⊢ WP c (Prog.lift (TpuEff.assume P d) >>= k) Q :=
  wp_assume Variants.none (c : Thread nD τ) none Set.univ (k := k) h

theorem st_load {cs : CoreSpace} {s : Shape} {e : EltTy} {m : Memref sig .tc cs s e} {r : Rect s}
    {hl : m.view.LoadsAt r.toLoadRect}
    {k : (r.shape.Idx → Elt F e) → Prog (TpuEff nD τ sig (Elt F) Λ₀ .tc) α}
    {S : Finset (Idx (m.view.loc (c : Thread nD τ)))} {q : PosShare TreeShare}
    {f : Buf (Elt F) (m.view.loc (c : Thread nD τ))} (hS : m.view.setOn r.toLoadRect.set ⊆ S)
    {v : r.shape.Idx → Elt F e} (hv : m.view.readAt (Elt F) r.toLoadRect f = v) :
    (m.view.loc (c : Thread nD τ) ↦[S]{q} f)
      ⊢ iprop(((m.view.loc (c : Thread nD τ) ↦[S]{q} f) -∗ WP c (k v) Q)
        -∗ WP c (Prog.lift (TpuEff.load m r.toLoadRect hl) >>= k) Q) := by
  subst hv
  exact wp_load Variants.none (c : Thread nD τ) none Set.univ (k := k) hS

theorem st_store {cs : CoreSpace} {s : Shape} {e : EltTy} {m : Memref sig .tc cs s e} {r : Rect s}
    {w : r.shape.Idx → Elt F e} {Mk : Finset r.shape.Idx} {hx : (m.access r).Stores Mk}
    {hm : Mk = Finset.univ ∨ ∀ a, r.stride a = 1}
    {k : PUnit → Prog (TpuEff nD τ sig (Elt F) Λ₀ .tc) α}
    {S : Finset (Idx ((m.access r).loc (c : Thread nD τ)))}
    {f g : Buf (Elt F) ((m.access r).loc (c : Thread nD τ))}
    (hS : (m.access r).setOn Mk ⊆ S) (hg : (m.access r).write (Elt F) f w Mk = g) :
    ((m.access r).loc (c : Thread nD τ) ↦[S]{fullShare} f)
      ⊢ iprop((((m.access r).loc (c : Thread nD τ) ↦[S]{fullShare} g) -∗ WP c (k ⟨⟩) Q)
        -∗ WP c (Prog.lift (TpuEff.store m r w Mk hx hm) >>= k) Q) := by
  subst hg
  exact wp_store Variants.none (c : Thread nD τ) none Set.univ (k := k) hS

/-- A word of scalar memory, read. -/
theorem st_word {s : Shape} {e : EltTy} {m : Memref sig .tc .smem s e} {r : Rect s}
    {h1 : r.shape.numel = 1} {hp : e.packing = 1}
    {k : Elt F e → Prog (TpuEff nD τ sig (Elt F) Λ₀ .tc) α}
    {S : Finset (Idx (m.view.loc (c : Thread nD τ)))} {q : PosShare TreeShare}
    {f : Buf (Elt F) (m.view.loc (c : Thread nD τ))} (hS : m.view.setOn r.toLoadRect.set ⊆ S)
    {v : Elt F e} (hv : ∀ x, m.view.readAt (Elt F) r.toLoadRect f x = v) :
    (m.view.loc (c : Thread nD τ) ↦[S]{q} f)
      ⊢ iprop(((m.view.loc (c : Thread nD τ) ↦[S]{q} f) -∗ WP c (k v) Q)
        -∗ WP c (smemLoad (p := .tc) m r h1 hp >>= k) Q) := by
  obtain rfl := hv (Shape.Idx.first (h1.symm ▸ Nat.one_pos))
  exact wp_load Variants.none (c : Thread nD τ) none Set.univ (m := m) (r := r.toLoadRect) (k := fun g => k (g _)) hS

/-- Sequencing: a piece runs, and the rest runs from what it leaves. -/
theorem st_bind {p : Prog (TpuEff nD τ sig (Elt F) Λ₀ .tc) β} {k : β → Prog (TpuEff nD τ sig (Elt F) Λ₀ .tc) α} :
    WP c p (fun b => WP c (k b) Q) ⊢ WP c (p >>= k) Q := by
  exact Entails.of_eq (wp_bind ..).symm

theorem st_pure {a : α} : Q a ⊢ WP c (pure a) Q :=
  fupd_intro

end Cert.Kernel.Hand
-- ==== Proof.Dma.lean ====
/-
  Copies of one expert's weights out of main memory into one of the two slots of a buffer: the rules for issuing
  a copy and for waiting for it, and what a slot holds once its copy has landed, stated with no reference to
  which slot it is.
-/
module

public import proofs.«01_k».proof.Proof.Steps

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The copies in flight on one cell: `n` of them issued in turn, the `i`-th of amount `A i` delivering `D i`;
    `j` issued so far and `u` units of their amounts waited for. -/
abbrev Flight (c : Dev nD) {n : ℕ} (sm : DmaSem sig) (A : Fin n → ℕ) (D : Fin n → sProp 𝕄) (j u : ℕ) : sProp 𝕄 :=
  Transfers.MixedBatch (countersEmb (U := Pipeline.UD sig nD τ)) (c : Thread nD τ) (SemLoc.dma sm) () A D j u

/-- The elements of a buffer in a box: from `off`, `sz` along each axis. -/
def box (s : Shape) (off sz : Fin s.rank → ℕ) : Finset s.Idx :=
  Finset.univ.filter fun i => ∀ a, off a ≤ i a ∧ (i a : ℕ) < off a + sz a

theorem mem_box {s : Shape} {off sz : Fin s.rank → ℕ} {i : s.Idx} :
    i ∈ box s off sz ↔ ∀ a, off a ≤ i a ∧ (i a : ℕ) < off a + sz a := by
  simp [box]

theorem unit_set (s : Shape) (off sz : Fin s.rank → ℕ) (inb) :
    (Rect.unit (s := s) off sz inb).toLoadRect.set = box s off sz := by
  ext i; exact (Rect.mem_set_unit).trans mem_box.symm

variable (c : Dev nD) {α : Type} {Q : α → sProp (MT nD τ sig Unit (Elt F) ℕ (Pipeline.UD sig nD τ) ℕ)}

/-- A cell's counter at zero becomes copies of which none is issued. -/
theorem flight_new {n : ℕ} (sm : DmaSem sig) (A : Fin n → ℕ)
    (D : Fin n → sProp (MT nD τ sig Unit (Elt F) ℕ (Pipeline.UD sig nD τ) ℕ))
    [∀ t, Storable (upEmb : UEmb _ (MT nD τ sig Unit (Elt F) ℕ (Pipeline.UD sig nD τ) ℕ)) (D t)] :
    (semVal ((c : Thread nD τ), SemLoc.dma sm) 0 : sProp 𝕄) ⊢ |={Set.univ}=> Flight c sm A D 0 0 :=
  Transfers.mixedBatch_alloc' (Lvl := ℕ) (countersEmb (U := Pipeline.UD sig nD τ)) (c : Thread nD τ) () A D

/-- A copy is issued: it takes the elements it reads, at any share, and the elements it writes; it will deliver
    the first back and the second holding `g`, which agrees with what is read. -/
theorem st_start {sp sp' : Space} {s : Shape} {e : EltTy}
    {src : Memref sig .tc sp s e} {dst : Memref sig .tc sp' s e} {sm : SemLoc sig} {sem : DmaSem sig}
    {hsrc : src.view.WordExact} {hdst : dst.view.WordExact}
    {hsem : DmaTarget.Typed (nD := nD) (p := (Proc.tc : Proc τ)) sp sm (.here dst)}
    {k : PUnit → Prog (TpuEff nD τ sig (Elt F) Λ₀ .tc) α} {q : PosShare TreeShare}
    {fs : Buf (Elt F) (src.view.loc (c : Thread nD τ))}
    {Ss : Finset (Idx (src.view.loc (c : Thread nD τ)))} {Sd : Finset (Idx (dst.view.loc (c : Thread nD τ)))}
    {fd g : Buf (Elt F) (dst.view.loc (c : Thread nD τ))} {n : ℕ} {A : Fin n → ℕ}
    {D : Fin n → sProp (MT nD τ sig Unit (Elt F) ℕ (Pipeline.UD sig nD τ) ℕ)} {j : ℕ}
    (hsm : sm = SemLoc.dma sem) (hSs : src.view.set = Ss) (hSd : dst.view.set = Sd)
    (hj : j < n) (hA : dst.view.amount sm = A ⟨j, hj⟩)
    (hg : ∀ x, src.view.read (Elt F) fs x = dst.view.read (Elt F) g x)
    (hD : D ⟨j, hj⟩ = iprop((dst.view.loc (c : Thread nD τ) ↦[Sd]{fullShare} g)
            ∗ (src.view.loc (c : Thread nD τ) ↦[Ss]{q} fs))) :
    iprop((src.view.loc (c : Thread nD τ) ↦[Ss]{q} fs) ∗ (dst.view.loc (c : Thread nD τ) ↦[Sd]{fullShare} fd)
        ∗ Flight c sem A D j 0)
      ⊢ iprop((Flight c sem A D (j + 1) 0 -∗ WP c (k ⟨⟩) Q)
          -∗ WP c (Prog.lift (TpuEff.enqueueDma src (.here dst) sm hsrc hdst hsem) >>= k) Q) := by
  subst hsm hSs hSd
  refine Transfers.wp_dmaMixedBatch (countersEmb (U := Pipeline.UD sig nD τ)) Variants.none (c : Thread nD τ) none
    () A (Finset.Subset.refl _) hj hA (Nat.zero_le _) ?_ (k := k) (u := 0)
  rw [hD]
  refine sep_mono_left (Entails.of_eq (pointsTo_congr fun i hi => ?_))
  obtain ⟨x, -, rfl⟩ := Finset.mem_map.mp hi
  rw [View.write_emb_of_mem _ _ (Finset.mem_univ x)]
  have h : src.view.read (Elt F) fs x = _root_.cast (congrArg (Elt F) dst.view.elt_eq) (g (dst.view.emb x)) := hg x
  show _root_.cast _ (src.view.read (Elt F) fs x) = _
  rw [h, cast_cast, cast_eq]

/-- `st_start` at a box of one buffer copied to a box of another, both read at one shape. -/
theorem st_startBox {sp sp' : Space} {S S' s0 : Shape} {e : EltTy}
    {M : Memref sig .tc sp S e} {N : Memref sig .tc sp' S' e} {r : Rect S} {r' : Rect S'}
    {hr : ∀ a, r.stride a = 1} {hr' : ∀ a, r'.stride a = 1} {sq : r.shape.Squeezes s0} {sq' : r'.shape.Squeezes s0}
    {sm sem : DmaSem sig}
    {hsrc : ((M.slice r hr).squeeze s0 sq).view.WordExact} {hdst : ((N.slice r' hr').squeeze s0 sq').view.WordExact}
    {hsem : DmaTarget.Typed (nD := nD) (p := (Proc.tc : Proc τ)) sp (SemLoc.dma sm) (.here ((N.slice r' hr').squeeze s0 sq'))}
    {k : PUnit → Prog (TpuEff nD τ sig (Elt F) Λ₀ .tc) α} {q : PosShare TreeShare}
    {fs : Buf (Elt F) (M.view.loc (c : Thread nD τ))} {fd g : Buf (Elt F) (N.view.loc (c : Thread nD τ))}
    {Ss : Finset (Idx (M.view.loc (c : Thread nD τ)))} {Sd : Finset (Idx (N.view.loc (c : Thread nD τ)))}
    {n : ℕ} {A : Fin n → ℕ} {D : Fin n → sProp (MT nD τ sig Unit (Elt F) ℕ (Pipeline.UD sig nD τ) ℕ)} {j : ℕ}
    (hsm : sm = sem) (hSs : r.toLoadRect.set.map M.view.emb = Ss) (hSd : r'.toLoadRect.set.map N.view.emb = Sd)
    (hj : j < n) (hA : sig.dmaCredit Kind.tc (Kind.tc.table sp') N.view.buf s0 e = A ⟨j, hj⟩)
    (hg : ∀ x, M.view.read (Elt F) fs (r.emb (Shape.reshapeEquiv sq.numel_eq x))
      = N.view.read (Elt F) g (r'.emb (Shape.reshapeEquiv sq'.numel_eq x)))
    (hD : D ⟨j, hj⟩ = iprop((N.view.loc (c : Thread nD τ) ↦[Sd]{fullShare} g) ∗ (M.view.loc (c : Thread nD τ) ↦[Ss]{q} fs))) :
    iprop((M.view.loc (c : Thread nD τ) ↦[Ss]{q} fs) ∗ (N.view.loc (c : Thread nD τ) ↦[Sd]{fullShare} fd)
        ∗ Flight c sem A D j 0)
      ⊢ iprop((Flight c sem A D (j + 1) 0 -∗ WP c (k ⟨⟩) Q)
          -∗ WP c (Prog.lift (TpuEff.enqueueDma ((M.slice r hr).squeeze s0 sq) (.here ((N.slice r' hr').squeeze s0 sq'))
            (.dma sm) hsrc hdst hsem) >>= k) Q) := by
  refine st_start c (src := (M.slice r hr).squeeze s0 sq) (dst := (N.slice r' hr').squeeze s0 sq') (q := q) (fs := fs)
    (fd := fd) (g := g) (congrArg SemLoc.dma hsm) ?_ ?_ hj hA hg hD
  · exact ((View.set_reshape _ _).trans (View.set_slice _ _)).trans hSs
  · exact ((View.set_reshape _ _).trans (View.set_slice _ _)).trans hSd

/-- The last wait on a cell: what every copy delivers, and the cell's counter at zero. -/
theorem st_waitAll {sp sp' sp₂ : Space} {s s' : Shape} {e e' : EltTy} {sm sem : DmaSem sig}
    {srcw : Memref sig .tc sp' s' e'} {dstw : Memref sig .tc sp s e}
    {hsrc : srcw.view.WordExact} {hdst : dstw.view.WordExact}
    {k : PUnit → Prog (TpuEff nD τ sig (Elt F) Λ₀ .tc) α} {n : ℕ} {A : Fin n → ℕ}
    {D : Fin n → sProp (MT nD τ sig Unit (Elt F) ℕ (Pipeline.UD sig nD τ) ℕ)} {u J : ℕ}
    (hsm : sm = sem) (hJ : dstw.view.dmaCredit = J) (hA0 : ∀ t, 0 < A t) (hu : u + J = Transfers.sumTo A n)
    {W : Waits sig Unit} :
    iprop(Flight c sem A D n u ∗ owes (c : Thread nD τ) 0 W)
      ⊢ iprop((iprop(bigSep Finset.univ D ∗ semVal ((c : Thread nD τ), SemLoc.dma sem) 0
              ∗ (∃ W', owes (c : Thread nD τ) 0 W')) -∗ WP c (k ⟨⟩) Q)
          -∗ WP c (Prog.lift (TpuEff.waitDma2 sm srcw dstw hsrc hdst) >>= k) Q) := by
  subst hsm
  refine (Transfers.wp_waitMixedBatchAll (countersEmb (U := Pipeline.UD sig nD τ)) Variants.none (c : Thread nD τ) none
    () hJ hA0 hu (k := k)).trans (wand_mono_left (wand_mono_left ?_))
  iintro ⟨H1, H2, H3⟩
  isplitl [H1]; · iexact H1
  isplitl [H2]; · iexact H2
  iexists _; iexact H3

/-- A wait that is not the last. -/
theorem st_wait {sp sp' sp₂ : Space} {s s' : Shape} {e e' : EltTy} {sm sem : DmaSem sig}
    {srcw : Memref sig .tc sp' s' e'} {dstw : Memref sig .tc sp s e}
    {hsrc : srcw.view.WordExact} {hdst : dstw.view.WordExact}
    {k : PUnit → Prog (TpuEff nD τ sig (Elt F) Λ₀ .tc) α} {n : ℕ} {A : Fin n → ℕ}
    {D : Fin n → sProp (MT nD τ sig Unit (Elt F) ℕ (Pipeline.UD sig nD τ) ℕ)} {j u J : ℕ}
    (hsm : sm = sem) (hJ : dstw.view.dmaCredit = J) (hu : u + J ≤ Transfers.sumTo A j)
    {W : Waits sig Unit} :
    iprop(Flight c sem A D j u ∗ owes (c : Thread nD τ) 0 W)
      ⊢ iprop((iprop(Flight c sem A D j (u + J) ∗ (∃ W', owes (c : Thread nD τ) 0 W')) -∗ WP c (k ⟨⟩) Q)
          -∗ WP c (Prog.lift (TpuEff.waitDma2 sm srcw dstw hsrc hdst) >>= k) Q) := by
  subst hsm
  refine (Transfers.wp_waitMixedBatch (countersEmb (U := Pipeline.UD sig nD τ)) Variants.none (c : Thread nD τ) none
    () hJ hu (k := k)).trans (wand_mono_left (wand_mono_left ?_))
  iintro ⟨H1, H3⟩
  isplitl [H1]; · iexact H1
  iexists _; iexact H3

end Cert.Kernel.Hand
-- ==== Proof.Slots.lean ====
/-
  The four buffers of an expert's weights, each of two slots: up projection (copied in two halves), down
  projection, and the two low-rank matrices of every adapter. For each: what a slot holds once it has landed,
  and the rule that issues its copy, in the words of the program.
-/
module

public import proofs.«01_k».proof.Proof.Dma
public import Idealize.ShloMosaic.Lib.ValueIdxCore

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The buffers -/

abbrev mUpH : Memref sig .tc .hbm S32x2816x3072 .fp8e4m3 := Memref.whole main_arg4
abbrev mDownH : Memref sig .tc .hbm S32x1536x2816 .fp8e4m3 := Memref.whole main_arg6
abbrev mAH : Memref sig .tc .hbm S32x128x2816 .bf16 := Memref.whole main_v6
abbrev mBH : Memref sig .tc .hbm S32x128x3072 .bf16 := Memref.whole main_v7
abbrev mUp : Memref sig .tc .vmem S2x2816x3072 .fp8e4m3 := Memref.whole cc0_scratch7
abbrev mDown : Memref sig .tc .vmem S2x1536x2816 .fp8e4m3 := Memref.whole cc0_scratch8
abbrev mA : Memref sig .tc .vmem S2x128x2816 .bf16 := Memref.whole cc0_scratch9
abbrev mB : Memref sig .tc .vmem S2x128x3072 .bf16 := Memref.whole cc0_scratch10

def semUp : Fin 2 → DmaSem sig := ![8, 9]
def semDown : Fin 2 → DmaSem sig := ![10, 11]
def semAB : Fin 2 → DmaSem sig := ![12, 13]

theorem semUp_eq (s : Fin 2) {off} (h : off = ![s.val]) (inb) :
    ((cc0_scratch19.slice (Rect.unit (s := S2) off S1.size inb)).squeeze S_ squeezes_S1_S_).sem = semUp s := by
  subst h; revert s; decide
theorem semDown_eq (s : Fin 2) {off} (h : off = ![s.val]) (inb) :
    ((cc0_scratch20.slice (Rect.unit (s := S2) off S1.size inb)).squeeze S_ squeezes_S1_S_).sem = semDown s := by
  subst h; revert s; decide
theorem semAB_eq (s : Fin 2) {off} (h : off = ![s.val]) (inb) :
    ((cc0_scratch21.slice (Rect.unit (s := S2) off S1.size inb)).squeeze S_ squeezes_S1_S_).sem = semAB s := by
  subst h; revert s; decide

/-! ## What a slot holds once it has landed -/

variable (c : Dev nD)

abbrev BufOf (c : Dev nD) {sp : Space} {S : Shape} {e : EltTy} (M : Memref sig .tc sp S e) : Type :=
  Buf (Elt F) (M.view.loc (c : Thread nD τ))

/-- Expert `e`'s matrix out of a stack of 32, at both slots. -/
def upOf (W : S32x2816x3072.Idx → Elt F .fp8e4m3) (e : Fin 32) : S2x2816x3072.Idx → Elt F .fp8e4m3 :=
  fun i => W (ix3 e (i 1) (i 2))
def downOf (W : S32x1536x2816.Idx → Elt F .fp8e4m3) (e : Fin 32) : S2x1536x2816.Idx → Elt F .fp8e4m3 :=
  fun i => W (ix3 e (i 1) (i 2))
def aOf (W : S32x128x2816.Idx → Elt F .bf16) (e : Fin 32) : S2x128x2816.Idx → Elt F .bf16 :=
  fun i => W (ix3 e (i 1) (i 2))
def bOf (W : S32x128x3072.Idx → Elt F .bf16) (e : Fin 32) : S2x128x3072.Idx → Elt F .bf16 :=
  fun i => W (ix3 e (i 1) (i 2))

/-- The elements of slot `s` of a buffer of two, and of expert `e` of a stack, rows from `lo`. -/
abbrev upBox (s : ℕ) (lo : ℕ) : Finset S2x2816x3072.Idx := box S2x2816x3072 ![s, lo, 0] ![1, 1408, 3072]
abbrev upSrc (e : ℕ) (lo : ℕ) : Finset S32x2816x3072.Idx := box S32x2816x3072 ![e, lo, 0] ![1, 1408, 3072]
abbrev downBox (s : ℕ) : Finset S2x1536x2816.Idx := box S2x1536x2816 ![s, 0, 0] ![1, 1536, 2816]
abbrev downSrc (e : ℕ) : Finset S32x1536x2816.Idx := box S32x1536x2816 ![e, 0, 0] ![1, 1536, 2816]
abbrev aBox (s : ℕ) : Finset S2x128x2816.Idx := box S2x128x2816 ![s, 0, 0] ![1, 128, 2816]
abbrev aSrc (e : ℕ) : Finset S32x128x2816.Idx := box S32x128x2816 ![e, 0, 0] ![1, 128, 2816]
abbrev bBox (s : ℕ) : Finset S2x128x3072.Idx := box S2x128x3072 ![s, 0, 0] ![1, 128, 3072]
abbrev bSrc (e : ℕ) : Finset S32x128x3072.Idx := box S32x128x3072 ![e, 0, 0] ![1, 128, 3072]

variable {c}

/-- One piece landed: the destination's box at `g`, the source's box back. -/
abbrev landed {sp sp' : Space} {S S' : Shape} {e e' : EltTy} (M : Memref sig .tc sp S e) (N : Memref sig .tc sp' S' e')
    (c : Dev nD) (Sd : Finset (Idx (M.view.loc (c : Thread nD τ)))) (g : BufOf (F := F) c M)
    (Ss : Finset (Idx (N.view.loc (c : Thread nD τ)))) (q : PosShare TreeShare) (f : BufOf (F := F) c N) : sProp 𝕄 :=
  iprop((M.view.loc (c : Thread nD τ) ↦[Sd]{fullShare} g) ∗ (N.view.loc (c : Thread nD τ) ↦[Ss]{q} f))

def upD (c : Dev nD) (q : Fin 2 → PosShare TreeShare) (W : BufOf (F := F) c mUpH) (s : Fin 2) (e : Fin 32) : Fin 2 → sProp 𝕄
  | 0 => landed mUp mUpH c (upBox s 0) (upOf W e) (upSrc e 0) (q 0) W
  | 1 => landed mUp mUpH c (upBox s 1408) (upOf W e) (upSrc e 1408) (q 1) W
def downD (c : Dev nD) (q : PosShare TreeShare) (W : BufOf (F := F) c mDownH) (s : Fin 2) (e : Fin 32) : Fin 1 → sProp 𝕄 :=
  fun _ => landed mDown mDownH c (downBox s) (downOf W e) (downSrc e) q W
def abD (c : Dev nD) (q q' : PosShare TreeShare) (WA : BufOf (F := F) c mAH) (WB : BufOf (F := F) c mBH)
    (s : Fin 2) (e : Fin 32) : Fin 2 → sProp 𝕄
  | 0 => landed mA mAH c (aBox s) (aOf WA e) (aSrc e) q WA
  | 1 => landed mB mBH c (bBox s) (bOf WB e) (bSrc e) q' WB

instance (c : Dev nD) (q : Fin 2 → PosShare TreeShare) (W : BufOf (F := F) c mUpH) (s : Fin 2) (e : Fin 32) (t : Fin 2) :
    Storable (upEmb : UEmb _ 𝕄) (upD c q W s e t) := by
  fin_cases t <;> simp only [upD] <;> infer_instance
instance (c : Dev nD) (q : PosShare TreeShare) (W : BufOf (F := F) c mDownH) (s : Fin 2) (e : Fin 32) (t : Fin 1) :
    Storable (upEmb : UEmb _ 𝕄) (downD c q W s e t) := by
  simp only [downD]; infer_instance
instance (c : Dev nD) (q q' : PosShare TreeShare) (WA : BufOf (F := F) c mAH) (WB : BufOf (F := F) c mBH)
    (s : Fin 2) (e : Fin 32) (t : Fin 2) : Storable (upEmb : UEmb _ 𝕄) (abD c q q' WA WB s e t) := by
  fin_cases t <;> simp only [abD] <;> infer_instance

abbrev upA : Fin 2 → ℕ := fun _ => cc0_scratch7.dmaCredit S1408x3072 .fp8e4m3
abbrev downA : Fin 1 → ℕ := fun _ => cc0_scratch8.dmaCredit S1536x2816 .fp8e4m3
abbrev abA : Fin 2 → ℕ := ![cc0_scratch9.dmaCredit S128x2816 .bf16, cc0_scratch10.dmaCredit S128x3072 .bf16]

theorem upA_pos : ∀ t, 0 < upA t := by decide
theorem downA_pos : ∀ t, 0 < downA t := by decide
theorem abA_pos : ∀ t, 0 < abA t := by decide
theorem upA_sum : 0 + cc0_scratch7.dmaCredit S2816x3072 .fp8e4m3 = Transfers.sumTo upA 2 := by decide
theorem downA_sum : 0 + cc0_scratch8.dmaCredit S1536x2816 .fp8e4m3 = Transfers.sumTo downA 1 := by decide
theorem abA_first : 0 + cc0_scratch9.dmaCredit S128x2816 .bf16 ≤ Transfers.sumTo abA 2 := by decide
theorem abA_sum : 0 + cc0_scratch9.dmaCredit S128x2816 .bf16 + cc0_scratch10.dmaCredit S128x3072 .bf16
    = Transfers.sumTo abA 2 := by decide

/-! ## Issuing the copies -/

variable {α : Type} {Q : α → sProp (MT nD τ sig Unit (Elt F) ℕ (Pipeline.UD sig nD τ) ℕ)}
  {k : PUnit → Prog (TpuEff nD τ sig (Elt F) Λ₀ .tc) α}

/-- A box read out of an expert's matrix, and the box at the same rows and columns of a slot: the index in the stack
    is the expert's number and the slot's last two coordinates. -/
theorem emb_slot {n n' a b lo : ℕ} {sz : Fin 3 → ℕ} (hsz : sz 0 = 1) (e : Fin n) (s : Fin n')
    {inb : ∀ x, ![e.val, lo, 0] x + sz x ≤ (⟨3, ![n, a, b]⟩ : Shape).size x}
    {inb' : ∀ x, ![s.val, lo, 0] x + sz x ≤ (⟨3, ![n', a, b]⟩ : Shape).size x}
    (y : (⟨3, sz⟩ : Shape).Idx) :
    (Rect.unit (s := ⟨3, ![n, a, b]⟩) ![e.val, lo, 0] sz inb).emb y
      = ix3 e ((Rect.unit (s := ⟨3, ![n', a, b]⟩) ![s.val, lo, 0] sz inb').emb y 1)
          ((Rect.unit (s := ⟨3, ![n', a, b]⟩) ![s.val, lo, 0] sz inb').emb y 2) := by
  have h0 : (y 0).val = 0 := by have := (y 0).isLt; change _ < sz 0 at this; omega
  funext x
  apply Fin.ext
  fin_cases x
  · show e.val + 1 * (y 0).val = e.val; omega
  · rfl
  · rfl

theorem start_up (s j : Fin 2) (e : Fin 32) {q : Fin 2 → PosShare TreeShare} {W : BufOf (F := F) c mUpH}
    {fd : BufOf (F := F) c mUp} {offS : Fin 1 → ℕ} {off off' : Fin 3 → ℕ} (hs : offS = ![s.val])
    (hd : off = ![s.val, 1408 * j.val, 0]) (he : off' = ![e.val, 1408 * j.val, 0])
    {inbS inb inb'} {h1 h2 hsrc hdst}
    {hsem : DmaTarget.Typed (nD := nD) (p := (Proc.tc : Proc τ)) _ _ (.here _)} :
    iprop((mUpH.view.loc (c : Thread nD τ) ↦[upSrc e (1408 * j.val)]{q j} W)
        ∗ (mUp.view.loc (c : Thread nD τ) ↦[upBox s (1408 * j.val)]{fullShare} fd)
        ∗ Flight c (semUp s) upA (upD c q W s e) j.val 0)
      ⊢ iprop((Flight c (semUp s) upA (upD c q W s e) (j.val + 1) 0 -∗ WP c (k ⟨⟩) Q)
          -∗ WP c (Prog.lift (TpuEff.enqueueDma
              ((mUpH.slice (Rect.unit (s := S32x2816x3072) off' S1x1408x3072.size inb') h1).squeeze S1408x3072 squeezes_S1x1408x3072_S1408x3072)
              (.here ((mUp.slice (Rect.unit (s := S2x2816x3072) off S1x1408x3072.size inb) h2).squeeze S1408x3072 squeezes_S1x1408x3072_S1408x3072))
              (.dma ((cc0_scratch19.slice (Rect.unit (s := S2) offS S1.size inbS)).squeeze S_ squeezes_S1_S_).sem)
              hsrc hdst hsem) >>= k) Q) := by
  subst hd he
  refine st_startBox c (M := mUpH) (N := mUp) (q := q j) (fs := W) (fd := fd) (g := upOf W e) (A := upA) (D := upD c q W s e)
    (j := j.val) (semUp_eq s hs inbS) ?_ ?_ j.isLt rfl ?_ ?_
  · exact Finset.map_refl.trans (unit_set _ _ _ _)
  · exact Finset.map_refl.trans (unit_set _ _ _ _)
  · exact fun x => congrArg W (emb_slot rfl e s _)
  · fin_cases j <;> rfl

theorem start_down (s : Fin 2) (e : Fin 32) {q : PosShare TreeShare} {W : BufOf (F := F) c mDownH}
    {fd : BufOf (F := F) c mDown} {offS : Fin 1 → ℕ} {off off' : Fin 3 → ℕ} (hs : offS = ![s.val])
    (hd : off = ![s.val, 0, 0]) (he : off' = ![e.val, 0, 0])
    {inbS inb inb'} {h1 h2 hsrc hdst}
    {hsem : DmaTarget.Typed (nD := nD) (p := (Proc.tc : Proc τ)) _ _ (.here _)} :
    iprop((mDownH.view.loc (c : Thread nD τ) ↦[downSrc e]{q} W)
        ∗ (mDown.view.loc (c : Thread nD τ) ↦[downBox s]{fullShare} fd)
        ∗ Flight c (semDown s) downA (downD c q W s e) 0 0)
      ⊢ iprop((Flight c (semDown s) downA (downD c q W s e) 1 0 -∗ WP c (k ⟨⟩) Q)
          -∗ WP c (Prog.lift (TpuEff.enqueueDma
              ((mDownH.slice (Rect.unit (s := S32x1536x2816) off' S1x1536x2816.size inb') h1).squeeze S1536x2816 squeezes_S1x1536x2816_S1536x2816)
              (.here ((mDown.slice (Rect.unit (s := S2x1536x2816) off S1x1536x2816.size inb) h2).squeeze S1536x2816 squeezes_S1x1536x2816_S1536x2816))
              (.dma ((cc0_scratch20.slice (Rect.unit (s := S2) offS S1.size inbS)).squeeze S_ squeezes_S1_S_).sem)
              hsrc hdst hsem) >>= k) Q) := by
  subst hd he
  refine st_startBox c (M := mDownH) (N := mDown) (q := q) (fs := W) (fd := fd) (g := downOf W e) (A := downA)
    (D := downD c q W s e) (j := 0) (semDown_eq s hs inbS) ?_ ?_ (by decide) rfl ?_ rfl
  · exact Finset.map_refl.trans (unit_set _ _ _ _)
  · exact Finset.map_refl.trans (unit_set _ _ _ _)
  · exact fun x => congrArg W (emb_slot rfl e s _)

theorem start_a (s : Fin 2) (e : Fin 32) {q q' : PosShare TreeShare} {WA : BufOf (F := F) c mAH} {WB : BufOf (F := F) c mBH}
    {fd : BufOf (F := F) c mA} {offS : Fin 1 → ℕ} {off off' : Fin 3 → ℕ} (hs : offS = ![s.val])
    (hd : off = ![s.val, 0, 0]) (he : off' = ![e.val, 0, 0])
    {inbS inb inb'} {h1 h2 hsrc hdst}
    {hsem : DmaTarget.Typed (nD := nD) (p := (Proc.tc : Proc τ)) _ _ (.here _)} :
    iprop((mAH.view.loc (c : Thread nD τ) ↦[aSrc e]{q} WA)
        ∗ (mA.view.loc (c : Thread nD τ) ↦[aBox s]{fullShare} fd)
        ∗ Flight c (semAB s) abA (abD c q q' WA WB s e) 0 0)
      ⊢ iprop((Flight c (semAB s) abA (abD c q q' WA WB s e) 1 0 -∗ WP c (k ⟨⟩) Q)
          -∗ WP c (Prog.lift (TpuEff.enqueueDma
              ((mAH.slice (Rect.unit (s := S32x128x2816) off' S1x128x2816.size inb') h1).squeeze S128x2816 squeezes_S1x128x2816_S128x2816)
              (.here ((mA.slice (Rect.unit (s := S2x128x2816) off S1x128x2816.size inb) h2).squeeze S128x2816 squeezes_S1x128x2816_S128x2816))
              (.dma ((cc0_scratch21.slice (Rect.unit (s := S2) offS S1.size inbS)).squeeze S_ squeezes_S1_S_).sem)
              hsrc hdst hsem) >>= k) Q) := by
  subst hd he
  refine st_startBox c (M := mAH) (N := mA) (q := q) (fs := WA) (fd := fd) (g := aOf WA e) (A := abA)
    (D := abD c q q' WA WB s e) (j := 0) (semAB_eq s hs inbS) ?_ ?_ (by decide) rfl ?_ rfl
  · exact Finset.map_refl.trans (unit_set _ _ _ _)
  · exact Finset.map_refl.trans (unit_set _ _ _ _)
  · exact fun x => congrArg WA (emb_slot rfl e s _)

theorem start_b (s : Fin 2) (e : Fin 32) {q q' : PosShare TreeShare} {WA : BufOf (F := F) c mAH} {WB : BufOf (F := F) c mBH}
    {fd : BufOf (F := F) c mB} {offS : Fin 1 → ℕ} {off off' : Fin 3 → ℕ} (hs : offS = ![s.val])
    (hd : off = ![s.val, 0, 0]) (he : off' = ![e.val, 0, 0])
    {inbS inb inb'} {h1 h2 hsrc hdst}
    {hsem : DmaTarget.Typed (nD := nD) (p := (Proc.tc : Proc τ)) _ _ (.here _)} :
    iprop((mBH.view.loc (c : Thread nD τ) ↦[bSrc e]{q'} WB)
        ∗ (mB.view.loc (c : Thread nD τ) ↦[bBox s]{fullShare} fd)
        ∗ Flight c (semAB s) abA (abD c q q' WA WB s e) 1 0)
      ⊢ iprop((Flight c (semAB s) abA (abD c q q' WA WB s e) 2 0 -∗ WP c (k ⟨⟩) Q)
          -∗ WP c (Prog.lift (TpuEff.enqueueDma
              ((mBH.slice (Rect.unit (s := S32x128x3072) off' S1x128x3072.size inb') h1).squeeze S128x3072 squeezes_S1x128x3072_S128x3072)
              (.here ((mB.slice (Rect.unit (s := S2x128x3072) off S1x128x3072.size inb) h2).squeeze S128x3072 squeezes_S1x128x3072_S128x3072))
              (.dma ((cc0_scratch21.slice (Rect.unit (s := S2) offS S1.size inbS)).squeeze S_ squeezes_S1_S_).sem)
              hsrc hdst hsem) >>= k) Q) := by
  subst hd he
  refine st_startBox c (M := mBH) (N := mB) (q := q') (fs := WB) (fd := fd) (g := bOf WB e) (A := abA)
    (D := abD c q q' WA WB s e) (j := 1) (semAB_eq s hs inbS) ?_ ?_ (by decide) rfl ?_ rfl
  · exact Finset.map_refl.trans (unit_set _ _ _ _)
  · exact Finset.map_refl.trans (unit_set _ _ _ _)
  · exact fun x => congrArg WB (emb_slot rfl e s _)

end Cert.Kernel.Hand
-- ==== Proof.Mems.lean ====
/-
  The kernel's body at the buffers the program calls it with: one name for "apply a piece of the body to all its
  buffers and semaphores", and the pieces so applied. The three staged results are a parameter.
-/
module

public import proofs.«01_k».proof.Proof.Slots

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The staging buffers of the three results. -/
structure Stg where
  a10 : Memref sig .tc .vmem S16x2816 .bf16
  h10 : a10.IsWhole
  a11 : Memref sig .tc .vmem S16x2816 .fp8e4m3
  h11 : a11.IsWhole
  a12 : Memref sig .tc .vmem S1x16 .f32
  h12 : a12.IsWhole

/-- A piece of the body, applied to the buffers and semaphores of the program. -/
abbrev onMems (S : Stg) {β : Type 1} (p : ∀ (arg0 : Memref sig .tc .hbm S8x16 .i32)
    (harg0 : arg0.IsWhole)
    (arg1 : Memref sig .tc .hbm S16 .i32)
    (harg1 : arg1.IsWhole)
    (arg2 : Memref sig .tc .hbm S8x16 .f32)
    (harg2 : arg2.IsWhole)
    (arg3 : Memref sig .tc .hbm S16x2816 .bf16)
    (harg3 : arg3.IsWhole)
    (arg4 : Memref sig .tc .hbm S32x3072 .f32)
    (harg4 : arg4.IsWhole)
    (arg5 : Memref sig .tc .hbm S32x2816 .f32)
    (harg5 : arg5.IsWhole)
    (arg6 : Memref sig .tc .hbm S32x2816x3072 .fp8e4m3)
    (harg6 : arg6.IsWhole)
    (arg7 : Memref sig .tc .hbm S32x1536x2816 .fp8e4m3)
    (harg7 : arg7.IsWhole)
    (arg8 : Memref sig .tc .hbm S32x128x2816 .bf16)
    (harg8 : arg8.IsWhole)
    (arg9 : Memref sig .tc .hbm S32x128x3072 .bf16)
    (harg9 : arg9.IsWhole)
    (arg10 : Memref sig .tc .vmem S16x2816 .bf16)
    (harg10 : arg10.IsWhole)
    (arg11 : Memref sig .tc .vmem S16x2816 .fp8e4m3)
    (harg11 : arg11.IsWhole)
    (arg12 : Memref sig .tc .vmem S1x16 .f32)
    (harg12 : arg12.IsWhole)
    (arg13 : Memref sig .tc .smem S8x16 .i32)
    (harg13 : arg13.IsWhole)
    (arg14 : Memref sig .tc .smem S16 .i32)
    (harg14 : arg14.IsWhole)
    (arg15 : Memref sig .tc .vmem S8x16 .i32)
    (harg15 : arg15.IsWhole)
    (arg16 : Memref sig .tc .vmem S8x16 .f32)
    (harg16 : arg16.IsWhole)
    (arg17 : Memref sig .tc .vmem S16x2816 .bf16)
    (harg17 : arg17.IsWhole)
    (arg18 : Memref sig .tc .vmem S32x3072 .f32)
    (harg18 : arg18.IsWhole)
    (arg19 : Memref sig .tc .vmem S32x2816 .f32)
    (harg19 : arg19.IsWhole)
    (arg20 : Memref sig .tc .vmem S2x2816x3072 .fp8e4m3)
    (harg20 : arg20.IsWhole)
    (arg21 : Memref sig .tc .vmem S2x1536x2816 .fp8e4m3)
    (harg21 : arg21.IsWhole)
    (arg22 : Memref sig .tc .vmem S2x128x2816 .bf16)
    (harg22 : arg22.IsWhole)
    (arg23 : Memref sig .tc .vmem S2x128x3072 .bf16)
    (harg23 : arg23.IsWhole)
    (arg24 : Memref sig .tc .vmem S16x2816 .f32)
    (harg24 : arg24.IsWhole)
    (arg25 : Memref sig .tc .smem S33 .i32)
    (harg25 : arg25.IsWhole)
    (arg26 : Memref sig .tc .smem S32 .i32)
    (harg26 : arg26.IsWhole)
    (arg27 : DmaSems sig S_)
    (arg28 : DmaSems sig S_)
    (arg29 : DmaSems sig S_)
    (arg30 : DmaSems sig S_)
    (arg31 : DmaSems sig S_)
    (arg32 : DmaSems sig S2)
    (arg33 : DmaSems sig S2)
    (arg34 : DmaSems sig S2), β) : β :=
  p (Memref.whole main_v1) (Memref.isWhole_whole _) (Memref.whole main_arg3) (Memref.isWhole_whole _) (Memref.whole main_v3) (Memref.isWhole_whole _) (Memref.whole main_v4) (Memref.isWhole_whole _) (Memref.whole main_arg5) (Memref.isWhole_whole _) (Memref.whole main_arg7) (Memref.isWhole_whole _) (Memref.whole main_arg4) (Memref.isWhole_whole _) (Memref.whole main_arg6) (Memref.isWhole_whole _) (Memref.whole main_v6) (Memref.isWhole_whole _) (Memref.whole main_v7) (Memref.isWhole_whole _) S.a10 S.h10 S.a11 S.h11 S.a12 S.h12 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21

abbrev mIds : Memref sig .tc .smem S8x16 .i32 := Memref.whole cc0_scratch0
abbrev mAid : Memref sig .tc .smem S16 .i32 := Memref.whole cc0_scratch1
abbrev mIdsV : Memref sig .tc .vmem S8x16 .i32 := Memref.whole cc0_scratch2
abbrev mWv : Memref sig .tc .vmem S8x16 .f32 := Memref.whole cc0_scratch3
abbrev mXv : Memref sig .tc .vmem S16x2816 .bf16 := Memref.whole cc0_scratch4
abbrev mWus : Memref sig .tc .vmem S32x3072 .f32 := Memref.whole cc0_scratch5
abbrev mWds : Memref sig .tc .vmem S32x2816 .f32 := Memref.whole cc0_scratch6
abbrev mAcc : Memref sig .tc .vmem S16x2816 .f32 := Memref.whole cc0_scratch11
abbrev mEl : Memref sig .tc .smem S33 .i32 := Memref.whole cc0_scratch12
abbrev mAm : Memref sig .tc .smem S32 .i32 := Memref.whole cc0_scratch13

variable (S : Stg)
abbrev P1 := onMems S (k0_part1 (F := F))
abbrev P2 := onMems S (k0_part2 (F := F))
abbrev P3 := onMems S (k0_part3 (F := F))
abbrev P4 := onMems S (k0_part4 (F := F))
abbrev P5 := onMems S (k0_part5 (F := F))
abbrev P6 := onMems S (k0_part6 (F := F))
abbrev P7 := onMems S (k0_part7 (F := F))
abbrev P8 := onMems S (k0_part8 (F := F))
abbrev P9 := onMems S (k0_part9 (F := F))
abbrev P10 := onMems S (k0_part10 (F := F))
abbrev P11 := onMems S (k0_part11 (F := F))
abbrev P21 := onMems S (k0_part21 (F := F))
abbrev P22 := onMems S (k0_part22 (F := F))
abbrev P23 := onMems S (k0_part23 (F := F))
abbrev P24 := onMems S (k0_part24 (F := F))
abbrev P25 := onMems S (k0_part25 (F := F))
abbrev P26 := onMems S (k0_part26 (F := F))
abbrev P27 := onMems S (k0_part27 (F := F))
abbrev P28 := onMems S (k0_part28 (F := F))
abbrev P29 := onMems S (k0_part29 (F := F))
abbrev P30 := onMems S (k0_part30 (F := F))
abbrev P31 := onMems S (k0_part31 (F := F))
abbrev P32 := onMems S (k0_part32 (F := F))
abbrev P33 := onMems S (k0_part33 (F := F))
abbrev P34 := onMems S (k0_part34 (F := F))
abbrev PScan := onMems S (k0_t1_body (F := F))
abbrev PTrip := onMems S (k0_t2_body (F := F))
abbrev PBody := onMems S (cc0_moe_fp8_lora (F := F))

end Cert.Kernel.Hand
-- ==== Proof.Vals.lean ====
/-
  What one trip of the expert loop computes: the columns it reads of an expert's matrices, the hidden row from them,
  and the accumulator of the result after the trip's six column runs.
-/
module

public import proofs.«01_k».proof.Proof.Mems

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (F) in
/-- What every trip reads: the stacks of matrices and scales, the tokens, the mask of each token's own adapter
    ranks, the quantised tokens and their scales, the chosen experts and their weights. -/
structure Env where
  WU : S32x2816x3072.Idx → Elt F .fp8e4m3
  WD : S32x1536x2816.Idx → Elt F .fp8e4m3
  WA : S32x128x2816.Idx → Elt F .bf16
  WB : S32x128x3072.Idx → Elt F .bf16
  us : S32x3072.Idx → Elt F .f32
  ds : S32x2816.Idx → Elt F .f32
  x : Vec F S16x2816 .bf16
  mine : IVec S16x128 1
  x8 : FVec F S16x2816 .fp8e4m3
  sx : FVec F S16x1 .f32
  ids : IVec S16x8 32
  ws : FVec F S16x8 .f32

variable (E : Env F) (e : Fin 32)

/-! ## The columns a trip reads -/

def aAll : S1x128x2816.Idx → Elt F .bf16 := fun y => E.WA (ix3 e (y 1) (y 2))
def upCols (lo : ℕ) (h : lo + 512 ≤ 3072) : S1x2816x512.Idx → Elt F .fp8e4m3 := fun y =>
  E.WU (ix3 e (y 1) ⟨lo + (y 2).val, lt_of_lt_of_le (Nat.add_lt_add_left (y 2).isLt lo) h⟩)
def bCols (lo : ℕ) (h : lo + 512 ≤ 3072) : S1x128x512.Idx → Elt F .bf16 := fun y =>
  E.WB (ix3 e (y 1) ⟨lo + (y 2).val, lt_of_lt_of_le (Nat.add_lt_add_left (y 2).isLt lo) h⟩)
def usCols (lo : ℕ) (h : lo + 512 ≤ 3072) : S1x512.Idx → Elt F .f32 := fun y =>
  E.us (ix2 e ⟨lo + (y 1).val, lt_of_lt_of_le (Nat.add_lt_add_left (y 1).isLt lo) h⟩)
def downCols (lo : ℕ) (h : lo + 512 ≤ 2816) : S1x1536x512.Idx → Elt F .fp8e4m3 := fun y =>
  E.WD (ix3 e (y 1) ⟨lo + (y 2).val, lt_of_lt_of_le (Nat.add_lt_add_left (y 2).isLt lo) h⟩)
def dsCols (lo : ℕ) (h : lo + 512 ≤ 2816) : S1x512.Idx → Elt F .f32 := fun y =>
  E.ds (ix2 e ⟨lo + (y 1).val, lt_of_lt_of_le (Nat.add_lt_add_left (y 1).isLt lo) h⟩)
def downLast : S1x1536x256.Idx → Elt F .fp8e4m3 := fun y =>
  E.WD (ix3 e (y 1) ⟨2560 + (y 2).val, Nat.add_lt_add_left (y 2).isLt 2560⟩)
def dsLast : S1x256.Idx → Elt F .f32 := fun y =>
  E.ds (ix2 e ⟨2560 + (y 1).val, Nat.add_lt_add_left (y 1).isLt 2560⟩)

/-! ## The hidden row -/

def shrunk : FVec F S16x128 .bf16 := k0_pay7 E.x E.mine (aAll E e)
def h616 : FVec F S16x512 .f32 := k0_pay8 E.x8 E.sx (shrunk E e) (upCols E e 0 (by decide)) (bCols E e 0 (by decide))
  (usCols E e 0 (by decide)) (upCols E e 1536 (by decide)) (bCols E e 1536 (by decide)) (usCols E e 1536 (by decide))
def h653 : FVec F S16x512 .f32 := k0_pay9 E.x8 E.sx (shrunk E e) (upCols E e 512 (by decide)) (bCols E e 512 (by decide))
  (usCols E e 512 (by decide)) (upCols E e 2048 (by decide)) (bCols E e 2048 (by decide)) (usCols E e 2048 (by decide))
def h657 : FVec F S16x512 .f32 := k0_pay10 E.x8 (upCols E e 1024 (by decide))
def hid : FVec F S16x1536 .f32 := k0_pay11 E.x8 E.sx (shrunk E e) (h616 E e) (h653 E e) (h657 E e) (bCols E e 1024 (by decide))
  (usCols E e 1024 (by decide)) (upCols E e 2560 (by decide)) (bCols E e 2560 (by decide)) (usCols E e 2560 (by decide))
def hidMax : FVec F S16x1 .f32 := k0_pay12 E.x8 E.sx (shrunk E e) (h616 E e) (h653 E e) (h657 E e) (bCols E e 1024 (by decide))
  (usCols E e 1024 (by decide)) (upCols E e 2560 (by decide)) (bCols E e 2560 (by decide)) (usCols E e 2560 (by decide))
def cols256 : IVec S16x256 32 := iota .tc S16x256 32 [1] iota_S16x256_d1_w32
def h8 : FVec F S16x1536 .fp8e4m3 := k0_pay16 (hid E e) (hidMax E e) cols256 k0_pay13 k0_pay14
def hExp : IVec S16x1 32 := k0_pay17 (hidMax E e) cols256 k0_pay13 k0_pay14
def hScale : FVec F S16x1 .f32 := k0_pay18 (hExp E e)
abbrev word : BitVec 32 := BitVec.ofNat 32 e.val
def wRow : FVec F S16x1 .f32 := k0_pay20 E.ids E.ws (word e)
def hasRow : IVec S16x1 1 := k0_pay21 (F := F) E.ids (word e)

/-! ## The accumulator's six column runs -/

abbrev accR (lo : ℕ) (h : ∀ a, (![0, lo] : Fin 2 → ℕ) a + S16x512.size a ≤ S16x2816.size a) : Rect S16x2816 :=
  Rect.unit (s := S16x2816) ![0, lo] S16x512.size h
abbrev accT : Rect S16x2816 := Rect.unit (s := S16x2816) ![0, 2560] S16x256.size inb_S16x2816_S16x256_0_2560
abbrev rd (acc : S16x2816.Idx → Elt F .f32) (r : Rect S16x2816) : r.shape.Idx → Elt F .f32 :=
  mAcc.view.readAt (Elt F) r.toLoadRect acc
abbrev wr (acc : S16x2816.Idx → Elt F .f32) (r : Rect S16x2816) (v : r.shape.Idx → Elt F .f32) : S16x2816.Idx → Elt F .f32 :=
  (mAcc.access r).write (Elt F) acc v Finset.univ

variable (acc : S16x2816.Idx → Elt F .f32)

def v783 : FVec F S16x512 .f32 := k0_pay22 E.ids E.ws (word e) (h8 E e) (hExp E e) (downCols E e 0 (by decide)) (dsCols E e 0 (by decide))
  (rd acc (accR 0 inb_S16x2816_S16x512_0_0))
def acc1 : S16x2816.Idx → Elt F .f32 := wr acc (accR 0 inb_S16x2816_S16x512_0_0) (k0_pay23 (v783 E e acc))
def acc2 : S16x2816.Idx → Elt F .f32 := wr (acc1 E e acc) (accR 512 inb_S16x2816_S16x512_0_512)
  (k0_pay24 (h8 E e) (hScale E e) (wRow E e) (hasRow E e) (downCols E e 512 (by decide)) (dsCols E e 512 (by decide))
    (rd (acc1 E e acc) (accR 512 inb_S16x2816_S16x512_0_512)))
def v825 : FVec F S16x512 .f32 := k0_pay25 (h8 E e) (hScale E e) (wRow E e) (hasRow E e) (downCols E e 1024 (by decide)) (dsCols E e 1024 (by decide))
  (rd (acc2 E e acc) (accR 1024 inb_S16x2816_S16x512_0_1024))
def acc3 : S16x2816.Idx → Elt F .f32 := wr (acc2 E e acc) (accR 1024 inb_S16x2816_S16x512_0_1024) (k0_pay26 (v825 E e acc))
def acc4 : S16x2816.Idx → Elt F .f32 := wr (acc3 E e acc) (accR 1536 inb_S16x2816_S16x512_0_1536)
  (k0_pay27 (h8 E e) (hScale E e) (wRow E e) (hasRow E e) (downCols E e 1536 (by decide)) (dsCols E e 1536 (by decide))
    (rd (acc3 E e acc) (accR 1536 inb_S16x2816_S16x512_0_1536)))
def v865 : FVec F S16x512 .f32 := k0_pay28 (h8 E e) (hScale E e) (wRow E e) (downCols E e 2048 (by decide)) (dsCols E e 2048 (by decide))
def acc5 : S16x2816.Idx → Elt F .f32 := wr (acc4 E e acc) (accR 2048 inb_S16x2816_S16x512_0_2048)
  (k0_pay2 (rd (acc4 E e acc) (accR 2048 inb_S16x2816_S16x512_0_2048)) (v865 E e) (k0_pay29 (hasRow E e)) k0_pay30)
/-- The accumulator after a trip. -/
def acc6 : S16x2816.Idx → Elt F .f32 := wr (acc5 E e acc) accT
  (k0_pay3 (h8 E e) (hScale E e) (wRow E e) (hasRow E e) (downLast E e) (dsLast E e) (rd (acc5 E e acc) accT))

/-! ## Reading them out of the buffers -/

theorem emb_cols {n a b m lo : ℕ} {sz : Fin 3 → ℕ} (hsz : sz 0 = 1) (s : Fin n) {off : Fin 3 → ℕ} (ho : off = ![s.val, 0, lo])
    {inb} (y : (⟨3, sz⟩ : Shape).Idx) :
    (((Rect.unit (s := ⟨3, ![n, a, b]⟩) off sz inb).emb y 1 : Fin a) : ℕ) = (y 1).val
    ∧ (((Rect.unit (s := ⟨3, ![n, a, b]⟩) off sz inb).emb y 2 : Fin b) : ℕ) = lo + (y 2).val := by
  subst ho
  exact ⟨by show 0 + 1 * (y 1).val = _; omega, by show lo + 1 * (y 2).val = _; omega⟩

theorem emb_row {n b m lo : ℕ} (e : Fin n) {off : Fin 2 → ℕ} (ho : off = ![e.val, lo]) {inb} (y : (⟨2, ![1, m]⟩ : Shape).Idx) (h) :
    (Rect.unit (s := ⟨2, ![n, b]⟩) off ![1, m] inb).emb y = ix2 e ⟨lo + (y 1).val, h⟩ := by
  subst ho
  have h0 : (y 0).val < 1 := (y 0).isLt
  funext x
  apply Fin.ext
  fin_cases x
  · show e.val + 1 * (y 0).val = e.val; omega
  · show lo + 1 * (y 1).val = _; simp

theorem read_a (s : Fin 2) {off} (ho : off = ![s.val, 0, 0]) {inb} :
    mA.view.readAt (Elt F) (Rect.unit (s := S2x128x2816) off S1x128x2816.size inb).toLoadRect (aOf E.WA e) = aAll E e := by
  funext y
  obtain ⟨h1, h2⟩ := emb_cols (a := 128) (b := 2816) (sz := S1x128x2816.size) (m := 0) rfl s ho (inb := inb) y
  exact congrArg E.WA (congrArg₂ (ix3 e) (Fin.ext h1) (Fin.ext (h2.trans (Nat.zero_add _))))
theorem read_up (s : Fin 2) (lo h) {off} (ho : off = ![s.val, 0, lo]) {inb} :
    mUp.view.readAt (Elt F) (Rect.unit (s := S2x2816x3072) off S1x2816x512.size inb).toLoadRect (upOf E.WU e) = upCols E e lo h := by
  funext y
  obtain ⟨h1, h2⟩ := emb_cols (a := 2816) (b := 3072) (sz := S1x2816x512.size) (m := 0) rfl s ho (inb := inb) y
  exact congrArg E.WU (congrArg₂ (ix3 e) (Fin.ext h1) (Fin.ext h2))
theorem read_b (s : Fin 2) (lo h) {off} (ho : off = ![s.val, 0, lo]) {inb} :
    mB.view.readAt (Elt F) (Rect.unit (s := S2x128x3072) off S1x128x512.size inb).toLoadRect (bOf E.WB e) = bCols E e lo h := by
  funext y
  obtain ⟨h1, h2⟩ := emb_cols (a := 128) (b := 3072) (sz := S1x128x512.size) (m := 0) rfl s ho (inb := inb) y
  exact congrArg E.WB (congrArg₂ (ix3 e) (Fin.ext h1) (Fin.ext h2))
theorem read_down (s : Fin 2) (lo h) {off} (ho : off = ![s.val, 0, lo]) {inb} :
    mDown.view.readAt (Elt F) (Rect.unit (s := S2x1536x2816) off S1x1536x512.size inb).toLoadRect (downOf E.WD e) = downCols E e lo h := by
  funext y
  obtain ⟨h1, h2⟩ := emb_cols (a := 1536) (b := 2816) (sz := S1x1536x512.size) (m := 0) rfl s ho (inb := inb) y
  exact congrArg E.WD (congrArg₂ (ix3 e) (Fin.ext h1) (Fin.ext h2))
theorem read_downLast (s : Fin 2) {off} (ho : off = ![s.val, 0, 2560]) {inb} :
    mDown.view.readAt (Elt F) (Rect.unit (s := S2x1536x2816) off S1x1536x256.size inb).toLoadRect (downOf E.WD e) = downLast E e := by
  funext y
  obtain ⟨h1, h2⟩ := emb_cols (a := 1536) (b := 2816) (sz := S1x1536x256.size) (m := 0) rfl s ho (inb := inb) y
  exact congrArg E.WD (congrArg₂ (ix3 e) (Fin.ext h1) (Fin.ext h2))
theorem read_us (lo h) {off} (ho : off = ![e.val, lo]) {inb} :
    mWus.view.readAt (Elt F) (Rect.unit (s := S32x3072) off S1x512.size inb).toLoadRect E.us = usCols E e lo h :=
  funext fun y => congrArg E.us (emb_row e ho y _)
theorem read_ds (lo h) {off} (ho : off = ![e.val, lo]) {inb} :
    mWds.view.readAt (Elt F) (Rect.unit (s := S32x2816) off S1x512.size inb).toLoadRect E.ds = dsCols E e lo h :=
  funext fun y => congrArg E.ds (emb_row e ho y _)
theorem read_dsLast {off} (ho : off = ![e.val, 2560]) {inb} :
    mWds.view.readAt (Elt F) (Rect.unit (s := S32x2816) off S1x256.size inb).toLoadRect E.ds = dsLast E e :=
  funext fun y => congrArg E.ds (emb_row e ho y _)

end Cert.Kernel.Hand
-- ==== Proof.Waits.lean ====
/-
  The operations of a trip of the expert loop as rules over whole slots: reading an expert's columns out of a slot,
  waiting for a slot, issuing the copies of the next expert; and the two states of a slot, idle and being filled.
-/
module

public import proofs.«01_k».proof.Proof.Vals

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

theorem word_toNat (e : Fin 32) : (word e).toNat = e.val := by
  have := e.isLt; simp [word]; omega

/-- The slot of trip `k`. -/
def par (k : ℕ) : Fin 2 := ⟨k % 2, Nat.mod_lt _ (by decide)⟩

abbrev upSlot (s : ℕ) : Finset S2x2816x3072.Idx := box S2x2816x3072 ![s, 0, 0] ![1, 2816, 3072]

theorem box_sub {s : Shape} {off sz off' sz' : Fin s.rank → ℕ} {inb} (h : ∀ a, off' a ≤ off a ∧ off a + sz a ≤ off' a + sz' a) :
    (Rect.unit (s := s) off sz inb).toLoadRect.set ⊆ box s off' sz' := by
  rw [unit_set]
  intro i hi
  rw [mem_box] at hi ⊢
  exact fun a => ⟨le_trans (h a).1 (hi a).1, lt_of_lt_of_le (hi a).2 (h a).2⟩

variable (c : Dev nD) {n a b : ℕ}

theorem read_el (el : S33.Idx → BitVec 32) {off} (i : Fin 33) (ho : off = ![i.val]) {inb} (x) :
    mEl.view.readAt (Elt F) (Rect.unit (s := S33) off S1.size inb).toLoadRect el x = el (ix1 i) := by
  subst ho
  have h0 : (x 0).val < 1 := (x 0).isLt
  refine congrArg el ?_
  funext a
  apply Fin.ext
  fin_cases a
  show i.val + 1 * (x 0).val = i.val
  omega

theorem col_sub {n a b lo m : ℕ} (s : Fin n) {off : Fin 3 → ℕ} (ho : off = ![s.val, 0, lo]) {sz : Fin 3 → ℕ} {inb}
    (hsz : sz = ![1, a, m]) (h : lo + m ≤ b) :
    (Rect.unit (s := ⟨3, ![n, a, b]⟩) off sz inb).toLoadRect.set.map (Function.Embedding.refl _)
      ⊆ box ⟨3, ![n, a, b]⟩ ![s.val, 0, 0] ![1, a, b] := by
  subst ho hsz
  rw [Finset.map_refl]
  refine box_sub fun x => ?_
  fin_cases x
  · exact ⟨le_refl _, le_refl _⟩
  · exact ⟨le_refl _, le_refl _⟩
  · exact ⟨Nat.zero_le _, by show lo + m ≤ 0 + b; omega⟩

section Loads
variable (E : Env F) (e : Fin 32) {c} {α : Type} {Q : α → sProp (MT nD τ sig Unit (Elt F) ℕ (Pipeline.UD sig nD τ) ℕ)}

theorem ld_a (s : Fin 2) {off} (ho : off = ![s.val, 0, 0]) {inb hl} {k : _ → Prog (TpuEff nD τ sig (Elt F) Λ₀ .tc) α} :
    (mA.view.loc (c : Thread nD τ) ↦[aBox s]{fullShare} aOf E.WA e)
      ⊢ iprop(((mA.view.loc (c : Thread nD τ) ↦[aBox s]{fullShare} aOf E.WA e) -∗ WP c (k (aAll E e)) Q)
        -∗ WP c (Prog.lift (TpuEff.load mA (Rect.unit (s := S2x128x2816) off S1x128x2816.size inb).toLoadRect hl) >>= k) Q) :=
  st_load c (col_sub s ho rfl (by decide)) (read_a E e s ho)

theorem ld_up (s : Fin 2) (lo : ℕ) (h : lo + 512 ≤ 3072) {off} (ho : off = ![s.val, 0, lo]) {inb hl} {k : _ → Prog (TpuEff nD τ sig (Elt F) Λ₀ .tc) α} :
    (mUp.view.loc (c : Thread nD τ) ↦[upSlot s]{fullShare} upOf E.WU e)
      ⊢ iprop(((mUp.view.loc (c : Thread nD τ) ↦[upSlot s]{fullShare} upOf E.WU e) -∗ WP c (k (upCols E e lo h)) Q)
        -∗ WP c (Prog.lift (TpuEff.load mUp (Rect.unit (s := S2x2816x3072) off S1x2816x512.size inb).toLoadRect hl) >>= k) Q) :=
  st_load c (col_sub s ho rfl h) (read_up E e s lo h ho)

theorem ld_b (s : Fin 2) (lo : ℕ) (h : lo + 512 ≤ 3072) {off} (ho : off = ![s.val, 0, lo]) {inb hl} {k : _ → Prog (TpuEff nD τ sig (Elt F) Λ₀ .tc) α} :
    (mB.view.loc (c : Thread nD τ) ↦[bBox s]{fullShare} bOf E.WB e)
      ⊢ iprop(((mB.view.loc (c : Thread nD τ) ↦[bBox s]{fullShare} bOf E.WB e) -∗ WP c (k (bCols E e lo h)) Q)
        -∗ WP c (Prog.lift (TpuEff.load mB (Rect.unit (s := S2x128x3072) off S1x128x512.size inb).toLoadRect hl) >>= k) Q) :=
  st_load c (col_sub s ho rfl h) (read_b E e s lo h ho)

theorem ld_down (s : Fin 2) (lo : ℕ) (h : lo + 512 ≤ 2816) {off} (ho : off = ![s.val, 0, lo]) {inb hl} {k : _ → Prog (TpuEff nD τ sig (Elt F) Λ₀ .tc) α} :
    (mDown.view.loc (c : Thread nD τ) ↦[downBox s]{fullShare} downOf E.WD e)
      ⊢ iprop(((mDown.view.loc (c : Thread nD τ) ↦[downBox s]{fullShare} downOf E.WD e) -∗ WP c (k (downCols E e lo h)) Q)
        -∗ WP c (Prog.lift (TpuEff.load mDown (Rect.unit (s := S2x1536x2816) off S1x1536x512.size inb).toLoadRect hl) >>= k) Q) :=
  st_load c (col_sub s ho rfl h) (read_down E e s lo h ho)

theorem ld_downLast (s : Fin 2) {off} (ho : off = ![s.val, 0, 2560]) {inb hl} {k : _ → Prog (TpuEff nD τ sig (Elt F) Λ₀ .tc) α} :
    (mDown.view.loc (c : Thread nD τ) ↦[downBox s]{fullShare} downOf E.WD e)
      ⊢ iprop(((mDown.view.loc (c : Thread nD τ) ↦[downBox s]{fullShare} downOf E.WD e) -∗ WP c (k (downLast E e)) Q)
        -∗ WP c (Prog.lift (TpuEff.load mDown (Rect.unit (s := S2x1536x2816) off S1x1536x256.size inb).toLoadRect hl) >>= k) Q) :=
  st_load c (col_sub s ho rfl (by decide)) (read_downLast E e s ho)

theorem ld_us (lo : ℕ) (h : lo + 512 ≤ 3072) {off} (ho : off = ![e.val, lo]) {inb hl} {k : _ → Prog (TpuEff nD τ sig (Elt F) Λ₀ .tc) α} :
    (mWus.view.loc (c : Thread nD τ) ↦[Finset.univ]{fullShare} E.us)
      ⊢ iprop(((mWus.view.loc (c : Thread nD τ) ↦[Finset.univ]{fullShare} E.us) -∗ WP c (k (usCols E e lo h)) Q)
        -∗ WP c (Prog.lift (TpuEff.load mWus (Rect.unit (s := S32x3072) off S1x512.size inb).toLoadRect hl) >>= k) Q) :=
  st_load c (Finset.subset_univ _) (read_us E e lo h ho)

theorem ld_ds (lo : ℕ) (h : lo + 512 ≤ 2816) {off} (ho : off = ![e.val, lo]) {inb hl} {k : _ → Prog (TpuEff nD τ sig (Elt F) Λ₀ .tc) α} :
    (mWds.view.loc (c : Thread nD τ) ↦[Finset.univ]{fullShare} E.ds)
      ⊢ iprop(((mWds.view.loc (c : Thread nD τ) ↦[Finset.univ]{fullShare} E.ds) -∗ WP c (k (dsCols E e lo h)) Q)
        -∗ WP c (Prog.lift (TpuEff.load mWds (Rect.unit (s := S32x2816) off S1x512.size inb).toLoadRect hl) >>= k) Q) :=
  st_load c (Finset.subset_univ _) (read_ds E e lo h ho)

theorem ld_dsLast  {off} (ho : off = ![e.val, 2560]) {inb hl} {k : _ → Prog (TpuEff nD τ sig (Elt F) Λ₀ .tc) α} :
    (mWds.view.loc (c : Thread nD τ) ↦[Finset.univ]{fullShare} E.ds)
      ⊢ iprop(((mWds.view.loc (c : Thread nD τ) ↦[Finset.univ]{fullShare} E.ds) -∗ WP c (k (dsLast E e)) Q)
        -∗ WP c (Prog.lift (TpuEff.load mWds (Rect.unit (s := S32x2816) off S1x256.size inb).toLoadRect hl) >>= k) Q) :=
  st_load c (Finset.subset_univ _) (read_dsLast E e ho)

theorem ld_el {el : S33.Idx → BitVec 32} (i : Fin 33) {off} (ho : off = ![i.val]) {inb h1 hp} {k : _ → Prog (TpuEff nD τ sig (Elt F) Λ₀ .tc) α}
    {v : BitVec 32} (hv : el (ix1 i) = v) :
    (mEl.view.loc (c : Thread nD τ) ↦[Finset.univ]{fullShare} el)
      ⊢ iprop(((mEl.view.loc (c : Thread nD τ) ↦[Finset.univ]{fullShare} el) -∗ WP c (k v) Q)
        -∗ WP c (smemLoad (p := .tc) mEl (Rect.unit (s := S33) off S1.size inb) h1 hp >>= k) Q) :=
  st_word c (Finset.subset_univ _) fun x => (read_el el i ho x).trans hv

end Loads

/-! ## Waiting for an expert's matrices -/

theorem up_join (s : ℕ) : upSlot s = upBox s 0 ∪ upBox s 1408 := by
  ext i
  simp only [Finset.mem_union, mem_box, Fin.forall_fin_succ, Fin.forall_fin_zero_pi, IsEmpty.forall_iff]
  simp
  omega
theorem up_disj (s : ℕ) : Disjoint (upBox s 0) (upBox s 1408) := by
  rw [Finset.disjoint_left]
  intro i hi hj
  rw [mem_box] at hi hj
  have h1 := (hi 1).2; have h2 := (hj 1).1
  simp at h1 h2
  omega

section Waits
variable {c} {α : Type} {Q : α → sProp (MT nD τ sig Unit (Elt F) ℕ (Pipeline.UD sig nD τ) ℕ)}
  {k : PUnit → Prog (TpuEff nD τ sig (Elt F) Λ₀ .tc) α} {W' : Waits sig Unit}

theorem wait_up (s : Fin 2) {e : Fin 32} {q : Fin 2 → PosShare TreeShare} {W : BufOf (F := F) c mUpH}
    {offS : Fin 1 → ℕ} (hs : offS = ![s.val]) {off : Fin 3 → ℕ} {inbS inb h2 sp' s' e'} {srcw : Memref sig .tc sp' s' e'} {hsrc hdst} :
    iprop(Flight c (semUp s) upA (upD c q W s e) 2 0 ∗ owes (c : Thread nD τ) 0 W')
      ⊢ iprop((iprop((mUp.view.loc (c : Thread nD τ) ↦[upSlot s]{fullShare} upOf W e)
              ∗ (mUpH.view.loc (c : Thread nD τ) ↦[upSrc e 0]{q 0} W) ∗ (mUpH.view.loc (c : Thread nD τ) ↦[upSrc e 1408]{q 1} W)
              ∗ semVal ((c : Thread nD τ), SemLoc.dma (semUp s)) 0 ∗ (∃ W', owes (c : Thread nD τ) 0 W')) -∗ WP c (k ⟨⟩) Q)
          -∗ WP c (Prog.lift (TpuEff.waitDma2 ((cc0_scratch19.slice (Rect.unit (s := S2) offS S1.size inbS)).squeeze S_ squeezes_S1_S_).sem srcw
            ((mUp.slice (Rect.unit (s := S2x2816x3072) off S1x2816x3072.size inb) h2).squeeze S2816x3072 squeezes_S1x2816x3072_S2816x3072)
            hsrc hdst) >>= k) Q) := by
  refine (st_waitAll c (sp₂ := .hbm) (semUp_eq s hs inbS) rfl upA_pos upA_sum).trans (wand_mono_left (wand_mono_left ?_))
  rw [BI.bigSep_fin_two]
  show iprop((landed mUp mUpH c (upBox s 0) (upOf W e) (upSrc e 0) (q 0) W ∗ landed mUp mUpH c (upBox s 1408) (upOf W e) (upSrc e 1408) (q 1) W) ∗ _) ⊢ _
  unfold landed
  iintro ⟨⟨⟨H1, H2⟩, H3, H4⟩, H5⟩
  isplitl [H1 H3]
  · rw [up_join]
    iapply (pointsTo_union (up_disj s)).2
    isplitl [H1]; · iexact H1
    iexact H3
  isplitl [H2]; · iexact H2
  isplitl [H4]; · iexact H4
  iexact H5

theorem wait_down (s : Fin 2) {e : Fin 32} {q : PosShare TreeShare} {W : BufOf (F := F) c mDownH}
    {offS : Fin 1 → ℕ} (hs : offS = ![s.val]) {off : Fin 3 → ℕ} {inbS inb h2 sp' s' e'} {srcw : Memref sig .tc sp' s' e'} {hsrc hdst} :
    iprop(Flight c (semDown s) downA (downD c q W s e) 1 0 ∗ owes (c : Thread nD τ) 0 W')
      ⊢ iprop((iprop((mDown.view.loc (c : Thread nD τ) ↦[downBox s]{fullShare} downOf W e)
              ∗ (mDownH.view.loc (c : Thread nD τ) ↦[downSrc e]{q} W)
              ∗ semVal ((c : Thread nD τ), SemLoc.dma (semDown s)) 0 ∗ (∃ W', owes (c : Thread nD τ) 0 W')) -∗ WP c (k ⟨⟩) Q)
          -∗ WP c (Prog.lift (TpuEff.waitDma2 ((cc0_scratch20.slice (Rect.unit (s := S2) offS S1.size inbS)).squeeze S_ squeezes_S1_S_).sem srcw
            ((mDown.slice (Rect.unit (s := S2x1536x2816) off S1x1536x2816.size inb) h2).squeeze S1536x2816 squeezes_S1x1536x2816_S1536x2816)
            hsrc hdst) >>= k) Q) := by
  refine (st_waitAll c (sp₂ := .hbm) (semDown_eq s hs inbS) rfl downA_pos downA_sum).trans (wand_mono_left (wand_mono_left ?_))
  rw [show (Finset.univ : Finset (Fin 1)) = {0} from rfl, BI.bigSep_singleton]
  show iprop(landed mDown mDownH c (downBox s) (downOf W e) (downSrc e) q W ∗ _) ⊢ _
  unfold landed
  iintro ⟨⟨H1, H2⟩, H5⟩
  isplitl [H1]; · iexact H1
  isplitl [H2]; · iexact H2
  iexact H5

theorem wait_a (s : Fin 2) {e : Fin 32} {q q' : PosShare TreeShare} {WA : BufOf (F := F) c mAH} {WB : BufOf (F := F) c mBH}
    {offS : Fin 1 → ℕ} (hs : offS = ![s.val]) {off : Fin 3 → ℕ} {inbS inb h2 sp' s' e'} {srcw : Memref sig .tc sp' s' e'} {hsrc hdst} :
    iprop(Flight c (semAB s) abA (abD c q q' WA WB s e) 2 0 ∗ owes (c : Thread nD τ) 0 W')
      ⊢ iprop((iprop(Flight c (semAB s) abA (abD c q q' WA WB s e) 2 (0 + cc0_scratch9.dmaCredit S128x2816 .bf16)
              ∗ (∃ W', owes (c : Thread nD τ) 0 W')) -∗ WP c (k ⟨⟩) Q)
          -∗ WP c (Prog.lift (TpuEff.waitDma2 ((cc0_scratch21.slice (Rect.unit (s := S2) offS S1.size inbS)).squeeze S_ squeezes_S1_S_).sem srcw
            ((mA.slice (Rect.unit (s := S2x128x2816) off S1x128x2816.size inb) h2).squeeze S128x2816 squeezes_S1x128x2816_S128x2816)
            hsrc hdst) >>= k) Q) :=
  st_wait c (sp₂ := .hbm) (semAB_eq s hs inbS) rfl abA_first

theorem wait_b (s : Fin 2) {e : Fin 32} {q q' : PosShare TreeShare} {WA : BufOf (F := F) c mAH} {WB : BufOf (F := F) c mBH}
    {offS : Fin 1 → ℕ} (hs : offS = ![s.val]) {off : Fin 3 → ℕ} {inbS inb h2 sp' s' e'} {srcw : Memref sig .tc sp' s' e'} {hsrc hdst} :
    iprop(Flight c (semAB s) abA (abD c q q' WA WB s e) 2 (0 + cc0_scratch9.dmaCredit S128x2816 .bf16) ∗ owes (c : Thread nD τ) 0 W')
      ⊢ iprop((iprop((mA.view.loc (c : Thread nD τ) ↦[aBox s]{fullShare} aOf WA e) ∗ (mAH.view.loc (c : Thread nD τ) ↦[aSrc e]{q} WA)
              ∗ (mB.view.loc (c : Thread nD τ) ↦[bBox s]{fullShare} bOf WB e) ∗ (mBH.view.loc (c : Thread nD τ) ↦[bSrc e]{q'} WB)
              ∗ semVal ((c : Thread nD τ), SemLoc.dma (semAB s)) 0 ∗ (∃ W', owes (c : Thread nD τ) 0 W')) -∗ WP c (k ⟨⟩) Q)
          -∗ WP c (Prog.lift (TpuEff.waitDma2 ((cc0_scratch21.slice (Rect.unit (s := S2) offS S1.size inbS)).squeeze S_ squeezes_S1_S_).sem srcw
            ((mB.slice (Rect.unit (s := S2x128x3072) off S1x128x3072.size inb) h2).squeeze S128x3072 squeezes_S1x128x3072_S128x3072)
            hsrc hdst) >>= k) Q) := by
  refine (st_waitAll c (sp₂ := .hbm) (semAB_eq s hs inbS) rfl abA_pos abA_sum).trans (wand_mono_left (wand_mono_left ?_))
  rw [BI.bigSep_fin_two]
  show iprop((landed mA mAH c (aBox s) (aOf WA e) (aSrc e) q WA ∗ landed mB mBH c (bBox s) (bOf WB e) (bSrc e) q' WB) ∗ _) ⊢ _
  unfold landed
  iintro ⟨⟨⟨H1, H2⟩, H3, H4⟩, H5⟩
  isplitl [H1]; · iexact H1
  isplitl [H2]; · iexact H2
  isplitl [H3]; · iexact H3
  isplitl [H4]; · iexact H4
  iexact H5

/-! ## Issuing a copy out of a stack held whole -/

theorem lend {ℓ : Loc nD τ sig} {I : Finset (Idx ℓ)} {q : PosShare TreeShare} {f : Buf (Elt F) ℓ} :
    (ℓ ↦[Finset.univ]{q} f : sProp (MT nD τ sig Unit (Elt F) ℕ (Pipeline.UD sig nD τ) ℕ)) ⊣⊢ iprop((ℓ ↦[I]{q} f) ∗ ℓ ↦[Finset.univ \ I]{q} f) :=
  pointsTo_split_subset (Finset.subset_univ _)

/-- A copy issued out of a source held whole: the elements it reads are split off first. -/
theorem lend_start {β : Type} {A A1 A2 G G' X Y : sProp (MT nD τ sig Unit (Elt F) ℕ (Pipeline.UD sig nD τ) ℕ)}
    {B : β → sProp (MT nD τ sig Unit (Elt F) ℕ (Pipeline.UD sig nD τ) ℕ)} (hA : A ⊢ iprop(A1 ∗ A2))
    (h : ∀ f, iprop(A1 ∗ B f ∗ G) ⊢ iprop((G' -∗ X) -∗ Y)) :
    iprop(A ∗ (∃ f, B f) ∗ G) ⊢ iprop((iprop(A2 ∗ G') -∗ X) -∗ Y) := by
  iintro ⟨H1, ⟨%f, H2⟩, H3⟩ HK
  ihave H1 := hA $$ H1
  icases H1 with ⟨H1, H4⟩
  iapply (h f) $$ [H1 H2 H3]
  · isplitl [H1]; · iexact H1
    isplitl [H2]; · iexact H2
    iexact H3
  iintro H3
  iapply HK
  isplitl [H4]; · iexact H4
  iexact H3

end Waits

/-! ## The two states of a slot -/

/-- The read shares of the four stacks, one per slot and piece. -/
structure Shr where
  U : Fin 2 → Fin 2 → PosShare TreeShare
  D : Fin 2 → PosShare TreeShare
  A : Fin 2 → PosShare TreeShare
  B : Fin 2 → PosShare TreeShare

section Slot
variable (E : Env F) (T : Shr) (s : Fin 2)

def srcU (j : Fin 2) (I : Finset S32x2816x3072.Idx) : sProp 𝕄 := mUpH.view.loc (c : Thread nD τ) ↦[I]{T.U s j} E.WU
def srcD (I : Finset S32x1536x2816.Idx) : sProp 𝕄 := mDownH.view.loc (c : Thread nD τ) ↦[I]{T.D s} E.WD
def srcA (I : Finset S32x128x2816.Idx) : sProp 𝕄 := mAH.view.loc (c : Thread nD τ) ↦[I]{T.A s} E.WA
def srcB (I : Finset S32x128x3072.Idx) : sProp 𝕄 := mBH.view.loc (c : Thread nD τ) ↦[I]{T.B s} E.WB
def flyU (e : Fin 32) (j : ℕ) : sProp 𝕄 := Flight c (semUp s) upA (upD c (T.U s) E.WU s e) j 0
def flyD (e : Fin 32) (j : ℕ) : sProp 𝕄 := Flight c (semDown s) downA (downD c (T.D s) E.WD s e) j 0
def flyAB (e : Fin 32) (j : ℕ) : sProp 𝕄 := Flight c (semAB s) abA (abD c (T.A s) (T.B s) E.WA E.WB s e) j 0
def freeU (j : Fin 2) : sProp 𝕄 := iprop(∃ f, (mUp.view.loc (c : Thread nD τ) ↦[upBox s (1408 * j.val)]{fullShare} f : sProp 𝕄))
def freeD : sProp 𝕄 := iprop(∃ f, (mDown.view.loc (c : Thread nD τ) ↦[downBox s]{fullShare} f : sProp 𝕄))
def freeA : sProp 𝕄 := iprop(∃ f, (mA.view.loc (c : Thread nD τ) ↦[aBox s]{fullShare} f : sProp 𝕄))
def freeB : sProp 𝕄 := iprop(∃ f, (mB.view.loc (c : Thread nD τ) ↦[bBox s]{fullShare} f : sProp 𝕄))

/-- Nothing in flight: the slot's buffers at anything, the sources whole, the cells at zero. -/
def Idle : sProp 𝕄 := iprop(
  (srcU c E T s 0 Finset.univ ∗ srcU c E T s 1 Finset.univ ∗ freeU (F := F) c s 0 ∗ freeU (F := F) c s 1
    ∗ semVal ((c : Thread nD τ), SemLoc.dma (semUp s)) 0)
  ∗ (srcD c E T s Finset.univ ∗ freeD (F := F) c s ∗ semVal ((c : Thread nD τ), SemLoc.dma (semDown s)) 0)
  ∗ (srcA c E T s Finset.univ ∗ srcB c E T s Finset.univ ∗ freeA (F := F) c s ∗ freeB (F := F) c s
    ∗ semVal ((c : Thread nD τ), SemLoc.dma (semAB s)) 0))

/-- Expert `e`'s matrices on their way into the slot. -/
def Busy (e : Fin 32) : sProp 𝕄 := iprop(
  (srcU c E T s 0 (Finset.univ \ upSrc e 0) ∗ srcU c E T s 1 (Finset.univ \ upSrc e 1408) ∗ flyU c E T s e 2)
  ∗ (srcD c E T s (Finset.univ \ downSrc e) ∗ flyD c E T s e 1)
  ∗ (srcA c E T s (Finset.univ \ aSrc e) ∗ srcB c E T s (Finset.univ \ bSrc e) ∗ flyAB c E T s e 2))

variable {c} {α : Type} {Q : α → sProp (MT nD τ sig Unit (Elt F) ℕ (Pipeline.UD sig nD τ) ℕ)}
  {k : PUnit → Prog (TpuEff nD τ sig (Elt F) Λ₀ .tc) α}

theorem go_up (j : Fin 2) (e : Fin 32) {offS : Fin 1 → ℕ} {off off' : Fin 3 → ℕ} (hs : offS = ![s.val])
    (hd : off = ![s.val, 1408 * j.val, 0]) (he : off' = ![e.val, 1408 * j.val, 0])
    {inbS inb inb'} {h1 h2 hsrc hdst} {hsem : DmaTarget.Typed (nD := nD) (p := (Proc.tc : Proc τ)) _ _ (.here _)} :
    iprop(srcU c E T s j Finset.univ ∗ freeU (F := F) c s j ∗ flyU c E T s e j.val)
      ⊢ iprop((iprop(srcU c E T s j (Finset.univ \ upSrc e (1408 * j.val)) ∗ flyU c E T s e (j.val + 1)) -∗ WP c (k ⟨⟩) Q)
          -∗ WP c (Prog.lift (TpuEff.enqueueDma
              ((mUpH.slice (Rect.unit (s := S32x2816x3072) off' S1x1408x3072.size inb') h1).squeeze S1408x3072 squeezes_S1x1408x3072_S1408x3072)
              (.here ((mUp.slice (Rect.unit (s := S2x2816x3072) off S1x1408x3072.size inb) h2).squeeze S1408x3072 squeezes_S1x1408x3072_S1408x3072))
              (.dma ((cc0_scratch19.slice (Rect.unit (s := S2) offS S1.size inbS)).squeeze S_ squeezes_S1_S_).sem)
              hsrc hdst hsem) >>= k) Q) :=
  lend_start (lend (ℓ := mUpH.view.loc (c : Thread nD τ)) (I := upSrc e (1408 * j.val))).1 fun f => start_up s j e (q := T.U s) hs hd he (fd := f)

theorem go_down (e : Fin 32) {offS : Fin 1 → ℕ} {off off' : Fin 3 → ℕ} (hs : offS = ![s.val])
    (hd : off = ![s.val, 0, 0]) (he : off' = ![e.val, 0, 0])
    {inbS inb inb'} {h1 h2 hsrc hdst} {hsem : DmaTarget.Typed (nD := nD) (p := (Proc.tc : Proc τ)) _ _ (.here _)} :
    iprop(srcD c E T s Finset.univ ∗ freeD (F := F) c s ∗ flyD c E T s e 0)
      ⊢ iprop((iprop(srcD c E T s (Finset.univ \ downSrc e) ∗ flyD c E T s e 1) -∗ WP c (k ⟨⟩) Q)
          -∗ WP c (Prog.lift (TpuEff.enqueueDma
              ((mDownH.slice (Rect.unit (s := S32x1536x2816) off' S1x1536x2816.size inb') h1).squeeze S1536x2816 squeezes_S1x1536x2816_S1536x2816)
              (.here ((mDown.slice (Rect.unit (s := S2x1536x2816) off S1x1536x2816.size inb) h2).squeeze S1536x2816 squeezes_S1x1536x2816_S1536x2816))
              (.dma ((cc0_scratch20.slice (Rect.unit (s := S2) offS S1.size inbS)).squeeze S_ squeezes_S1_S_).sem)
              hsrc hdst hsem) >>= k) Q) :=
  lend_start (lend (ℓ := mDownH.view.loc (c : Thread nD τ)) (I := downSrc e)).1 fun f => start_down s e (q := T.D s) hs hd he (fd := f)

theorem go_a (e : Fin 32) {offS : Fin 1 → ℕ} {off off' : Fin 3 → ℕ} (hs : offS = ![s.val])
    (hd : off = ![s.val, 0, 0]) (he : off' = ![e.val, 0, 0])
    {inbS inb inb'} {h1 h2 hsrc hdst} {hsem : DmaTarget.Typed (nD := nD) (p := (Proc.tc : Proc τ)) _ _ (.here _)} :
    iprop(srcA c E T s Finset.univ ∗ freeA (F := F) c s ∗ flyAB c E T s e 0)
      ⊢ iprop((iprop(srcA c E T s (Finset.univ \ aSrc e) ∗ flyAB c E T s e 1) -∗ WP c (k ⟨⟩) Q)
          -∗ WP c (Prog.lift (TpuEff.enqueueDma
              ((mAH.slice (Rect.unit (s := S32x128x2816) off' S1x128x2816.size inb') h1).squeeze S128x2816 squeezes_S1x128x2816_S128x2816)
              (.here ((mA.slice (Rect.unit (s := S2x128x2816) off S1x128x2816.size inb) h2).squeeze S128x2816 squeezes_S1x128x2816_S128x2816))
              (.dma ((cc0_scratch21.slice (Rect.unit (s := S2) offS S1.size inbS)).squeeze S_ squeezes_S1_S_).sem)
              hsrc hdst hsem) >>= k) Q) :=
  lend_start (lend (ℓ := mAH.view.loc (c : Thread nD τ)) (I := aSrc e)).1 fun f => start_a s e (q := T.A s) hs hd he (fd := f)

theorem go_b (e : Fin 32) {offS : Fin 1 → ℕ} {off off' : Fin 3 → ℕ} (hs : offS = ![s.val])
    (hd : off = ![s.val, 0, 0]) (he : off' = ![e.val, 0, 0])
    {inbS inb inb'} {h1 h2 hsrc hdst} {hsem : DmaTarget.Typed (nD := nD) (p := (Proc.tc : Proc τ)) _ _ (.here _)} :
    iprop(srcB c E T s Finset.univ ∗ freeB (F := F) c s ∗ flyAB c E T s e 1)
      ⊢ iprop((iprop(srcB c E T s (Finset.univ \ bSrc e) ∗ flyAB c E T s e 2) -∗ WP c (k ⟨⟩) Q)
          -∗ WP c (Prog.lift (TpuEff.enqueueDma
              ((mBH.slice (Rect.unit (s := S32x128x3072) off' S1x128x3072.size inb') h1).squeeze S128x3072 squeezes_S1x128x3072_S128x3072)
              (.here ((mB.slice (Rect.unit (s := S2x128x3072) off S1x128x3072.size inb) h2).squeeze S128x3072 squeezes_S1x128x3072_S128x3072))
              (.dma ((cc0_scratch21.slice (Rect.unit (s := S2) offS S1.size inbS)).squeeze S_ squeezes_S1_S_).sem)
              hsrc hdst hsem) >>= k) Q) :=
  lend_start (lend (ℓ := mBH.view.loc (c : Thread nD τ)) (I := bSrc e)).1 fun f => start_b s e (q' := T.B s) hs hd he (fd := f)

end Slot

end Cert.Kernel.Hand
-- ==== Proof.TripA.lean ====
/-
  The first piece of a trip: the copies of the next expert are issued into the other slot, if there is a next one,
  and the low-rank matrices of this trip's expert are waited for and applied to the tokens.
-/
module

public import proofs.«01_k».proof.Proof.Waits

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- What the run of a piece ends with, up to an equation. -/
theorem st_end (c : Dev nD) {α : Type} {Q : α → sProp (MT nD τ sig Unit (Elt F) ℕ (Pipeline.UD sig nD τ) ℕ)} {a : α} (a' : α) (h : a = a') :
    Q a' ⊢ WP c (pure a) Q := h ▸ st_pure c

variable (c : Dev nD) (S : Stg) (E : Env F) (T : Shr)

theorem flyU_new (s : Fin 2) (e : Fin 32) : (semVal ((c : Thread nD τ), SemLoc.dma (semUp s)) 0 : sProp 𝕄) ⊢ |={Set.univ}=> flyU c E T s e 0 :=
  flight_new c (semUp s) upA (upD c (T.U s) E.WU s e)
theorem flyD_new (s : Fin 2) (e : Fin 32) : (semVal ((c : Thread nD τ), SemLoc.dma (semDown s)) 0 : sProp 𝕄) ⊢ |={Set.univ}=> flyD c E T s e 0 :=
  flight_new c (semDown s) downA (downD c (T.D s) E.WD s e)
theorem flyAB_new (s : Fin 2) (e : Fin 32) : (semVal ((c : Thread nD τ), SemLoc.dma (semAB s)) 0 : sProp 𝕄) ⊢ |={Set.univ}=> flyAB c E T s e 0 :=
  flight_new c (semAB s) abA (abD c (T.A s) (T.B s) E.WA E.WB s e)

/-- The other slot after a trip: the next expert on its way, if there is one. -/
def Next (n k : ℕ) (ex : ℕ → Fin 32) : sProp 𝕄 := if k + 1 < n then Busy c E T (par (k + 1)) (ex (k + 1)) else Idle c E T (par (k + 1))

abbrev El (el : S33.Idx → BitVec 32) : sProp 𝕄 := mEl.view.loc (c : Thread nD τ) ↦[Finset.univ]{fullShare} el

/-- What the first piece returns: the trip's number, its expert, its slot and the tokens shrunk by the low-rank matrix. -/
abbrev res4 (k : ℕ) (e : Fin 32) : Σ' (arg35 : BitVec 32) (v547 : Elt F .i32) (k0_hw28 : k0_chk28 v547) (v548 : BitVec 32)
    (v570 : FVec F S16x128 .bf16) (v572 : Elt F .i32), k0_chk27 v572 :=
  ⟨Scf.iv 0#32 1#32 k, word e, chk28_all e, Scalar.remsi (Scf.iv 0#32 1#32 k) 2#32, shrunk E e, word e, chk27_all e⟩

variable (n : Fin 33) (hw : k0_chk21 (BitVec.ofNat 32 n)) (k : Fin (k0_t2_loop (BitVec.ofNat 32 n)).trips)
  {el : S33.Idx → BitVec 32} {ex : ℕ → Fin 32} (hel : ∀ i : Fin 33, i.val < n.val → el (ix1 i) = word (ex i.val))

include hel in
theorem run4 {W : Waits sig Unit} {Q} :
    iprop(El c el ∗ Idle c E T (par (k.val + 1)) ∗ flyAB c E T (par k.val) (ex k.val) 2 ∗ owes (c : Thread nD τ) 0 W)
      ⊢ iprop((iprop(El c el ∗ Next c E T n.val k.val ex
            ∗ (mA.view.loc (c : Thread nD τ) ↦[aBox (par k.val)]{fullShare} aOf E.WA (ex k.val)) ∗ srcA c E T (par k.val) (aSrc (ex k.val))
            ∗ (mB.view.loc (c : Thread nD τ) ↦[bBox (par k.val)]{fullShare} bOf E.WB (ex k.val)) ∗ srcB c E T (par k.val) (bSrc (ex k.val))
            ∗ semVal ((c : Thread nD τ), SemLoc.dma (semAB (par k.val))) 0 ∗ (∃ W', owes (c : Thread nD τ) 0 W'))
          -∗ Q (res4 E k.val (ex k.val)))
        -∗ WP c (P4 S (BitVec.ofNat 32 n) hw E.x E.mine 0#32 1#32 k) Q) := by
  have hkn : k.val < n.val := lt_of_lt_of_eq k.isLt (trips_all n).1
  have hk : k.val < 32 := by have := n.isLt; omega
  have hek := hel ⟨k.val, by omega⟩ hkn
  unfold P4 onMems
  rw [k0_part4_eq_skeleton]; unfold k0_part4_skel
  iintro ⟨HE, HI, HF, HW⟩ HK
  by_cases h : k0_cond1 (BitVec.ofNat 32 n) k = 1#1
  case' pos =>
    simp only [dif_pos h]
    have hk1 : k.val + 1 < n.val := (cond1_all n k).1 h
    have hek1 := hel ⟨k.val + 1, by omega⟩ hk1
    unfold Idle
    icases HI with ⟨⟨HU0, HU1, HfU0, HfU1, HsU⟩, ⟨HD, HfD, HsD⟩, HA, HB, HfA, HfB, HsAB⟩
    imod (flyU_new c E T (par (k.val + 1)) (ex (k.val + 1))) $$ HsU with HsU
    imod (flyD_new c E T (par (k.val + 1)) (ex (k.val + 1))) $$ HsD with HsD
    imod (flyAB_new c E T (par (k.val + 1)) (ex (k.val + 1))) $$ HsAB with HsAB
    iapply (st_bind c)
    rw [k0_part3_eq_skeleton]; unfold k0_part3_skel
    iapply (ld_el ⟨k.val + 1, by omega⟩ (off48_eq _ k hk) hek1) $$ HE; iintro HE
    iapply (st_assume c (chk22_all _ k (ex (k.val + 1))))
    iapply (go_a E T (par (k.val + 1)) (ex (k.val + 1)) (off49_eq _ k hk) (off50_eq _ k hk) (congrArg (fun x : ℕ => ![x, 0, 0]) (word_toNat _))) $$ [HA HfA HsAB]
    · isplitl [HA]; · iexact HA
      isplitl [HfA]; · iexact HfA
      iexact HsAB
    iintro ⟨HA, HsAB⟩
    iapply (go_b E T (par (k.val + 1)) (ex (k.val + 1)) (off52_eq _ k hk) (off53_eq _ k hk) (congrArg (fun x : ℕ => ![x, 0, 0]) (word_toNat _))) $$ [HB HfB HsAB]
    · isplitl [HB]; · iexact HB
      isplitl [HfB]; · iexact HfB
      iexact HsAB
    iintro ⟨HB, HsAB⟩
    iapply (ld_el ⟨k.val + 1, by omega⟩ (off55_eq _ k hk) hek1) $$ HE; iintro HE
    iapply (st_assume c (chk23_all _ k (ex (k.val + 1))))
    iapply (go_up E T (par (k.val + 1)) 0 (ex (k.val + 1)) (off52_eq _ k hk) (off56_eq _ k hk) (congrArg (fun x : ℕ => ![x, 0, 0]) (word_toNat _))) $$ [HU0 HfU0 HsU]
    · isplitl [HU0]; · iexact HU0
      isplitl [HfU0]; · iexact HfU0
      iexact HsU
    iintro ⟨HU0, HsU⟩
    iapply (ld_el ⟨k.val + 1, by omega⟩ (off58_eq _ k hk) hek1) $$ HE; iintro HE
    iapply (st_assume c (chk24_all _ k (ex (k.val + 1))))
    iapply (st_pure c)
    iapply (go_up E T (par (k.val + 1)) 1 (ex (k.val + 1)) (off59_eq _ k hk) (off60_eq _ k hk) (congrArg (fun x : ℕ => ![x, 1408, 0]) (word_toNat _))) $$ [HU1 HfU1 HsU]
    · isplitl [HU1]; · iexact HU1
      isplitl [HfU1]; · iexact HfU1
      iexact HsU
    iintro ⟨HU1, HsU⟩
    iapply (ld_el ⟨k.val + 1, by omega⟩ (off62_eq _ k hk) hek1) $$ HE; iintro HE
    iapply (st_assume c (chk25_all _ k (ex (k.val + 1))))
    iapply (go_down E T (par (k.val + 1)) (ex (k.val + 1)) (off63_eq _ k hk) (off64_eq _ k hk) (congrArg (fun x : ℕ => ![x, 0, 0]) (word_toNat _))) $$ [HD HfD HsD]
    · isplitl [HD]; · iexact HD
      isplitl [HfD]; · iexact HfD
      iexact HsD
    iintro ⟨HD, HsD⟩
    ihave HI : (Next c E T n.val k.val ex) $$ [HU0 HU1 HsU HD HsD HA HB HsAB]
    · unfold Next
      rw [if_pos hk1]
      unfold Busy
      isplitl [HU0 HU1 HsU]
      · isplitl [HU0]; · iexact HU0
        isplitl [HU1]; · iexact HU1
        iexact HsU
      isplitl [HD HsD]
      · isplitl [HD]; · iexact HD
        iexact HsD
      isplitl [HA]; · iexact HA
      isplitl [HB]; · iexact HB
      iexact HsAB
  case' neg =>
    simp only [dif_neg h]
    ihave HI : (Next c E T n.val k.val ex) $$ [HI]
    · unfold Next
      rw [if_neg fun hk1 => h ((cond1_all n k).2 hk1)]
      iexact HI
  all_goals
    iapply (ld_el ⟨k.val, by omega⟩ (off66_eq _ k hk) hek) $$ HE; iintro HE
    iapply (st_assume c (chk28_all (ex k.val)))
    iapply (ld_el ⟨k.val, by omega⟩ (off66_eq _ k hk) hek) $$ HE; iintro HE
    iapply (st_assume c (chk26_all (ex k.val)))
    unfold flyAB srcA srcB
    iapply (wait_a (par k.val) (off67_eq _ k hk)) $$ [HF HW]
    · isplitl [HF]; · iexact HF
      iexact HW
    iintro ⟨HF, ⟨%W1, HW⟩⟩
    iapply (wait_b (par k.val) (off70_eq _ k hk)) $$ [HF HW]
    · isplitl [HF]; · iexact HF
      iexact HW
    iintro ⟨HA, HA', HB, HB', HS, HW⟩
    iapply (ld_a E (ex k.val) (par k.val) (off73_eq _ k hk)) $$ HA; iintro HA
    iapply (ld_el ⟨k.val, by omega⟩ (off74_eq _ k hk) hek) $$ HE; iintro HE
    iapply (st_assume c (chk27_all (ex k.val)))
    iapply (st_end c (res4 E k.val (ex k.val)) rfl)
    iapply HK
    isplitl [HE]; · iexact HE
    isplitl [HI]; · iexact HI
    isplitl [HA]; · iexact HA
    isplitl [HA']; · iexact HA'
    isplitl [HB]; · iexact HB
    isplitl [HB']; · iexact HB'
    isplitl [HS]; · iexact HS
    iexact HW

end Cert.Kernel.Hand
-- ==== Proof.TripB.lean ====
/-
  The middle pieces of a trip: the up projection is waited for and read in column runs, and the hidden row is computed.
-/
module

public import proofs.«01_k».proof.Proof.TripA

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

abbrev res6 (E : Env F) (e : Fin 32) : Σ' (v653 : FVec F S16x512 .f32), FVec F S16x512 .f32 := ⟨h653 E e, h657 E e⟩
abbrev res7 (E : Env F) (e : Fin 32) : Σ' (v691 : FVec F S16x1536 .f32) (v696 : FVec F S16x1 .f32) (v697 : IVec S16x256 32) (v699 : IVec S16x256 1), IVec S16x256 32 :=
  ⟨hid E e, hidMax E e, cols256, k0_pay13, k0_pay14⟩
abbrev res8 (E : Env F) (e : Fin 32) : Σ' (v739 : FVec F S16x1536 .fp8e4m3), IVec S16x1 32 := ⟨h8 E e, hExp E e⟩

variable (c : Dev nD) (S : Stg) (E : Env F) (T : Shr) (e : Fin 32) (w : BitVec 32) (hw : k0_chk21 w) (k : Fin (k0_t2_loop w).trips) (hk : k.val < 32)
include hk

theorem run5 {hv hv'} {v548 : BitVec 32} {W : Waits sig Unit} {Q} :
    iprop(flyU c E T (par k.val) e 2 ∗ (mB.view.loc (c : Thread nD τ) ↦[bBox (par k.val)]{fullShare} bOf E.WB e)
        ∗ (mWus.view.loc (c : Thread nD τ) ↦[Finset.univ]{fullShare} E.us) ∗ owes (c : Thread nD τ) 0 W)
      ⊢ iprop((iprop((mUp.view.loc (c : Thread nD τ) ↦[upSlot (par k.val)]{fullShare} upOf E.WU e)
        ∗ (mB.view.loc (c : Thread nD τ) ↦[bBox (par k.val)]{fullShare} bOf E.WB e)
        ∗ (mWus.view.loc (c : Thread nD τ) ↦[Finset.univ]{fullShare} E.us)
        ∗ srcU c E T (par k.val) 0 (upSrc e 0) ∗ srcU c E T (par k.val) 1 (upSrc e 1408)
        ∗ semVal ((c : Thread nD τ), SemLoc.dma (semUp (par k.val))) 0 ∗ (∃ W', owes (c : Thread nD τ) 0 W')) -∗ Q (h616 E e))
        -∗ WP c (P5 S w hw E.x8 E.sx k (word e) hv v548 (shrunk E e) (word e) hv') Q) := by
  unfold P5 onMems
  rw [k0_part5_eq_skeleton]; unfold k0_part5_skel flyU srcU
  iintro ⟨HF, HB, HS, HW⟩ HK
  iapply (wait_up (par k.val) (off70_eq _ k hk)) $$ [HF HW]
  · isplitl [HF]; · iexact HF
    iexact HW
  iintro ⟨HU, HR⟩
  iapply (ld_up E e (par k.val) 0 (by decide) (off77_eq w k hk)) $$ HU; iintro HU
  iapply (ld_b E e (par k.val) 0 (by decide) (off78_eq w k hk)) $$ HB; iintro HB
  iapply (ld_us E e 0 (by decide) (congrArg (fun x : ℕ => ![x, 0]) (word_toNat e))) $$ HS; iintro HS
  iapply (ld_up E e (par k.val) 1536 (by decide) (off80_eq w k hk)) $$ HU; iintro HU
  iapply (ld_b E e (par k.val) 1536 (by decide) (off81_eq w k hk)) $$ HB; iintro HB
  iapply (ld_us E e 1536 (by decide) (congrArg (fun x : ℕ => ![x, 1536]) (word_toNat e))) $$ HS; iintro HS
  iapply (st_end c (h616 E e) rfl)
  iapply HK
  isplitl [HU]; · iexact HU
  isplitl [HB]; · iexact HB
  isplitl [HS]; · iexact HS
  iexact HR

theorem run6 {hv} {v548 : BitVec 32} {Q} :
    iprop((mUp.view.loc (c : Thread nD τ) ↦[upSlot (par k.val)]{fullShare} upOf E.WU e)
        ∗ (mB.view.loc (c : Thread nD τ) ↦[bBox (par k.val)]{fullShare} bOf E.WB e)
        ∗ (mWus.view.loc (c : Thread nD τ) ↦[Finset.univ]{fullShare} E.us))
      ⊢ iprop((iprop((mUp.view.loc (c : Thread nD τ) ↦[upSlot (par k.val)]{fullShare} upOf E.WU e)
        ∗ (mB.view.loc (c : Thread nD τ) ↦[bBox (par k.val)]{fullShare} bOf E.WB e)
        ∗ (mWus.view.loc (c : Thread nD τ) ↦[Finset.univ]{fullShare} E.us)) -∗ Q (res6 E e))
        -∗ WP c (P6 S w hw E.x8 E.sx k (word e) hv v548 (shrunk E e)) Q) := by
  unfold P6 onMems
  rw [k0_part6_eq_skeleton]; unfold k0_part6_skel
  iintro ⟨HU, HB, HS⟩ HK
  iapply (ld_up E e (par k.val) 512 (by decide) (off83_eq w k hk)) $$ HU; iintro HU
  iapply (ld_b E e (par k.val) 512 (by decide) (off84_eq w k hk)) $$ HB; iintro HB
  iapply (ld_us E e 512 (by decide) (congrArg (fun x : ℕ => ![x, 512]) (word_toNat e))) $$ HS; iintro HS
  iapply (ld_up E e (par k.val) 2048 (by decide) (off86_eq w k hk)) $$ HU; iintro HU
  iapply (ld_b E e (par k.val) 2048 (by decide) (off87_eq w k hk)) $$ HB; iintro HB
  iapply (ld_us E e 2048 (by decide) (congrArg (fun x : ℕ => ![x, 2048]) (word_toNat e))) $$ HS; iintro HS
  iapply (ld_up E e (par k.val) 1024 (by decide) (off89_eq w k hk)) $$ HU; iintro HU
  iapply (st_end c (res6 E e) rfl)
  iapply HK
  isplitl [HU]; · iexact HU
  isplitl [HB]; · iexact HB
  iexact HS

theorem run7 {hv} {v548 : BitVec 32} {Q} :
    iprop((mUp.view.loc (c : Thread nD τ) ↦[upSlot (par k.val)]{fullShare} upOf E.WU e)
        ∗ (mB.view.loc (c : Thread nD τ) ↦[bBox (par k.val)]{fullShare} bOf E.WB e)
        ∗ (mWus.view.loc (c : Thread nD τ) ↦[Finset.univ]{fullShare} E.us))
      ⊢ iprop((iprop((mUp.view.loc (c : Thread nD τ) ↦[upSlot (par k.val)]{fullShare} upOf E.WU e)
        ∗ (mB.view.loc (c : Thread nD τ) ↦[bBox (par k.val)]{fullShare} bOf E.WB e)
        ∗ (mWus.view.loc (c : Thread nD τ) ↦[Finset.univ]{fullShare} E.us)) -∗ Q (res7 E e))
        -∗ WP c (P7 S w hw E.x8 E.sx k (word e) hv v548 (shrunk E e) (h616 E e) (h653 E e) (h657 E e)) Q) := by
  unfold P7 onMems
  rw [k0_part7_eq_skeleton]; unfold k0_part7_skel
  iintro ⟨HU, HB, HS⟩ HK
  iapply (ld_b E e (par k.val) 1024 (by decide) (off90_eq w k hk)) $$ HB; iintro HB
  iapply (ld_us E e 1024 (by decide) (congrArg (fun x : ℕ => ![x, 1024]) (word_toNat e))) $$ HS; iintro HS
  iapply (ld_up E e (par k.val) 2560 (by decide) (off92_eq w k hk)) $$ HU; iintro HU
  iapply (ld_b E e (par k.val) 2560 (by decide) (off93_eq w k hk)) $$ HB; iintro HB
  iapply (ld_us E e 2560 (by decide) (congrArg (fun x : ℕ => ![x, 2560]) (word_toNat e))) $$ HS; iintro HS
  iapply (st_end c (res7 E e) rfl)
  iapply HK
  isplitl [HU]; · iexact HU
  isplitl [HB]; · iexact HB
  iexact HS

end Cert.Kernel.Hand
-- ==== Proof.TripC.lean ====
/-
  The last pieces of a trip: the down projection is waited for and read in column runs, and each run is added to the
  accumulator; and the whole trip.
-/
module

public import proofs.«01_k».proof.Proof.TripB

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

abbrev res9 (E : Env F) (e : Fin 32) (acc : S16x2816.Idx → Elt F .f32) :
    Σ' (v744 : FVec F S16x1 .f32) (v750 : FVec F S16x1 .f32) (v756 : IVec S16x1 1), FVec F S16x512 .f32 :=
  ⟨hScale E e, wRow E e, hasRow E e, v783 E e acc⟩
abbrev res11 (E : Env F) (e : Fin 32) (acc : S16x2816.Idx → Elt F .f32) :
    Σ' (v860 : Vec F S16x512 .f32) (v862 : FVec F S16x512 .f32) (v864 : IVec S16x512 1), FVec F S16x512 .f32 :=
  ⟨rd (acc4 E e acc) (accR 2048 inb_S16x2816_S16x512_0_2048), v865 E e, k0_pay29 (hasRow E e), k0_pay30⟩

variable (c : Dev nD)

section Acc
variable {α : Type} {Q : α → sProp (MT nD τ sig Unit (Elt F) ℕ (Pipeline.UD sig nD τ) ℕ)}
theorem ld_acc {acc : S16x2816.Idx → Elt F .f32} {r : Rect S16x2816} {hl} {k : _ → Prog (TpuEff nD τ sig (Elt F) Λ₀ .tc) α} :
    (mAcc.view.loc (c : Thread nD τ) ↦[Finset.univ]{fullShare} acc)
      ⊢ iprop(((mAcc.view.loc (c : Thread nD τ) ↦[Finset.univ]{fullShare} acc) -∗ WP c (k (rd acc r)) Q)
        -∗ WP c (Prog.lift (TpuEff.load mAcc r.toLoadRect hl) >>= k) Q) :=
  st_load c (Finset.subset_univ _) rfl
theorem st_acc {acc : S16x2816.Idx → Elt F .f32} {r : Rect S16x2816} {v : r.shape.Idx → Elt F .f32} {hx hm}
    {k : _ → Prog (TpuEff nD τ sig (Elt F) Λ₀ .tc) α} :
    (mAcc.view.loc (c : Thread nD τ) ↦[Finset.univ]{fullShare} acc)
      ⊢ iprop(((mAcc.view.loc (c : Thread nD τ) ↦[Finset.univ]{fullShare} wr acc r v) -∗ WP c (k ⟨⟩) Q)
        -∗ WP c (Prog.lift (TpuEff.store mAcc r v Finset.univ hx hm) >>= k) Q) :=
  st_store c (m := mAcc) (r := r) (w := v) (Mk := Finset.univ) (S := Finset.univ) (f := acc) (g := wr acc r v) (Finset.subset_univ _) rfl
end Acc

theorem run8 (S : Stg) (E : Env F) (e : Fin 32) {Q} :
    Q (res8 E e) ⊢ WP c (P8 S (hid E e) (hidMax E e) cols256 k0_pay13 k0_pay14) Q := by
  unfold P8 onMems
  rw [k0_part8_eq_skeleton]; unfold k0_part8_skel
  exact st_end c (res8 E e) rfl

variable (S : Stg) (E : Env F) (T : Shr) (e : Fin 32) (w : BitVec 32) (hw : k0_chk21 w) (k : Fin (k0_t2_loop w).trips) (hk : k.val < 32)
  (acc : S16x2816.Idx → Elt F .f32)
include hk

theorem run9 {el : S33.Idx → BitVec 32} (hel : el (ix1 ⟨k.val, by omega⟩) = word e) {hv} {arg35 v548 : BitVec 32} {W : Waits sig Unit} {Q} :
    iprop(El c el ∗ flyD c E T (par k.val) e 1
        ∗ (mWds.view.loc (c : Thread nD τ) ↦[Finset.univ]{fullShare} E.ds)
        ∗ (mAcc.view.loc (c : Thread nD τ) ↦[Finset.univ]{fullShare} acc) ∗ owes (c : Thread nD τ) 0 W)
      ⊢ iprop((iprop((El c el ∗ (mDown.view.loc (c : Thread nD τ) ↦[downBox (par k.val)]{fullShare} downOf E.WD e)
        ∗ (mWds.view.loc (c : Thread nD τ) ↦[Finset.univ]{fullShare} E.ds)
        ∗ (mAcc.view.loc (c : Thread nD τ) ↦[Finset.univ]{fullShare} acc))
        ∗ srcD c E T (par k.val) (downSrc e)
        ∗ semVal ((c : Thread nD τ), SemLoc.dma (semDown (par k.val))) 0 ∗ (∃ W', owes (c : Thread nD τ) 0 W')) -∗ Q (res9 E e acc))
        -∗ WP c (P9 S w hw E.ids E.ws k arg35 (word e) hv v548 (h8 E e) (hExp E e)) Q) := by
  unfold P9 onMems
  rw [k0_part9_eq_skeleton]; unfold k0_part9_skel flyD srcD
  iintro ⟨HE, HF, HS, HA, HW⟩ HK
  iapply (ld_el ⟨k.val, by omega⟩ (off95_eq _ k hk) hel) $$ HE; iintro HE
  iapply (st_assume c (chk29_all e))
  iapply (wait_down (par k.val) (off96_eq _ k hk)) $$ [HF HW]
  · isplitl [HF]; · iexact HF
    iexact HW
  iintro ⟨HD, HR⟩
  iapply (ld_down E e (par k.val) 0 (by decide) (off99_eq w k hk)) $$ HD; iintro HD
  iapply (ld_ds E e 0 (by decide) (congrArg (fun x : ℕ => ![x, 0]) (word_toNat e))) $$ HS; iintro HS
  iapply (ld_acc c) $$ HA; iintro HA
  iapply (st_end c (res9 E e acc) rfl)
  iapply HK
  isplitl [HE HD HS HA]
  · isplitl [HE]; · iexact HE
    isplitl [HD]; · iexact HD
    isplitl [HS]; · iexact HS
    iexact HA
  iexact HR

theorem run10 {hv} {v548 : BitVec 32} {Q} :
    iprop((mDown.view.loc (c : Thread nD τ) ↦[downBox (par k.val)]{fullShare} downOf E.WD e)
        ∗ (mWds.view.loc (c : Thread nD τ) ↦[Finset.univ]{fullShare} E.ds)
        ∗ (mAcc.view.loc (c : Thread nD τ) ↦[Finset.univ]{fullShare} acc))
      ⊢ iprop((iprop((mDown.view.loc (c : Thread nD τ) ↦[downBox (par k.val)]{fullShare} downOf E.WD e)
        ∗ (mWds.view.loc (c : Thread nD τ) ↦[Finset.univ]{fullShare} E.ds)
        ∗ (mAcc.view.loc (c : Thread nD τ) ↦[Finset.univ]{fullShare} acc2 E e acc)) -∗ Q (v825 E e acc))
        -∗ WP c (P10 S w hw k (word e) hv v548 (h8 E e) (hScale E e) (wRow E e) (hasRow E e) (v783 E e acc)) Q) := by
  unfold P10 onMems
  rw [k0_part10_eq_skeleton]; unfold k0_part10_skel
  iintro ⟨HD, HS, HA⟩ HK
  iapply (ld_acc c) $$ HA; iintro HA
  iapply (st_acc c) $$ HA; iintro HA
  iapply (ld_down E e (par k.val) 512 (by decide) (off101_eq w k hk)) $$ HD; iintro HD
  iapply (ld_ds E e 512 (by decide) (congrArg (fun x : ℕ => ![x, 512]) (word_toNat e))) $$ HS; iintro HS
  iapply (ld_acc c) $$ HA; iintro HA
  iapply (ld_acc c) $$ HA; iintro HA
  iapply (st_acc c) $$ HA; iintro HA
  iapply (ld_down E e (par k.val) 1024 (by decide) (off103_eq w k hk)) $$ HD; iintro HD
  iapply (ld_ds E e 1024 (by decide) (congrArg (fun x : ℕ => ![x, 1024]) (word_toNat e))) $$ HS; iintro HS
  iapply (ld_acc c) $$ HA; iintro HA
  iapply (st_end c (v825 E e acc) rfl)
  iapply HK
  isplitl [HD]; · iexact HD
  isplitl [HS]; · iexact HS
  iexact HA

theorem run11 {hv} {v548 : BitVec 32} {Q} :
    iprop((mDown.view.loc (c : Thread nD τ) ↦[downBox (par k.val)]{fullShare} downOf E.WD e)
        ∗ (mWds.view.loc (c : Thread nD τ) ↦[Finset.univ]{fullShare} E.ds)
        ∗ (mAcc.view.loc (c : Thread nD τ) ↦[Finset.univ]{fullShare} acc2 E e acc))
      ⊢ iprop((iprop((mDown.view.loc (c : Thread nD τ) ↦[downBox (par k.val)]{fullShare} downOf E.WD e)
        ∗ (mWds.view.loc (c : Thread nD τ) ↦[Finset.univ]{fullShare} E.ds)
        ∗ (mAcc.view.loc (c : Thread nD τ) ↦[Finset.univ]{fullShare} acc4 E e acc)) -∗ Q (res11 E e acc))
        -∗ WP c (P11 S w hw k (word e) hv v548 (h8 E e) (hScale E e) (wRow E e) (hasRow E e) (v825 E e acc)) Q) := by
  unfold P11 onMems
  rw [k0_part11_eq_skeleton]; unfold k0_part11_skel
  iintro ⟨HD, HS, HA⟩ HK
  iapply (ld_acc c) $$ HA; iintro HA
  iapply (st_acc c) $$ HA; iintro HA
  iapply (ld_down E e (par k.val) 1536 (by decide) (off105_eq w k hk)) $$ HD; iintro HD
  iapply (ld_ds E e 1536 (by decide) (congrArg (fun x : ℕ => ![x, 1536]) (word_toNat e))) $$ HS; iintro HS
  iapply (ld_acc c) $$ HA; iintro HA
  iapply (ld_acc c) $$ HA; iintro HA
  iapply (st_acc c) $$ HA; iintro HA
  iapply (ld_down E e (par k.val) 2048 (by decide) (off107_eq w k hk)) $$ HD; iintro HD
  iapply (ld_ds E e 2048 (by decide) (congrArg (fun x : ℕ => ![x, 2048]) (word_toNat e))) $$ HS; iintro HS
  iapply (ld_acc c) $$ HA; iintro HA
  iapply (st_end c (res11 E e acc) rfl)
  iapply HK
  isplitl [HD]; · iexact HD
  isplitl [HS]; · iexact HS
  iexact HA

end Cert.Kernel.Hand
-- ==== Proof.TripD.lean ====
/-
  One whole trip of the expert loop.
-/
module

public import proofs.«01_k».proof.Proof.TripC

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (S : Stg) (E : Env F) (T : Shr)
  (n : Fin 33) (hw : k0_chk21 (BitVec.ofNat 32 n)) (k : Fin (k0_t2_loop (BitVec.ofNat 32 n)).trips)
  {el : S33.Idx → BitVec 32} {ex : ℕ → Fin 32} (hel : ∀ i : Fin 33, i.val < n.val → el (ix1 i) = word (ex i.val))
  (acc : S16x2816.Idx → Elt F .f32)

/-- A slot's pieces, each back whole, are the slot idle. -/
theorem idle_of (s : Fin 2) (e : Fin 32) :
    iprop((mUp.view.loc (c : Thread nD τ) ↦[upSlot s]{fullShare} upOf E.WU e)
        ∗ (mDown.view.loc (c : Thread nD τ) ↦[downBox s]{fullShare} downOf E.WD e)
        ∗ (mA.view.loc (c : Thread nD τ) ↦[aBox s]{fullShare} aOf E.WA e)
        ∗ (mB.view.loc (c : Thread nD τ) ↦[bBox s]{fullShare} bOf E.WB e)
        ∗ srcU c E T s 0 (upSrc e 0) ∗ srcU c E T s 1 (upSrc e 1408) ∗ srcD c E T s (downSrc e) ∗ srcA c E T s (aSrc e) ∗ srcB c E T s (bSrc e)
        ∗ srcU c E T s 0 (Finset.univ \ upSrc e 0) ∗ srcU c E T s 1 (Finset.univ \ upSrc e 1408) ∗ srcD c E T s (Finset.univ \ downSrc e)
        ∗ srcA c E T s (Finset.univ \ aSrc e) ∗ srcB c E T s (Finset.univ \ bSrc e)
        ∗ semVal ((c : Thread nD τ), SemLoc.dma (semUp s)) 0 ∗ semVal ((c : Thread nD τ), SemLoc.dma (semDown s)) 0
        ∗ semVal ((c : Thread nD τ), SemLoc.dma (semAB s)) 0)
      ⊢ Idle c E T s := by
  have hU : ∀ (j : Fin 2) I, iprop(srcU c E T s j I ∗ srcU c E T s j (Finset.univ \ I)) ⊢ srcU c E T s j Finset.univ :=
    fun j I => (lend (ℓ := mUpH.view.loc (c : Thread nD τ)) (I := I)).2
  have hD : ∀ I, iprop(srcD c E T s I ∗ srcD c E T s (Finset.univ \ I)) ⊢ srcD c E T s Finset.univ :=
    fun I => (lend (ℓ := mDownH.view.loc (c : Thread nD τ)) (I := I)).2
  have hA : ∀ I, iprop(srcA c E T s I ∗ srcA c E T s (Finset.univ \ I)) ⊢ srcA c E T s Finset.univ :=
    fun I => (lend (ℓ := mAH.view.loc (c : Thread nD τ)) (I := I)).2
  have hB : ∀ I, iprop(srcB c E T s I ∗ srcB c E T s (Finset.univ \ I)) ⊢ srcB c E T s Finset.univ :=
    fun I => (lend (ℓ := mBH.view.loc (c : Thread nD τ)) (I := I)).2
  have hup : (mUp.view.loc (c : Thread nD τ) ↦[upSlot s]{fullShare} upOf E.WU e : sProp 𝕄) ⊢ iprop(freeU (F := F) c s 0 ∗ freeU (F := F) c s 1) := by
    rw [up_join]
    have h0 : (mUp.view.loc (c : Thread nD τ) ↦[upBox s 0]{fullShare} upOf E.WU e : sProp 𝕄) ⊢ freeU (F := F) c s 0 := exists_intro (upOf E.WU e)
    have h1 : (mUp.view.loc (c : Thread nD τ) ↦[upBox s 1408]{fullShare} upOf E.WU e : sProp 𝕄) ⊢ freeU (F := F) c s 1 := exists_intro (upOf E.WU e)
    refine (pointsTo_union (up_disj s)).1.trans ?_
    iintro ⟨H, H'⟩
    isplitl [H]
    · iapply h0; iexact H
    · iapply h1; iexact H'
  have hdn : (mDown.view.loc (c : Thread nD τ) ↦[downBox s]{fullShare} downOf E.WD e : sProp 𝕄) ⊢ freeD (F := F) c s := exists_intro (downOf E.WD e)
  have ha : (mA.view.loc (c : Thread nD τ) ↦[aBox s]{fullShare} aOf E.WA e : sProp 𝕄) ⊢ freeA (F := F) c s := exists_intro (aOf E.WA e)
  have hb : (mB.view.loc (c : Thread nD τ) ↦[bBox s]{fullShare} bOf E.WB e : sProp 𝕄) ⊢ freeB (F := F) c s := exists_intro (bOf E.WB e)
  unfold Idle
  iintro ⟨H1, H2, H3, H4, HU0, HU1, HD, HA, HB, KU0, KU1, KD, KA, KB, S1, S2, S3⟩
  ihave H1 := hup $$ H1
  icases H1 with ⟨H1, H1'⟩
  isplitl [HU0 KU0 HU1 KU1 H1 H1' S1]
  · isplitl [HU0 KU0]
    · iapply (hU 0 _)
      isplitl [HU0]; · iexact HU0
      iexact KU0
    isplitl [HU1 KU1]
    · iapply (hU 1 _)
      isplitl [HU1]; · iexact HU1
      iexact KU1
    isplitl [H1]; · iexact H1
    isplitl [H1']; · iexact H1'
    iexact S1
  isplitl [HD KD H2 S2]
  · isplitl [HD KD]
    · iapply (hD _)
      isplitl [HD]; · iexact HD
      iexact KD
    isplitl [H2]
    · iapply hdn; iexact H2
    iexact S2
  isplitl [HA KA]
  · iapply (hA _)
    isplitl [HA]; · iexact HA
    iexact KA
  isplitl [HB KB]
  · iapply (hB _)
    isplitl [HB]; · iexact HB
    iexact KB
  isplitl [H3]
  · iapply ha; iexact H3
  isplitl [H4]
  · iapply hb; iexact H4
  iexact S3

include hel in
theorem run_trip {v506 v507 c16 v509 v516 v518 c0} (hm : k0_pay1 v506 v507 c16 v509 v516 v518 c0 = E.mine) {W : Waits sig Unit} {Q} :
    iprop(El c el ∗ Busy c E T (par k.val) (ex k.val) ∗ Idle c E T (par (k.val + 1))
        ∗ (mWus.view.loc (c : Thread nD τ) ↦[Finset.univ]{fullShare} E.us) ∗ (mWds.view.loc (c : Thread nD τ) ↦[Finset.univ]{fullShare} E.ds)
        ∗ (mAcc.view.loc (c : Thread nD τ) ↦[Finset.univ]{fullShare} acc) ∗ owes (c : Thread nD τ) 0 W)
      ⊢ iprop((iprop(El c el ∗ Next c E T n.val k.val ex ∗ Idle c E T (par k.val)
          ∗ (mWus.view.loc (c : Thread nD τ) ↦[Finset.univ]{fullShare} E.us) ∗ (mWds.view.loc (c : Thread nD τ) ↦[Finset.univ]{fullShare} E.ds)
          ∗ (mAcc.view.loc (c : Thread nD τ) ↦[Finset.univ]{fullShare} acc6 E (ex k.val) acc) ∗ (∃ W', owes (c : Thread nD τ) 0 W')) -∗ Q ⟨⟩)
        -∗ WP c (PTrip S (BitVec.ofNat 32 n) hw E.x E.x8 E.sx E.ids E.ws v506 v507 c16 v509 v516 v518 c0 k ⟨⟩) Q) := by
  have hkn : k.val < n.val := lt_of_lt_of_eq k.isLt (trips_all n).1
  have hk : k.val < 32 := by have := n.isLt; omega
  have hek := hel ⟨k.val, by omega⟩ hkn
  unfold PTrip onMems k0_t2_body
  rw [hm]
  unfold Busy
  iintro ⟨HE, ⟨⟨KU0, KU1, FU⟩, ⟨KD, FD⟩, KA, KB, FAB⟩, HI, HUs, HDs, HAcc, HW⟩ HK
  iapply (st_bind c)
  iapply (run4 c S E T n hw k hel) $$ [HE HI FAB HW]
  · isplitl [HE]; · iexact HE
    isplitl [HI]; · iexact HI
    isplitl [FAB]; · iexact FAB
    iexact HW
  iintro ⟨HE, HN, HA, HsA, HB, HsB, SAB, ⟨%W1, HW⟩⟩
  iapply (st_bind c)
  iapply (run5 c S E T (ex k.val) _ hw k hk) $$ [FU HB HUs HW]
  · isplitl [FU]; · iexact FU
    isplitl [HB]; · iexact HB
    isplitl [HUs]; · iexact HUs
    iexact HW
  iintro ⟨HU, HB, HUs, HsU0, HsU1, SU, ⟨%W2, HW⟩⟩
  iapply (st_bind c)
  iapply (run6 c S E (ex k.val) _ hw k hk) $$ [HU HB HUs]
  · isplitl [HU]; · iexact HU
    isplitl [HB]; · iexact HB
    iexact HUs
  iintro HR
  iapply (st_bind c)
  iapply (run7 c S E (ex k.val) _ hw k hk) $$ HR; iintro ⟨HU, HB, HUs⟩
  iapply (st_bind c)
  iapply (run8 c S E (ex k.val))
  iapply (st_bind c)
  iapply (run9 c S E T (ex k.val) _ hw k hk acc hek) $$ [HE FD HDs HAcc HW]
  · isplitl [HE]; · iexact HE
    isplitl [FD]; · iexact FD
    isplitl [HDs]; · iexact HDs
    isplitl [HAcc]; · iexact HAcc
    iexact HW
  iintro ⟨⟨HE, HR⟩, HsD, SD, HW⟩
  iapply (st_bind c)
  iapply (run10 c S E (ex k.val) _ hw k hk acc) $$ HR; iintro HR
  iapply (st_bind c)
  iapply (run11 c S E (ex k.val) _ hw k hk acc) $$ HR; iintro ⟨HD, HS, HA'⟩
  iapply (ld_acc c) $$ HA'; iintro HA'
  iapply (st_acc c) $$ HA'; iintro HA'
  iapply (ld_downLast E (ex k.val) (par k.val) (off109_eq _ k hk)) $$ HD; iintro HD
  iapply (ld_dsLast E (ex k.val) (congrArg (fun x : ℕ => ![x, 2560]) (word_toNat _))) $$ HS; iintro HS
  iapply (ld_acc c) $$ HA'; iintro HA'
  iapply (ld_acc c) $$ HA'; iintro HA'
  iapply (st_acc c) $$ HA'; iintro HA'
  iapply (st_pure c)
  iapply HK
  isplitl [HE]; · iexact HE
  isplitl [HN]; · iexact HN
  isplitl [HU HD HA HB HsU0 HsU1 HsD HsA HsB KU0 KU1 KD KA KB SU SD SAB]
  · iapply (idle_of c E T (par k.val) (ex k.val))
    isplitl [HU]; · iexact HU
    isplitl [HD]; · iexact HD
    isplitl [HA]; · iexact HA
    isplitl [HB]; · iexact HB
    isplitl [HsU0]; · iexact HsU0
    isplitl [HsU1]; · iexact HsU1
    isplitl [HsD]; · iexact HsD
    isplitl [HsA]; · iexact HsA
    isplitl [HsB]; · iexact HsB
    isplitl [KU0]; · iexact KU0
    isplitl [KU1]; · iexact KU1
    isplitl [KD]; · iexact KD
    isplitl [KA]; · iexact KA
    isplitl [KB]; · iexact KB
    isplitl [SU]; · iexact SU
    isplitl [SD]; · iexact SD
    iexact SAB
  isplitl [HUs]; · iexact HUs
  isplitl [HS]; · iexact HS
  isplitl [HA']; · iexact HA'
  iexact HW

end Cert.Kernel.Hand
-- ==== Proof.Experts.lean ====
/-
  The expert loop: every entry of the expert list in turn, each adding its rows to the accumulator.
-/
module

public import proofs.«01_k».proof.Proof.TripD

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The accumulator after the first `k` entries of the list. -/
noncomputable def accs (E : Env F) (ex : ℕ → Fin 32) (acc : S16x2816.Idx → Elt F .f32) : ℕ → S16x2816.Idx → Elt F .f32
  | 0 => acc
  | k + 1 => acc6 E (ex k) (accs E ex acc k)

variable (c : Dev nD) (S : Stg) (E : Env F) (T : Shr)

/-- The slot entry `k` of the list uses: filling when there is such an entry, idle otherwise. -/
noncomputable abbrev Turn (n k : ℕ) (ex : ℕ → Fin 32) : sProp 𝕄 :=
  if k < n then Busy c E T (par k) (ex k) else Idle c E T (par k)

theorem par_two (k : ℕ) : par (k + 1 + 1) = par k := Fin.ext (by simp only [par]; omega)

/-- What holds before entry `k`. -/
noncomputable def inv (n : ℕ) (el : S33.Idx → BitVec 32) (ex : ℕ → Fin 32) (acc : S16x2816.Idx → Elt F .f32) (k : ℕ) : sProp 𝕄 :=
  iprop(El c el ∗ Turn c E T n k ex ∗ Idle c E T (par (k + 1))
    ∗ (mWus.view.loc (c : Thread nD τ) ↦[Finset.univ]{fullShare} E.us) ∗ (mWds.view.loc (c : Thread nD τ) ↦[Finset.univ]{fullShare} E.ds)
    ∗ (mAcc.view.loc (c : Thread nD τ) ↦[Finset.univ]{fullShare} accs E ex acc k) ∗ (∃ W, owes (c : Thread nD τ) 0 W))

theorem run_experts (n : Fin 33) (hw : k0_chk21 (BitVec.ofNat 32 n))
    {el : S33.Idx → BitVec 32} {ex : ℕ → Fin 32} (hel : ∀ i : Fin 33, i.val < n.val → el (ix1 i) = word (ex i.val))
    (acc : S16x2816.Idx → Elt F .f32)
    {v506 v507 c16 v509 v516 v518 c0} (hm : k0_pay1 v506 v507 c16 v509 v516 v518 c0 = E.mine) {γ : Type}
    {kk : PUnit.{1} → Prog (TpuEff nD τ sig (Elt F) Λ₀ .tc) γ} {Q} :
    inv c E T n.val el ex acc 0
      ⊢ iprop((inv c E T n.val el ex acc n.val -∗ WP c (kk ⟨⟩) Q)
        -∗ WP c (Scf.Loop.for (k0_t2_loop (BitVec.ofNat 32 n)) (k0_t2_ok (BitVec.ofNat 32 n) hw) ⟨⟩
            (PTrip S (BitVec.ofNat 32 n) hw E.x E.x8 E.sx E.ids E.ws v506 v507 c16 v509 v516 v518 c0) >>= kk) Q) := by
  have htr := (trips_all n).1
  iintro HI HK
  iapply (Scf.wp_for_bind _ _ _ (k0_t2_loop (BitVec.ofNat 32 n)).lb (k0_t2_loop (BitVec.ofNat 32 n)).ub (k0_t2_loop (BitVec.ofNat 32 n)).st
    (k0_t2_ok (BitVec.ofNat 32 n) hw) PUnit.unit _ (fun k (_ : PUnit.{1}) => inv c E T n.val el ex acc k) ?_) $$ HI
  · intro k _
    have hkn : k.val < n.val := lt_of_lt_of_eq k.isLt htr
    unfold inv Turn
    rw [if_pos hkn, par_two]
    iintro ⟨HE, HB, HI, HU, HD, HA, ⟨%W, HW⟩⟩
    iapply (run_trip c S E T n hw k hel (accs E ex acc k.val) hm) $$ [HE HB HI HU HD HA HW]
    · isplitl [HE]; · iexact HE
      isplitl [HB]; · iexact HB
      isplitl [HI]; · iexact HI
      isplitl [HU]; · iexact HU
      isplitl [HD]; · iexact HD
      isplitl [HA]; · iexact HA
      iexact HW
    iintro ⟨HE, HN, HI, HU, HD, HA, HW⟩
    isplitl [HE]; · iexact HE
    isplitl [HN]
    · iapply (show Next c E T n.val k.val ex ⊢ Turn c E T n.val (k.val + 1) ex from by unfold Next Turn; exact .rfl); iexact HN
    isplitl [HI]; · iexact HI
    isplitl [HU]; · iexact HU
    isplitl [HD]; · iexact HD
    isplitl [HA]; · iexact HA
    iexact HW
  · iintro %a HI
    rw [show Scf.trips (k0_t2_loop (BitVec.ofNat 32 n)).lb (k0_t2_loop (BitVec.ofNat 32 n)).ub (k0_t2_loop (BitVec.ofNat 32 n)).st = n.val from htr]
    iapply HK; iexact HI

end Cert.Kernel.Hand
-- ==== Proof.ScanA.lean ====
/-
  The list of experts the kernel builds: the distinct experts of the routing, in the order in which they first
  come up, token by token. Here the list is a function of the routing, and the two scalar tables that hold it
  (the list itself, and for each expert the word that is not zero once the expert is on it) are described by it.
-/
module

public import proofs.«01_k».proof.Proof.Experts

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The list -/

/-- An expert comes up: it goes to the end of the list unless it is on it. -/
def put (l : List (Fin 32)) (e : Fin 32) : List (Fin 32) := if e ∈ l then l else l ++ [e]

/-- A token's eight experts come up. -/
def row (id : ℕ → Fin 8 → Fin 32) (t : ℕ) (l : List (Fin 32)) : List (Fin 32) :=
  put (put (put (put (put (put (put (put l (id t 0)) (id t 1)) (id t 2)) (id t 3)) (id t 4)) (id t 5)) (id t 6)) (id t 7)

/-- The list after the first `t` tokens. -/
def acts (id : ℕ → Fin 8 → Fin 32) : ℕ → List (Fin 32)
  | 0 => []
  | t + 1 => row id t (acts id t)

theorem put_nodup {l : List (Fin 32)} (h : l.Nodup) (e : Fin 32) : (put l e).Nodup := by
  unfold put; split
  · exact h
  · rename_i he
    exact List.nodup_append.mpr ⟨h, List.nodup_singleton e, fun a ha b hb => by
      rw [List.mem_singleton] at hb; subst hb; exact fun hab => he (hab ▸ ha)⟩

theorem mem_put {l : List (Fin 32)} {e a : Fin 32} : a ∈ put l e ↔ a ∈ l ∨ a = e := by
  unfold put; split
  · rename_i he; constructor
    · exact Or.inl
    · rintro (h | rfl)
      · exact h
      · exact he
  · simp

theorem len_le {l : List (Fin 32)} (h : l.Nodup) : l.length ≤ 32 := by
  simpa using h.length_le_card

theorem head_put (a : Fin 32) (l : List (Fin 32)) (e : Fin 32) : ∃ l', put (a :: l) e = a :: l' := by
  unfold put; split
  · exact ⟨l, rfl⟩
  · exact ⟨l ++ [e], rfl⟩

theorem head_row (id : ℕ → Fin 8 → Fin 32) (t : ℕ) (a : Fin 32) (l : List (Fin 32)) : ∃ l', row id t (a :: l) = a :: l' := by
  unfold row
  obtain ⟨l1, h1⟩ := head_put a l (id t 0); rw [h1]
  obtain ⟨l2, h2⟩ := head_put a l1 (id t 1); rw [h2]
  obtain ⟨l3, h3⟩ := head_put a l2 (id t 2); rw [h3]
  obtain ⟨l4, h4⟩ := head_put a l3 (id t 3); rw [h4]
  obtain ⟨l5, h5⟩ := head_put a l4 (id t 4); rw [h5]
  obtain ⟨l6, h6⟩ := head_put a l5 (id t 5); rw [h6]
  obtain ⟨l7, h7⟩ := head_put a l6 (id t 6); rw [h7]
  exact head_put a l7 (id t 7)

/-- The list begins with the first expert of the first token. -/
theorem head_acts (id : ℕ → Fin 8 → Fin 32) (t : ℕ) : ∃ l', acts id (t + 1) = id 0 0 :: l' := by
  induction t with
  | zero =>
    show ∃ l', row id 0 [] = _
    unfold row
    have h0 : put [] (id 0 0) = [id 0 0] := by simp [put]
    rw [h0]
    obtain ⟨l2, h2⟩ := head_put (id 0 0) [] (id 0 1); rw [h2]
    obtain ⟨l3, h3⟩ := head_put (id 0 0) l2 (id 0 2); rw [h3]
    obtain ⟨l4, h4⟩ := head_put (id 0 0) l3 (id 0 3); rw [h4]
    obtain ⟨l5, h5⟩ := head_put (id 0 0) l4 (id 0 4); rw [h5]
    obtain ⟨l6, h6⟩ := head_put (id 0 0) l5 (id 0 5); rw [h6]
    obtain ⟨l7, h7⟩ := head_put (id 0 0) l6 (id 0 6); rw [h7]
    exact head_put (id 0 0) l7 (id 0 7)
  | succ t ih =>
    obtain ⟨l', h⟩ := ih
    show ∃ l', row id (t + 1) (acts id (t + 1)) = _
    rw [h]
    exact head_row id (t + 1) _ l'

theorem row_nodup {l : List (Fin 32)} (h : l.Nodup) (id : ℕ → Fin 8 → Fin 32) (t : ℕ) : (row id t l).Nodup :=
  put_nodup (put_nodup (put_nodup (put_nodup (put_nodup (put_nodup (put_nodup (put_nodup h _) _) _) _) _) _) _) _

theorem acts_nodup (id : ℕ → Fin 8 → Fin 32) : ∀ t, (acts id t).Nodup
  | 0 => List.nodup_nil
  | t + 1 => row_nodup (acts_nodup id t) id t

/-! ## The two tables -/

/-- The tables hold the list `l`. -/
structure Good (l : List (Fin 32)) (el : S33.Idx → BitVec 32) (am : S32.Idx → BitVec 32) : Prop where
  nodup : l.Nodup
  list : ∀ (i : ℕ) (h : i < l.length) (h' : i < 33), el (ix1 ⟨i, h'⟩) = word (l[i])
  mask : ∀ e : Fin 32, am (ix1 e) ≠ 0#32 ↔ e ∈ l

theorem Good.fill {l el am} (h : Good l el am) (e : Fin 32) (hl : l.length < 33) {x : BitVec 32} (hx : x ≠ 0#32) :
    Good (put l e) (Function.update el (ix1 ⟨l.length, hl⟩) (word e)) (Function.update am (ix1 e) x) where
  nodup := put_nodup h.nodup e
  list i hi h' := by
    by_cases hin : i < l.length
    · have hne : (ix1 ⟨i, h'⟩ : S33.Idx) ≠ ix1 ⟨l.length, hl⟩ := fun heq => by
        have := congrArg (fun j : S33.Idx => (j 0).val) heq
        have h2 : i = l.length := this
        omega
      rw [Function.update_of_ne hne, h.list i hin h']
      congr 1
      unfold put; split
      · rfl
      · rw [List.getElem_append_left hin]
    · have hput : put l e = l ++ [e] := by
        unfold put at hi ⊢; split at hi
        · omega
        · rename_i he; rw [if_neg he]
      have hi' : i = l.length := by
        rw [hput] at hi; simp at hi; omega
      subst hi'
      rw [Function.update_self]
      congr 1
      simp [hput]
  mask a := by
    rw [mem_put]
    by_cases ha : a = e
    · subst ha; rw [Function.update_self]; simp [hx]
    · have hne : (ix1 a : S32.Idx) ≠ ix1 e := fun heq => ha (by
        have h2 : (ix1 a : S32.Idx) 0 = (ix1 e : S32.Idx) 0 := congrFun heq 0
        exact h2)
      rw [Function.update_of_ne hne, h.mask a]; simp [ha]

/-- The length, as the kernel counts it. -/
theorem len_step {l : List (Fin 32)} (hn : l.Nodup) (e : Fin 32) {w v : BitVec 32} (hw : w = BitVec.ofNat 32 l.length)
    (hv : v ≠ 0#32 ↔ e ∈ l) :
    Scalar.addi w (Scalar.extui (Scalar.cmpi .eq v 0#32)) = BitVec.ofNat 32 (put l e).length := by
  subst hw
  have hle := len_le hn
  unfold put
  by_cases he : e ∈ l
  · have h0 : v ≠ 0#32 := hv.mpr he
    rw [if_pos he]
    have hc : Scalar.cmpi (w := 32) .eq v 0#32 = 0#1 := by
      simp only [Scalar.cmpi, IntOp.cmpi]; rw [beq_eq_false_iff_ne.mpr h0]; rfl
    rw [hc]
    show BitVec.ofNat 32 l.length + 0#32 = _
    simp
  · have h0 : v = 0#32 := by by_contra h; exact he (hv.mp h)
    rw [if_neg he]; subst h0
    show BitVec.ofNat 32 l.length + 1#32 = _
    rw [List.length_append, List.length_singleton]
    exact (BitVec.ofNat_add ..).symm

/-! ## Words of the tables -/

theorem write_el (el : S33.Idx → BitVec 32) (i : Fin 33) {off} (ho : off = ![i.val]) {inb} (x : BitVec 32) :
    (mEl.access (Rect.unit (s := S33) off S1.size inb)).write (Elt F) el (fun _ => x) Finset.univ = Function.update el (ix1 i) x := by
  subst ho
  have hemb : ∀ y, (mEl.access (Rect.unit (s := S33) ![i.val] S1.size inb)).emb y = ix1 i := fun y => by
    funext a
    apply Fin.ext
    fin_cases a
    have h0 : (y 0).val < 1 := (y 0).isLt
    show i.val + 1 * (y 0).val = i.val
    omega
  funext j
  by_cases h : j = ix1 i
  · subst h
    rw [Function.update_self, ← hemb (ix1 0)]
    exact View.write_emb_of_mem _ _ (Finset.mem_univ _)
  · rw [Function.update_of_ne h]
    exact View.write_of_not_mem _ _ _ (fun hm => by
      obtain ⟨y, -, hy⟩ := Finset.mem_map.mp hm
      exact h (hy.symm.trans (hemb y)))

theorem write_am (am : S32.Idx → BitVec 32) (i : Fin 32) {off} (ho : off = ![i.val]) {inb} (x : BitVec 32) :
    (mAm.access (Rect.unit (s := S32) off S1.size inb)).write (Elt F) am (fun _ => x) Finset.univ = Function.update am (ix1 i) x := by
  subst ho
  have hemb : ∀ y, (mAm.access (Rect.unit (s := S32) ![i.val] S1.size inb)).emb y = ix1 i := fun y => by
    funext a
    apply Fin.ext
    fin_cases a
    have h0 : (y 0).val < 1 := (y 0).isLt
    show i.val + 1 * (y 0).val = i.val
    omega
  funext j
  by_cases h : j = ix1 i
  · subst h
    rw [Function.update_self, ← hemb (ix1 0)]
    exact View.write_emb_of_mem _ _ (Finset.mem_univ _)
  · rw [Function.update_of_ne h]
    exact View.write_of_not_mem _ _ _ (fun hm => by
      obtain ⟨y, -, hy⟩ := Finset.mem_map.mp hm
      exact h (hy.symm.trans (hemb y)))

theorem read_am (am : S32.Idx → BitVec 32) {off} (i : Fin 32) (ho : off = ![i.val]) {inb} (x) :
    mAm.view.readAt (Elt F) (Rect.unit (s := S32) off S1.size inb).toLoadRect am x = am (ix1 i) := by
  subst ho
  have h0 : (x 0).val < 1 := (x 0).isLt
  refine congrArg am ?_
  funext a
  apply Fin.ext
  fin_cases a
  show i.val + 1 * (x 0).val = i.val
  omega

theorem read_aid (am : S16.Idx → BitVec 32) {off} (i : Fin 16) (ho : off = ![i.val]) {inb} (x) :
    mAid.view.readAt (Elt F) (Rect.unit (s := S16) off S1.size inb).toLoadRect am x = am (ix1 i) := by
  subst ho
  have h0 : (x 0).val < 1 := (x 0).isLt
  refine congrArg am ?_
  funext a
  apply Fin.ext
  fin_cases a
  show i.val + 1 * (x 0).val = i.val
  omega

theorem read_ids (ids : S8x16.Idx → BitVec 32) {off} (j : Fin 8) (t : Fin 16) (ho : off = ![j.val, t.val]) {inb} (x) :
    mIds.view.readAt (Elt F) (Rect.unit (s := S8x16) off S1x1.size inb).toLoadRect ids x = ids (ix2 j t) := by
  subst ho
  have h0 : (x 0).val < 1 := (x 0).isLt
  have h1 : (x 1).val < 1 := (x 1).isLt
  refine congrArg ids ?_
  funext a
  apply Fin.ext
  fin_cases a
  · show j.val + 1 * (x 0).val = j.val
    omega
  · show t.val + 1 * (x 1).val = t.val
    omega

variable (c : Dev nD) {α : Type} {Q : α → sProp (MT nD τ sig Unit (Elt F) ℕ (Pipeline.UD sig nD τ) ℕ)}

/-- The tables, holding `l`. -/
noncomputable def Scan (l : List (Fin 32)) : sProp 𝕄 :=
  iprop(∃ el am, ⌜Good l el am⌝ ∗ (mEl.view.loc (c : Thread nD τ) ↦[Finset.univ]{fullShare} el)
    ∗ (mAm.view.loc (c : Thread nD τ) ↦[Finset.univ]{fullShare} am))

theorem ld_ids {ids : S8x16.Idx → BitVec 32} (j : Fin 8) (t : Fin 16) {off} (ho : off = ![j.val, t.val]) {v : BitVec 32} (hv : ids (ix2 j t) = v)
    {inb h1 hp} {k : _ → Prog (TpuEff nD τ sig (Elt F) Λ₀ .tc) α} :
    (mIds.view.loc (c : Thread nD τ) ↦[Finset.univ]{fullShare} ids)
      ⊢ iprop(((mIds.view.loc (c : Thread nD τ) ↦[Finset.univ]{fullShare} ids) -∗ WP c (k v) Q)
        -∗ WP c (smemLoad (p := .tc) mIds (Rect.unit (s := S8x16) off S1x1.size inb) h1 hp >>= k) Q) :=
  st_word c (Finset.subset_univ _) fun x => (read_ids ids j t ho x).trans hv

theorem ld_aid {aid : S16.Idx → BitVec 32} (t : Fin 16) {off} (ho : off = ![t.val])
    {inb h1 hp} {k : _ → Prog (TpuEff nD τ sig (Elt F) Λ₀ .tc) α} :
    (mAid.view.loc (c : Thread nD τ) ↦[Finset.univ]{fullShare} aid)
      ⊢ iprop(((mAid.view.loc (c : Thread nD τ) ↦[Finset.univ]{fullShare} aid) -∗ WP c (k (aid (ix1 t))) Q)
        -∗ WP c (smemLoad (p := .tc) mAid (Rect.unit (s := S16) off S1.size inb) h1 hp >>= k) Q) :=
  st_word c (Finset.subset_univ _) fun x => read_aid aid t ho x

theorem ld_am {am : S32.Idx → BitVec 32} (e : Fin 32) {off} (ho : off = ![e.val])
    {inb h1 hp} {k : _ → Prog (TpuEff nD τ sig (Elt F) Λ₀ .tc) α} :
    (mAm.view.loc (c : Thread nD τ) ↦[Finset.univ]{fullShare} am)
      ⊢ iprop(((mAm.view.loc (c : Thread nD τ) ↦[Finset.univ]{fullShare} am) -∗ WP c (k (am (ix1 e))) Q)
        -∗ WP c (smemLoad (p := .tc) mAm (Rect.unit (s := S32) off S1.size inb) h1 hp >>= k) Q) :=
  st_word c (Finset.subset_univ _) fun x => read_am am e ho x

theorem sto_am {am : S32.Idx → BitVec 32} (e : Fin 32) {off} (ho : off = ![e.val]) {x : BitVec 32}
    {inb hx hm} {k : _ → Prog (TpuEff nD τ sig (Elt F) Λ₀ .tc) α} :
    (mAm.view.loc (c : Thread nD τ) ↦[Finset.univ]{fullShare} am)
      ⊢ iprop(((mAm.view.loc (c : Thread nD τ) ↦[Finset.univ]{fullShare} Function.update am (ix1 e) x) -∗ WP c (k ⟨⟩) Q)
        -∗ WP c (Prog.lift (TpuEff.store mAm (Rect.unit (s := S32) off S1.size inb) (fun _ => x) Finset.univ hx hm) >>= k) Q) :=
  st_store c (m := mAm) (r := Rect.unit (s := S32) off S1.size inb) (w := fun _ => x) (Mk := Finset.univ) (S := Finset.univ) (f := am)
    (g := Function.update am (ix1 e) x) (Finset.subset_univ _) (write_am am e ho x)

theorem sto_el {el : S33.Idx → BitVec 32} (i : Fin 33) {off} (ho : off = ![i.val]) {x : BitVec 32}
    {inb hx hm} {k : _ → Prog (TpuEff nD τ sig (Elt F) Λ₀ .tc) α} :
    (mEl.view.loc (c : Thread nD τ) ↦[Finset.univ]{fullShare} el)
      ⊢ iprop(((mEl.view.loc (c : Thread nD τ) ↦[Finset.univ]{fullShare} Function.update el (ix1 i) x) -∗ WP c (k ⟨⟩) Q)
        -∗ WP c (Prog.lift (TpuEff.store mEl (Rect.unit (s := S33) off S1.size inb) (fun _ => x) Finset.univ hx hm) >>= k) Q) :=
  st_store c (m := mEl) (r := Rect.unit (s := S33) off S1.size inb) (w := fun _ => x) (Mk := Finset.univ) (S := Finset.univ) (f := el)
    (g := Function.update el (ix1 i) x) (Finset.subset_univ _) (write_el el i ho x)

/-- An expert's word, looked up: not zero exactly when the expert is on the list. -/
theorem seen {l : List (Fin 32)} (e : Fin 32) {off} (ho : off = ![e.val]) {inb h1 hp} {k : _ → Prog (TpuEff nD τ sig (Elt F) Λ₀ .tc) α} :
    Scan c l ⊢ iprop((∀ v : BitVec 32, ⌜v ≠ 0#32 ↔ e ∈ l⌝ -∗ Scan c l -∗ WP c (k v) Q)
        -∗ WP c (smemLoad (p := .tc) mAm (Rect.unit (s := S32) off S1.size inb) h1 hp >>= k) Q) := by
  unfold Scan
  iintro ⟨%el, %am, %hg, HE, HA⟩ HK
  iapply (ld_am c e ho) $$ HA; iintro HA
  iapply HK $$ %(am (ix1 e)) %(hg.mask e)
  iexists el, am
  isplitr; · ipureintro; exact hg
  isplitl [HE]; · iexact HE
  iexact HA

/-- The expert is entered at the end of the list, and its word made not zero. -/
theorem fill {l : List (Fin 32)} (e : Fin 32) {offe offa : Fin 1 → ℕ} (hl : l.length < 33) (he : offe = ![l.length]) (ha : offa = ![e.val])
    {x : BitVec 32} (hx : x ≠ 0#32) {i1 h1 p1 i2 x2 m2 i3 h3 p3 i4 x4 m4} {k : _ → Prog (TpuEff nD τ sig (Elt F) Λ₀ .tc) α} :
    Scan c l ⊢ iprop((Scan c (put l e) -∗ WP c (k ⟨⟩) Q)
        -∗ WP c (smemLoad (p := .tc) mEl (Rect.unit (s := S33) offe S1.size i1) h1 p1 >>= fun _ =>
          Prog.lift (TpuEff.store mEl (Rect.unit (s := S33) offe S1.size i2) (fun _ => word e) Finset.univ x2 m2) >>= fun _ =>
          smemLoad (p := .tc) mAm (Rect.unit (s := S32) offa S1.size i3) h3 p3 >>= fun _ =>
          Prog.lift (TpuEff.store mAm (Rect.unit (s := S32) offa S1.size i4) (fun _ => x) Finset.univ x4 m4) >>= k) Q) := by
  unfold Scan
  iintro ⟨%el, %am, %hg, HE, HA⟩ HK
  iapply (ld_el ⟨l.length, hl⟩ he rfl) $$ HE; iintro HE
  iapply (sto_el c ⟨l.length, hl⟩ he) $$ HE; iintro HE
  iapply (ld_am c e ha) $$ HA; iintro HA
  iapply (sto_am c e ha) $$ HA; iintro HA
  iapply HK
  iexists _, _
  isplitr; · ipureintro; exact hg.fill e hl hx
  isplitl [HE]; · iexact HE
  iexact HA

end Cert.Kernel.Hand
-- ==== Proof.ScanB.lean ====
/-
  The kernel's loop over the tokens: it builds the list of experts.
-/
module

public import proofs.«01_k».proof.Proof.ScanA

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ValueIdx

variable {F : FTy → Type} [FloatOps F]

local notation "𝕄" => MT nD τ sig Unit (Elt F) ℕ (Pipeline.UD sig nD τ) ℕ

/-- An offset below the list's capacity is one the list's table has. -/
theorem inb_of {off : Fin 1 → ℕ} {l : ℕ} (ho : off = ![(BitVec.ofNat 32 l).toNat]) (hl : l ≤ 32) :
    ∀ a, off a + S1.size a ≤ S33.size a := by
  subst ho
  intro a
  fin_cases a
  show (BitVec.ofNat 32 l).toNat + 1 ≤ 33
  rw [BitVec.toNat_ofNat, Nat.mod_eq_of_lt (by omega)]
  omega

theorem off_of {off : Fin 1 → ℕ} {l : ℕ} (ho : off = ![(BitVec.ofNat 32 l).toNat]) (hl : l ≤ 32) : off = ![l] := by
  rw [ho, BitVec.toNat_ofNat, Nat.mod_eq_of_lt (by omega)]

/-- An adapter's bit is not zero. -/
theorem bit_ne {v : BitVec 32} (h : v.toNat < 8) : Scalar.shli 1#32 v ≠ 0#32 := by
  have h8 : ∀ a : Fin 8, Scalar.shli 1#32 (BitVec.ofNat 32 a.val) ≠ 0#32 := by decide +kernel
  have := h8 ⟨v.toNat, h⟩
  rwa [show BitVec.ofNat 32 (⟨v.toNat, h⟩ : Fin 8).val = v from by simp] at this

theorem or_ne (v : BitVec 32) {b : BitVec 32} (h : b ≠ 0#32) : Scalar.ori v b ≠ 0#32 := by
  show v ||| b ≠ 0#32
  intro h0
  exact h (BitVec.or_eq_zero_iff.mp h0).2

variable (c : Dev nD) (S : Stg) {ids : S8x16.Idx → BitVec 32} {aid : S16.Idx → BitVec 32} {id : ℕ → Fin 8 → Fin 32}
  (hids : ∀ (j : Fin 8) (t : Fin 16), ids (ix2 j t) = word (id t.val j)) (haid : ∀ t : Fin 16, (aid (ix1 t)).toNat < 8)

set_option maxHeartbeats 4000000 in
include hids haid in
/-- One token. -/
theorem run_token (t : Fin 16) (v46 : BitVec 32) (h46 : k0_chk2 v46) {l : List (Fin 32)} (n0 : l.Nodup) {w : BitVec 32} (hw : w = BitVec.ofNat 32 l.length) {Q} :
    iprop((mIds.view.loc (c : Thread nD τ) ↦[Finset.univ]{fullShare} ids) ∗ (mAid.view.loc (c : Thread nD τ) ↦[Finset.univ]{fullShare} aid) ∗ Scan c l)
      ⊢ iprop((iprop((mIds.view.loc (c : Thread nD τ) ↦[Finset.univ]{fullShare} ids) ∗ (mAid.view.loc (c : Thread nD τ) ↦[Finset.univ]{fullShare} aid) ∗ Scan c (row id t.val l))
          -∗ Q (BitVec.ofNat 32 (row id t.val l).length))
        -∗ WP (F := F) c (PScan S v46 h46 t w) Q) := by
  have ht : (Scalar.indexCast (Scf.iv 0#32 1#32 t.val)).toNat = t.val := (iv_words ⟨t.val, by omega⟩).1
  have hid : ∀ j : Fin 8, ids (ix2 j t) = word (id t.val j) := fun j => hids j t
  have hbit := bit_ne (haid t)
  unfold PScan onMems k0_t1_body row
  iintro ⟨HI, HA, HS⟩ HK
  iapply (st_bind c)
  rw [k0_part1_eq_skeleton (F := F)]; unfold k0_part1_skel
  iapply (st_assume c (inb_of (congrArg (fun x : BitVec 32 => ![x.toNat]) hw) (len_le n0)))
  iapply (ld_aid c t (congrArg (fun x : ℕ => ![x]) ht)) $$ HA; iintro HA
  -- expert 0 of the token
  iapply (ld_ids c 0 t (congrArg (fun x : ℕ => ![0, x]) ht) (hid 0)) $$ HI; iintro HI
  iapply (st_assume c (chk3_all (id t.val 0)))
  iapply (seen c (id t.val 0) (congrArg (fun x : ℕ => ![x]) (word_toNat (id t.val 0)))) $$ HS; iintro %v0 %hv0 HS
  have w0 := len_step n0 (id t.val 0) hw hv0
  have n1 := put_nodup n0 (id t.val 0)
  iapply (st_assume c (inb_of (congrArg (fun x : BitVec 32 => ![x.toNat]) w0) (len_le n1)))
  iapply (fill c (id t.val 0) (by have := len_le n0; omega) (off_of (congrArg (fun x : BitVec 32 => ![x.toNat]) hw) (len_le n0)) (congrArg (fun x : ℕ => ![x]) (word_toNat (id t.val 0))) (or_ne v0 hbit)) $$ HS; iintro HS
  -- expert 1 of the token
  iapply (ld_ids c 1 t (congrArg (fun x : ℕ => ![1, x]) ht) (hid 1)) $$ HI; iintro HI
  iapply (st_assume c (chk3_all (id t.val 1)))
  iapply (seen c (id t.val 1) (congrArg (fun x : ℕ => ![x]) (word_toNat (id t.val 1)))) $$ HS; iintro %v1 %hv1 HS
  have w1 := len_step n1 (id t.val 1) w0 hv1
  have n2 := put_nodup n1 (id t.val 1)
  iapply (st_assume c (inb_of (congrArg (fun x : BitVec 32 => ![x.toNat]) w1) (len_le n2)))
  iapply (fill c (id t.val 1) (by have := len_le n1; omega) (off_of (congrArg (fun x : BitVec 32 => ![x.toNat]) w0) (len_le n1)) (congrArg (fun x : ℕ => ![x]) (word_toNat (id t.val 1))) (or_ne v1 hbit)) $$ HS; iintro HS
  -- expert 2 of the token
  iapply (ld_ids c 2 t (congrArg (fun x : ℕ => ![2, x]) ht) (hid 2)) $$ HI; iintro HI
  iapply (st_assume c (chk3_all (id t.val 2)))
  iapply (seen c (id t.val 2) (congrArg (fun x : ℕ => ![x]) (word_toNat (id t.val 2)))) $$ HS; iintro %v2 %hv2 HS
  have w2 := len_step n2 (id t.val 2) w1 hv2
  have n3 := put_nodup n2 (id t.val 2)
  iapply (st_assume c (inb_of (congrArg (fun x : BitVec 32 => ![x.toNat]) w2) (len_le n3)))
  iapply (fill c (id t.val 2) (by have := len_le n2; omega) (off_of (congrArg (fun x : BitVec 32 => ![x.toNat]) w1) (len_le n2)) (congrArg (fun x : ℕ => ![x]) (word_toNat (id t.val 2))) (or_ne v2 hbit)) $$ HS; iintro HS
  iapply (st_pure c)
  iapply (st_bind c)
  rw [k0_part2_eq_skeleton]; unfold k0_part2_skel
  -- expert 3 of the token
  iapply (ld_ids c 3 t (congrArg (fun x : ℕ => ![3, x]) ht) (hid 3)) $$ HI; iintro HI
  iapply (st_assume c (chk3_all (id t.val 3)))
  iapply (seen c (id t.val 3) (congrArg (fun x : ℕ => ![x]) (word_toNat (id t.val 3)))) $$ HS; iintro %v3 %hv3 HS
  have w3 := len_step n3 (id t.val 3) w2 hv3
  have n4 := put_nodup n3 (id t.val 3)
  iapply (st_assume c (inb_of (congrArg (fun x : BitVec 32 => ![x.toNat]) w3) (len_le n4)))
  iapply (fill c (id t.val 3) (by have := len_le n3; omega) (off_of (congrArg (fun x : BitVec 32 => ![x.toNat]) w2) (len_le n3)) (congrArg (fun x : ℕ => ![x]) (word_toNat (id t.val 3))) (or_ne v3 hbit)) $$ HS; iintro HS
  -- expert 4 of the token
  iapply (ld_ids c 4 t (congrArg (fun x : ℕ => ![4, x]) ht) (hid 4)) $$ HI; iintro HI
  iapply (st_assume c (chk3_all (id t.val 4)))
  iapply (seen c (id t.val 4) (congrArg (fun x : ℕ => ![x]) (word_toNat (id t.val 4)))) $$ HS; iintro %v4 %hv4 HS
  have w4 := len_step n4 (id t.val 4) w3 hv4
  have n5 := put_nodup n4 (id t.val 4)
  iapply (st_assume c (inb_of (congrArg (fun x : BitVec 32 => ![x.toNat]) w4) (len_le n5)))
  iapply (fill c (id t.val 4) (by have := len_le n4; omega) (off_of (congrArg (fun x : BitVec 32 => ![x.toNat]) w3) (len_le n4)) (congrArg (fun x : ℕ => ![x]) (word_toNat (id t.val 4))) (or_ne v4 hbit)) $$ HS; iintro HS
  -- expert 5 of the token
  iapply (ld_ids c 5 t (congrArg (fun x : ℕ => ![5, x]) ht) (hid 5)) $$ HI; iintro HI
  iapply (st_assume c (chk3_all (id t.val 5)))
  iapply (seen c (id t.val 5) (congrArg (fun x : ℕ => ![x]) (word_toNat (id t.val 5)))) $$ HS; iintro %v5 %hv5 HS
  have w5 := len_step n5 (id t.val 5) w4 hv5
  have n6 := put_nodup n5 (id t.val 5)
  iapply (st_assume c (inb_of (congrArg (fun x : BitVec 32 => ![x.toNat]) w5) (len_le n6)))
  iapply (fill c (id t.val 5) (by have := len_le n5; omega) (off_of (congrArg (fun x : BitVec 32 => ![x.toNat]) w4) (len_le n5)) (congrArg (fun x : ℕ => ![x]) (word_toNat (id t.val 5))) (or_ne v5 hbit)) $$ HS; iintro HS
  -- expert 6 of the token
  iapply (ld_ids c 6 t (congrArg (fun x : ℕ => ![6, x]) ht) (hid 6)) $$ HI; iintro HI
  iapply (st_assume c (chk3_all (id t.val 6)))
  iapply (seen c (id t.val 6) (congrArg (fun x : ℕ => ![x]) (word_toNat (id t.val 6)))) $$ HS; iintro %v6 %hv6 HS
  iapply (st_pure c)
  have w6 := len_step n6 (id t.val 6) w5 hv6
  have n7 := put_nodup n6 (id t.val 6)
  iapply (st_assume c (inb_of (congrArg (fun x : BitVec 32 => ![x.toNat]) w6) (len_le n7)))
  iapply (fill c (id t.val 6) (by have := len_le n6; omega) (off_of (congrArg (fun x : BitVec 32 => ![x.toNat]) w5) (len_le n6)) (congrArg (fun x : ℕ => ![x]) (word_toNat (id t.val 6))) (or_ne v6 hbit)) $$ HS; iintro HS
  -- expert 7 of the token
  iapply (ld_ids c 7 t (congrArg (fun x : ℕ => ![7, x]) ht) (hid 7)) $$ HI; iintro HI
  iapply (st_assume c (chk3_all (id t.val 7)))
  iapply (seen c (id t.val 7) (congrArg (fun x : ℕ => ![x]) (word_toNat (id t.val 7)))) $$ HS; iintro %v7 %hv7 HS
  have w7 := len_step n7 (id t.val 7) w6 hv7
  have n8 := put_nodup n7 (id t.val 7)
  iapply (fill c (id t.val 7) (by have := len_le n7; omega) (off_of (congrArg (fun x : BitVec 32 => ![x.toNat]) w6) (len_le n7)) (congrArg (fun x : ℕ => ![x]) (word_toNat (id t.val 7))) (or_ne v7 hbit)) $$ HS; iintro HS
  iapply (st_end c _ w7)
  iapply HK
  isplitl [HI]; · iexact HI
  isplitl [HA]; · iexact HA
  iexact HS

include hids haid in
/-- All the tokens. -/
theorem run_tokens (v46 : BitVec 32) (h46 : k0_chk2 v46) {γ : Type}
    {kk : BitVec 32 → Prog (TpuEff nD τ sig (Elt F) Λ₀ .tc) γ} {Q} :
    iprop((mIds.view.loc (c : Thread nD τ) ↦[Finset.univ]{fullShare} ids) ∗ (mAid.view.loc (c : Thread nD τ) ↦[Finset.univ]{fullShare} aid) ∗ Scan c [])
      ⊢ iprop((iprop((mIds.view.loc (c : Thread nD τ) ↦[Finset.univ]{fullShare} ids) ∗ (mAid.view.loc (c : Thread nD τ) ↦[Finset.univ]{fullShare} aid) ∗ Scan c (acts id 16))
          -∗ WP c (kk (BitVec.ofNat 32 (acts id 16).length)) Q)
        -∗ WP (F := F) c (Scf.Loop.for k0_t1_loop k0_t1_ok 0#32 (PScan S v46 h46) >>= kk) Q) := by
  have htr : Scf.trips k0_t1_loop.lb k0_t1_loop.ub k0_t1_loop.st = 16 := by decide +kernel
  iintro HP HK
  iapply (Scf.wp_for_bind _ _ _ k0_t1_loop.lb k0_t1_loop.ub k0_t1_loop.st k0_t1_ok 0#32 _
    (fun t (w : BitVec 32) => iprop(⌜w = BitVec.ofNat 32 (acts id t).length⌝ ∗ (mIds.view.loc (c : Thread nD τ) ↦[Finset.univ]{fullShare} ids)
      ∗ (mAid.view.loc (c : Thread nD τ) ↦[Finset.univ]{fullShare} aid) ∗ Scan c (acts id t))) ?_) $$ [HP]
  · intro t w
    iintro ⟨%hw, HP⟩
    iapply (run_token c S hids haid ⟨t.val, lt_of_lt_of_eq t.isLt htr⟩ v46 h46 (acts_nodup id t.val) hw) $$ HP
    iintro HP
    isplitr; · ipureintro; rfl
    iexact HP
  · isplitr; · ipureintro; rfl
    iexact HP
  · iintro %w ⟨%hw, HP⟩
    rw [htr] at hw
    rw [htr]
    subst hw
    iapply HK; iexact HP

end Cert.Kernel.Hand
-- ==== Proof.Copies.lean ====
/-
  The first part of the kernel's body: the routing, the activations and the scales are copied in whole, the table of
  experts seen is cleared, and the first expert's first matrix is sent for.
-/
module

public import proofs.«01_k».proof.Proof.ScanB

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ValueIdx

variable {F : FTy → Type} [FloatOps F]

local notation "𝕄" => MT nD τ sig Unit (Elt F) ℕ (Pipeline.UD sig nD τ) ℕ

/-! ## The arrays copied whole -/

abbrev hIds : Memref sig .tc .hbm S8x16 .i32 := Memref.whole main_v1
abbrev hAid : Memref sig .tc .hbm S16 .i32 := Memref.whole main_arg3
abbrev hW : Memref sig .tc .hbm S8x16 .f32 := Memref.whole main_v3
abbrev hX : Memref sig .tc .hbm S16x2816 .bf16 := Memref.whole main_v4
abbrev hUs : Memref sig .tc .hbm S32x3072 .f32 := Memref.whole main_arg5
abbrev hDs : Memref sig .tc .hbm S32x2816 .f32 := Memref.whole main_arg7

/-- What the kernel is called on. -/
structure Raw (F : FTy → Type) where
  I : S8x16.Idx → Elt F .i32
  A : S16.Idx → Elt F .i32
  W : S8x16.Idx → Elt F .f32
  X : S16x2816.Idx → Elt F .bf16
  US : S32x3072.Idx → Elt F .f32
  DS : S32x2816.Idx → Elt F .f32
  WU : S32x2816x3072.Idx → Elt F .fp8e4m3
  WD : S32x1536x2816.Idx → Elt F .fp8e4m3
  WA : S32x128x2816.Idx → Elt F .bf16
  WB : S32x128x3072.Idx → Elt F .bf16

variable (c : Dev nD) {α : Type} {Q : α → sProp (MT nD τ sig Unit (Elt F) ℕ (Pipeline.UD sig nD τ) ℕ)}

section One
variable {sp sp' : Space} {s : Shape} {e : EltTy} (src : Memref sig .tc sp s e) (dst : Memref sig .tc sp' s e)
  (q : PosShare TreeShare) (fs : BufOf (F := F) c src) (g : BufOf (F := F) c dst)

/-- One copy of a whole array, alone on its cell. -/
def Alone (sem : DmaSem sig) : sProp 𝕄 :=
  Flight c sem (fun _ : Fin 1 => dst.view.amount (SemLoc.dma sem)) (fun _ => landed dst src c Finset.univ g Finset.univ q fs) 1 0

theorem start_one {sem : DmaSem sig} {sm : SemLoc sig} (hsm : sm = SemLoc.dma sem)
    {k : PUnit → Prog (TpuEff nD τ sig (Elt F) Λ₀ .tc) α} {hsrc : src.view.WordExact} {hdst : dst.view.WordExact}
    {hsem : DmaTarget.Typed (nD := nD) (p := (Proc.tc : Proc τ)) sp sm (.here dst)}
    {fd : BufOf (F := F) c dst}
    (hSs : src.view.set = Finset.univ) (hSd : dst.view.set = Finset.univ)
    (hg : ∀ x, src.view.read (Elt F) fs x = dst.view.read (Elt F) g x) :
    iprop((src.view.loc (c : Thread nD τ) ↦[Finset.univ]{q} fs) ∗ (dst.view.loc (c : Thread nD τ) ↦[Finset.univ]{fullShare} fd)
        ∗ semVal ((c : Thread nD τ), SemLoc.dma sem) 0)
      ⊢ iprop((Alone c src dst q fs g sem -∗ WP c (k ⟨⟩) Q)
          -∗ WP c (Prog.lift (TpuEff.enqueueDma src (.here dst) sm hsrc hdst hsem) >>= k) Q) := by
  subst hsm
  unfold Alone
  iintro ⟨H1, H2, H3⟩ HK
  imod (flight_new c sem (fun _ : Fin 1 => dst.view.amount (SemLoc.dma sem)) (fun _ => landed dst src c Finset.univ g Finset.univ q fs)) $$ H3 with H3
  iapply (st_start c (n := 1) (sem := sem) (q := q) (fs := fs) (g := g) (A := fun _ : Fin 1 => dst.view.amount (SemLoc.dma sem))
    (D := fun _ : Fin 1 => landed dst src c Finset.univ g Finset.univ q fs) (j := 0) rfl hSs hSd Nat.zero_lt_one rfl hg rfl) $$ [H1 H2 H3]
  · isplitl [H1]; · iexact H1
    isplitl [H2]; · iexact H2
    iexact H3
  iexact HK

theorem wait_one {sem : DmaSem sig} {sm : DmaSem sig} (hsm : sm = sem)
    {k : PUnit → Prog (TpuEff nD τ sig (Elt F) Λ₀ .tc) α} {spw : Space} {sw ew} {srcw : Memref sig .tc spw sw ew}
    {hsrc : srcw.view.WordExact} {hdst : dst.view.WordExact}
    (hJ : dst.view.dmaCredit = dst.view.amount (SemLoc.dma sem)) (h0 : 0 < dst.view.amount (SemLoc.dma sem)) {W : Waits sig Unit} :
    iprop(Alone c src dst q fs g sem ∗ owes (c : Thread nD τ) 0 W)
      ⊢ iprop((iprop((dst.view.loc (c : Thread nD τ) ↦[Finset.univ]{fullShare} g) ∗ (src.view.loc (c : Thread nD τ) ↦[Finset.univ]{q} fs)
              ∗ semVal ((c : Thread nD τ), SemLoc.dma sem) 0 ∗ (∃ W', owes (c : Thread nD τ) 0 W')) -∗ WP c (k ⟨⟩) Q)
          -∗ WP c (Prog.lift (TpuEff.waitDma2 sm srcw dst hsrc hdst) >>= k) Q) := by
  unfold Alone
  refine (st_waitAll c (sp₂ := .hbm) hsm hJ (fun _ => h0) (by simp [Transfers.sumTo])).trans (wand_mono_left (wand_mono_left ?_))
  rw [show (Finset.univ : Finset (Fin 1)) = {0} from rfl, BI.bigSep_singleton]
  unfold landed
  iintro ⟨⟨H1, H2⟩, H5⟩
  isplitl [H1]; · iexact H1
  isplitl [H2]; · iexact H2
  iexact H5
end One

/-! ## The three copies on one cell: activations and the two tables of scales -/

abbrev smallA : Fin 3 → ℕ := ![cc0_scratch4.dmaCredit S16x2816 .bf16, cc0_scratch5.dmaCredit S32x3072 .f32, cc0_scratch6.dmaCredit S32x2816 .f32]

def smallD (R : Raw F) : Fin 3 → sProp 𝕄
  | 0 => landed mXv hX c Finset.univ R.X Finset.univ fullShare R.X
  | 1 => landed mWus hUs c Finset.univ R.US Finset.univ fullShare R.US
  | 2 => landed mWds hDs c Finset.univ R.DS Finset.univ fullShare R.DS

instance (R : Raw F) (t : Fin 3) : Storable (upEmb : UEmb _ 𝕄) (smallD c R t) := by
  fin_cases t <;> simp only [smallD] <;> infer_instance

abbrev semSmall : DmaSem sig := cc0_scratch18.sem

/-- `j` of the three issued, `u` units waited for. -/
def Small (R : Raw F) (j u : ℕ) : sProp 𝕄 := Flight c semSmall smallA (smallD c R) j u

theorem small_new (R : Raw F) : (semVal ((c : Thread nD τ), SemLoc.dma semSmall) 0 : sProp 𝕄) ⊢ |={Set.univ}=> Small c R 0 0 :=
  flight_new c semSmall smallA (smallD c R)

theorem smallA_pos : ∀ t, 0 < smallA t := by decide
theorem small_1 : 0 + smallA 0 ≤ Transfers.sumTo smallA 3 := by decide
theorem small_2 : 0 + smallA 0 + smallA 1 ≤ Transfers.sumTo smallA 3 := by decide
theorem small_3 : 0 + smallA 0 + smallA 1 + smallA 2 = Transfers.sumTo smallA 3 := by decide

/-! ## Clearing the table of experts seen -/

def Zero (k : ℕ) : sProp 𝕄 :=
  iprop(∃ am, ⌜∀ i : Fin 32, i.val < k → am (ix1 i) = 0#32⌝ ∗ (mAm.view.loc (c : Thread nD τ) ↦[Finset.univ]{fullShare} am))

theorem zero_step (i : ℕ) (hi : i < 32) {off : Fin 1 → ℕ} (ho : off = ![i])
    {i1 h1 p1 i2 x2 m2} {k : _ → Prog (TpuEff nD τ sig (Elt F) Λ₀ .tc) α} :
    Zero (F := F) c i ⊢ iprop((Zero (F := F) c (i + 1) -∗ WP c (k ⟨⟩) Q)
        -∗ WP c (smemLoad (p := .tc) mAm (Rect.unit (s := S32) off S1.size i1) h1 p1 >>= fun _ =>
          Prog.lift (TpuEff.store mAm (Rect.unit (s := S32) off S1.size i2) (fun _ => 0#32) Finset.univ x2 m2) >>= k) Q) := by
  unfold Zero
  iintro ⟨%am, %h, HA⟩ HK
  iapply (ld_am c ⟨i, hi⟩ ho) $$ HA; iintro HA
  iapply (sto_am c ⟨i, hi⟩ ho) $$ HA; iintro HA
  iapply HK
  iexists (Function.update am (ix1 ⟨i, hi⟩) 0#32)
  isplitr
  · ipureintro
    intro j hj
    by_cases hji : j = ⟨i, hi⟩
    · subst hji; rw [Function.update_self]
    · have hne : (ix1 j : S32.Idx) ≠ ix1 ⟨i, hi⟩ := fun heq => hji (by
        have h2 : (ix1 j : S32.Idx) 0 = (ix1 ⟨i, hi⟩ : S32.Idx) 0 := congrFun heq 0
        exact h2)
      rw [Function.update_of_ne hne]
      exact h j (by have : j.val ≠ i := fun hv => hji (Fin.ext hv)
                    omega)
  · iexact HA

variable (S : Stg) (R : Raw F)

/-- The buffers the copies fill, at anything. -/
def FreeIn : sProp 𝕄 := iprop(
  (∃ f, (mIds.view.loc (c : Thread nD τ) ↦[Finset.univ]{fullShare} f)) ∗ (∃ f, (mAid.view.loc (c : Thread nD τ) ↦[Finset.univ]{fullShare} f)) ∗ (∃ f, (mXv.view.loc (c : Thread nD τ) ↦[Finset.univ]{fullShare} f)) ∗ (∃ f, (mIdsV.view.loc (c : Thread nD τ) ↦[Finset.univ]{fullShare} f)) ∗ (∃ f, (mWv.view.loc (c : Thread nD τ) ↦[Finset.univ]{fullShare} f))
  ∗ (∃ f, (mWus.view.loc (c : Thread nD τ) ↦[Finset.univ]{fullShare} f)) ∗ (∃ f, (mWds.view.loc (c : Thread nD τ) ↦[Finset.univ]{fullShare} f)))

/-- The arrays copied whole; the routing at two shares, since it is copied twice. -/
def HbmIn (q0 q1 : PosShare TreeShare) : sProp 𝕄 := iprop(
  (hIds.view.loc (c : Thread nD τ) ↦[Finset.univ]{q0} R.I) ∗ (hIds.view.loc (c : Thread nD τ) ↦[Finset.univ]{q1} R.I) ∗ (hAid.view.loc (c : Thread nD τ) ↦[Finset.univ]{fullShare} R.A) ∗ (hX.view.loc (c : Thread nD τ) ↦[Finset.univ]{fullShare} R.X) ∗ (hW.view.loc (c : Thread nD τ) ↦[Finset.univ]{fullShare} R.W) ∗ (hUs.view.loc (c : Thread nD τ) ↦[Finset.univ]{fullShare} R.US) ∗ (hDs.view.loc (c : Thread nD τ) ↦[Finset.univ]{fullShare} R.DS))

def SemIn : sProp 𝕄 := iprop(
  semVal ((c : Thread nD τ), SemLoc.dma cc0_scratch14.sem) 0 ∗ semVal ((c : Thread nD τ), SemLoc.dma cc0_scratch15.sem) 0
  ∗ semVal ((c : Thread nD τ), SemLoc.dma cc0_scratch16.sem) 0 ∗ semVal ((c : Thread nD τ), SemLoc.dma cc0_scratch17.sem) 0
  ∗ semVal ((c : Thread nD τ), SemLoc.dma semSmall) 0)

abbrev AloneI (q : PosShare TreeShare) : sProp 𝕄 := Alone c hIds mIds q R.I R.I cc0_scratch14.sem
abbrev AloneA : sProp 𝕄 := Alone c hAid mAid fullShare R.A R.A cc0_scratch15.sem
abbrev AloneV (q : PosShare TreeShare) : sProp 𝕄 := Alone c hIds mIdsV q R.I R.I cc0_scratch16.sem
abbrev AloneW : sProp 𝕄 := Alone c hW mWv fullShare R.W R.W cc0_scratch17.sem

theorem run21 (q0 q1 : PosShare TreeShare) {Q : BitVec 32 → sProp (MT nD τ sig Unit (Elt F) ℕ (Pipeline.UD sig nD τ) ℕ)} :
    iprop(HbmIn c R q0 q1 ∗ FreeIn (F := F) c ∗ SemIn (F := F) c ∗ Zero (F := F) c 0)
      ⊢ iprop((iprop(AloneI c R q0 ∗ AloneA c R ∗ AloneV c R q1 ∗ AloneW c R ∗ Small c R 3 0 ∗ Zero (F := F) c 13) -∗ Q 0#32)
          -∗ WP c (P21 (F := F) S) Q) := by
  unfold P21 onMems
  rw [k0_part21_eq_skeleton (F := F)]; unfold k0_part21_skel HbmIn FreeIn SemIn
  iintro ⟨⟨I0, I1, HA, HX, HW, HU, HD⟩, ⟨⟨%f0, M0⟩, ⟨%f1, M1⟩, ⟨%f2, M2⟩, ⟨%f3, M3⟩, ⟨%f4, M4⟩, ⟨%f5, M5⟩, ⟨%f6, M6⟩⟩, ⟨S0, S1, S2, S3, S4⟩, HZ⟩ HK
  imod (small_new c R) $$ S4 with S4
  unfold Small
  iapply (start_one c hIds mIds q0 R.I R.I (sem := cc0_scratch14.sem) rfl Finset.map_refl Finset.map_refl (fun _ => rfl)) $$ [I0 M0 S0]
  · isplitl [I0]; · iexact I0
    isplitl [M0]; · iexact M0
    iexact S0
  iintro A0
  iapply (start_one c hAid mAid fullShare R.A R.A (sem := cc0_scratch15.sem) rfl Finset.map_refl Finset.map_refl (fun _ => rfl)) $$ [HA M1 S1]
  · isplitl [HA]; · iexact HA
    isplitl [M1]; · iexact M1
    iexact S1
  iintro A1
  iapply (st_start c (src := hX) (dst := mXv) (sem := semSmall) (q := fullShare) (fs := R.X) (g := R.X) (A := smallA) (D := smallD c R) (j := 0)
    rfl Finset.map_refl Finset.map_refl (by decide) rfl (fun _ => rfl) rfl) $$ [HX M2 S4]
  · isplitl [HX]; · iexact HX
    isplitl [M2]; · iexact M2
    iexact S4
  iintro S4
  iapply (start_one c hIds mIdsV q1 R.I R.I (sem := cc0_scratch16.sem) rfl Finset.map_refl Finset.map_refl (fun _ => rfl)) $$ [I1 M3 S2]
  · isplitl [I1]; · iexact I1
    isplitl [M3]; · iexact M3
    iexact S2
  iintro A2
  iapply (start_one c hW mWv fullShare R.W R.W (sem := cc0_scratch17.sem) rfl Finset.map_refl Finset.map_refl (fun _ => rfl)) $$ [HW M4 S3]
  · isplitl [HW]; · iexact HW
    isplitl [M4]; · iexact M4
    iexact S3
  iintro A3
  iapply (st_start c (src := hUs) (dst := mWus) (sem := semSmall) (q := fullShare) (fs := R.US) (g := R.US) (A := smallA) (D := smallD c R) (j := 1)
    rfl Finset.map_refl Finset.map_refl (by decide) rfl (fun _ => rfl) rfl) $$ [HU M5 S4]
  · isplitl [HU]; · iexact HU
    isplitl [M5]; · iexact M5
    iexact S4
  iintro S4
  iapply (st_start c (src := hDs) (dst := mWds) (sem := semSmall) (q := fullShare) (fs := R.DS) (g := R.DS) (A := smallA) (D := smallD c R) (j := 2)
    rfl Finset.map_refl Finset.map_refl (by decide) rfl (fun _ => rfl) rfl) $$ [HD M6 S4]
  · isplitl [HD]; · iexact HD
    isplitl [M6]; · iexact M6
    iexact S4
  iintro S4
  iapply (zero_step c 0 (by decide) rfl) $$ HZ; iintro HZ
  iapply (zero_step c 1 (by decide) rfl) $$ HZ; iintro HZ
  iapply (zero_step c 2 (by decide) rfl) $$ HZ; iintro HZ
  iapply (zero_step c 3 (by decide) rfl) $$ HZ; iintro HZ
  iapply (zero_step c 4 (by decide) rfl) $$ HZ; iintro HZ
  iapply (zero_step c 5 (by decide) rfl) $$ HZ; iintro HZ
  iapply (zero_step c 6 (by decide) rfl) $$ HZ; iintro HZ
  iapply (zero_step c 7 (by decide) rfl) $$ HZ; iintro HZ
  iapply (zero_step c 8 (by decide) rfl) $$ HZ; iintro HZ
  iapply (zero_step c 9 (by decide) rfl) $$ HZ; iintro HZ
  iapply (zero_step c 10 (by decide) rfl) $$ HZ; iintro HZ
  iapply (zero_step c 11 (by decide) rfl) $$ HZ; iintro HZ
  iapply (zero_step c 12 (by decide) rfl) $$ HZ; iintro HZ
  iapply (st_pure c)
  iapply HK
  isplitl [A0]; · iexact A0
  isplitl [A1]; · iexact A1
  isplitl [A2]; · iexact A2
  isplitl [A3]; · iexact A3
  isplitl [S4]; · iexact S4
  iexact HZ

theorem run22 {Q : BitVec 32 → sProp (MT nD τ sig Unit (Elt F) ℕ (Pipeline.UD sig nD τ) ℕ)} :
    Zero (F := F) c 13 ⊢ iprop((Zero (F := F) c 28 -∗ Q 0#32) -∗ WP c (P22 (F := F) S 0#32) Q) := by
  unfold P22 onMems
  rw [k0_part22_eq_skeleton (F := F)]; unfold k0_part22_skel
  iintro HZ HK
  iapply (zero_step c 13 (by decide) rfl) $$ HZ; iintro HZ
  iapply (zero_step c 14 (by decide) rfl) $$ HZ; iintro HZ
  iapply (zero_step c 15 (by decide) rfl) $$ HZ; iintro HZ
  iapply (zero_step c 16 (by decide) rfl) $$ HZ; iintro HZ
  iapply (zero_step c 17 (by decide) rfl) $$ HZ; iintro HZ
  iapply (zero_step c 18 (by decide) rfl) $$ HZ; iintro HZ
  iapply (zero_step c 19 (by decide) rfl) $$ HZ; iintro HZ
  iapply (zero_step c 20 (by decide) rfl) $$ HZ; iintro HZ
  iapply (zero_step c 21 (by decide) rfl) $$ HZ; iintro HZ
  iapply (zero_step c 22 (by decide) rfl) $$ HZ; iintro HZ
  iapply (zero_step c 23 (by decide) rfl) $$ HZ; iintro HZ
  iapply (zero_step c 24 (by decide) rfl) $$ HZ; iintro HZ
  iapply (zero_step c 25 (by decide) rfl) $$ HZ; iintro HZ
  iapply (zero_step c 26 (by decide) rfl) $$ HZ; iintro HZ
  iapply (zero_step c 27 (by decide) rfl) $$ HZ; iintro HZ
  iapply (st_pure c)
  iapply HK
  iexact HZ

end Cert.Kernel.Hand
-- ==== Proof.Start.lean ====
/-
  The second part of the kernel's body: the first expert is sent for, and the list of experts is built meanwhile.
-/
module

public import proofs.«01_k».proof.Proof.Copies

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ValueIdx

variable {F : FTy → Type} [FloatOps F]

local notation "𝕄" => MT nD τ sig Unit (Elt F) ℕ (Pipeline.UD sig nD τ) ℕ

variable (c : Dev nD) (S : Stg) (R : Raw F) (E : Env F) (T : Shr)

abbrev res23 (e : Fin 32) : Σ' (v46 : Elt F .i32), k0_chk2 v46 := ⟨word e, chk2_all e⟩
abbrev res24 (n : Fin 33) : Σ' (v55 : BitVec 32), k0_chk21 v55 := ⟨BitVec.ofNat 32 n.val, chk21_all n⟩

theorem ld_b_any {α : Type} {Q : α → sProp (MT nD τ sig Unit (Elt F) ℕ (Pipeline.UD sig nD τ) ℕ)} {r : Rect S2x128x3072} {hl} {k : _ → Prog (TpuEff nD τ sig (Elt F) Λ₀ .tc) α} :
    iprop(∃ f, (mB.view.loc (c : Thread nD τ) ↦[Finset.univ]{fullShare} f)) ⊢ iprop((∀ v, iprop(∃ f, (mB.view.loc (c : Thread nD τ) ↦[Finset.univ]{fullShare} f)) -∗ WP c (k v) Q)
        -∗ WP c (Prog.lift (TpuEff.load mB r.toLoadRect hl) >>= k) Q) := by
  iintro ⟨%f, H⟩ HK
  iapply (st_load c (m := mB) (r := r) (S := Finset.univ) (f := f) (Finset.subset_univ _) rfl) $$ H
  iintro H
  iapply HK
  iexists f; iexact H

theorem sto_b_any {α : Type} {Q : α → sProp (MT nD τ sig Unit (Elt F) ℕ (Pipeline.UD sig nD τ) ℕ)} {r : Rect S2x128x3072} {w : r.shape.Idx → Elt F .bf16} {hx hm} {k : _ → Prog (TpuEff nD τ sig (Elt F) Λ₀ .tc) α} :
    iprop(∃ f, (mB.view.loc (c : Thread nD τ) ↦[Finset.univ]{fullShare} f)) ⊢ iprop((iprop(∃ f, (mB.view.loc (c : Thread nD τ) ↦[Finset.univ]{fullShare} f)) -∗ WP c (k ⟨⟩) Q)
        -∗ WP c (Prog.lift (TpuEff.store mB r w Finset.univ hx hm) >>= k) Q) := by
  iintro ⟨%f, H⟩ HK
  iapply (st_store c (m := mB) (r := r) (w := w) (Mk := Finset.univ) (S := Finset.univ) (f := f)
    (g := (mB.access r).write (Elt F) f w Finset.univ) (Finset.subset_univ _) rfl) $$ H
  iintro H
  iapply HK
  iexists _; iexact H

/-- The list with its first entry in place. -/
def First (e : Fin 32) : sProp 𝕄 := iprop(∃ el, ⌜el (ix1 0) = word e⌝ ∗ El (F := F) c el)

set_option maxHeartbeats 1000000 in
theorem run23 (q0 : PosShare TreeShare) {e : Fin 32} (h0 : R.I (ix2 0 0) = word e) {W : Waits sig Unit} {Q} :
    iprop(Zero (F := F) c 28 ∗ (∃ f, (mB.view.loc (c : Thread nD τ) ↦[Finset.univ]{fullShare} f)) ∗ AloneI c R q0 ∗ AloneA c R ∗ (∃ el, El (F := F) c el)
        ∗ srcU c E T 0 0 Finset.univ ∗ freeU (F := F) c 0 0 ∗ semVal ((c : Thread nD τ), SemLoc.dma (semUp 0)) 0 ∗ owes (c : Thread nD τ) 0 W)
      ⊢ iprop((iprop(Zero (F := F) c 32 ∗ (∃ f, (mB.view.loc (c : Thread nD τ) ↦[Finset.univ]{fullShare} f))
          ∗ (mIds.view.loc (c : Thread nD τ) ↦[Finset.univ]{fullShare} R.I) ∗ (hIds.view.loc (c : Thread nD τ) ↦[Finset.univ]{q0} R.I) ∗ semVal ((c : Thread nD τ), SemLoc.dma cc0_scratch14.sem) 0
          ∗ (mAid.view.loc (c : Thread nD τ) ↦[Finset.univ]{fullShare} R.A) ∗ (hAid.view.loc (c : Thread nD τ) ↦[Finset.univ]{fullShare} R.A) ∗ semVal ((c : Thread nD τ), SemLoc.dma cc0_scratch15.sem) 0
          ∗ First (F := F) c e ∗ srcU c E T 0 0 (Finset.univ \ upSrc e 0) ∗ flyU c E T 0 e 1 ∗ (∃ W', owes (c : Thread nD τ) 0 W')) -∗ Q (res23 (F := F) e))
          -∗ WP c (P23 (F := F) S 0#32) Q) := by
  unfold P23 onMems
  rw [k0_part23_eq_skeleton (F := F)]; unfold k0_part23_skel
  iintro ⟨HZ, HB, AI, AA, ⟨%el, HE⟩, SU, FU, KU, HW⟩ HK
  iapply (zero_step c 28 (by decide) rfl) $$ HZ; iintro HZ
  iapply (zero_step c 29 (by decide) rfl) $$ HZ; iintro HZ
  iapply (zero_step c 30 (by decide) rfl) $$ HZ; iintro HZ
  iapply (zero_step c 31 (by decide) rfl) $$ HZ; iintro HZ
  iapply (ld_b_any c) $$ HB; iintro %vb HB
  iapply (sto_b_any c) $$ HB; iintro HB
  iapply (wait_one c hIds mIds q0 R.I R.I (sem := cc0_scratch14.sem) rfl rfl (by decide)) $$ [AI HW]
  · isplitl [AI]; · iexact AI
    iexact HW
  iintro ⟨MI, HI, S14, ⟨%W1, HW⟩⟩
  iapply (wait_one c hAid mAid fullShare R.A R.A (sem := cc0_scratch15.sem) rfl rfl (by decide)) $$ [AA HW]
  · isplitl [AA]; · iexact AA
    iexact HW
  iintro ⟨MA, HA, S15, HW⟩
  iapply (ld_ids c 0 0 rfl h0) $$ MI; iintro MI
  iapply (ld_el 0 rfl rfl) $$ HE; iintro HE
  iapply (sto_el c 0 rfl) $$ HE; iintro HE
  iapply (ld_el 0 rfl (Function.update_self ..)) $$ HE; iintro HE
  iapply (st_assume c (chk1_all e))
  imod (flyU_new c E T 0 e) $$ KU with KU
  iapply (go_up E T 0 0 e rfl rfl (congrArg (fun x : ℕ => ![x, 0, 0]) (word_toNat e))) $$ [SU FU KU]
  · isplitl [SU]; · iexact SU
    isplitl [FU]; · iexact FU
    iexact KU
  iintro ⟨SU, KU⟩
  iapply (ld_el 0 rfl (Function.update_self ..)) $$ HE; iintro HE
  iapply (st_assume c (chk2_all e))
  iapply (st_pure c)
  iapply HK
  isplitl [HZ]; · iexact HZ
  isplitl [HB]; · iexact HB
  isplitl [MI]; · iexact MI
  isplitl [HI]; · iexact HI
  isplitl [S14]; · iexact S14
  isplitl [MA]; · iexact MA
  isplitl [HA]; · iexact HA
  isplitl [S15]; · iexact S15
  isplitl [HE]
  · unfold First
    iexists (Function.update el (ix1 0) (word e))
    isplitr
    · ipureintro; exact Function.update_self ..
    · iexact HE
  isplitl [SU]; · iexact SU
  isplitl [KU]; · iexact KU
  iexact HW

/-- The cleared table and the list's space hold the empty list. -/
theorem scan_new (e : Fin 32) : iprop(Zero (F := F) c 32 ∗ First (F := F) c e) ⊢ Scan (F := F) c [] := by
  unfold Zero First Scan
  iintro ⟨⟨%am, %h, HA⟩, ⟨%el, -, HE⟩⟩
  iexists el, am
  isplitr
  · ipureintro
    exact ⟨List.nodup_nil, fun i hi => absurd hi (by simp), fun e => by simp [h e e.isLt]⟩
  isplitl [HE]; · iexact HE
  iexact HA

variable {id : ℕ → Fin 8 → Fin 32}
  (hids : ∀ (j : Fin 8) (t : Fin 16), R.I (ix2 j t) = word (id t.val j)) (haid : ∀ t : Fin 16, BitVec.toNat (R.A (ix1 t)) < 8)

theorem acts_len (id : ℕ → Fin 8 → Fin 32) (t : ℕ) : (acts id t).length < 33 := Nat.lt_succ_of_le (len_le (acts_nodup id t))

theorem first_of_good {id : ℕ → Fin 8 → Fin 32} {el am} (h : Good (acts id 16) el am) : el (ix1 (0 : Fin 33)) = word (id 0 0) := by
  obtain ⟨l', hl⟩ := head_acts id 15
  have hpos : 0 < (acts id 16).length := by rw [hl]; simp
  have := h.list 0 hpos (by decide)
  rw [show (acts id 16)[0] = id 0 0 from by simp [hl]] at this
  exact this

set_option maxHeartbeats 1000000 in
include hids haid in
theorem run24 {W : Waits sig Unit} {Q} :
    iprop(srcU c E T 0 1 Finset.univ ∗ freeU (F := F) c 0 1 ∗ flyU c E T 0 (id 0 0) 1
        ∗ (mIds.view.loc (c : Thread nD τ) ↦[Finset.univ]{fullShare} R.I) ∗ (mAid.view.loc (c : Thread nD τ) ↦[Finset.univ]{fullShare} R.A) ∗ Scan (F := F) c []
        ∗ (srcA c E T 0 Finset.univ ∗ srcB c E T 0 Finset.univ ∗ freeA (F := F) c 0 ∗ freeB (F := F) c 0 ∗ semVal ((c : Thread nD τ), SemLoc.dma (semAB 0)) 0)
        ∗ (srcD c E T 0 Finset.univ ∗ freeD (F := F) c 0 ∗ semVal ((c : Thread nD τ), SemLoc.dma (semDown 0)) 0)
        ∗ Small c R 3 0 ∗ owes (c : Thread nD τ) 0 W)
      ⊢ iprop((iprop(srcU c E T 0 1 (Finset.univ \ upSrc (id 0 0) 1408) ∗ flyU c E T 0 (id 0 0) 2
          ∗ (mIds.view.loc (c : Thread nD τ) ↦[Finset.univ]{fullShare} R.I) ∗ (mAid.view.loc (c : Thread nD τ) ↦[Finset.univ]{fullShare} R.A) ∗ Scan (F := F) c (acts id 16)
          ∗ (srcA c E T 0 (Finset.univ \ aSrc (id 0 0)) ∗ srcB c E T 0 (Finset.univ \ bSrc (id 0 0)) ∗ flyAB c E T 0 (id 0 0) 2)
          ∗ (srcD c E T 0 (Finset.univ \ downSrc (id 0 0)) ∗ flyD c E T 0 (id 0 0) 1)
          ∗ Small c R 3 (0 + smallA 0) ∗ (∃ W', owes (c : Thread nD τ) 0 W')) -∗ Q (res24 ⟨(acts id 16).length, acts_len id 16⟩))
          -∗ WP c (P24 (F := F) S (word (id 0 0)) (chk2_all (id 0 0))) Q) := by
  unfold P24 onMems
  rw [k0_part24_eq_skeleton (F := F)]; unfold k0_part24_skel
  iintro ⟨SU, FU, KU, MI, MA, HS, ⟨SA, SB, FA, FB, KAB⟩, ⟨SD, FD, KD⟩, HSm, HW⟩ HK
  iapply (go_up E T 0 1 (id 0 0) rfl rfl (congrArg (fun x : ℕ => ![x, 1408, 0]) (word_toNat (id 0 0)))) $$ [SU FU KU]
  · isplitl [SU]; · iexact SU
    isplitl [FU]; · iexact FU
    iexact KU
  iintro ⟨SU, KU⟩
  iapply (run_tokens c S hids haid (word (id 0 0)) (chk2_all (id 0 0))) $$ [MI MA HS]
  · isplitl [MI]; · iexact MI
    isplitl [MA]; · iexact MA
    iexact HS
  iintro ⟨MI, MA, HS⟩
  iapply (st_assume c (chk21_all ⟨(acts id 16).length, acts_len id 16⟩))
  unfold Scan
  icases HS with ⟨%el, %am, %hg, HE, HM⟩
  have hf := first_of_good hg
  iapply (ld_el 0 rfl hf) $$ HE; iintro HE
  iapply (st_assume c (chk19_all (id 0 0)))
  imod (flyAB_new c E T 0 (id 0 0)) $$ KAB with KAB
  iapply (go_a E T 0 (id 0 0) rfl rfl (congrArg (fun x : ℕ => ![x, 0, 0]) (word_toNat (id 0 0)))) $$ [SA FA KAB]
  · isplitl [SA]; · iexact SA
    isplitl [FA]; · iexact FA
    iexact KAB
  iintro ⟨SA, KAB⟩
  iapply (go_b E T 0 (id 0 0) rfl rfl (congrArg (fun x : ℕ => ![x, 0, 0]) (word_toNat (id 0 0)))) $$ [SB FB KAB]
  · isplitl [SB]; · iexact SB
    isplitl [FB]; · iexact FB
    iexact KAB
  iintro ⟨SB, KAB⟩
  iapply (ld_el 0 rfl hf) $$ HE; iintro HE
  iapply (st_assume c (chk20_all (id 0 0)))
  imod (flyD_new c E T 0 (id 0 0)) $$ KD with KD
  iapply (go_down E T 0 (id 0 0) rfl rfl (congrArg (fun x : ℕ => ![x, 0, 0]) (word_toNat (id 0 0)))) $$ [SD FD KD]
  · isplitl [SD]; · iexact SD
    isplitl [FD]; · iexact FD
    iexact KD
  iintro ⟨SD, KD⟩
  unfold Small
  iapply (st_wait c (sp₂ := .hbm) (sem := semSmall) (J := smallA 0) rfl rfl small_1) $$ [HSm HW]
  · isplitl [HSm]; · iexact HSm
    iexact HW
  iintro ⟨HSm, HW⟩
  iapply (st_pure c)
  iapply HK
  isplitl [SU]; · iexact SU
  isplitl [KU]; · iexact KU
  isplitl [MI]; · iexact MI
  isplitl [MA]; · iexact MA
  isplitl [HE HM]
  · iexists el, am
    isplitr; · ipureintro; exact hg
    isplitl [HE]; · iexact HE
    iexact HM
  isplitl [SA SB KAB]
  · isplitl [SA]; · iexact SA
    isplitl [SB]; · iexact SB
    iexact KAB
  isplitl [SD KD]
  · isplitl [SD]; · iexact SD
    iexact KD
  isplitl [HSm]; · iexact HSm
  iexact HW

end Cert.Kernel.Hand
-- ==== Proof.Mid.lean ====
/-
  The middle of the kernel's body: the tokens are quantised and stored with their scales, and the chosen experts,
  their weights and the mask of each token's own adapter ranks are laid out.
-/
module

public import proofs.«01_k».proof.Proof.Start

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The values laid out -/

section Values
variable (R : Raw F)

def iRow (j : Fin 8) : S1x16.Idx → Elt F .i32 := fun y => R.I (ix2 j (y 1))
def wtRow (j : Fin 8) : S1x16.Idx → Elt F .f32 := fun y => R.W (ix2 j (y 1))
abbrev aidOf (t : Fin 16) : BitVec 32 := R.A (ix1 t)

/-- The quantised tokens. -/
def codesOf : FVec F S16x2816 .fp8e4m3 := k0_pay59 (k0_pay56 R.X) (k0_pay58 R.X) 127#32
/-- Their scales, as a column and as the row stored. -/
def scaleCol : FVec F S16x1 .f32 := k0_pay60 (k0_pay57 R.X)
def scaleRow : FVec F S1x16 .f32 := k0_pay61 (k0_pay57 R.X)

abbrev chosen : IVec S16x8 32 := iota .tc S16x8 32 [1] iota_S16x8_d1_w32
def ch1 : IVec S16x8 32 := k0_pay66 k0_pay63 k0_pay65 (iRow R 0)
def wt1 : FVec F S16x8 .f32 := k0_pay67 chosen k0_pay64 (wtRow R 0)
def wt2 : FVec F S16x8 .f32 := k0_pay70 chosen (wt1 R) (wtRow R 1)
def ch3 : IVec S16x8 32 := k0_pay71 chosen (ch1 R) (k0_pay68 chosen) (k0_pay69 (iRow R 1)) (iRow R 2)
def ch4 : IVec S16x8 32 := k0_pay76 chosen (ch3 R) (iRow R 3)
def wt4 : FVec F S16x8 .f32 := k0_pay77 chosen (wt2 R) (k0_pay72 chosen) k0_pay73 (k0_pay74 (wtRow R 2)) k0_pay75 (wtRow R 3)
def wt5 : FVec F S16x8 .f32 := k0_pay79 chosen (wt4 R) (wtRow R 4)
def ch6 : IVec S16x8 32 := k0_pay80 chosen (ch4 R) (k0_pay78 chosen) (iRow R 4) (iota .tc S16x16 32 [0] iota_S16x16_d0_w32)
  (iota .tc S16x16 32 [1] iota_S16x16_d1_w32) (iRow R 5)
def wt6 : FVec F S16x8 .f32 := k0_pay82 chosen (wt5 R) k0_pay81 (wtRow R 5)
def ch7 : IVec S16x8 32 := k0_pay83 chosen (ch6 R) (iRow R 6)
/-- The chosen experts, a row per token, and their weights. -/
def idsOf : IVec S16x8 32 := k0_pay86 chosen (ch7 R) (iRow R 7)
def wsOf : FVec F S16x8 .f32 := k0_pay87 chosen (wt6 R) (k0_pay84 chosen) (k0_pay85 (wtRow R 6)) (wtRow R 7)

abbrev tokenCol : IVec S16x1 32 := iota .tc S16x1 32 [0] iota_S16x1_d0_w32
def aid9 : IVec S16x1 32 := k0_pay90 (F := F) tokenCol (k0_pay88 (F := F) (aidOf R 0)) k0_pay89 (aidOf R 1) (aidOf R 2) (aidOf R 3) (aidOf R 4)
  (aidOf R 5) (aidOf R 6) (aidOf R 7) (aidOf R 8)
def aidCol : IVec S16x1 32 := k0_pay93 (F := F) tokenCol (aid9 R) (k0_pay91 tokenCol) (k0_pay92 (F := F) (aidOf R 9)) (aidOf R 10) (aidOf R 11)
  (aidOf R 12) (aidOf R 13) (aidOf R 14) (aidOf R 15)
abbrev rankRow : IVec S16x128 32 := iota .tc S16x128 32 [1] iota_S16x128_d1_w32
abbrev gt0 : BitVec 32 := Scalar.extui (Scalar.cmpi .sgt 16#32 0#32)
/-- Which of the 128 ranks are of the token's own adapter. -/
def mineOf : IVec S16x128 1 := k0_pay1 (aidCol R) rankRow 16#32 k0_pay94 k0_pay95 gt0 0#32

/-- What the trips read. -/
def envOf : Env F where
  WU := R.WU
  WD := R.WD
  WA := R.WA
  WB := R.WB
  us := R.US
  ds := R.DS
  x := R.X
  mine := mineOf R
  x8 := codesOf R
  sx := scaleCol R
  ids := idsOf R
  ws := wsOf R
end Values

/-! ## The rules of these reads and stores -/

variable (c : Dev nD)

section Rules
variable {α : Type} {Q : α → sProp (MT nD τ sig Unit (Elt F) ℕ (Pipeline.UD sig nD τ) ℕ)} (R : Raw F)

theorem read_iRow (j : Fin 8) {off : Fin 2 → ℕ} (ho : off = ![j.val, 0]) {inb} :
    mIdsV.view.readAt (Elt F) (Rect.unit (s := S8x16) off S1x16.size inb).toLoadRect R.I = iRow R j := by
  subst ho
  funext y
  have h0 : (y 0).val < 1 := (y 0).isLt
  refine congrArg R.I ?_
  funext a
  apply Fin.ext
  fin_cases a
  · show j.val + 1 * (y 0).val = j.val
    omega
  · show 0 + 1 * (y 1).val = (y 1).val
    omega

theorem ld_iRow (j : Fin 8) {off : Fin 2 → ℕ} (ho : off = ![j.val, 0]) {inb hl} {k : _ → Prog (TpuEff nD τ sig (Elt F) Λ₀ .tc) α} :
    (mIdsV.view.loc (c : Thread nD τ) ↦[Finset.univ]{fullShare} R.I) ⊢ iprop(((mIdsV.view.loc (c : Thread nD τ) ↦[Finset.univ]{fullShare} R.I) -∗ WP c (k (iRow R j)) Q)
        -∗ WP c (Prog.lift (TpuEff.load mIdsV (Rect.unit (s := S8x16) off S1x16.size inb).toLoadRect hl) >>= k) Q) :=
  st_load c (Finset.subset_univ _) (read_iRow R j ho)

theorem read_wtRow (j : Fin 8) {off : Fin 2 → ℕ} (ho : off = ![j.val, 0]) {inb} :
    mWv.view.readAt (Elt F) (Rect.unit (s := S8x16) off S1x16.size inb).toLoadRect R.W = wtRow R j := by
  subst ho
  funext y
  have h0 : (y 0).val < 1 := (y 0).isLt
  refine congrArg R.W ?_
  funext a
  apply Fin.ext
  fin_cases a
  · show j.val + 1 * (y 0).val = j.val
    omega
  · show 0 + 1 * (y 1).val = (y 1).val
    omega

theorem ld_wtRow (j : Fin 8) {off : Fin 2 → ℕ} (ho : off = ![j.val, 0]) {inb hl} {k : _ → Prog (TpuEff nD τ sig (Elt F) Λ₀ .tc) α} :
    (mWv.view.loc (c : Thread nD τ) ↦[Finset.univ]{fullShare} R.W) ⊢ iprop(((mWv.view.loc (c : Thread nD τ) ↦[Finset.univ]{fullShare} R.W) -∗ WP c (k (wtRow R j)) Q)
        -∗ WP c (Prog.lift (TpuEff.load mWv (Rect.unit (s := S8x16) off S1x16.size inb).toLoadRect hl) >>= k) Q) :=
  st_load c (Finset.subset_univ _) (read_wtRow R j ho)

theorem zero2 : (![0, 0] : Fin 2 → ℕ) = fun _ => 0 := by funext a; fin_cases a <;> rfl

theorem ld_x {inb hl} {k : _ → Prog (TpuEff nD τ sig (Elt F) Λ₀ .tc) α} :
    (mXv.view.loc (c : Thread nD τ) ↦[Finset.univ]{fullShare} R.X) ⊢ iprop(((mXv.view.loc (c : Thread nD τ) ↦[Finset.univ]{fullShare} R.X) -∗ WP c (k R.X) Q)
        -∗ WP c (Prog.lift (TpuEff.load mXv (Rect.unit (s := S16x2816) ![0, 0] S16x2816.size inb).toLoadRect hl) >>= k) Q) :=
  st_load c (Finset.subset_univ _) (Memref.readAt_unit_zero (Elt F) cc0_scratch4 zero2 _ R.X)

theorem ld_accAll {f : S16x2816.Idx → Elt F .f32} {inb hl} {k : _ → Prog (TpuEff nD τ sig (Elt F) Λ₀ .tc) α} :
    (mAcc.view.loc (c : Thread nD τ) ↦[Finset.univ]{fullShare} f) ⊢ iprop(((mAcc.view.loc (c : Thread nD τ) ↦[Finset.univ]{fullShare} f) -∗ WP c (k f) Q)
        -∗ WP c (Prog.lift (TpuEff.load mAcc (Rect.unit (s := S16x2816) ![0, 0] S16x2816.size inb).toLoadRect hl) >>= k) Q) :=
  st_load c (Finset.subset_univ _) (Memref.readAt_unit_zero (Elt F) cc0_scratch11 zero2 _ f)

theorem sto_accAll {f w : S16x2816.Idx → Elt F .f32} {inb hx hm} {k : _ → Prog (TpuEff nD τ sig (Elt F) Λ₀ .tc) α} :
    (mAcc.view.loc (c : Thread nD τ) ↦[Finset.univ]{fullShare} f) ⊢ iprop(((mAcc.view.loc (c : Thread nD τ) ↦[Finset.univ]{fullShare} w) -∗ WP c (k ⟨⟩) Q)
        -∗ WP c (Prog.lift (TpuEff.store mAcc (Rect.unit (s := S16x2816) ![0, 0] S16x2816.size inb) w Finset.univ hx hm) >>= k) Q) :=
  st_store c (m := mAcc) (r := Rect.unit (s := S16x2816) ![0, 0] S16x2816.size inb) (w := w) (Mk := Finset.univ) (S := Finset.univ) (f := f) (g := w)
    (Finset.subset_univ _) (Memref.write_access_unit_zero_univ (Elt F) cc0_scratch11 zero2 _ f w)

/-- A result's buffer, read: nothing depends on what is read. -/
theorem own_load {s : Shape} {e : EltTy} (m : Memref sig .tc .vmem s e) {d : s.Idx → Elt F e} {r : Rect s} {hl} {k : _ → Prog (TpuEff nD τ sig (Elt F) Λ₀ .tc) α} :
    (owns (c : Thread nD τ) m fullShare d : sProp (MT nD τ sig Unit (Elt F) ℕ (Pipeline.UD sig nD τ) ℕ))
      ⊢ iprop((∀ v, owns (c : Thread nD τ) m fullShare d -∗ WP c (k v) Q) -∗ WP c (Prog.lift (TpuEff.load m r.toLoadRect hl) >>= k) Q) := by
  unfold owns
  iintro ⟨%f, %hf, H⟩ HK
  iapply (st_load c (m := m) (r := r) (S := m.view.set) (f := f) (Finset.map_subset_map.mpr (Finset.subset_univ _)) rfl) $$ H
  iintro H
  iapply HK
  iexists f
  isplitr; · ipureintro; exact hf
  iexact H

/-- A result's buffer, overwritten whole. -/
theorem own_store {s : Shape} {e : EltTy} (m : Memref sig .tc .vmem s e) {d : s.Idx → Elt F e} {off : Fin s.rank → ℕ} (ho : off = fun _ => 0) {inb : ∀ a, off a + s.size a ≤ s.size a}
    {w : s.Idx → Elt F e} {hx hm} {k : PUnit → Prog (TpuEff nD τ sig (Elt F) Λ₀ .tc) α} :
    (owns (c : Thread nD τ) m fullShare d : sProp (MT nD τ sig Unit (Elt F) ℕ (Pipeline.UD sig nD τ) ℕ))
      ⊢ iprop((owns (c : Thread nD τ) m fullShare w -∗ WP c (k ⟨⟩) Q)
        -∗ WP c (Prog.lift (TpuEff.store m (Rect.unit (s := s) off s.size inb) w Finset.univ hx hm) >>= k) Q) := by
  subst ho
  have hr : ∀ f, m.view.read (Elt F) ((m.access (Rect.unit (s := s) (fun _ => 0) s.size inb)).write (Elt F) f w Finset.univ) = w := by
    intro f
    funext x
    have h := View.read_slice_write_emb (v := m.view) (Val := Elt F) (Rect.unit (s := s) (fun _ => 0) s.size inb) f w (M := Finset.univ) (x := x) (Finset.mem_univ _)
    have hx : (Rect.unit (s := s) (fun _ => 0) s.size inb).emb x = x := by
      funext a
      apply Fin.ext
      show 0 + 1 * (x a).val = (x a).val
      omega
    rw [hx] at h
    exact h
  have hs : (m.access (Rect.unit (s := s) (fun _ => 0) s.size inb)).setOn Finset.univ ⊆ m.view.set :=
    View.set_slice_subset _ _
  unfold owns
  iintro ⟨%f, %hf, H⟩ HK
  iapply (st_store c (m := m) (r := Rect.unit (s := s) (fun _ => 0) s.size inb) (w := w) (Mk := Finset.univ) (S := m.view.set) (f := f)
    (g := (m.access (Rect.unit (s := s) (fun _ => 0) s.size inb)).write (Elt F) f w Finset.univ) hs rfl) $$ H
  iintro H
  iapply HK
  iexists ((m.access (Rect.unit (s := s) (fun _ => 0) s.size inb)).write (Elt F) f w Finset.univ)
  isplitr; · ipureintro; exact hr f
  iexact H

end Rules

/-! ## The pieces in turn -/

section Pieces
variable (S : Stg) (R : Raw F)

abbrev res25 : Σ' (v78 : Vec F S16x2816 .bf16) (v79 : FVec F S16x2816 .f32) (v113 : IVec S16x1 32) (v115 : IVec S16x1 32), BitVec 32 :=
  ⟨R.X, k0_pay56 R.X, k0_pay57 R.X, k0_pay58 R.X, 127#32⟩

theorem small_out : (BI.bigSep Finset.univ (smallD c R) : sProp 𝕄) ⊢ iprop(((mXv.view.loc (c : Thread nD τ) ↦[Finset.univ]{fullShare} R.X) ∗ (hX.view.loc (c : Thread nD τ) ↦[Finset.univ]{fullShare} R.X)) ∗ ((mWus.view.loc (c : Thread nD τ) ↦[Finset.univ]{fullShare} R.US) ∗ (hUs.view.loc (c : Thread nD τ) ↦[Finset.univ]{fullShare} R.US)) ∗ ((mWds.view.loc (c : Thread nD τ) ↦[Finset.univ]{fullShare} R.DS) ∗ (hDs.view.loc (c : Thread nD τ) ↦[Finset.univ]{fullShare} R.DS))) := by
  rw [show (Finset.univ : Finset (Fin 3)) = {0, 1, 2} from rfl, BI.bigSep_insert (by decide), BI.bigSep_insert (by decide), BI.bigSep_singleton]
  exact .rfl

set_option maxHeartbeats 1000000 in
theorem run25 (q1 : PosShare TreeShare) {W : Waits sig Unit} {Q} :
    iprop(AloneV c R q1 ∗ AloneW c R ∗ Small c R 3 (0 + smallA 0) ∗ owes (c : Thread nD τ) 0 W)
      ⊢ iprop((iprop((mIdsV.view.loc (c : Thread nD τ) ↦[Finset.univ]{fullShare} R.I) ∗ (hIds.view.loc (c : Thread nD τ) ↦[Finset.univ]{q1} R.I) ∗ semVal ((c : Thread nD τ), SemLoc.dma cc0_scratch16.sem) 0
          ∗ (mWv.view.loc (c : Thread nD τ) ↦[Finset.univ]{fullShare} R.W) ∗ (hW.view.loc (c : Thread nD τ) ↦[Finset.univ]{fullShare} R.W) ∗ semVal ((c : Thread nD τ), SemLoc.dma cc0_scratch17.sem) 0
          ∗ ((mXv.view.loc (c : Thread nD τ) ↦[Finset.univ]{fullShare} R.X) ∗ (hX.view.loc (c : Thread nD τ) ↦[Finset.univ]{fullShare} R.X)) ∗ ((mWus.view.loc (c : Thread nD τ) ↦[Finset.univ]{fullShare} R.US) ∗ (hUs.view.loc (c : Thread nD τ) ↦[Finset.univ]{fullShare} R.US)) ∗ ((mWds.view.loc (c : Thread nD τ) ↦[Finset.univ]{fullShare} R.DS) ∗ (hDs.view.loc (c : Thread nD τ) ↦[Finset.univ]{fullShare} R.DS))
          ∗ semVal ((c : Thread nD τ), SemLoc.dma semSmall) 0 ∗ (∃ W', owes (c : Thread nD τ) 0 W')) -∗ Q (res25 R))
        -∗ WP c (P25 (F := F) S) Q) := by
  unfold P25 onMems
  rw [k0_part25_eq_skeleton (F := F)]; unfold k0_part25_skel Small
  iintro ⟨AV, AW, HS, HW⟩ HK
  iapply (wait_one c hIds mIdsV q1 R.I R.I (sem := cc0_scratch16.sem) rfl rfl (by decide)) $$ [AV HW]
  · isplitl [AV]; · iexact AV
    iexact HW
  iintro ⟨MV, HI, S16, ⟨%W1, HW⟩⟩
  iapply (wait_one c hW mWv fullShare R.W R.W (sem := cc0_scratch17.sem) rfl rfl (by decide)) $$ [AW HW]
  · isplitl [AW]; · iexact AW
    iexact HW
  iintro ⟨MW, HWt, S17, ⟨%W2, HW⟩⟩
  iapply (st_wait c (sp₂ := .hbm) (sem := semSmall) (J := smallA 1) rfl rfl small_2) $$ [HS HW]
  · isplitl [HS]; · iexact HS
    iexact HW
  iintro ⟨HS, ⟨%W3, HW⟩⟩
  iapply (st_waitAll c (sp₂ := .hbm) (sem := semSmall) (J := smallA 2) rfl rfl smallA_pos small_3) $$ [HS HW]
  · isplitl [HS]; · iexact HS
    iexact HW
  iintro ⟨HS, SS, HW⟩
  ihave HS := (small_out c R) $$ HS
  icases HS with ⟨⟨MX, HX⟩, HU, HD⟩
  iapply (ld_x c R) $$ MX; iintro MX
  iapply (st_pure c)
  iapply HK
  isplitl [MV]; · iexact MV
  isplitl [HI]; · iexact HI
  isplitl [S16]; · iexact S16
  isplitl [MW]; · iexact MW
  isplitl [HWt]; · iexact HWt
  isplitl [S17]; · iexact S17
  isplitl [MX HX]
  · isplitl [MX]; · iexact MX
    iexact HX
  isplitl [HU]; · iexact HU
  isplitl [HD]; · iexact HD
  isplitl [SS]; · iexact SS
  iexact HW

abbrev res26 : Σ' (v127 : FVec F S16x2816 .fp8e4m3) (v132 : FVec F S16x1 .f32) (v150 : IVec S16x8 32) (v151 : IVec S16x8 32) (v152 : FVec F S16x8 .f32), IVec S16x8 1 :=
  ⟨codesOf R, scaleCol R, chosen, k0_pay63, k0_pay64, k0_pay65⟩

theorem run26 {d11 d12} {f} {Q} :
    iprop(owns (c : Thread nD τ) S.a11 fullShare d11 ∗ owns (c : Thread nD τ) S.a12 fullShare d12 ∗ (mAcc.view.loc (c : Thread nD τ) ↦[Finset.univ]{fullShare} f))
      ⊢ iprop((iprop(owns (c : Thread nD τ) S.a11 fullShare (codesOf R) ∗ owns (c : Thread nD τ) S.a12 fullShare (scaleRow R) ∗ (mAcc.view.loc (c : Thread nD τ) ↦[Finset.univ]{fullShare} k0_pay62)) -∗ Q (res26 R))
        -∗ WP c (P26 (F := F) S (k0_pay56 R.X) (k0_pay57 R.X) (k0_pay58 R.X) 127#32) Q) := by
  unfold P26 onMems
  rw [k0_part26_eq_skeleton (F := F)]; unfold k0_part26_skel
  iintro ⟨H11, H12, HA⟩ HK
  iapply (own_load c S.a11) $$ H11; iintro %v0 H11
  iapply (own_store c S.a11 zero2) $$ H11; iintro H11
  iapply (own_load c S.a12) $$ H12; iintro %v1 H12
  iapply (own_store c S.a12 zero2) $$ H12; iintro H12
  iapply (ld_accAll c) $$ HA; iintro HA
  iapply (sto_accAll c) $$ HA; iintro HA
  iapply (st_end c (res26 R) rfl)
  iapply HK
  isplitl [H11]; · iexact H11
  isplitl [H12]; · iexact H12
  iexact HA

abbrev res27 : Σ' (v169 : IVec S16x8 32) (v186 : FVec F S16x8 .f32) (v188 : IVec S16x8 1), IVec S16x1 32 :=
  ⟨ch1 R, wt1 R, k0_pay68 chosen, k0_pay69 (iRow R 1)⟩

theorem run27 {Q} :
    iprop((mIdsV.view.loc (c : Thread nD τ) ↦[Finset.univ]{fullShare} R.I) ∗ (mWv.view.loc (c : Thread nD τ) ↦[Finset.univ]{fullShare} R.W))
      ⊢ iprop((iprop((mIdsV.view.loc (c : Thread nD τ) ↦[Finset.univ]{fullShare} R.I) ∗ (mWv.view.loc (c : Thread nD τ) ↦[Finset.univ]{fullShare} R.W)) -∗ Q (res27 R))
        -∗ WP c (P27 (F := F) S chosen k0_pay63 k0_pay64 k0_pay65) Q) := by
  unfold P27 onMems
  rw [k0_part27_eq_skeleton (F := F)]; unfold k0_part27_skel
  iintro ⟨MV, MW⟩ HK
  iapply (ld_iRow c R 0 rfl) $$ MV; iintro MV
  iapply (ld_wtRow c R 0 rfl) $$ MW; iintro MW
  iapply (ld_iRow c R 1 rfl) $$ MV; iintro MV
  iapply (st_end c (res27 R) rfl)
  iapply HK
  isplitl [MV]; · iexact MV
  iexact MW

abbrev res28 : Σ' (v220 : FVec F S16x8 .f32) (v237 : IVec S16x8 32) (v239 : IVec S16x8 1) (v243 : IVec S16x16 1) (v246 : FVec F S16x16 .f32), FVec F S1x16 .f32 :=
  ⟨wt2 R, ch3 R, k0_pay72 chosen, k0_pay73, k0_pay74 (wtRow R 2), k0_pay75⟩

theorem run28 {Q} :
    iprop((mIdsV.view.loc (c : Thread nD τ) ↦[Finset.univ]{fullShare} R.I) ∗ (mWv.view.loc (c : Thread nD τ) ↦[Finset.univ]{fullShare} R.W))
      ⊢ iprop((iprop((mIdsV.view.loc (c : Thread nD τ) ↦[Finset.univ]{fullShare} R.I) ∗ (mWv.view.loc (c : Thread nD τ) ↦[Finset.univ]{fullShare} R.W)) -∗ Q (res28 R))
        -∗ WP c (P28 (F := F) S chosen (ch1 R) (wt1 R) (k0_pay68 chosen) (k0_pay69 (iRow R 1))) Q) := by
  unfold P28 onMems
  rw [k0_part28_eq_skeleton (F := F)]; unfold k0_part28_skel
  iintro ⟨MV, MW⟩ HK
  iapply (ld_wtRow c R 1 rfl) $$ MW; iintro MW
  iapply (ld_iRow c R 2 rfl) $$ MV; iintro MV
  iapply (ld_wtRow c R 2 rfl) $$ MW; iintro MW
  iapply (st_end c (res28 R) rfl)
  iapply HK
  isplitl [MV]; · iexact MV
  iexact MW

abbrev res29 : Σ' (v271 : IVec S16x8 32) (v288 : FVec F S16x8 .f32) (v290 : IVec S16x8 1) (v291 : Vec F S1x16 .i32) (v292 : IVec S16x16 32), IVec S16x16 32 :=
  ⟨ch4 R, wt4 R, k0_pay78 chosen, iRow R 4, iota .tc S16x16 32 [0] iota_S16x16_d0_w32, iota .tc S16x16 32 [1] iota_S16x16_d1_w32⟩

theorem run29 {Q} :
    iprop((mIdsV.view.loc (c : Thread nD τ) ↦[Finset.univ]{fullShare} R.I) ∗ (mWv.view.loc (c : Thread nD τ) ↦[Finset.univ]{fullShare} R.W))
      ⊢ iprop((iprop((mIdsV.view.loc (c : Thread nD τ) ↦[Finset.univ]{fullShare} R.I) ∗ (mWv.view.loc (c : Thread nD τ) ↦[Finset.univ]{fullShare} R.W)) -∗ Q (res29 R))
        -∗ WP c (P29 (F := F) S chosen (wt2 R) (ch3 R) (k0_pay72 chosen) k0_pay73 (k0_pay74 (wtRow R 2)) k0_pay75) Q) := by
  unfold P29 onMems
  rw [k0_part29_eq_skeleton (F := F)]; unfold k0_part29_skel
  iintro ⟨MV, MW⟩ HK
  iapply (ld_iRow c R 3 rfl) $$ MV; iintro MV
  iapply (ld_wtRow c R 3 rfl) $$ MW; iintro MW
  iapply (ld_iRow c R 4 rfl) $$ MV; iintro MV
  iapply (st_end c (res29 R) rfl)
  iapply HK
  isplitl [MV]; · iexact MV
  iexact MW

abbrev res30 : Σ' (v322 : FVec F S16x8 .f32) (v339 : IVec S16x8 32), IVec S16x8 32 :=
  ⟨wt5 R, ch6 R, k0_pay81⟩

theorem run30 {Q} :
    iprop((mIdsV.view.loc (c : Thread nD τ) ↦[Finset.univ]{fullShare} R.I) ∗ (mWv.view.loc (c : Thread nD τ) ↦[Finset.univ]{fullShare} R.W))
      ⊢ iprop((iprop((mIdsV.view.loc (c : Thread nD τ) ↦[Finset.univ]{fullShare} R.I) ∗ (mWv.view.loc (c : Thread nD τ) ↦[Finset.univ]{fullShare} R.W)) -∗ Q (res30 R))
        -∗ WP c (P30 (F := F) S chosen (ch4 R) (wt4 R) (k0_pay78 chosen) (iRow R 4) (iota .tc S16x16 32 [0] iota_S16x16_d0_w32) (iota .tc S16x16 32 [1] iota_S16x16_d1_w32)) Q) := by
  unfold P30 onMems
  rw [k0_part30_eq_skeleton (F := F)]; unfold k0_part30_skel
  iintro ⟨MV, MW⟩ HK
  iapply (ld_wtRow c R 4 rfl) $$ MW; iintro MW
  iapply (ld_iRow c R 5 rfl) $$ MV; iintro MV
  iapply (st_end c (res30 R) rfl)
  iapply HK
  isplitl [MV]; · iexact MV
  iexact MW

abbrev res31 : Σ' (v356 : FVec F S16x8 .f32) (v373 : IVec S16x8 32) (v375 : IVec S16x8 1), FVec F S16 .f32 :=
  ⟨wt6 R, ch7 R, k0_pay84 chosen, k0_pay85 (wtRow R 6)⟩

theorem run31 {Q} :
    iprop((mIdsV.view.loc (c : Thread nD τ) ↦[Finset.univ]{fullShare} R.I) ∗ (mWv.view.loc (c : Thread nD τ) ↦[Finset.univ]{fullShare} R.W))
      ⊢ iprop((iprop((mIdsV.view.loc (c : Thread nD τ) ↦[Finset.univ]{fullShare} R.I) ∗ (mWv.view.loc (c : Thread nD τ) ↦[Finset.univ]{fullShare} R.W)) -∗ Q (res31 R))
        -∗ WP c (P31 (F := F) S chosen (wt5 R) (ch6 R) k0_pay81) Q) := by
  unfold P31 onMems
  rw [k0_part31_eq_skeleton (F := F)]; unfold k0_part31_skel
  iintro ⟨MV, MW⟩ HK
  iapply (ld_wtRow c R 5 rfl) $$ MW; iintro MW
  iapply (ld_iRow c R 6 rfl) $$ MV; iintro MV
  iapply (ld_wtRow c R 6 rfl) $$ MW; iintro MW
  iapply (st_end c (res31 R) rfl)
  iapply HK
  isplitl [MV]; · iexact MV
  iexact MW

abbrev res32 : Σ' (v407 : IVec S16x8 32) (v424 : FVec F S16x8 .f32) (v425 : IVec S16x1 32) (v431 : IVec S16x1 32), IVec S16x1 32 :=
  ⟨idsOf R, wsOf R, tokenCol, k0_pay88 (F := F) (aidOf R 0), k0_pay89⟩

theorem run32 {Q} :
    iprop((mIdsV.view.loc (c : Thread nD τ) ↦[Finset.univ]{fullShare} R.I) ∗ (mWv.view.loc (c : Thread nD τ) ↦[Finset.univ]{fullShare} R.W) ∗ (mAid.view.loc (c : Thread nD τ) ↦[Finset.univ]{fullShare} R.A))
      ⊢ iprop((iprop((mIdsV.view.loc (c : Thread nD τ) ↦[Finset.univ]{fullShare} R.I) ∗ (mWv.view.loc (c : Thread nD τ) ↦[Finset.univ]{fullShare} R.W) ∗ (mAid.view.loc (c : Thread nD τ) ↦[Finset.univ]{fullShare} R.A)) -∗ Q (res32 R))
        -∗ WP c (P32 (F := F) S chosen (wt6 R) (ch7 R) (k0_pay84 chosen) (k0_pay85 (wtRow R 6))) Q) := by
  unfold P32 onMems
  rw [k0_part32_eq_skeleton (F := F)]; unfold k0_part32_skel
  iintro ⟨MV, MW, MA⟩ HK
  iapply (ld_iRow c R 7 rfl) $$ MV; iintro MV
  iapply (ld_wtRow c R 7 rfl) $$ MW; iintro MW
  iapply (ld_aid c 0 rfl) $$ MA; iintro MA
  iapply (st_end c (res32 R) rfl)
  iapply HK
  isplitl [MV]; · iexact MV
  isplitl [MW]; · iexact MW
  iexact MA

abbrev res33 : Σ' (v471 : IVec S16x1 32) (v473 : IVec S16x1 1), IVec S16x1 32 :=
  ⟨aid9 R, k0_pay91 tokenCol, k0_pay92 (F := F) (aidOf R 9)⟩

theorem run33 {Q} :
    (mAid.view.loc (c : Thread nD τ) ↦[Finset.univ]{fullShare} R.A)
      ⊢ iprop(((mAid.view.loc (c : Thread nD τ) ↦[Finset.univ]{fullShare} R.A) -∗ Q (res33 R))
        -∗ WP c (P33 (F := F) S tokenCol (k0_pay88 (F := F) (aidOf R 0)) k0_pay89) Q) := by
  unfold P33 onMems
  rw [k0_part33_eq_skeleton (F := F)]; unfold k0_part33_skel
  iintro MA HK
  iapply (ld_aid c 1 rfl) $$ MA; iintro MA
  iapply (ld_aid c 2 rfl) $$ MA; iintro MA
  iapply (ld_aid c 3 rfl) $$ MA; iintro MA
  iapply (ld_aid c 4 rfl) $$ MA; iintro MA
  iapply (ld_aid c 5 rfl) $$ MA; iintro MA
  iapply (ld_aid c 6 rfl) $$ MA; iintro MA
  iapply (ld_aid c 7 rfl) $$ MA; iintro MA
  iapply (ld_aid c 8 rfl) $$ MA; iintro MA
  iapply (ld_aid c 9 rfl) $$ MA; iintro MA
  iapply (st_end c (res33 R) rfl)
  iapply HK
  iexact MA

abbrev res34 : Σ' (v506 : IVec S16x1 32) (v507 : IVec S16x128 32) (c16_i32_199 : BitVec 32) (v509 : IVec S16x128 32) (v516 : IVec S16x128 32) (v518 : BitVec 32), BitVec 32 :=
  ⟨aidCol R, rankRow, 16#32, k0_pay94, k0_pay95, gt0, 0#32⟩

theorem run34 {Q} :
    (mAid.view.loc (c : Thread nD τ) ↦[Finset.univ]{fullShare} R.A)
      ⊢ iprop(((mAid.view.loc (c : Thread nD τ) ↦[Finset.univ]{fullShare} R.A) -∗ Q (res34 R))
        -∗ WP c (P34 (F := F) S tokenCol (aid9 R) (k0_pay91 tokenCol) (k0_pay92 (F := F) (aidOf R 9))) Q) := by
  unfold P34 onMems
  rw [k0_part34_eq_skeleton (F := F)]; unfold k0_part34_skel
  dsimp only
  iintro MA HK
  iapply (ld_aid c 10 rfl) $$ MA; iintro MA
  iapply (ld_aid c 11 rfl) $$ MA; iintro MA
  iapply (ld_aid c 12 rfl) $$ MA; iintro MA
  iapply (ld_aid c 13 rfl) $$ MA; iintro MA
  iapply (ld_aid c 14 rfl) $$ MA; iintro MA
  iapply (ld_aid c 15 rfl) $$ MA; iintro MA
  iapply (st_end c (res34 R) rfl)
  iapply HK
  iexact MA

end Pieces

end Cert.Kernel.Hand
-- ==== Proof.Body.lean ====
/-
  The kernel's body, whole: from the arrays it is called on to the three results.
-/
module

public import proofs.«01_k».proof.Proof.Mid

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (S : Stg) (R : Raw F) (T : Shr)

/-- A slot with nothing in flight, short of its room for the second low-rank matrix. -/
def SlotIn (E : Env F) (s : Fin 2) : sProp 𝕄 := iprop(
  (srcU c E T s 0 Finset.univ ∗ srcU c E T s 1 Finset.univ ∗ freeU (F := F) c s 0 ∗ freeU (F := F) c s 1
    ∗ semVal ((c : Thread nD τ), SemLoc.dma (semUp s)) 0)
  ∗ (srcD c E T s Finset.univ ∗ freeD (F := F) c s ∗ semVal ((c : Thread nD τ), SemLoc.dma (semDown s)) 0)
  ∗ (srcA c E T s Finset.univ ∗ srcB c E T s Finset.univ ∗ freeA (F := F) c s
    ∗ semVal ((c : Thread nD τ), SemLoc.dma (semAB s)) 0))

theorem slot_full (E : Env F) (s : Fin 2) : iprop(SlotIn c T E s ∗ freeB (F := F) c s) ⊢ Idle c E T s := by
  unfold SlotIn Idle
  iintro ⟨⟨H1, H2, H3, H4, H5, H6⟩, H7⟩
  isplitl [H1]; · iexact H1
  isplitl [H2]; · iexact H2
  isplitl [H3]; · iexact H3
  isplitl [H4]; · iexact H4
  isplitl [H5]; · iexact H5
  isplitl [H7]; · iexact H7
  iexact H6

theorem b_split : iprop((∃ f, (mB.view.loc (c : Thread nD τ) ↦[Finset.univ]{fullShare} f))) ⊢ (iprop(freeB (F := F) c 0 ∗ freeB (F := F) c 1) : sProp 𝕄) := by
  have hu : (Finset.univ : Finset S2x128x3072.Idx) = bBox 0 ∪ bBox 1 := by
    ext i
    have h0 : (i 0).val < 2 := (i 0).isLt
    have h1 : (i 1).val < 128 := (i 1).isLt
    have h2 : (i 2).val < 3072 := (i 2).isLt
    simp only [Finset.mem_union, mem_box, Fin.forall_fin_succ, Fin.forall_fin_zero_pi, IsEmpty.forall_iff]
    simp
    omega
  have hd : Disjoint (bBox 0) (bBox 1) := by
    rw [Finset.disjoint_left]
    intro i hi hj
    rw [mem_box] at hi hj
    have h1 := (hi 0).2; have h2 := (hj 0).1
    simp at h1 h2
    omega
  unfold freeB
  iintro ⟨%f, H⟩
  rw [hu]
  ihave H := (pointsTo_union hd).1 $$ H
  icases H with ⟨H1, H2⟩
  isplitl [H1]
  · iexists f; iexact H1
  · iexists f; iexact H2

theorem skip_rest (n : Fin 33) (hw : k0_chk21 (BitVec.ofNat 32 n)) {α : Type} {Q : α → sProp (MT nD τ sig Unit (Elt F) ℕ (Pipeline.UD sig nD τ) ℕ)}
    {body} {kk : PUnit.{1} → Prog (TpuEff nD τ sig (Elt F) Λ₀ .tc) α} :
    WP c (kk ⟨⟩) Q ⊢ WP c (Scf.Loop.for (k0_t3_loop (BitVec.ofNat 32 n)) (k0_t3_ok (BitVec.ofNat 32 n) hw) ⟨⟩ body >>= kk) Q :=
  Scf.wp_for0_bind _ _ _ (k0_t3_loop (BitVec.ofNat 32 n)).lb (k0_t3_loop (BitVec.ofNat 32 n)).ub (k0_t3_loop (BitVec.ofNat 32 n)).st
    (k0_t3_ok (BitVec.ofNat 32 n) hw) body (trips_all n).2 kk Q _ .rfl

theorem two_idle (E : Env F) (n : ℕ) : iprop(Idle c E T (par n) ∗ Idle c E T (par (n + 1))) ⊢ (iprop(Idle c E T 0 ∗ Idle c E T 1) : sProp 𝕄) := by
  rcases Nat.mod_two_eq_zero_or_one n with h | h
  · rw [show par n = 0 from Fin.ext h, show par (n + 1) = 1 from Fin.ext (by show (n + 1) % 2 = 1; omega)]
  · rw [show par n = 1 from Fin.ext h, show par (n + 1) = 0 from Fin.ext (by show (n + 1) % 2 = 0; omega)]
    iintro ⟨H1, H2⟩
    isplitl [H2]; · iexact H2
    iexact H1

variable (id : ℕ → Fin 8 → Fin 32)

theorem good_el {l : List (Fin 32)} {el am} (hg : Good l el am) (i : Fin 33) (hi : i.val < l.length) : el (ix1 i) = word (l.getD i.val 0) := by
  have h := hg.list i.val hi i.isLt
  rw [List.getD_eq_getElem?_getD, List.getElem?_eq_getElem hi, Option.getD_some]
  exact h

theorem acts_pos : 0 < (acts id 16).length := by
  obtain ⟨l', hl⟩ := head_acts id 15
  have hl : acts id 16 = id 0 0 :: l' := hl
  simp only [hl, List.length_cons, Nat.zero_lt_succ]

theorem acts_head : (acts id 16).getD 0 0 = id 0 0 := by
  obtain ⟨l', hl⟩ := head_acts id 15
  have hl : acts id 16 = id 0 0 :: l' := hl
  simp only [hl, List.getD_cons_zero]

attribute [local irreducible] acts

/-- The list of experts in use, and how many there are. -/
abbrev exOf (k : ℕ) : Fin 32 := (acts id 16).getD k 0
abbrev nOf : Fin 33 := ⟨(acts id 16).length, acts_len id 16⟩
/-- The accumulated rows after the whole list, and the rows stored. -/
def sumOf : S16x2816.Idx → Elt F .f32 := accs (envOf R) (exOf id) k0_pay62 (nOf id).val
def yOf : FVec F S16x2816 .bf16 := k0_pay6 (sumOf R id)

variable {id} (hids : ∀ (j : Fin 8) (t : Fin 16), R.I (ix2 j t) = word (id t.val j)) (haid : ∀ t : Fin 16, BitVec.toNat (R.A (ix1 t)) < 8)

/-- The arrays copied whole, the routing at two shares; the buffers and cells of these copies. -/
abbrev Given (q0 q1 : PosShare TreeShare) : sProp 𝕄 := iprop(HbmIn c R q0 q1 ∗ FreeIn (F := F) c ∗ SemIn (F := F) c)

set_option maxHeartbeats 400000 in
include hids haid in
theorem run_body (q0 q1 : PosShare TreeShare) {d10 d11 d12} {W : Waits sig Unit} {Q} :
    iprop(Given c R q0 q1 ∗ Zero (F := F) c 0 ∗ (∃ f, (mB.view.loc (c : Thread nD τ) ↦[Finset.univ]{fullShare} f)) ∗ (∃ el, El (F := F) c el) ∗ (∃ f, (mAcc.view.loc (c : Thread nD τ) ↦[Finset.univ]{fullShare} f))
        ∗ SlotIn c T (envOf R) 0 ∗ SlotIn c T (envOf R) 1
        ∗ owns (c : Thread nD τ) S.a10 fullShare d10 ∗ owns (c : Thread nD τ) S.a11 fullShare d11 ∗ owns (c : Thread nD τ) S.a12 fullShare d12
        ∗ owes (c : Thread nD τ) 0 W)
      ⊢ iprop((iprop(Given c R q0 q1 ∗ (∃ f, (mAm.view.loc (c : Thread nD τ) ↦[Finset.univ]{fullShare} f)) ∗ (∃ el, El (F := F) c el) ∗ (∃ f, (mAcc.view.loc (c : Thread nD τ) ↦[Finset.univ]{fullShare} f))
        ∗ Idle c (envOf R) T 0 ∗ Idle c (envOf R) T 1
        ∗ owns (c : Thread nD τ) S.a10 fullShare (yOf R id) ∗ owns (c : Thread nD τ) S.a11 fullShare (codesOf R) ∗ owns (c : Thread nD τ) S.a12 fullShare (scaleRow R)
        ∗ (∃ W', owes (c : Thread nD τ) 0 W')) -∗ Q ⟨⟩) -∗ WP c (PBody (F := F) S) Q) := by
  unfold yOf sumOf PBody onMems
  rw [cc0_moe_fp8_lora_eq_skeleton (F := F)]; unfold cc0_moe_fp8_lora_skel
  have hn : 0 < (nOf id).val := acts_pos id
  have hex0 : exOf id 0 = id 0 0 := acts_head id
  unfold Given
  iintro ⟨⟨GH, GF, GS⟩, HZ, HB, HE, ⟨%acc0, HAcc⟩, HS0, HS1, H10, H11, H12, HW⟩ HK
  iapply (st_bind c)
  iapply (run21 c S R q0 q1) $$ [GH GF GS HZ]
  · isplitl [GH]; · iexact GH
    isplitl [GF]; · iexact GF
    isplitl [GS]; · iexact GS
    iexact HZ
  iintro ⟨AI, AA, AV, AW, HSm, HZ⟩
  iapply (st_bind c)
  iapply (run22 c S) $$ HZ; iintro HZ
  unfold SlotIn
  icases HS0 with ⟨⟨SU0, SU1, FU0, FU1, KU⟩, ⟨SD, FD, KD⟩, SA, SB, FA, KAB⟩
  iapply (st_bind c)
  iapply (run23 c S R (envOf R) T q0 (hids 0 0)) $$ [HZ HB AI AA HE SU0 FU0 KU HW]
  · isplitl [HZ]; · iexact HZ
    isplitl [HB]; · iexact HB
    isplitl [AI]; · iexact AI
    isplitl [AA]; · iexact AA
    isplitl [HE]; · iexact HE
    isplitl [SU0]; · iexact SU0
    isplitl [FU0]; · iexact FU0
    isplitl [KU]; · iexact KU
    iexact HW
  iintro ⟨HZ, HB, MI, HI0, S14, MA, HA, S15, HF, SU0, KU, ⟨%W1, HW⟩⟩
  ihave HSc := (scan_new c (id 0 0)) $$ [HZ HF]
  · isplitl [HZ]; · iexact HZ
    iexact HF
  ihave HB := (b_split c) $$ HB
  icases HB with ⟨FB0, FB1⟩
  iapply (st_bind c)
  iapply (run24 c S R (envOf R) T hids haid) $$ [SU1 FU1 KU MI MA HSc SA SB FA FB0 KAB SD FD KD HSm HW]
  · isplitl [SU1]; · iexact SU1
    isplitl [FU1]; · iexact FU1
    isplitl [KU]; · iexact KU
    isplitl [MI]; · iexact MI
    isplitl [MA]; · iexact MA
    isplitl [HSc]; · iexact HSc
    isplitl [SA SB FA FB0 KAB]
    · isplitl [SA]; · iexact SA
      isplitl [SB]; · iexact SB
      isplitl [FA]; · iexact FA
      isplitl [FB0]; · iexact FB0
      iexact KAB
    isplitl [SD FD KD]
    · isplitl [SD]; · iexact SD
      isplitl [FD]; · iexact FD
      iexact KD
    isplitl [HSm]; · iexact HSm
    iexact HW
  iintro ⟨SU1, KU, MI, MA, HSc, HAB, HD, HSm, ⟨%W2, HW⟩⟩
  iapply (st_bind c)
  iapply (run25 c S R q1) $$ [AV AW HSm HW]
  · isplitl [AV]; · iexact AV
    isplitl [AW]; · iexact AW
    isplitl [HSm]; · iexact HSm
    iexact HW
  iintro ⟨MV, HI1, S16, MW, HWt, S17, ⟨MX, HX⟩, ⟨MU, HU⟩, ⟨MD, HDs⟩, SS, ⟨%W3, HW⟩⟩
  iapply (st_bind c)
  iapply (run26 c S R) $$ [H11 H12 HAcc]
  · isplitl [H11]; · iexact H11
    isplitl [H12]; · iexact H12
    iexact HAcc
  iintro ⟨H11, H12, HAcc⟩
  iapply (st_bind c)
  iapply (run27 c S R) $$ [MV MW]
  · isplitl [MV]; · iexact MV
    iexact MW
  iintro ⟨MV, MW⟩
  iapply (st_bind c)
  iapply (run28 c S R) $$ [MV MW]
  · isplitl [MV]; · iexact MV
    iexact MW
  iintro ⟨MV, MW⟩
  iapply (st_bind c)
  iapply (run29 c S R) $$ [MV MW]
  · isplitl [MV]; · iexact MV
    iexact MW
  iintro ⟨MV, MW⟩
  iapply (st_bind c)
  iapply (run30 c S R) $$ [MV MW]
  · isplitl [MV]; · iexact MV
    iexact MW
  iintro ⟨MV, MW⟩
  iapply (st_bind c)
  iapply (run31 c S R) $$ [MV MW]
  · isplitl [MV]; · iexact MV
    iexact MW
  iintro ⟨MV, MW⟩
  iapply (st_bind c)
  iapply (run32 c S R) $$ [MV MW MA]
  · isplitl [MV]; · iexact MV
    isplitl [MW]; · iexact MW
    iexact MA
  iintro ⟨MV, MW, MA⟩
  iapply (st_bind c)
  iapply (run33 c S R) $$ MA; iintro MA
  iapply (st_bind c)
  iapply (run34 c S R) $$ MA; iintro MA
  unfold Scan
  icases HSc with ⟨%el, %am, %hg, HE, HM⟩
  have hel : ∀ i : Fin 33, i.val < (nOf id).val → el (ix1 i) = word (exOf id i.val) := good_el hg
  iapply (run_experts c S (envOf R) T (nOf id) (chk21_all (nOf id)) hel k0_pay62 (v506 := aidCol R) (v507 := rankRow) (c16 := 16#32) (v509 := k0_pay94)
    (v516 := k0_pay95) (v518 := gt0) (c0 := 0#32) rfl) $$ [HE SU0 SU1 KU HAB HD HS1 FB1 MU MD HAcc HW]
  · unfold inv
    isplitl [HE]; · iexact HE
    isplitl [SU0 SU1 KU HAB HD]
    · unfold Turn
      rw [if_pos hn, hex0]
      unfold Busy
      isplitl [SU0 SU1 KU]
      · isplitl [SU0]; · iexact SU0
        isplitl [SU1]; · iexact SU1
        iexact KU
      isplitl [HD]; · iexact HD
      iexact HAB
    isplitl [HS1 FB1]
    · iapply (slot_full c T (envOf R) 1)
      isplitl [HS1]
      · unfold SlotIn; iexact HS1
      iexact FB1
    isplitl [MU]; · iexact MU
    isplitl [MD]; · iexact MD
    isplitl [HAcc]; · iexact HAcc
    iexists W3; iexact HW
  iintro HInv
  unfold inv Turn
  rw [if_neg (lt_irrefl _)]
  icases HInv with ⟨HE, HT, HT', MU, MD, HAcc, HW⟩
  iapply (skip_rest c (nOf id) (chk21_all (nOf id)))
  iapply (ld_accAll c) $$ HAcc; iintro HAcc
  iapply (own_load c S.a10) $$ H10; iintro %v0 H10
  iapply (own_store c S.a10 zero2) $$ H10; iintro H10
  iapply (st_pure c)
  iapply HK
  unfold HbmIn FreeIn SemIn
  isplitl [HI0 HI1 HA HX HWt HU HDs MI MA MX MV MW MU MD S14 S15 S16 S17 SS]
  · isplitl [HI0 HI1 HA HX HWt HU HDs]
    · isplitl [HI0]; · iexact HI0
      isplitl [HI1]; · iexact HI1
      isplitl [HA]; · iexact HA
      isplitl [HX]; · iexact HX
      isplitl [HWt]; · iexact HWt
      isplitl [HU]; · iexact HU
      iexact HDs
    isplitl [MI MA MX MV MW MU MD]
    · isplitl [MI]; · iexists R.I; iexact MI
      isplitl [MA]; · iexists R.A; iexact MA
      isplitl [MX]; · iexists R.X; iexact MX
      isplitl [MV]; · iexists R.I; iexact MV
      isplitl [MW]; · iexists R.W; iexact MW
      isplitl [MU]; · iexists R.US; iexact MU
      iexists R.DS; iexact MD
    isplitl [S14]; · iexact S14
    isplitl [S15]; · iexact S15
    isplitl [S16]; · iexact S16
    isplitl [S17]; · iexact S17
    iexact SS
  isplitl [HM]; · iexists am; iexact HM
  isplitl [HE]; · iexists el; iexact HE
  isplitl [HAcc]; · iexists _; iexact HAcc
  ihave HI := (two_idle c T (envOf R) (nOf id).val) $$ [HT HT']
  · isplitl [HT]; · iexact HT
    iexact HT'
  icases HI with ⟨HI, HI'⟩
  isplitl [HI]; · iexact HI
  isplitl [HI']; · iexact HI'
  isplitl [H10]; · iexact H10
  isplitl [H11]; · iexact H11
  isplitl [H12]; · iexact H12
  iexact HW

end Cert.Kernel.Hand
-- ==== Proof.Open.lean ====
/-
  The buffers and cells the call hands the kernel, laid out as its body uses them, and put back together after it:
  the two-slot buffers cut into their slots, the arrays read by several copies cut into one share per copy.
-/
module

public import proofs.«01_k».proof.Proof.Body
public import Idealize.ShloMosaic.Lib.Transfers

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop pointsTo_toks_split pointsTo_toks_join)

variable {F : FTy → Type} [FloatOps F]

local notation "𝕄" => MT nD τ sig Unit (Elt F) ℕ (Pipeline.UD sig nD τ) ℕ

variable (c : Dev nD) (R : Raw F)

/-! ## Two-slot buffers -/

theorem slots_cover {a b : ℕ} : (Finset.univ : Finset (Shape.Idx ⟨3, ![2, a, b]⟩)) = box ⟨3, ![2, a, b]⟩ ![0, 0, 0] ![1, a, b] ∪ box ⟨3, ![2, a, b]⟩ ![1, 0, 0] ![1, a, b] := by
  ext i
  have h0 : (i 0).val < 2 := (i 0).isLt
  have h1 : (i 1).val < a := (i 1).isLt
  have h2 : (i 2).val < b := (i 2).isLt
  simp only [Finset.mem_union, mem_box, Fin.forall_fin_succ, Fin.forall_fin_zero_pi, IsEmpty.forall_iff]
  simp
  omega

theorem slots_disj {a b : ℕ} : Disjoint (box ⟨3, ![2, a, b]⟩ ![0, 0, 0] ![1, a, b]) (box ⟨3, ![2, a, b]⟩ ![1, 0, 0] ![1, a, b]) := by
  rw [Finset.disjoint_left]
  intro i hi hj
  rw [mem_box] at hi hj
  have h1 := (hi 0).2; have h2 := (hj 0).1
  simp at h1 h2
  omega

section Any
variable {ℓ : Loc nD τ sig} {I J : Finset (Idx ℓ)}

theorem any_split (h : Disjoint I J) : iprop(∃ f : Buf (Elt F) ℓ, (ℓ ↦[I ∪ J]{fullShare} f : sProp 𝕄)) ⊢ (iprop((∃ f, ℓ ↦[I]{fullShare} f) ∗ (∃ f, ℓ ↦[J]{fullShare} f)) : sProp 𝕄) := by
  iintro ⟨%f, H⟩
  ihave H := (pointsTo_union h).1 $$ H
  icases H with ⟨H1, H2⟩
  isplitl [H1]
  · iexists f; iexact H1
  · iexists f; iexact H2

theorem any_join (h : Disjoint I J) : iprop((∃ f : Buf (Elt F) ℓ, (ℓ ↦[I]{fullShare} f : sProp 𝕄)) ∗ (∃ f : Buf (Elt F) ℓ, (ℓ ↦[J]{fullShare} f : sProp 𝕄))) ⊢ (iprop(∃ f, ℓ ↦[I ∪ J]{fullShare} f) : sProp 𝕄) := by
  iintro ⟨⟨%f, H⟩, ⟨%g, H'⟩⟩
  ihave H := (pointsTo_join h) $$ [H H']
  · isplitl [H]; · iexact H
    iexact H'
  iexists _; iexact H
end Any

theorem a_split : iprop((∃ f, (mA.view.loc (c : Thread nD τ) ↦[Finset.univ]{fullShare} f))) ⊢ (iprop(freeA (F := F) c 0 ∗ freeA (F := F) c 1) : sProp 𝕄) := by
  unfold freeA
  rw [slots_cover]
  exact any_split slots_disj

theorem a_join : iprop(freeA (F := F) c 0 ∗ freeA (F := F) c 1) ⊢ (iprop((∃ f, (mA.view.loc (c : Thread nD τ) ↦[Finset.univ]{fullShare} f))) : sProp 𝕄) := by
  unfold freeA
  rw [slots_cover]
  exact any_join slots_disj

theorem d_split : iprop((∃ f, (mDown.view.loc (c : Thread nD τ) ↦[Finset.univ]{fullShare} f))) ⊢ (iprop(freeD (F := F) c 0 ∗ freeD (F := F) c 1) : sProp 𝕄) := by
  unfold freeD
  rw [slots_cover]
  exact any_split slots_disj

theorem d_join : iprop(freeD (F := F) c 0 ∗ freeD (F := F) c 1) ⊢ (iprop((∃ f, (mDown.view.loc (c : Thread nD τ) ↦[Finset.univ]{fullShare} f))) : sProp 𝕄) := by
  unfold freeD
  rw [slots_cover]
  exact any_join slots_disj

theorem b_join : iprop(freeB (F := F) c 0 ∗ freeB (F := F) c 1) ⊢ (iprop((∃ f, (mB.view.loc (c : Thread nD τ) ↦[Finset.univ]{fullShare} f))) : sProp 𝕄) := by
  unfold freeB
  rw [slots_cover]
  exact any_join slots_disj

theorem u_split : iprop((∃ f, (mUp.view.loc (c : Thread nD τ) ↦[Finset.univ]{fullShare} f))) ⊢ (iprop((freeU (F := F) c 0 0 ∗ freeU (F := F) c 0 1) ∗ (freeU (F := F) c 1 0 ∗ freeU (F := F) c 1 1)) : sProp 𝕄) := by
  unfold freeU
  rw [slots_cover]
  refine (any_split slots_disj).trans ?_
  show iprop((∃ f, (mUp.view.loc (c : Thread nD τ) ↦[upSlot 0]{fullShare} f)) ∗ (∃ f, (mUp.view.loc (c : Thread nD τ) ↦[upSlot 1]{fullShare} f))) ⊢ _
  rw [up_join, up_join]
  iintro ⟨H1, H2⟩
  isplitl [H1]
  · iapply (any_split (up_disj 0)) $$ H1
  · iapply (any_split (up_disj 1)) $$ H2

theorem u_join : iprop((freeU (F := F) c 0 0 ∗ freeU (F := F) c 0 1) ∗ (freeU (F := F) c 1 0 ∗ freeU (F := F) c 1 1)) ⊢ (iprop((∃ f, (mUp.view.loc (c : Thread nD τ) ↦[Finset.univ]{fullShare} f))) : sProp 𝕄) := by
  unfold freeU
  rw [slots_cover]
  refine BIBase.Entails.trans ?_ (any_join slots_disj)
  show _ ⊢ iprop((∃ f, (mUp.view.loc (c : Thread nD τ) ↦[upSlot 0]{fullShare} f)) ∗ (∃ f, (mUp.view.loc (c : Thread nD τ) ↦[upSlot 1]{fullShare} f)))
  rw [up_join, up_join]
  iintro ⟨H1, H2⟩
  isplitl [H1]
  · iapply (any_join (up_disj 0)) $$ H1
  · iapply (any_join (up_disj 1)) $$ H2

/-! ## One share per copy -/

def shares : Shr where
  U s j := shareTok fullShare 4 ⟨2 * s.val + j.val, by omega⟩
  D s := shareTok fullShare 2 s
  A s := shareTok fullShare 2 s
  B s := shareTok fullShare 2 s

abbrev tok2 (i : Fin 2) : PosShare TreeShare := shareTok fullShare 2 i

/-- What is left of an array once its shares are handed out. -/
def Left : sProp 𝕄 := iprop((hIds.view.loc (c : Thread nD τ) ↦[Finset.univ]{shareDrop fullShare 2} R.I) ∗ (mUpH.view.loc (c : Thread nD τ) ↦[Finset.univ]{shareDrop fullShare 4} R.WU) ∗ (mDownH.view.loc (c : Thread nD τ) ↦[Finset.univ]{shareDrop fullShare 2} R.WD) ∗ (mAH.view.loc (c : Thread nD τ) ↦[Finset.univ]{shareDrop fullShare 2} R.WA) ∗ (mBH.view.loc (c : Thread nD τ) ↦[Finset.univ]{shareDrop fullShare 2} R.WB))

section Cut
variable {ℓ : Loc nD τ sig} {f : Buf (Elt F) ℓ}

theorem cut2 : (ℓ ↦[Finset.univ]{fullShare} f : sProp 𝕄) ⊢ iprop((ℓ ↦[Finset.univ]{shareDrop fullShare 2} f) ∗ (ℓ ↦[Finset.univ]{shareTok fullShare 2 0} f) ∗ (ℓ ↦[Finset.univ]{shareTok fullShare 2 1} f)) := by
  refine (pointsTo_toks_split fullShare 2).trans ?_
  rw [BI.bigSep_fin_two]
  exact .rfl

theorem mend2 : iprop((ℓ ↦[Finset.univ]{shareDrop fullShare 2} f) ∗ (ℓ ↦[Finset.univ]{shareTok fullShare 2 0} f) ∗ (ℓ ↦[Finset.univ]{shareTok fullShare 2 1} f)) ⊢ (ℓ ↦[Finset.univ]{fullShare} f : sProp 𝕄) := by
  refine BIBase.Entails.trans ?_ (pointsTo_toks_join fullShare 2)
  rw [BI.bigSep_fin_two]
  exact .rfl

theorem cut4 : (ℓ ↦[Finset.univ]{fullShare} f : sProp 𝕄) ⊢ iprop((ℓ ↦[Finset.univ]{shareDrop fullShare 4} f) ∗ (ℓ ↦[Finset.univ]{shareTok fullShare 4 0} f) ∗ (ℓ ↦[Finset.univ]{shareTok fullShare 4 1} f)
    ∗ (ℓ ↦[Finset.univ]{shareTok fullShare 4 2} f) ∗ (ℓ ↦[Finset.univ]{shareTok fullShare 4 3} f)) := by
  refine (pointsTo_toks_split fullShare 4).trans ?_
  rw [bigSep_univ_eq_bigSepL [(0 : Fin 4), 1, 2, 3] (by decide) (by decide)]
  exact .rfl

theorem mend4 : iprop((ℓ ↦[Finset.univ]{shareDrop fullShare 4} f) ∗ (ℓ ↦[Finset.univ]{shareTok fullShare 4 0} f) ∗ (ℓ ↦[Finset.univ]{shareTok fullShare 4 1} f)
    ∗ (ℓ ↦[Finset.univ]{shareTok fullShare 4 2} f) ∗ (ℓ ↦[Finset.univ]{shareTok fullShare 4 3} f)) ⊢ (ℓ ↦[Finset.univ]{fullShare} f : sProp 𝕄) := by
  refine BIBase.Entails.trans ?_ (pointsTo_toks_join fullShare 4)
  rw [bigSep_univ_eq_bigSepL [(0 : Fin 4), 1, 2, 3] (by decide) (by decide)]
  exact .rfl
end Cut

/-- What the call hands over: the scratch buffers at anything, the cells at zero, the arrays in full. -/
def Whole : sProp 𝕄 := iprop(
  ((∃ f, (mIdsV.view.loc (c : Thread nD τ) ↦[Finset.univ]{fullShare} f)) ∗ (∃ f, (mWv.view.loc (c : Thread nD τ) ↦[Finset.univ]{fullShare} f)) ∗ (∃ f, (mXv.view.loc (c : Thread nD τ) ↦[Finset.univ]{fullShare} f)) ∗ (∃ f, (mWus.view.loc (c : Thread nD τ) ↦[Finset.univ]{fullShare} f)) ∗ (∃ f, (mWds.view.loc (c : Thread nD τ) ↦[Finset.univ]{fullShare} f)) ∗ (∃ f, (mUp.view.loc (c : Thread nD τ) ↦[Finset.univ]{fullShare} f)) ∗ (∃ f, (mDown.view.loc (c : Thread nD τ) ↦[Finset.univ]{fullShare} f)) ∗ (∃ f, (mA.view.loc (c : Thread nD τ) ↦[Finset.univ]{fullShare} f)) ∗ (∃ f, (mB.view.loc (c : Thread nD τ) ↦[Finset.univ]{fullShare} f)) ∗ (∃ f, (mAcc.view.loc (c : Thread nD τ) ↦[Finset.univ]{fullShare} f)) ∗ (∃ f, (mIds.view.loc (c : Thread nD τ) ↦[Finset.univ]{fullShare} f)) ∗ (∃ f, (mAid.view.loc (c : Thread nD τ) ↦[Finset.univ]{fullShare} f)) ∗ (∃ f, (mEl.view.loc (c : Thread nD τ) ↦[Finset.univ]{fullShare} f)) ∗ (∃ f, (mAm.view.loc (c : Thread nD τ) ↦[Finset.univ]{fullShare} f)))
  ∗ (semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0)
  ∗ ((hIds.view.loc (c : Thread nD τ) ↦[Finset.univ]{fullShare} R.I) ∗ (hAid.view.loc (c : Thread nD τ) ↦[Finset.univ]{fullShare} R.A) ∗ (hW.view.loc (c : Thread nD τ) ↦[Finset.univ]{fullShare} R.W) ∗ (hX.view.loc (c : Thread nD τ) ↦[Finset.univ]{fullShare} R.X) ∗ (hUs.view.loc (c : Thread nD τ) ↦[Finset.univ]{fullShare} R.US) ∗ (hDs.view.loc (c : Thread nD τ) ↦[Finset.univ]{fullShare} R.DS) ∗ (mUpH.view.loc (c : Thread nD τ) ↦[Finset.univ]{fullShare} R.WU) ∗ (mDownH.view.loc (c : Thread nD τ) ↦[Finset.univ]{fullShare} R.WD) ∗ (mAH.view.loc (c : Thread nD τ) ↦[Finset.univ]{fullShare} R.WA) ∗ (mBH.view.loc (c : Thread nD τ) ↦[Finset.univ]{fullShare} R.WB)))

theorem zero_any : iprop((∃ f, (mAm.view.loc (c : Thread nD τ) ↦[Finset.univ]{fullShare} f))) ⊢ Zero (F := F) c 0 := by
  unfold Zero
  iintro ⟨%f, H⟩
  iexists f
  isplitr; · ipureintro; exact fun i h => absurd h (Nat.not_lt_zero _)
  iexact H

set_option maxHeartbeats 1000000 in
theorem lay_out : Whole c R ⊢ iprop((Given c R (tok2 0) (tok2 1) ∗ Zero (F := F) c 0 ∗ (∃ f, (mB.view.loc (c : Thread nD τ) ↦[Finset.univ]{fullShare} f)) ∗ (∃ el, El (F := F) c el) ∗ (∃ f, (mAcc.view.loc (c : Thread nD τ) ↦[Finset.univ]{fullShare} f))
    ∗ SlotIn c shares (envOf R) 0 ∗ SlotIn c shares (envOf R) 1) ∗ Left c R) := by
  unfold Whole Given HbmIn FreeIn SemIn SlotIn Left srcU srcD srcA srcB
  iintro ⟨⟨B2, B3, B4, B5, B6, B7, B8, B9, B10, B11, B0, B1, B12, B13⟩, ⟨K3, K4, K5, K6, K7, K8, K9, K10, K11, K12, K13⟩, ⟨I, AD, WT, X, US, DS, WU, WD, WA, WB⟩⟩
  ihave B7 := (u_split c) $$ B7
  icases B7 with ⟨⟨FU00, FU01⟩, FU10, FU11⟩
  ihave B8 := (d_split c) $$ B8
  icases B8 with ⟨FD0, FD1⟩
  ihave B9 := (a_split c) $$ B9
  icases B9 with ⟨FA0, FA1⟩
  ihave I := (cut2) $$ I
  icases I with ⟨IL, I0, I1⟩
  ihave WU := (cut4) $$ WU
  icases WU with ⟨WUL, WU0, WU1, WU2, WU3⟩
  ihave WD := (cut2) $$ WD
  icases WD with ⟨WDL, WD0, WD1⟩
  ihave WA := (cut2) $$ WA
  icases WA with ⟨WAL, WA0, WA1⟩
  ihave WB := (cut2) $$ WB
  icases WB with ⟨WBL, WB0, WB1⟩
  ihave B13 := (zero_any c) $$ B13
  isplitl [I0 I1 AD X WT US DS B0 B1 B4 B2 B3 B5 B6 K3 K4 K5 K6 K7 B13 B10 B12 B11 WU0 WU1 FU00 FU01 K8 WD0 FD0 K10 WA0 WB0 FA0 K12 WU2 WU3 FU10 FU11 K9 WD1 FD1 K11 WA1 WB1 FA1 K13]
  · isplitl [I0 I1 AD X WT US DS B0 B1 B4 B2 B3 B5 B6 K3 K4 K5 K6 K7]
    · isplitl [I0 I1 AD X WT US DS]
      · isplitl [I0]
        · iexact I0
        isplitl [I1]
        · iexact I1
        isplitl [AD]
        · iexact AD
        isplitl [X]
        · iexact X
        isplitl [WT]
        · iexact WT
        isplitl [US]
        · iexact US
        iexact DS
      isplitl [B0 B1 B4 B2 B3 B5 B6]
      · isplitl [B0]
        · iexact B0
        isplitl [B1]
        · iexact B1
        isplitl [B4]
        · iexact B4
        isplitl [B2]
        · iexact B2
        isplitl [B3]
        · iexact B3
        isplitl [B5]
        · iexact B5
        iexact B6
      isplitl [K3]
      · iexact K3
      isplitl [K4]
      · iexact K4
      isplitl [K5]
      · iexact K5
      isplitl [K6]
      · iexact K6
      iexact K7
    isplitl [B13]
    · iexact B13
    isplitl [B10]
    · iexact B10
    isplitl [B12]
    · iexact B12
    isplitl [B11]
    · iexact B11
    isplitl [WU0 WU1 FU00 FU01 K8 WD0 FD0 K10 WA0 WB0 FA0 K12]
    · isplitl [WU0 WU1 FU00 FU01 K8]
      · isplitl [WU0]
        · iexact WU0
        isplitl [WU1]
        · iexact WU1
        isplitl [FU00]
        · iexact FU00
        isplitl [FU01]
        · iexact FU01
        iexact K8
      isplitl [WD0 FD0 K10]
      · isplitl [WD0]
        · iexact WD0
        isplitl [FD0]
        · iexact FD0
        iexact K10
      isplitl [WA0]
      · iexact WA0
      isplitl [WB0]
      · iexact WB0
      isplitl [FA0]
      · iexact FA0
      iexact K12
    isplitl [WU2 WU3 FU10 FU11 K9]
    · isplitl [WU2]
      · iexact WU2
      isplitl [WU3]
      · iexact WU3
      isplitl [FU10]
      · iexact FU10
      isplitl [FU11]
      · iexact FU11
      iexact K9
    isplitl [WD1 FD1 K11]
    · isplitl [WD1]
      · iexact WD1
      isplitl [FD1]
      · iexact FD1
      iexact K11
    isplitl [WA1]
    · iexact WA1
    isplitl [WB1]
    · iexact WB1
    isplitl [FA1]
    · iexact FA1
    iexact K13
  isplitl [IL]
  · iexact IL
  isplitl [WUL]
  · iexact WUL
  isplitl [WDL]
  · iexact WDL
  isplitl [WAL]
  · iexact WAL
  iexact WBL

set_option maxHeartbeats 1000000 in
theorem put_back : iprop((Given c R (tok2 0) (tok2 1) ∗ (∃ f, (mAm.view.loc (c : Thread nD τ) ↦[Finset.univ]{fullShare} f)) ∗ (∃ el, El (F := F) c el) ∗ (∃ f, (mAcc.view.loc (c : Thread nD τ) ↦[Finset.univ]{fullShare} f))
    ∗ Idle c (envOf R) shares 0 ∗ Idle c (envOf R) shares 1) ∗ Left c R) ⊢ Whole c R := by
  unfold Whole Given HbmIn FreeIn SemIn Idle Left srcU srcD srcA srcB
  iintro ⟨⟨⟨⟨I0, I1, AD, X, WT, US, DS⟩, ⟨B0, B1, B4, B2, B3, B5, B6⟩, ⟨K3, K4, K5, K6, K7⟩⟩, B13, B12, B11, ⟨⟨WU0, WU1, FU00, FU01, K8⟩, ⟨WD0, FD0, K10⟩, ⟨WA0, WB0, FA0, FB0, K12⟩⟩, ⟨⟨WU2, WU3, FU10, FU11, K9⟩, ⟨WD1, FD1, K11⟩, ⟨WA1, WB1, FA1, FB1, K13⟩⟩⟩, ⟨IL, WUL, WDL, WAL, WBL⟩⟩
  ihave B7 := (u_join c) $$ [FU00 FU01 FU10 FU11]
  · isplitl [FU00 FU01]
    · isplitl [FU00]
      · iexact FU00
      iexact FU01
    isplitl [FU10]
    · iexact FU10
    iexact FU11
  ihave B8 := (d_join c) $$ [FD0 FD1]
  · isplitl [FD0]
    · iexact FD0
    iexact FD1
  ihave B9 := (a_join c) $$ [FA0 FA1]
  · isplitl [FA0]
    · iexact FA0
    iexact FA1
  ihave B10 := (b_join c) $$ [FB0 FB1]
  · isplitl [FB0]
    · iexact FB0
    iexact FB1
  ihave I := (mend2) $$ [IL I0 I1]
  · isplitl [IL]
    · iexact IL
    isplitl [I0]
    · iexact I0
    iexact I1
  ihave WU := (mend4) $$ [WUL WU0 WU1 WU2 WU3]
  · isplitl [WUL]
    · iexact WUL
    isplitl [WU0]
    · iexact WU0
    isplitl [WU1]
    · iexact WU1
    isplitl [WU2]
    · iexact WU2
    iexact WU3
  ihave WD := (mend2) $$ [WDL WD0 WD1]
  · isplitl [WDL]
    · iexact WDL
    isplitl [WD0]
    · iexact WD0
    iexact WD1
  ihave WA := (mend2) $$ [WAL WA0 WA1]
  · isplitl [WAL]
    · iexact WAL
    isplitl [WA0]
    · iexact WA0
    iexact WA1
  ihave WB := (mend2) $$ [WBL WB0 WB1]
  · isplitl [WBL]
    · iexact WBL
    isplitl [WB0]
    · iexact WB0
    iexact WB1
  isplitl [B2 B3 B4 B5 B6 B7 B8 B9 B10 B11 B0 B1 B12 B13]
  · isplitl [B2]
    · iexact B2
    isplitl [B3]
    · iexact B3
    isplitl [B4]
    · iexact B4
    isplitl [B5]
    · iexact B5
    isplitl [B6]
    · iexact B6
    isplitl [B7]
    · iexact B7
    isplitl [B8]
    · iexact B8
    isplitl [B9]
    · iexact B9
    isplitl [B10]
    · iexact B10
    isplitl [B11]
    · iexact B11
    isplitl [B0]
    · iexact B0
    isplitl [B1]
    · iexact B1
    isplitl [B12]
    · iexact B12
    iexact B13
  isplitl [K3 K4 K5 K6 K7 K8 K9 K10 K11 K12 K13]
  · isplitl [K3]
    · iexact K3
    isplitl [K4]
    · iexact K4
    isplitl [K5]
    · iexact K5
    isplitl [K6]
    · iexact K6
    isplitl [K7]
    · iexact K7
    isplitl [K8]
    · iexact K8
    isplitl [K9]
    · iexact K9
    isplitl [K10]
    · iexact K10
    isplitl [K11]
    · iexact K11
    isplitl [K12]
    · iexact K12
    iexact K13
  isplitl [I]
  · iexact I
  isplitl [AD]
  · iexact AD
  isplitl [WT]
  · iexact WT
  isplitl [X]
  · iexact X
  isplitl [US]
  · iexact US
  isplitl [DS]
  · iexact DS
  isplitl [WU]
  · iexact WU
  isplitl [WD]
  · iexact WD
  isplitl [WA]
  · iexact WA
  iexact WB

end Cert.Kernel.Hand
-- ==== Proof.Run.lean ====
/-
  The launch: the body's triple run through the one call, the contents of the three results, every argument as it was.
-/
module

public import proofs.«01_k».proof.Proof.Open
public import proofs.«01_k».proof.Proof.Gen.Kernel.Frame

@[expose] public section

set_option maxRecDepth 100000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the region finds in the kernel's ten arguments. -/
def rawOf (c : Dev nD) : Raw F where
  I := V m c main_v1
  A := V m c main_arg3
  W := V m c main_v3
  X := V m c main_v4
  US := V m c main_arg5
  DS := V m c main_arg7
  WU := V m c main_arg4
  WD := V m c main_arg6
  WA := V m c main_v6
  WB := V m c main_v7

/-- The expert token `t` names in position `j`, as a number below 32. -/
def idOf (R : Raw F) (t : ℕ) (j : Fin 8) : Fin 32 :=
  ⟨BitVec.toNat (R.I (ix2 j ⟨t % 16, Nat.mod_lt _ (by decide)⟩)) % 32, Nat.mod_lt _ (by decide)⟩

/-- Every id is below 32, every adapter below 8. -/
def InRange (R : Raw F) : Prop :=
  (∀ (j : Fin 8) (t : Fin 16), BitVec.toNat (R.I (ix2 j t)) < 32) ∧ ∀ t : Fin 16, BitVec.toNat (R.A (ix1 t)) < 8

theorem ids_word (R : Raw F) (h : InRange R) (j : Fin 8) (t : Fin 16) : R.I (ix2 j t) = word (idOf R t.val j) := by
  have h1 := h.1 j t
  have h2 : (⟨t.val % 16, Nat.mod_lt _ (by decide)⟩ : Fin 16) = t := Fin.ext (Nat.mod_eq_of_lt t.isLt)
  apply BitVec.eq_of_toNat_eq
  unfold word idOf
  simp only [h2, BitVec.toNat_ofNat]
  omega

def stgOf (t : Fin cfg0.N) : Stg where
  a10 := win0_0.stage (cfg0.slots t 0)
  h10 := hstage0_0 0
  a11 := win0_1.stage (cfg0.slots t 1)
  h11 := hstage0_1 0
  a12 := win0_2.stage (cfg0.slots t 2)
  h12 := hstage0_2 0

theorem bodyAt_eq (t : Fin cfg0.N) : bodyAt0 (F := F) t = PBody (stgOf t) := rfl

/-! ## The call's resources -/

abbrev osem0 : Fin 11 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13] : Fin 11 → SemLoc sig) j

theorem ownSemFacts0 : Pipeline.OwnSemFacts spec0 osem0 := by decide

def H0 : Finset (Ref sig .tc) := {main_v1, main_arg3, main_v3, main_v4, main_arg5, main_arg7, main_arg4, main_arg6, main_v6, main_v7}
theorem H0_sub : H0 ⊆ Pipeline.restRefs sig spec0 := by decide

theorem sems_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5, 6, 7, 8, 9, 10] (by decide) (by decide)]; rfl

theorem scratch_eq (c : Dev nD) : (Pipeline.scopedRest spec0 c : sProp 𝕄)
    = iprop((∃ f, (mIdsV.view.loc (c : Thread nD τ) ↦[Finset.univ]{fullShare} f)) ∗ (∃ f, (mWv.view.loc (c : Thread nD τ) ↦[Finset.univ]{fullShare} f)) ∗ (∃ f, (mXv.view.loc (c : Thread nD τ) ↦[Finset.univ]{fullShare} f)) ∗ (∃ f, (mWus.view.loc (c : Thread nD τ) ↦[Finset.univ]{fullShare} f)) ∗ (∃ f, (mWds.view.loc (c : Thread nD τ) ↦[Finset.univ]{fullShare} f)) ∗ (∃ f, (mUp.view.loc (c : Thread nD τ) ↦[Finset.univ]{fullShare} f)) ∗ (∃ f, (mDown.view.loc (c : Thread nD τ) ↦[Finset.univ]{fullShare} f)) ∗ (∃ f, (mA.view.loc (c : Thread nD τ) ↦[Finset.univ]{fullShare} f)) ∗ (∃ f, (mB.view.loc (c : Thread nD τ) ↦[Finset.univ]{fullShare} f)) ∗ (∃ f, (mAcc.view.loc (c : Thread nD τ) ↦[Finset.univ]{fullShare} f)) ∗ (∃ f, (mIds.view.loc (c : Thread nD τ) ↦[Finset.univ]{fullShare} f)) ∗ (∃ f, (mAid.view.loc (c : Thread nD τ) ↦[Finset.univ]{fullShare} f)) ∗ (∃ f, (mEl.view.loc (c : Thread nD τ) ↦[Finset.univ]{fullShare} f)) ∗ (∃ f, (mAm.view.loc (c : Thread nD τ) ↦[Finset.univ]{fullShare} f))) := by
  rw [scopedRest0_eq]

theorem arrays_eq (c : Dev nD) : (bigSep H0 (fun b => ((c : Thread nD τ).loc b) ↦{fullShare} V m c b) : sProp 𝕄)
    = iprop((hIds.view.loc (c : Thread nD τ) ↦[Finset.univ]{fullShare} (rawOf m c).I) ∗ (hAid.view.loc (c : Thread nD τ) ↦[Finset.univ]{fullShare} (rawOf m c).A) ∗ (hW.view.loc (c : Thread nD τ) ↦[Finset.univ]{fullShare} (rawOf m c).W) ∗ (hX.view.loc (c : Thread nD τ) ↦[Finset.univ]{fullShare} (rawOf m c).X) ∗ (hUs.view.loc (c : Thread nD τ) ↦[Finset.univ]{fullShare} (rawOf m c).US) ∗ (hDs.view.loc (c : Thread nD τ) ↦[Finset.univ]{fullShare} (rawOf m c).DS) ∗ (mUpH.view.loc (c : Thread nD τ) ↦[Finset.univ]{fullShare} (rawOf m c).WU) ∗ (mDownH.view.loc (c : Thread nD τ) ↦[Finset.univ]{fullShare} (rawOf m c).WD) ∗ (mAH.view.loc (c : Thread nD τ) ↦[Finset.univ]{fullShare} (rawOf m c).WA) ∗ (mBH.view.loc (c : Thread nD τ) ↦[Finset.univ]{fullShare} (rawOf m c).WB)) := by
  unfold H0
  rw [BI.bigSep_eq_bigSepL_of_eq [main_v1, main_arg3, main_v3, main_v4, main_arg5, main_arg7, main_arg4, main_arg6, main_v6, main_v7] (by decide) (by decide)]; rfl

theorem phi_eq (c : Dev nD) : (Pipeline.ΦD osem0 spec0 H0 (V m) c : sProp 𝕄)
    = iprop((Pipeline.scopedRest spec0 c : sProp 𝕄) ∗ (∃ r, prngReg c r)
      ∗ (Pipeline.ownSems0 (Ix := Unit) (Name := ℕ) (U := Pipeline.UD sig nD τ) (Lvl := ℕ) (Val := Elt F) (τ := τ) osem0 c : sProp 𝕄)
      ∗ (bigSep H0 (fun b => ((c : Thread nD τ).loc b) ↦{fullShare} V m c b) : sProp 𝕄)) := rfl

theorem phi_whole (c : Dev nD) : (Pipeline.ΦD osem0 spec0 H0 (V m) c : sProp 𝕄) ⊢ iprop(Whole c (rawOf m c) ∗ (∃ r, prngReg c r)) := by
  rw [phi_eq, sems_eq, scratch_eq, arrays_eq]
  unfold Whole
  iintro ⟨HS, Hg, HK, HB⟩
  isplitl [HS HK HB]
  · isplitl [HS]; · iexact HS
    isplitl [HK]; · iexact HK
    iexact HB
  iexact Hg

theorem whole_phi (c : Dev nD) : iprop(Whole c (rawOf m c) ∗ (∃ r, prngReg c r)) ⊢ (Pipeline.ΦD osem0 spec0 H0 (V m) c : sProp 𝕄) := by
  rw [phi_eq, sems_eq, scratch_eq, arrays_eq]
  unfold Whole
  iintro ⟨⟨HS, HK, HB⟩, Hg⟩
  isplitl [HS]; · iexact HS
  isplitl [Hg]; · iexact Hg
  isplitl [HK]; · iexact HK
  iexact HB

/-! ## The proof data and the body's obligation -/

def dats (_ : Fin 1) (c : Dev nD) : Dat τ (Elt F) Unit ℕ (Pipeline.UD sig nD τ) ℕ cfg0 c where
  A w := V m c (Pipeline.arrRef spec0 w)
  after w _ := match w with
    | ⟨0, _⟩ => yOf (rawOf m c) (idOf (rawOf m c))
    | ⟨1, _⟩ => codesOf (rawOf m c)
    | ⟨2, _⟩ => scaleRow (rawOf m c)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = yOf (rawOf m c) (idOf (rawOf m c)) := by dsimp only [dats]
theorem after0_1 (c : Dev nD) (t : Fin cfg0.N) : (dats m 0 c).after 1 t = codesOf (rawOf m c) := by dsimp only [dats]
theorem after0_2 (c : Dev nD) (t : Fin cfg0.N) : (dats m 0 c).after 2 t = scaleRow (rawOf m c) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

attribute [local irreducible] acts

theorem sound_body (c : Dev nD) (hR : InRange (rawOf m c)) (t : Fin cfg0.N) :
    bodyPre m c t ⊢ wp frame (wpE (defs₀ (F := F)) Variants.none c none) Set.univ (bodyAt0 t) (fun _ => bodyPost m c t) := by
  unfold bodyPre bodyPost
  rw [bodyAt_eq]
  rw [show (dats m 0 c).Φ t.succ = Pipeline.ΦD osem0 spec0 H0 (V m) c from rfl, after0_0, after0_1, after0_2]
  rw [show (dats m 0 c).Φ t.castSucc = Pipeline.ΦD osem0 spec0 H0 (V m) c from rfl]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩⟩
  ihave HP := (phi_whole m c) $$ HP
  icases HP with ⟨HP, Hg⟩
  ihave HP := (lay_out c (rawOf m c)) $$ HP
  icases HP with ⟨⟨HG, HZ, HB, HE, HA, HS0, HS1⟩, HL⟩
  iapply (run_body c (stgOf t) (rawOf m c) shares (id := idOf (rawOf m c)) (ids_word (rawOf m c) hR) hR.2 (tok2 0) (tok2 1)) $$ [HG HZ HB HE HA HS0 HS1 H0 H1 H2 HW]
  · isplitl [HG]; · iexact HG
    isplitl [HZ]; · iexact HZ
    isplitl [HB]; · iexact HB
    isplitl [HE]; · iexact HE
    isplitl [HA]; · iexact HA
    isplitl [HS0]; · iexact HS0
    isplitl [HS1]; · iexact HS1
    isplitl [H0]; · iexact H0
    isplitl [H1]; · iexact H1
    isplitl [H2]; · iexact H2
    iexact HW
  iintro ⟨HG, HZ, HE, HA, HS0, HS1, H0, H1, H2, ⟨%W', HW'⟩⟩
  isplitl [HG HZ HE HA HS0 HS1 HL Hg]
  · iapply (whole_phi m c)
    isplitl [HG HZ HE HA HS0 HS1 HL]
    · iapply (put_back c (rawOf m c))
      isplitl [HG HZ HE HA HS0 HS1]
      · isplitl [HG]; · iexact HG
        isplitl [HZ]; · iexact HZ
        isplitl [HE]; · iexact HE
        isplitl [HA]; · iexact HA
        isplitl [HS0]; · iexact HS0
        iexact HS1
      iexact HL
    iexact Hg
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) (hR : InRange (rawOf m c)) : BodyObligation (dats (F := F) m 0 c) (defs₀ (F := F)) Variants.none () Set.univ := fun t => by
  rw [bigSep_W0, bigSep_W0, defs₀_row]
  exact triple_restated (sound_body m c hR t) rfl .rfl fun _ => .rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The run -/

set_option backward.isDefEq.respectTransparency.types false in
theorem run_main (hR : ∀ c, InRange (rawOf m c)) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c (hR c)).loose) (hshare := fun c => (dats m 0 c).share_full fun _ => rfl)
    (howed := fun _ _ => rfl) (V := V m) (hmain := hmain m Variants.none) (hA := A_eq m)
    (hin := fun _ => .rfl) (hout := fun _ => .rfl)

/-- Every run ends with the arguments as they were, the semaphores at zero, the results at the contents the proof data names. -/
theorem run_full (hR : ∀ c, InRange (rawOf m c)) : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))
      ∧ (∀ c : Dev nD, ∀ w, r.2.mem ((c.tc : Thread nD τ).loc (Pipeline.arrRef spec0 w)) = (dats m 0 c).arrAt w (cfgs 0).N)
      ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c)⟩,
    fun c w => (h.1 c).1 w, h.2⟩) (run_main m ρ hR)

end Cert.Kernel.Hand
-- ==== Proof.Ids.lean ====
/-
  What the preconditions say of the words: every expert id is below 32, every adapter id below 8 — at the argument arrays,
  and at the arrays the kernel reads after the host's reshapes and transposes.
-/
module

public import proofs.«01_k».proof.Proof.Run
public import proofs.«01_k».proof.Proof.Gen.Pre_in_range
public import proofs.«01_k».proof.Pre_in_range
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx Idealize.ShloMosaic.WordCmp

variable {F : FTy → Type} [FloatOps F]

theorem below {x : BitVec 32} {n : ℕ} (hn : n < 2 ^ 31) (h0 : IntOp.cmpi .sge x 0#32 = 1#1) (h1 : IntOp.cmpi .slt x (BitVec.ofNat 32 n) = 1#1) : x.toNat < n := by
  rw [cmpi_sge_eq, ofBool_decide_eq_one_iff] at h0
  rw [cmpi_slt_eq, ofBool_decide_eq_one_iff, toInt_ofNat_of_lt hn] at h1
  have h2 : (0#32 : BitVec 32).toInt = 0 := by decide
  rw [h2] at h0
  rw [BitVec.toInt_eq_toNat_cond] at h0 h1
  have := x.isLt
  split at h0 <;> omega

/-- The id and adapter words of an argument list are in range. -/
def ArgsIn (ids : IVec S16x1x8 32) (aid : IVec S16 32) : Prop := (∀ i, BitVec.toNat (ids i) < 32) ∧ ∀ i, BitVec.toNat (aid i) < 8

theorem argsIn_of {ids : IVec S16x1x8 32} {aid : IVec S16 32} (h0 : cmpi .sge ids (fun _ => 0#32) = fun _ => 1#1) (h1 : cmpi .slt ids (fun _ => 32#32) = fun _ => 1#1)
    (h2 : cmpi .sge aid (fun _ => 0#32) = fun _ => 1#1) (h3 : cmpi .slt aid (fun _ => 8#32) = fun _ => 1#1) : ArgsIn ids aid :=
  ⟨fun i => below (by decide) (congrFun h0 i) (congrFun h1 i), fun i => below (by decide) (congrFun h2 i) (congrFun h3 i)⟩

variable (m : (ℓ : Loc nD τ sig) → Buf (Elt F) ℓ)

theorem V_main_v1 (c : Dev nD) : V m c main_v1 = transpose S8x16 [1, 0] (shapeCast S16x8 (m ((c : Thread nD τ).loc main_arg1) : IVec S16x1x8 32) shapeCasts_S16x1x8_S16x8) transposes_S16x8_S8x16_1_0 := by
  unfold_abbrev_sides
  after_results
  rfl

theorem V_main_v4 (c : Dev nD) : V m c main_v4 = shapeCast S16x2816 (m ((c : Thread nD τ).loc main_arg0) : Vec F S16x1x2816 .bf16) shapeCasts_S16x1x2816_S16x2816 := by
  unfold_abbrev_sides
  after_results
  rfl

theorem inRange_of (c : Dev nD) (h : ArgsIn (m ((c : Thread nD τ).loc main_arg1)) (m ((c : Thread nD τ).loc main_arg3))) : InRange (rawOf m c) := by
  refine ⟨fun j t => ?_, fun t => ?_⟩
  · show BitVec.toNat (V m c main_v1 (ix2 j t)) < 32
    rw [V_main_v1]
    exact h.1 _
  · show BitVec.toNat (V m c main_arg3 (ix1 t)) < 8
    rw [V_main_arg3]
    exact h.2 _

end Cert.Kernel.Hand
-- ==== Proof.Same.lean ====
/-
  The idealized kernel is the kernel: no rule rewrites it, so its program at any float instance is the same term.
-/
module

public import proofs.«01_k».proof.Kernel
public import proofs.«01_k».proof.KernelIdeal

@[expose] public section

set_option maxHeartbeats 8000000
set_option maxRecDepth 100000

namespace Cert.Proof

open Idealize.ShloMosaic

variable [h1 : Cert.Kernel.Facts] [h2 : Cert.KernelIdeal.Facts] {F : FTy → Type} [FloatOps F]

theorem sigEq : Cert.KernelIdeal.sig = Cert.Kernel.sig := rfl

theorem mainEq : Cert.KernelIdeal.main (F := F) = Cert.Kernel.main (F := F) := rfl

theorem defs0Eq : Cert.KernelIdeal.defs₀ (F := F) = Cert.Kernel.defs₀ (F := F) := by
  unfold Cert.KernelIdeal.defs₀ Cert.Kernel.defs₀
  congr 1
  funext i p
  match i with
  | 0 => rfl

theorem defsEq : Cert.KernelIdeal.defs (F := F) = Cert.Kernel.defs (F := F) := by
  unfold Cert.KernelIdeal.defs Cert.Kernel.defs
  rw [defs0Eq]; rfl

end Cert.Proof
-- ==== Proof.RefRun.lean ====
/-
  The reference's run: its side conditions from the ranges of the words, and what its second and third result arrays hold —
  the codes and the scales, each one payload of the token rows.
-/
module

public import proofs.«01_k».proof.Proof.Ids
public import proofs.«01_k».proof.Proof.Gen.ReferenceIdeal.Value

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.ValueIdx

variable {F : FTy → Type} [FloatOps F]
variable (m : (ℓ : Loc nD τ sig) → Buf (Elt F) ℓ) (ρ : Dev nD → PrngReg)

/-! ## Each window is the whole of its array -/

theorem idx_zero0 : ∀ t : Fin cfg0.N, win0_0.index t (0 : Fin 2) = 0 ∧ win0_0.index t (1 : Fin 2) = 0 := (by decide +kernel : ∀ t : Fin grid0.N, _)
theorem idx_zero2 : ∀ t : Fin cfg0.N, win0_2.index t (0 : Fin 1) = 0 := (by decide +kernel : ∀ t : Fin grid0.N, _)
theorem idx_zero3 : ∀ t : Fin cfg0.N, win0_3.index t (0 : Fin 1) = 0 := (by decide +kernel : ∀ t : Fin grid0.N, _)
theorem idx_zero12 : ∀ t : Fin cfg0.N, win0_12.index t (0 : Fin 2) = 0 ∧ win0_12.index t (1 : Fin 2) = 0 := (by decide +kernel : ∀ t : Fin grid0.N, _)
theorem idx_zero13 : ∀ t : Fin cfg0.N, win0_13.index t (0 : Fin 2) = 0 ∧ win0_13.index t (1 : Fin 2) = 0 := (by decide +kernel : ∀ t : Fin grid0.N, _)

theorem emb0 (t : Fin cfg0.N) (j : S16x2816.Idx) : ((cfg0.win 0).blk t).view.emb j = j := by
  obtain ⟨e0, e1⟩ := idx_zero0 t
  funext a; apply Fin.ext
  match a with
  | ⟨0, _⟩ => show win0_0.index t (0 : Fin 2) * 16 + 1 * (j 0).val = (j 0).val; omega
  | ⟨1, _⟩ => show win0_0.index t (1 : Fin 2) * 2816 + 1 * (j 1).val = (j 1).val; omega

theorem emb2 (t : Fin cfg0.N) (j : S128.Idx) : ((cfg0.win 2).blk t).view.emb j = j := by
  have e0 := idx_zero2 t
  funext a; apply Fin.ext
  match a with
  | ⟨0, _⟩ => show win0_2.index t (0 : Fin 1) * 128 + 1 * (j 0).val = (j 0).val; omega

theorem emb3 (t : Fin cfg0.N) (j : S128.Idx) : ((cfg0.win 3).blk t).view.emb j = j := by
  have e0 := idx_zero3 t
  funext a; apply Fin.ext
  match a with
  | ⟨0, _⟩ => show win0_3.index t (0 : Fin 1) * 128 + 1 * (j 0).val = (j 0).val; omega

theorem emb12 (t : Fin cfg0.N) (j : S16x2816.Idx) : ((cfg0.win 12).blk t).view.emb j = j := by
  obtain ⟨e0, e1⟩ := idx_zero12 t
  funext a; apply Fin.ext
  match a with
  | ⟨0, _⟩ => show win0_12.index t (0 : Fin 2) * 16 + 1 * (j 0).val = (j 0).val; omega
  | ⟨1, _⟩ => show win0_12.index t (1 : Fin 2) * 2816 + 1 * (j 1).val = (j 1).val; omega

theorem emb13 (t : Fin cfg0.N) (j : S1x16.Idx) : ((cfg0.win 13).blk t).view.emb j = j := by
  obtain ⟨e0, e1⟩ := idx_zero13 t
  funext a; apply Fin.ext
  match a with
  | ⟨0, _⟩ => show win0_13.index t (0 : Fin 2) * 1 + 1 * (j 0).val = (j 0).val; omega
  | ⟨1, _⟩ => show win0_13.index t (1 : Fin 2) * 16 + 1 * (j 1).val = (j 1).val; omega

theorem iblk0_eq (c : Dev nD) (t : Fin cfg0.N) : iblk m c 0 t = V m c main_v6 := by
  funext j; show V m c main_v6 (((cfg0.win 0).blk t).view.emb j) = V m c main_v6 j; rw [emb0]
theorem iblk2_eq (c : Dev nD) (t : Fin cfg0.N) : iblk m c 2 t = V m c main_v0 := by
  funext j; show V m c main_v0 (((cfg0.win 2).blk t).view.emb j) = V m c main_v0 j; rw [emb2]
theorem iblk3_eq (c : Dev nD) (t : Fin cfg0.N) : iblk m c 3 t = V m c main_v3 := by
  funext j; show V m c main_v3 (((cfg0.win 3).blk t).view.emb j) = V m c main_v3 j; rw [emb3]

theorem V_main_v6 (c : Dev nD) : V m c main_v6 = shapeCast S16x2816 (m ((c : Thread nD τ).loc main_arg0) : Vec F S16x1x2816 .bf16) shapeCasts_S16x1x2816_S16x2816 := by
  unfold_abbrev_sides
  after_results
  rfl

theorem V_main_v0 (c : Dev nD) : V m c main_v0 = shapeCast S128 (m ((c : Thread nD τ).loc main_arg1) : IVec S16x1x8 32) shapeCasts_S16x1x8_S128 := by
  unfold_abbrev_sides
  after_results
  rfl

theorem V_main_v3 (c : Dev nD) : V m c main_v3 = shapeCast S128 (broadcastInDim S16x1x8 ![0, 1, 2] bcast_S16x1x1_S16x1x8_0_1_2 (broadcastInDim S16x1x1 ![0] bcast_S16_S16x1x1_0 (m ((c : Thread nD τ).loc main_arg3) : IVec S16 32))) shapeCasts_S16x1x8_S128 := by
  unfold_abbrev_sides
  after_results
  rfl

/-! ## The side conditions -/

theorem chk1_of {v : BitVec 32} (h : v.toNat < 32) : k0_chk1 v := by
  refine ⟨?_, ?_, ?_, ?_⟩ <;> intro a <;> fin_cases a <;>
    first
    | exact Nat.add_one_le_iff.mpr h
    | exact Nat.le_refl _
    | decide

theorem chk2_of {v w : BitVec 32} (h : v.toNat < 32) (h' : w.toNat < 8) : k0_chk2 v w := by
  refine ⟨?_, ?_⟩ <;> intro a <;> fin_cases a <;>
    first
    | exact Nat.add_one_le_iff.mpr h
    | exact Nat.add_one_le_iff.mpr h'
    | exact Nat.le_refl _
    | decide

theorem hyps_of (h : ∀ c : Dev nD, Cert.Kernel.Hand.ArgsIn (m ((c : Thread nD τ).loc main_arg1)) (m ((c : Thread nD τ).loc main_arg3))) : Hyps m := by
  have h2 : ∀ c i, BitVec.toNat (V m c main_v0 i) < 32 := fun c i => by rw [V_main_v0]; exact (h c).1 _
  have h3 : ∀ c i, BitVec.toNat (V m c main_v3 i) < 8 := fun c i => by rw [V_main_v3]; exact (h c).2 _
  refine Hyps.of ?_ ?_
  · intro c t kq hkq
    rw [View.readAt_apply, Memref.IsWhole.read_unread, iblk2_eq]
    exact chk1_of (h2 c _)
  · intro c t kq hkq
    rw [View.readAt_apply, Memref.IsWhole.read_unread, iblk2_eq, View.readAt_apply, Memref.IsWhole.read_unread, iblk3_eq]
    exact chk2_of (h2 c _) (h3 c _)

/-! ## The codes and the scales -/

theorem hz : (![0, 0] : Fin 2 → Nat) = fun _ => 0 := funext fun a => by fin_cases a <;> rfl

theorem flushed12_eq (hH : Hyps m) (c : Dev nD) (t : Fin cfg0.N) :
    (dats m hH 0 c).flushed 12 t = ((cfg0.win 12).blk t).view.read (Elt F) (k0_pay15 (V m c main_v6)) := by
  rw [Value.flushed12_A]
  refine (congrArg ((cfg0.win 12).cut (grid0.coords t)) (?_ : _ = k0_pay15 (V m c main_v6))).trans ?_
  · unfold out0_A_12
    rw [View.read_writes_junk_eq_canon]
    show View.canon ([⟨Rect.unit ![0, 0] S16x2816.size inb_S16x2816_S16x2816_0_0,
        k0_pay15 (View.readAt (Elt F) (ms0_0 t).view (Rect.unit ![0, 0] S16x2816.size inb_S16x2816_S16x2816_0_0).toLoadRect ((hs0_0 t).unread (iblk m c 0 t)))⟩] :
        List (View.Piece (Elt F) S16x2816 .fp8e4m3)) = _
    rw [View.canon_unit_zero hz, View.readAt_eq_ld, Memref.IsWhole.read_unread, View.ld_unit_zero hz, iblk0_eq]
  · funext j
    show k0_pay15 (V m c main_v6) j = k0_pay15 (V m c main_v6) (((cfg0.win 12).blk t).view.emb j)
    rw [emb12]

theorem flushed13_eq (hH : Hyps m) (c : Dev nD) (t : Fin cfg0.N) :
    (dats m hH 0 c).flushed 13 t = ((cfg0.win 13).blk t).view.read (Elt F) (k0_pay1 (k0_pay14 (V m c main_v6))) := by
  rw [Value.flushed13_A]
  refine (congrArg ((cfg0.win 13).cut (grid0.coords t)) (?_ : _ = k0_pay1 (k0_pay14 (V m c main_v6)))).trans ?_
  · unfold out0_A_13
    rw [View.read_writes_junk_eq_canon]
    show View.canon ([⟨Rect.unit ![0, 0] S1x16.size inb_S1x16_S1x16_0_0,
        k0_pay1 (k0_pay14 (View.readAt (Elt F) (ms0_0 t).view (Rect.unit ![0, 0] S16x2816.size inb_S16x2816_S16x2816_0_0).toLoadRect ((hs0_0 t).unread (iblk m c 0 t))))⟩] :
        List (View.Piece (Elt F) S1x16 .f32)) = _
    rw [View.canon_unit_zero hz, View.readAt_eq_ld, Memref.IsWhole.read_unread, View.ld_unit_zero hz, iblk0_eq]
  · funext j
    show k0_pay1 (k0_pay14 (V m c main_v6)) j = k0_pay1 (k0_pay14 (V m c main_v6)) (((cfg0.win 13).blk t).view.emb j)
    rw [emb13]

theorem covered12 (i : S16x2816.Idx) : ∃ t : Fin cfg0.N, (cfg0.win 12).flush t = true ∧ i ∈ ((cfg0.win 12).blk t).view.set :=
  ⟨(⟨0, by decide⟩ : Fin cfg0.N), flush0_12 _, by
    have h := ((cfg0.win 12).blk (⟨0, by decide⟩ : Fin cfg0.N)).view.emb_mem_set i; rwa [emb12] at h⟩

theorem covered13 (i : S1x16.Idx) : ∃ t : Fin cfg0.N, (cfg0.win 13).flush t = true ∧ i ∈ ((cfg0.win 13).blk t).view.set :=
  ⟨(⟨0, by decide⟩ : Fin cfg0.N), flush0_13 _, by
    have h := ((cfg0.win 13).blk (⟨0, by decide⟩ : Fin cfg0.N)).view.emb_mem_set i; rwa [emb13] at h⟩

/-- The codes after the run. -/
theorem final12 (hH : Hyps m) (c : Dev nD) : (dats m hH 0 c).arrAt 12 cfg0.N = k0_pay15 (V m c main_v6) :=
  (dats m hH 0 c).arrAt_eq_of_cover 12 (k0_pay15 (V m c main_v6)) (fun t _ => flushed12_eq m hH c t) covered12

/-- The scales after the run. -/
theorem final13 (hH : Hyps m) (c : Dev nD) : (dats m hH 0 c).arrAt 13 cfg0.N = k0_pay1 (k0_pay14 (V m c main_v6)) :=
  (dats m hH 0 c).arrAt_eq_of_cover 13 (k0_pay1 (k0_pay14 (V m c main_v6))) (fun t _ => flushed13_eq m hH c t) covered13

end Cert.ReferenceIdeal.Hand
-- ==== Proof.Quant.lean ====
module

public import Idealize.ShloMosaic.PureOps.Ideal.Laws
public import Idealize.ShloMosaic.Lib.ValueIdx
public import Idealize.ShloMosaic.Lib.IdealHost

@[expose] public section

noncomputable section

namespace Cert.Quant

open Idealize.ShloMosaic

/-! # The quantiser's scale, as a function of one extended real

`q` stands for max |v| / 448 of a row. The kernel finds the exponent by counting the powers of two that `q` reaches and writes
the scale and its inverse as bit patterns; the reference takes the largest power reached and doubles it. Here the two are
shown to be the same function of `q`. -/

/-- The powers of two 2^-126 .. 2^125, then infinity. -/
def pw (k : Fin 256) : EReal := if k.val < 252 then (((2 : ℝ) ^ ((k.val : ℤ) - 126) : ℝ) : EReal) else ⊤

/-- How many of the first 255 of them `q` reaches. -/
def reach (q : EReal) : ℕ := (Finset.univ.filter fun k : Fin 256 => k.val < 255 ∧ pw k ≤ q).card

theorem pw_mono {j k : Fin 256} (h : j ≤ k) : pw j ≤ pw k := by
  unfold pw
  have h' : j.val ≤ k.val := h
  split_ifs with h1 h2
  · exact EReal.coe_le_coe_iff.mpr (zpow_le_zpow_right₀ (by norm_num) (by omega))
  · exact le_top
  · omega
  · exact le_rfl

/-- Below the first power, at infinity, or with a largest power reached. -/
theorem reach_cases (q : EReal) :
    ((∀ k, ¬ pw k ≤ q) ∧ reach q = 0) ∨ (q = ⊤ ∧ reach q = 255) ∨
    (∃ n : Fin 252, (∀ k : Fin 256, pw k ≤ q ↔ k.val ≤ n.val) ∧ reach q = n.val + 1 ∧ q < ⊤) := by
  by_cases h0 : pw 0 ≤ q
  swap
  · left
    have h : ∀ k, ¬ pw k ≤ q := fun k hk => h0 ((pw_mono (Fin.zero_le k)).trans hk)
    exact ⟨h, by simp [reach, h]⟩
  right
  by_cases ht : q = ⊤
  · left
    refine ⟨ht, ?_⟩
    subst ht
    simp only [reach, le_top, and_true]
    decide +kernel
  right
  have hlt : q < ⊤ := lt_top_iff_ne_top.mpr ht
  have hex : ∃ k : Fin 256, pw k ≤ q := ⟨0, h0⟩
  have hne : (Finset.univ.filter fun k : Fin 256 => pw k ≤ q).Nonempty := ⟨0, by simp [h0]⟩
  set n := (Finset.univ.filter fun k : Fin 256 => pw k ≤ q).max' hne with hn
  have hnq : pw n ≤ q := (Finset.mem_filter.mp (Finset.max'_mem _ hne)).2
  have hn2 : n.val < 252 := by
    by_contra hc
    exact ht (top_le_iff.mp (by simpa [pw, hc] using hnq))
  have hiff : ∀ k : Fin 256, pw k ≤ q ↔ k.val ≤ n.val := fun k =>
    ⟨fun hk => Finset.le_max' _ k (by simp [hk]), fun hk => (pw_mono (show k ≤ n from hk)).trans hnq⟩
  refine ⟨⟨n.val, hn2⟩, hiff, ?_, hlt⟩
  simp only [reach, hiff]
  have : (Finset.univ.filter fun k : Fin 256 => k.val < 255 ∧ k.val ≤ n.val) = Finset.Iic n := by
    ext k; simp only [Finset.mem_filter, Finset.mem_univ, true_and, Finset.mem_Iic, Fin.le_def]; omega
  rw [this, Fin.card_Iic]

/-- A float's bits with an exponent field and nothing else are a power of two. -/
theorem ofBits_field (n : ℕ) (h1 : 1 ≤ n) (h2 : n ≤ 254) :
    Ideal.ofBits .f32 (IntOp.shli .vector (BitVec.ofNat 32 n) 23#32) = (((2 : ℝ) ^ ((n : ℤ) - 127) : ℝ) : EReal) := by
  have hw : IntOp.shli .vector (BitVec.ofNat 32 n) 23#32 = BitVec.ofNat 32 (n * 2 ^ 23) := by
    apply BitVec.eq_of_toNat_eq
    simp [IntOp.shli, Nat.shiftLeft_eq]
  rw [hw]
  have hs : (BitVec.extractLsb' 31 1 (BitVec.ofNat 32 (n * 2 ^ 23)) == 1#1) = false := by
    rw [beq_eq_false_iff_ne]
    intro h
    have := congrArg BitVec.toNat h
    simp [BitVec.extractLsb', Nat.shiftRight_eq_div_pow] at this
    omega
  have he : (BitVec.extractLsb' 23 8 (BitVec.ofNat 32 (n * 2 ^ 23))).toNat = n := by
    simp [BitVec.extractLsb', Nat.shiftRight_eq_div_pow]
    omega
  have hf : (BitVec.extractLsb' 0 23 (BitVec.ofNat 32 (n * 2 ^ 23))).toNat = 0 := by
    simp [BitVec.extractLsb', Nat.shiftRight_eq_div_pow]
  show Ideal.ieee 8 23 (BitVec.ofNat 32 (n * 2 ^ 23)) = _
  simp only [Ideal.ieee, Nat.reduceAdd, hs, he, hf]
  rw [if_neg (by omega), if_neg (by omega)]
  congr 1
  have h23 : ((2 ^ 23 + 0 : ℕ) : ℝ) = (2 : ℝ) ^ (23 : ℤ) := by norm_num
  rw [h23]
  simp only [Bool.false_eq_true, if_false, one_mul]
  rw [← zpow_add₀ (by norm_num)]
  congr 1
  ring

/-- The pattern of infinity. -/
theorem ofBits_inf : Ideal.ofBits .f32 0x7F800000#32 = ⊤ := by
  simp [Ideal.ofBits, Ideal.ieee]

theorem ofBits_ninf : Ideal.ofBits .f32 0xFF800000#32 = ⊥ := by
  simp [Ideal.ofBits, Ideal.ieee]

theorem ofBits_two : Ideal.ofBits .f32 0x40000000#32 = ((2 : ℝ) : EReal) := by
  simp [Ideal.ofBits, Ideal.ieee, -EReal.coe_mul]; norm_num

/-- The kernel's exponent of the scale. -/
def expo (c : BitVec 32) : BitVec 32 :=
  Scalar.select (IntOp.ori (Scalar.cmpi .eq c 0#32) (Scalar.cmpi .eq c 255#32)) 0#32 (c - 126#32)

/-- The kernel's scale and the number it multiplies by. -/
def kscale (q : EReal) : EReal := Ideal.ofBits .f32 (IntOp.shli .vector (expo (BitVec.ofNat 32 (reach q)) + 127#32) 23#32)
def kinv (q : EReal) : EReal := Ideal.ofBits .f32 (IntOp.shli .vector (0#32 - expo (BitVec.ofNat 32 (reach q)) + 127#32) 23#32)

/-- The largest power reached, zero if none is. -/
def below (q : EReal) : EReal := (Finset.univ : Finset (Fin 256)).fold max ⊥ fun k => if pw k ≤ q then pw k else 0

/-- The reference's scale. -/
def rscale (q : EReal) : EReal := if 0 < below q ∧ q < ⊤ then ((2 : ℝ) : EReal) * below q else 1

theorem words (n : Fin 252) : expo (BitVec.ofNat 32 (n.val + 1)) + 127#32 = BitVec.ofNat 32 (n.val + 2)
    ∧ 0#32 - expo (BitVec.ofNat 32 (n.val + 1)) + 127#32 = BitVec.ofNat 32 (252 - n.val) := by
  revert n; decide +kernel

theorem below_none {q : EReal} (h : ∀ k, ¬ pw k ≤ q) : below q = 0 := by
  unfold below
  simp only [h, if_false]
  exact le_antisymm (Finset.fold_max_le _ |>.mpr ⟨bot_le, fun _ _ => le_rfl⟩) ((Finset.le_fold_max _).mpr (.inr ⟨0, Finset.mem_univ _, le_rfl⟩))

theorem below_some {q : EReal} (n : Fin 252) (h : ∀ k : Fin 256, pw k ≤ q ↔ k.val ≤ n.val) :
    below q = (((2 : ℝ) ^ ((n.val : ℤ) - 126) : ℝ) : EReal) := by
  have hn : pw ⟨n.val, by omega⟩ = (((2 : ℝ) ^ ((n.val : ℤ) - 126) : ℝ) : EReal) := by simp [pw, n.isLt]
  rw [← hn]
  unfold below
  apply le_antisymm
  · refine (Finset.fold_max_le _).mpr ⟨bot_le, fun k _ => ?_⟩
    split_ifs with hk
    · exact pw_mono ((h k).mp hk)
    · rw [hn]; exact_mod_cast (zpow_pos (by norm_num : (0:ℝ) < 2) _).le
  · refine (Finset.le_fold_max _).mpr (.inr ⟨⟨n.val, by omega⟩, Finset.mem_univ _, ?_⟩)
    rw [if_pos ((h _).mpr le_rfl)]

/-- One scale, and dividing by it is multiplying by the kernel's inverse: it is a power of two. -/
theorem scale_eq (q : EReal) : kscale q = rscale q ∧ ∀ v : EReal, v * kinv q = Ideal.div v (rscale q) := by
  have hone : ∀ v : EReal, v * 1 = Ideal.div v 1 := fun v => by simp [Ideal.div]
  have h127 : Ideal.ofBits .f32 (IntOp.shli .vector (BitVec.ofNat 32 127) 23#32) = 1 := by
    rw [ofBits_field 127 (by omega) (by omega)]; simp
  rcases reach_cases q with ⟨h, hr⟩ | ⟨h, hr⟩ | ⟨n, h, hr, hq⟩
  · have hs : rscale q = 1 := by simp [rscale, below_none h]
    have hk : kscale q = 1 := by rw [kscale, hr]; exact h127
    have hi : kinv q = 1 := by rw [kinv, hr]; exact h127
    rw [hs, hk, hi]; exact ⟨rfl, hone⟩
  · have hs : rscale q = 1 := by simp [rscale, h]
    have hk : kscale q = 1 := by rw [kscale, hr]; exact h127
    have hi : kinv q = 1 := by rw [kinv, hr]; exact h127
    rw [hs, hk, hi]; exact ⟨rfl, hone⟩
  · have hpos : (0 : EReal) < (((2 : ℝ) ^ ((n.val : ℤ) - 126) : ℝ) : EReal) := by
      exact_mod_cast zpow_pos (by norm_num : (0:ℝ) < 2) _
    have hs : rscale q = (((2 : ℝ) ^ ((n.val : ℤ) - 125) : ℝ) : EReal) := by
      rw [rscale, below_some n h, if_pos ⟨hpos, hq⟩, ← EReal.coe_mul]
      congr 1
      rw [show (n.val : ℤ) - 125 = 1 + ((n.val : ℤ) - 126) by ring, zpow_add₀ (by norm_num), zpow_one]
    have hk : kscale q = (((2 : ℝ) ^ ((n.val : ℤ) - 125) : ℝ) : EReal) := by
      rw [kscale, hr, (words n).1, ofBits_field _ (by omega) (by omega)]
      congr 2; push_cast; ring
    have hi : kinv q = (((2 : ℝ) ^ (125 - (n.val : ℤ)) : ℝ) : EReal) := by
      rw [kinv, hr, (words n).2, ofBits_field _ (by omega) (by omega)]
      congr 2; have := n.isLt; omega
    refine ⟨hk.trans hs.symm, fun v => ?_⟩
    have hne : (((2 : ℝ) ^ ((n.val : ℤ) - 125) : ℝ) : EReal) ≠ 0 := by
      exact_mod_cast (zpow_pos (by norm_num : (0:ℝ) < 2) _).ne'
    rw [hs, hi, Ideal.div, if_neg hne, ← EReal.coe_inv, ← zpow_neg, neg_sub]

/-- Lane `k`'s bit pattern is the power `pw k`. -/
theorem lane_pw (k : Fin 256) : Ideal.ofBits .f32 (IntOp.shli .vector
    (Scalar.select (IntOp.cmpi .slt (BitVec.ofNat 32 k.val) 252#32) (IntOp.addi (BitVec.ofNat 32 k.val) 1#32) 255#32) 23#32) = pw k := by
  have hw : (k.val < 252 → Scalar.select (IntOp.cmpi .slt (BitVec.ofNat 32 k.val) 252#32) (IntOp.addi (BitVec.ofNat 32 k.val) 1#32) 255#32
        = BitVec.ofNat 32 (k.val + 1))
      ∧ (¬ k.val < 252 → Scalar.select (IntOp.cmpi .slt (BitVec.ofNat 32 k.val) 252#32) (IntOp.addi (BitVec.ofNat 32 k.val) 1#32) 255#32
        = 255#32) := by
    revert k; decide +kernel
  by_cases h : k.val < 252
  · rw [hw.1 h, ofBits_field _ (by omega) (by omega), pw, if_pos h]
    congr 2; push_cast; ring
  · rw [hw.2 h, show IntOp.shli .vector 255#32 23#32 = 0x7F800000#32 by decide +kernel, ofBits_inf, pw, if_neg h]

/-- A sum of ones and zeros counts. -/
theorem fold_count {α : Type} [DecidableEq α] (s : Finset α) (p : α → Prop) [DecidablePred p] :
    s.fold IntOp.addi 0#32 (fun k => if p k then 1#32 else 0#32) = BitVec.ofNat 32 (s.filter p).card := by
  induction s using Finset.induction_on with
  | empty => rfl
  | insert a s ha ih =>
    rw [Finset.fold_insert ha, ih, Finset.filter_insert]
    split_ifs with h
    · rw [Finset.card_insert_of_notMem (by simp [ha]), IntOp.addi, Nat.add_comm, BitVec.ofNat_add]
    · simp [IntOp.addi]

/-- What the kernel counts is how many powers `q` reaches. -/
theorem count_eq (q : EReal) :
    (Finset.univ : Finset (Fin 256)).fold IntOp.addi 0#32 (fun x => Scalar.select (IntOp.andi (IntOp.cmpi .slt (BitVec.ofNat 32 x.val) 255#32)
      (BitVec.ofBool (decide (Ideal.ofBits .f32 (IntOp.shli .vector
        (Scalar.select (IntOp.cmpi .slt (BitVec.ofNat 32 x.val) 252#32) (IntOp.addi (BitVec.ofNat 32 x.val) 1#32) 255#32) 23#32) ≤ q)))) 1#32 0#32)
      = BitVec.ofNat 32 (reach q) := by
  rw [reach, ← fold_count]
  congr 1
  funext k
  rw [lane_pw]
  have hs : IntOp.cmpi .slt (BitVec.ofNat 32 k.val) 255#32 = BitVec.ofBool (decide (k.val < 255)) := by
    revert k; decide +kernel
  rw [hs]
  by_cases h1 : k.val < 255 <;> by_cases h2 : pw k ≤ q <;> simp [h1, h2, Scalar.select, IntOp.andi]

/-- The reference spells the same lane as a power. -/
theorem lane_exp2 (k : Fin 256) : (Scalar.select (IntOp.cmpi .slt (BitVec.ofNat 32 k.val) 252#32)
    (FloatOps.exp2 (F := Ideal) (FloatOps.sitofp .f32 (IntOp.subi (BitVec.ofNat 32 k.val) 126#32))) (Ideal.ofBits .f32 0x7F800000#32) : EReal) = pw k := by
  have hw : (k.val < 252 → IntOp.cmpi .slt (BitVec.ofNat 32 k.val) 252#32 = 1#1)
      ∧ (¬ k.val < 252 → IntOp.cmpi .slt (BitVec.ofNat 32 k.val) 252#32 = 0#1)
      ∧ (IntOp.subi (BitVec.ofNat 32 k.val) 126#32).toInt = (k.val : ℤ) - 126 := by
    revert k; decide +kernel
  by_cases h : k.val < 252
  · rw [hw.1 h, pw, if_pos h]
    show Ideal.exp2 (((IntOp.subi (BitVec.ofNat 32 k.val) 126#32).toInt : ℝ) : EReal) = _
    rw [hw.2.2]
    show ((Real.rpow 2 (((k.val : ℤ) - 126 : ℤ) : ℝ) : ℝ) : EReal) = _
    rw [Real.rpow_eq_pow, Real.rpow_intCast]
  · rw [hw.2.1 h, ofBits_inf, pw, if_neg h]; rfl

/-- The reference's selection of its scale. -/
theorem rscale_eq (q : EReal) (b : EReal) (hb : b = below q) :
    Scalar.select (IntOp.andi (BitVec.ofBool (decide (0 < b))) (BitVec.ofBool (decide (q < Ideal.ofBits .f32 0x7F800000#32))))
      (Ideal.ofBits .f32 0x40000000#32 * b) 1 = rscale q := by
  subst hb
  rw [ofBits_inf, ofBits_two, rscale]
  by_cases h1 : 0 < below q <;> by_cases h2 : q < ⊤ <;> simp [h1, h2, Scalar.select, IntOp.andi]

/-- max |v| / 448 of a row, as both programs spell it. -/
def rowq {n : ℕ} (v : Fin n → EReal) : EReal :=
  (Finset.univ : Finset (Fin n)).fold max (Ideal.ofBits .f32 0xFF800000#32) (fun x => FloatOps.absf (F := Ideal) (φ := .f32) (v x))
    * Ideal.ofBits .f32 0x3B124925#32

/-- A number clipped to fp8's range. -/
def clip (v : EReal) : EReal := min (Ideal.ofBits .f32 0x43E00000#32) (max (Ideal.ofBits .f32 0xC3E00000#32) v)

end Cert.Quant
-- ==== Proof.QuantKernel.lean ====
module

public import proofs.«01_k».proof.Proof.Quant
public import proofs.«01_k».proof.Proof.Gen.Kernel.Skeleton
public import Idealize.ShloMosaic.Lib.Pointwise
public import Idealize.ShloMosaic.Lib.ValueLayout

@[expose] public section

set_option maxRecDepth 100000

noncomputable section

namespace Cert.Quant

open Cert.Kernel Cert.Kernel.Gen
open Idealize.ShloMosaic Idealize.ShloMosaic.TcCoe

attribute [local instance] Cert.Kernel.Gen.facts

/-- The kernel's exponent of a row's scale. -/
theorem kernel_expo (X : Vec Ideal S16x2816 .bf16) (i : S16x1.Idx) :
    k0_pay57 X i = expo (BitVec.ofNat 32 (reach (rowq fun x => X (ix2 (i 0) x)))) := by
  pointwise [k0_pay57, k0_pay56]
  simp only [count_eq]
  rfl

/-- The kernel's codes. -/
theorem kernel_codes (X : Vec Ideal S16x2816 .bf16) (i : S16x2816.Idx) :
    k0_pay59 (k0_pay56 X) (k0_pay58 X) 127#32 i = clip (X i * kinv (rowq fun x => X (ix2 (i 0) x))) := by
  have h : k0_pay57 X (ix2 (i 0) 0) = expo (BitVec.ofNat 32 (reach (rowq fun x => X (ix2 (i 0) x)))) := kernel_expo X _
  rw [kinv, ← h]
  pointwise [k0_pay59, k0_pay56, k0_pay58]
  rfl

/-- The kernel's row of scales: of a matrix with them on its diagonal, the sums down the columns. -/
theorem kernel_scale_t (X : Vec Ideal S16x2816 .bf16) (i : S1x16.Idx) :
    k0_pay61 (F := Ideal) (k0_pay57 X) i = kscale (rowq fun x => X (ix2 (i 1) x)) := by
  have h : k0_pay57 X (ix2 (i 1) 0) = expo (BitVec.ofNat 32 (reach (rowq fun x => X (ix2 (i 1) x)))) := kernel_expo X _
  rw [kscale, ← h]
  pointwise [k0_pay61, k0_pay60]
  have he : (∀ x : Fin 16, IntOp.cmpi .eq (BitVec.ofNat 32 x.val) (BitVec.ofNat 32 x.val) = 1#1)
      ∧ ∀ x y : Fin 16, x ≠ y → IntOp.cmpi .eq (BitVec.ofNat 32 x.val) (BitVec.ofNat 32 y.val) = 0#1 := by
    decide +kernel
  refine (Finset.sum_eq_single (M := EReal) (i 1 : Fin 16) ?_ ?_).trans ?_
  · intro b _ hb
    have := he.2 b (i 1) hb
    rw [this]; rfl
  · intro h; exact absurd (Finset.mem_univ _) h
  · have := he.1 (i 1)
    rw [this]; rfl

end Cert.Quant
-- ==== Proof.QuantRef.lean ====
module

public import proofs.«01_k».proof.Proof.Quant
public import proofs.«01_k».proof.Proof.Gen.ReferenceIdeal.Skeleton
public import Idealize.ShloMosaic.Lib.Pointwise
public import Idealize.ShloMosaic.Lib.ValueLayout

@[expose] public section

set_option maxRecDepth 100000

noncomputable section

namespace Cert.Quant

open Cert.ReferenceIdeal Cert.ReferenceIdeal.Gen
open Idealize.ShloMosaic Idealize.ShloMosaic.TcCoe

attribute [local instance] Cert.ReferenceIdeal.Gen.facts

/-- The reference's scale of a row. -/
theorem ref_scale (X : Vec Ideal S16x2816 .bf16) (i : S16x1.Idx) : k0_pay14 X i = rscale (rowq fun x => X (ix2 (i 0) x)) := by
  pointwise [k0_pay14, k0_pay13]
  simp only [lane_exp2]
  refine rscale_eq _ _ ?_
  rw [ofBits_ninf]
  rfl

/-- The reference's codes. -/
theorem ref_codes (X : Vec Ideal S16x2816 .bf16) (i : S16x2816.Idx) :
    k0_pay15 X i = clip (Ideal.div (X i) (rscale (rowq fun x => X (ix2 (i 0) x)))) := by
  have h : k0_pay14 X (ix2 (i 0) 0) = rscale (rowq fun x => X (ix2 (i 0) x)) := ref_scale X _
  rw [← h]
  pointwise [k0_pay15, k0_pay13]
  rfl

/-- The reference's scales, transposed. -/
theorem ref_scale_t (X : Vec Ideal S16x2816 .bf16) (i : S1x16.Idx) : k0_pay1 (k0_pay14 X) i = rscale (rowq fun x => X (ix2 (i 1) x)) := by
  have h : k0_pay14 X (ix2 (i 1) 0) = rscale (rowq fun x => X (ix2 (i 1) x)) := ref_scale X _
  rw [← h]
  pointwise [k0_pay1]

end Cert.Quant
-- ==== Proof.Outs.lean ====
/-
  What the kernel's second and third result arrays hold after the run, and that these are what the reference's hold: the
  same codes and the same scales of the same token rows.
-/
module

public import proofs.«01_k».proof.Proof.RefRun
public import proofs.«01_k».proof.Proof.QuantKernel
public import proofs.«01_k».proof.Proof.QuantRef

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx

section
variable {F : FTy → Type} [FloatOps F]
variable (m : (ℓ : Loc nD τ sig) → Buf (Elt F) ℓ)

theorem idx_zero1 : ∀ t : Fin cfg0.N, win0_1.index t (0 : Fin 2) = 0 ∧ win0_1.index t (1 : Fin 2) = 0 := (by decide +kernel : ∀ t : Fin grid0.N, _)
theorem idx_zero2 : ∀ t : Fin cfg0.N, win0_2.index t (0 : Fin 2) = 0 ∧ win0_2.index t (1 : Fin 2) = 0 := (by decide +kernel : ∀ t : Fin grid0.N, _)

theorem emb1 (t : Fin cfg0.N) (j : S16x2816.Idx) : ((cfg0.win 1).blk t).view.emb j = j := by
  obtain ⟨e0, e1⟩ := idx_zero1 t
  funext a; apply Fin.ext
  match a with
  | ⟨0, _⟩ => show win0_1.index t (0 : Fin 2) * 16 + 1 * (j 0).val = (j 0).val; omega
  | ⟨1, _⟩ => show win0_1.index t (1 : Fin 2) * 2816 + 1 * (j 1).val = (j 1).val; omega

theorem emb2 (t : Fin cfg0.N) (j : S1x16.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 16 + 1 * (j 1).val = (j 1).val; omega

/-- The codes after the run. -/
theorem final1 (c : Dev nD) : (dats m 0 c).arrAt 1 (cfgs 0).N = codesOf (rawOf m c) :=
  (dats m 0 c).arrAt_eq_of_cover 1 (codesOf (rawOf m c))
    (fun t _ => by
      show (cfg0.win 1).cut (grid0.coords t) ((dats m 0 c).after 1 t) = _
      rw [after0_1]
      funext j
      show codesOf (rawOf m c) j = codesOf (rawOf m c) (((cfg0.win 1).blk t).view.emb j)
      rw [emb1])
    (fun i => ⟨(⟨0, by decide⟩ : Fin cfg0.N), by decide +kernel, by
      have h := ((cfg0.win 1).blk (⟨0, by decide⟩ : Fin cfg0.N)).view.emb_mem_set i; rwa [emb1] at h⟩)

/-- The scales after the run. -/
theorem final2 (c : Dev nD) : (dats m 0 c).arrAt 2 (cfgs 0).N = scaleRow (rawOf m c) :=
  (dats m 0 c).arrAt_eq_of_cover 2 (scaleRow (rawOf m c))
    (fun t _ => by
      show (cfg0.win 2).cut (grid0.coords t) ((dats m 0 c).after 2 t) = _
      rw [after0_2]
      funext j
      show scaleRow (rawOf m c) j = scaleRow (rawOf m c) (((cfg0.win 2).blk t).view.emb j)
      rw [emb2])
    (fun i => ⟨(⟨0, by decide⟩ : Fin cfg0.N), by decide +kernel, by
      have h := ((cfg0.win 2).blk (⟨0, by decide⟩ : Fin cfg0.N)).view.emb_mem_set i; rwa [emb2] at h⟩)
end

/-- The kernel's codes of the token rows are the reference's. -/
theorem codes_eq (X : Vec Ideal S16x2816 .bf16) :
    k0_pay59 (k0_pay56 X) (k0_pay58 X) 127#32 = Cert.ReferenceIdeal.Gen.k0_pay15 X := by
  funext i
  rw [Cert.Quant.kernel_codes]
  refine (congrArg Cert.Quant.clip ((Cert.Quant.scale_eq _).2 _)).trans ?_
  exact (Cert.Quant.ref_codes X i).symm

/-- And so are its scales. -/
theorem scales_eq (X : Vec Ideal S16x2816 .bf16) :
    k0_pay61 (F := Ideal) (k0_pay57 X) = Cert.ReferenceIdeal.Gen.k0_pay1 (Cert.ReferenceIdeal.Gen.k0_pay14 X) := by
  funext i
  rw [Cert.Quant.kernel_scale_t]
  exact ((Cert.Quant.scale_eq _).1).trans (Cert.Quant.ref_scale_t X i).symm

end Cert.Kernel.Hand
-- ==== Proof.Pair.lean ====
/-
  The plain value of one token at one expert, over the extended reals: the gated hidden row, its quantisation, the down product.
-/
module

public import proofs.«01_k».proof.Proof.Quant

@[expose] public section

noncomputable section

namespace Cert.Quant

open Idealize.ShloMosaic

/-- One column before the gate, from the two products and the scales. -/
def mix (base s u ex : EReal) : EReal := base * s * u + Ideal.ofBits .f32 0x40000000#32 * ex

/-- The gate: `g` times its logistic, times `u`. -/
def act (g u : EReal) : EReal := g * Ideal.logistic g * u

/-- A column of the gate half and of the other half. -/
abbrev lo (f : Fin 1536) : Fin 3072 := ⟨f.val, by omega⟩
abbrev hi (f : Fin 1536) : Fin 3072 := ⟨1536 + f.val, by omega⟩

/-- The hidden row from the columns. -/
def hidden (g : Fin 3072 → EReal) (f : Fin 1536) : EReal := act (g (lo f)) (g (hi f))

/-- The down product of a hidden row, quantised. -/
def down (h : Fin 1536 → EReal) (w : Fin 1536 → EReal) (d : EReal) : EReal :=
  (∑ f, clip (Ideal.div (h f) (rscale (rowq h))) * w f) * rscale (rowq h) * d

/-- The columns of a row `x` at one expert and one adapter. -/
def cols (x : Fin 2816 → EReal) (wu : Fin 2816 → Fin 3072 → EReal) (us : Fin 3072 → EReal) (la : Fin 2816 → Fin 16 → EReal)
    (lb : Fin 16 → Fin 3072 → EReal) (k : Fin 3072) : EReal :=
  mix (∑ i, clip (Ideal.div (x i) (rscale (rowq x))) * wu i k) (rscale (rowq x)) (us k) (∑ r, (∑ i, x i * la i r) * lb r k)

end Cert.Quant
-- ==== Proof.RefTrip.lean ====
/-
  One trip of the reference's loop: the one row it writes, as a payload of what it loads.
-/
module

public import proofs.«01_k».proof.Proof.RefRun

@[expose] public section

set_option maxRecDepth 100000

noncomputable section

namespace Cert.ReferenceIdeal.Hand

open Cert.ReferenceIdeal Cert.ReferenceIdeal.Gen
open Idealize.ShloMosaic Idealize.ShloMosaic.TcCoe

variable {F : FTy → Type} [FloatOps F]

/-- What one trip stores: the pair's row, from the token row, the words' expert and adapter. -/
def pairRow (v60 : Vec F S1x1x2816 .bf16) (v100 : Vec F S1x2816x3072 .fp8e4m3) (v106 : Vec F S1x1x3072 .f32) (v111 : Vec F S1x1x2816x16 .bf16)
    (v117 : Vec F S1x1x16x3072 .bf16) (v165 : Vec F S1x1536x2816 .fp8e4m3) (v171 : Vec F S1x1x2816 .f32) : FVec F S1x1x2816 .f32 :=
  k0_pay2 (k0_pay9 (k0_pay4 v60) (k0_pay6 v60) (k0_pay7 v60) k0_pay8 v100 v106 v111 v117)
    (k0_pay10 (k0_pay4 v60) (k0_pay6 v60) (k0_pay7 v60) k0_pay8 v100 v106 v111 v117) k0_pay11 k0_pay12 (Scalar.ofBits .f32 0x7F800000#32) v165 v171

/-- One trip's pieces. -/
theorem trip_eq  (𝒱 : Variants) (c : Dev nD) (bd : Option 𝒱.V) (arg0 : Memref sig .tc .vmem S16x2816 .bf16) (harg0 : arg0.IsWhole) (arg1 : Memref sig .tc .vmem S128x1x2816 .bf16) (harg1 : arg1.IsWhole) (arg2 : Memref sig .tc .smem S128 .i32) (harg2 : arg2.IsWhole) (arg3 : Memref sig .tc .smem S128 .i32) (harg3 : arg3.IsWhole) (arg4 : Memref sig .tc .vmem S16x8x1 .f32) (harg4 : arg4.IsWhole) (arg5 : Memref sig .tc .vmem S32x2816x3072 .fp8e4m3) (harg5 : arg5.IsWhole) (arg6 : Memref sig .tc .vmem S32x1x3072 .f32) (harg6 : arg6.IsWhole) (arg7 : Memref sig .tc .vmem S32x1536x2816 .fp8e4m3) (harg7 : arg7.IsWhole) (arg8 : Memref sig .tc .vmem S32x1x2816 .f32) (harg8 : arg8.IsWhole) (arg9 : Memref sig .tc .vmem S32x8x2816x16 .bf16) (harg9 : arg9.IsWhole) (arg10 : Memref sig .tc .vmem S32x8x16x3072 .bf16) (harg10 : arg10.IsWhole) (arg11 : Memref sig .tc .vmem S16x2816 .bf16) (harg11 : arg11.IsWhole) (arg12 : Memref sig .tc .vmem S16x2816 .fp8e4m3) (harg12 : arg12.IsWhole) (arg13 : Memref sig .tc .vmem S1x16 .f32) (harg13 : arg13.IsWhole) (arg14 : Memref sig .tc .vmem S128x1x2816 .f32) (harg14 : arg14.IsWhole) (x1 : Vec F S128x1x2816 .bf16) (x2 x3 : Vec F S128 .i32) (x5 : Vec F S32x2816x3072 .fp8e4m3) (x6 : Vec F S32x1x3072 .f32) (x7 : Vec F S32x1536x2816 .fp8e4m3) (x8 : Vec F S32x1x2816 .f32) (x9 : Vec F S32x8x2816x16 .bf16) (x10 : Vec F S32x8x16x3072 .bf16) (k : Fin k0_t1_loop.trips)
    (k0_hw1 : k0_chk1 (arg2.view.readAt (Elt F) (Rect.unit (s := S128) (k0_off1 k) S1.size (k0_off1_inb k)).toLoadRect (harg2.unread x2) (Shape.Idx.first (numel1_S1.symm ▸ Nat.one_pos))))
    (k0_hw2 : k0_chk2 (arg2.view.readAt (Elt F) (Rect.unit (s := S128) (k0_off1 k) S1.size (k0_off1_inb k)).toLoadRect (harg2.unread x2) (Shape.Idx.first (numel1_S1.symm ▸ Nat.one_pos)))
      (arg3.view.readAt (Elt F) (Rect.unit (s := S128) (k0_off1 k) S1.size (k0_off1_inb k)).toLoadRect (harg3.unread x3) (Shape.Idx.first (numel1_S1.symm ▸ Nat.one_pos)))) :
    tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg2.unread x2) (harg3.unread x3) (harg5.unread x5) (harg6.unread x6) (harg7.unread x7) (harg8.unread x8) (harg9.unread x9) (harg10.unread x10) k k0_hw1 k0_hw2
      = [⟨Rect.unit (s := S128x1x2816) (k0_off9 k) S1x1x2816.size (k0_off9_inb k),
          pairRow (arg1.view.readAt (Elt F) (Rect.unit (s := S128x1x2816) (k0_off2 k) S1x1x2816.size (k0_off2_inb k)).toLoadRect (harg1.unread x1))
            (arg5.view.readAt (Elt F) (Rect.unit (s := S32x2816x3072) (k0_off3 (arg2.view.readAt (Elt F) (Rect.unit (s := S128) (k0_off1 k) S1.size (k0_off1_inb k)).toLoadRect (harg2.unread x2) (Shape.Idx.first (numel1_S1.symm ▸ Nat.one_pos)))) S1x2816x3072.size (k0_off3_inb _ k0_hw1)).toLoadRect (harg5.unread x5))
            (arg6.view.readAt (Elt F) (Rect.unit (s := S32x1x3072) (k0_off4 (arg2.view.readAt (Elt F) (Rect.unit (s := S128) (k0_off1 k) S1.size (k0_off1_inb k)).toLoadRect (harg2.unread x2) (Shape.Idx.first (numel1_S1.symm ▸ Nat.one_pos)))) S1x1x3072.size (k0_off4_inb _ k0_hw1)).toLoadRect (harg6.unread x6))
            (arg9.view.readAt (Elt F) (Rect.unit (s := S32x8x2816x16) (k0_off5 (arg2.view.readAt (Elt F) (Rect.unit (s := S128) (k0_off1 k) S1.size (k0_off1_inb k)).toLoadRect (harg2.unread x2) (Shape.Idx.first (numel1_S1.symm ▸ Nat.one_pos))) (arg3.view.readAt (Elt F) (Rect.unit (s := S128) (k0_off1 k) S1.size (k0_off1_inb k)).toLoadRect (harg3.unread x3) (Shape.Idx.first (numel1_S1.symm ▸ Nat.one_pos)))) S1x1x2816x16.size (k0_off5_inb _ _ k0_hw2)).toLoadRect (harg9.unread x9))
            (arg10.view.readAt (Elt F) (Rect.unit (s := S32x8x16x3072) (k0_off6 (arg2.view.readAt (Elt F) (Rect.unit (s := S128) (k0_off1 k) S1.size (k0_off1_inb k)).toLoadRect (harg2.unread x2) (Shape.Idx.first (numel1_S1.symm ▸ Nat.one_pos))) (arg3.view.readAt (Elt F) (Rect.unit (s := S128) (k0_off1 k) S1.size (k0_off1_inb k)).toLoadRect (harg3.unread x3) (Shape.Idx.first (numel1_S1.symm ▸ Nat.one_pos)))) S1x1x16x3072.size (k0_off6_inb _ _ k0_hw2)).toLoadRect (harg10.unread x10))
            (arg7.view.readAt (Elt F) (Rect.unit (s := S32x1536x2816) (k0_off7 (arg2.view.readAt (Elt F) (Rect.unit (s := S128) (k0_off1 k) S1.size (k0_off1_inb k)).toLoadRect (harg2.unread x2) (Shape.Idx.first (numel1_S1.symm ▸ Nat.one_pos)))) S1x1536x2816.size (k0_off7_inb _ k0_hw1)).toLoadRect (harg7.unread x7))
            (arg8.view.readAt (Elt F) (Rect.unit (s := S32x1x2816) (k0_off8 (arg2.view.readAt (Elt F) (Rect.unit (s := S128) (k0_off1 k) S1.size (k0_off1_inb k)).toLoadRect (harg2.unread x2) (Shape.Idx.first (numel1_S1.symm ▸ Nat.one_pos)))) S1x1x2816.size (k0_off8_inb _ k0_hw1)).toLoadRect (harg8.unread x8))⟩] := by
  unfold tripL_k0_t1 trip_k0_t1
  rfl

end Cert.ReferenceIdeal.Hand
-- ==== Proof.RefPay.lean ====
/-
  The reference's payloads at one row, over the extended reals: its scale, its hidden row, its down product, its weighted sum.
-/
module

public import proofs.«01_k».proof.Proof.Pair
public import proofs.«01_k».proof.Proof.QuantRef
public import proofs.«01_k».proof.Proof.RefTrip

@[expose] public section

set_option maxRecDepth 100000

noncomputable section

namespace Cert.ReferenceIdeal.Hand

open Cert.ReferenceIdeal Cert.ReferenceIdeal.Gen Cert.Quant
open Idealize.ShloMosaic hiding ix1 ix2 ix3 ix4
open Idealize.ShloMosaic.TcCoe
open Idealize.ShloMosaic.ValueIdx

attribute [local instance] Cert.ReferenceIdeal.Gen.facts

/-- The row's scale. -/
theorem row_scale (x : Vec Ideal S1x1x2816 .bf16) : k0_pay6 x (ix2 0 0) = rscale (rowq fun i => x (ix3 0 0 i)) := by
  pointwise [k0_pay6, k0_pay5, k0_pay4]
  simp only [lane_exp2]
  refine rscale_eq _ _ ?_
  rw [ofBits_ninf]
  rfl

/-- The row's code, before its upper clip. -/
theorem row_code (x : Vec Ideal S1x1x2816 .bf16) (i : Fin 2816) :
    min (k0_pay8 (F := Ideal) (ix2 0 i)) (k0_pay7 x (ix2 0 i)) = clip (Ideal.div (x (ix3 0 0 i)) (rscale (rowq fun i => x (ix3 0 0 i)))) := by
  have h := row_scale x
  rw [← h]
  unfold k0_pay7
  generalize k0_pay6 x = s
  pointwise [k0_pay8, k0_pay5, k0_pay4]
  rfl

/-- The hidden row from the codes, the row and the scale. -/
theorem pay9_eq (v61 : FVec Ideal S1x2816 .bf16) (v91 : FVec Ideal S1x1 .f32) (v95 v96 : FVec Ideal S1x2816 .f32)
    (v100 : Vec Ideal S1x2816x3072 .fp8e4m3) (v106 : Vec Ideal S1x1x3072 .f32) (v111 : Vec Ideal S1x1x2816x16 .bf16) (v117 : Vec Ideal S1x1x16x3072 .bf16) (f : Fin 1536) :
    k0_pay9 v61 v91 v95 v96 v100 v106 v111 v117 (ix2 0 f) = Quant.hidden (fun k =>
      mix (∑ i : Fin 2816, min (v96 (ix2 0 i)) (v95 (ix2 0 i)) * v100 (ix3 0 i k)) (v91 (ix2 0 0)) (v106 (ix3 0 0 k))
        (∑ r : Fin 16, (∑ i : Fin 2816, v61 (ix2 0 i) * v111 (ix4 0 0 i r)) * v117 (ix4 0 0 r k))) f := by
  unfold Quant.hidden
  pointwise [k0_pay9]
  simp only [ix2_eq_valueIdx, ix3_eq_valueIdx, act, mix, Nat.zero_add]
  rfl

/-- The row's largest magnitude over 448, from the hidden row. -/
theorem pay10_eq (v61 : FVec Ideal S1x2816 .bf16) (v91 : FVec Ideal S1x1 .f32) (v95 v96 : FVec Ideal S1x2816 .f32)
    (v100 : Vec Ideal S1x2816x3072 .fp8e4m3) (v106 : Vec Ideal S1x1x3072 .f32) (v111 : Vec Ideal S1x1x2816x16 .bf16) (v117 : Vec Ideal S1x1x16x3072 .bf16) :
    k0_pay10 v61 v91 v95 v96 v100 v106 v111 v117 (ix2 0 0) = rowq fun f => k0_pay9 v61 v91 v95 v96 v100 v106 v111 v117 (ix2 0 f) := by
  unfold k0_pay10
  generalize k0_pay9 v61 v91 v95 v96 v100 v106 v111 v117 = H
  pointwise []
  rfl

/-- The down product, from the hidden row and its largest magnitude. -/
theorem pay2_eq (h : FVec Ideal S1x1536 .f32) (q : FVec Ideal S1x1 .f32) (w : Vec Ideal S1x1536x2816 .fp8e4m3) (d : Vec Ideal S1x1x2816 .f32) (c : Fin 2816) :
    k0_pay2 h q k0_pay11 k0_pay12 (Scalar.ofBits .f32 0x7F800000#32) w d (ix3 0 0 c)
      = (∑ f : Fin 1536, clip (Ideal.div (h (ix2 0 f)) (rscale (q (ix2 0 0)))) * w (ix3 0 f c)) * rscale (q (ix2 0 0)) * d (ix3 0 0 c) := by
  pointwise [k0_pay2, k0_pay11, k0_pay12]
  simp only [lane_exp2]
  simp only [ix2_eq_valueIdx, ix3_eq_valueIdx]
  have key : Finset.fold max (Ideal.ofBits FTy.f32 4286578688#32) (fun x => if pw x ≤ q (ix2 0 0) then pw x else 0) Finset.univ = below (q (ix2 0 0)) := by
    rw [ofBits_ninf]; rfl
  simp only [rscale_eq _ _ key]
  rfl

/-- A pair's row: the down product of its hidden row. -/
theorem pairRow_eq (v60 : Vec Ideal S1x1x2816 .bf16) (v100 : Vec Ideal S1x2816x3072 .fp8e4m3) (v106 : Vec Ideal S1x1x3072 .f32) (v111 : Vec Ideal S1x1x2816x16 .bf16)
    (v117 : Vec Ideal S1x1x16x3072 .bf16) (v165 : Vec Ideal S1x1536x2816 .fp8e4m3) (v171 : Vec Ideal S1x1x2816 .f32) (c : Fin 2816) :
    pairRow v60 v100 v106 v111 v117 v165 v171 (ix3 0 0 c)
      = down (Quant.hidden (cols (fun i => v60 (ix3 0 0 i)) (fun i k => v100 (ix3 0 i k)) (fun k => v106 (ix3 0 0 k)) (fun i r => v111 (ix4 0 0 i r)) (fun r k => v117 (ix4 0 0 r k))))
          (fun f => v165 (ix3 0 f c)) (v171 (ix3 0 0 c)) := by
  have h4 : ∀ i, k0_pay4 v60 (ix2 0 i) = v60 (ix3 0 0 i) := fun i => by pointwise [k0_pay4]; rfl
  have h9 : ∀ f, k0_pay9 (k0_pay4 v60) (k0_pay6 v60) (k0_pay7 v60) k0_pay8 v100 v106 v111 v117 (ix2 0 f)
      = Quant.hidden (cols (fun i => v60 (ix3 0 0 i)) (fun i k => v100 (ix3 0 i k)) (fun k => v106 (ix3 0 0 k)) (fun i r => v111 (ix4 0 0 i r)) (fun r k => v117 (ix4 0 0 r k))) f := fun f => by
    rw [pay9_eq]
    simp only [row_code, row_scale, h4]
    rfl
  unfold pairRow
  rw [pay2_eq, pay10_eq]
  simp only [h9]
  rfl

/-- The weighted sum of a token's eight rows. -/
theorem pay3_eq (p : Vec Ideal S128x1x2816 .f32) (w : Vec Ideal S16x8x1 .f32) (t : Fin 16) (c : Fin 2816) :
    k0_pay3 p w (ix2 t c) = ∑ j : Fin 8, p (ix3 ⟨t.val * 8 + j.val, by omega⟩ 0 c) * w (ix3 t j 0) := by
  pointwise [k0_pay3]
  rfl

end Cert.ReferenceIdeal.Hand
-- ==== Proof.RefRows.lean ====
/-
  The reference's scratch after its loop: row `k` is the pair's down product, a plain expression of the arrays at the words' expert and adapter.
-/
module

public import proofs.«01_k».proof.Proof.RefPay
public import Idealize.ShloMosaic.Lib.WritesUnit

@[expose] public section

set_option maxRecDepth 100000

noncomputable section

namespace Cert.ReferenceIdeal.Hand

open Cert.ReferenceIdeal Cert.ReferenceIdeal.Gen Cert.Quant
open Idealize.ShloMosaic hiding ix1 ix2 ix3 ix4
open Idealize.ShloMosaic.TcCoe
open Idealize.ShloMosaic.ValueIdx

/-! ## The rows and the offsets -/

theorem trips_eq : k0_t1_loop.trips = 128 := by decide +kernel

/-- The row a trip writes. -/
def rowOf (k : Fin k0_t1_loop.trips) : Fin 128 := ⟨k.val, lt_of_lt_of_eq k.isLt trips_eq⟩

theorem off1_eq : ∀ k : Fin k0_t1_loop.trips, k0_off1 k = ![k.val] := by decide +kernel
theorem off2_eq : ∀ k : Fin k0_t1_loop.trips, k0_off2 k = ![k.val, 0, 0] := by decide +kernel
theorem off9_eq : ∀ k : Fin k0_t1_loop.trips, k0_off9 k = ![k.val, 0, 0] := by decide +kernel

/-! ## Loads -/

section
variable {F : FTy → Type} [FloatOps F]

/-- A load of a whole buffer, at an index. -/
theorem ld_at {sp : Space} {s : Shape} {e : EltTy} (M : Memref sig .tc sp s e) (hM : M.IsWhole) (x : s.Idx → Elt F e)
    {off size : Fin s.rank → ℕ} (inb : ∀ a, off a + size a ≤ s.size a) (y : (Rect.unit off size inb).shape.Idx) (z : s.Idx)
    (h : ∀ a, off a + (y a).val = (z a).val) :
    M.view.readAt (Elt F) (Rect.unit off size inb).toLoadRect (hM.unread x) y = x z := by
  rw [View.readAt_apply, Memref.IsWhole.read_unread]
  refine congrArg x (funext fun a => Fin.ext ?_)
  show off a + 1 * (y a).val = (z a).val
  rw [Nat.one_mul]; exact h a

theorem ld3 {sp : Space} {a b d : ℕ} {e : EltTy} (M : Memref sig .tc sp ⟨3, ![a, b, d]⟩ e) (hM : M.IsWhole) (x : (⟨3, ![a, b, d]⟩ : Shape).Idx → Elt F e)
    {off : Fin 3 → ℕ} (p : Fin a) (ho : off = ![p.val, 0, 0]) {inb} (i : Fin b) (j : Fin d) :
    M.view.readAt (Elt F) (Rect.unit (s := ⟨3, ![a, b, d]⟩) off ![1, b, d] inb).toLoadRect (hM.unread x) (ix3 0 i j) = x (ix3 p i j) := by
  subst ho
  refine ld_at M hM x inb _ _ fun q => ?_
  match q with
  | ⟨0, _⟩ => rfl
  | ⟨1, _⟩ => exact Nat.zero_add _
  | ⟨2, _⟩ => exact Nat.zero_add _

theorem ld4 {sp : Space} {a a' b d : ℕ} {e : EltTy} (M : Memref sig .tc sp ⟨4, ![a, a', b, d]⟩ e) (hM : M.IsWhole) (x : (⟨4, ![a, a', b, d]⟩ : Shape).Idx → Elt F e)
    {off : Fin 4 → ℕ} (p : Fin a) (p' : Fin a') (ho : off = ![p.val, p'.val, 0, 0]) {inb} (i : Fin b) (j : Fin d) :
    M.view.readAt (Elt F) (Rect.unit (s := ⟨4, ![a, a', b, d]⟩) off ![1, 1, b, d] inb).toLoadRect (hM.unread x) (ix4 0 0 i j) = x (ix4 p p' i j) := by
  subst ho
  refine ld_at M hM x inb _ _ fun q => ?_
  match q with
  | ⟨0, _⟩ => rfl
  | ⟨1, _⟩ => rfl
  | ⟨2, _⟩ => exact Nat.zero_add _
  | ⟨3, _⟩ => exact Nat.zero_add _

theorem ld_word (M : Memref sig .tc .smem S128 .i32) (hM : M.IsWhole) (x : Vec F S128 .i32) (k : Fin k0_t1_loop.trips) :
    M.view.readAt (Elt F) (Rect.unit (s := S128) (k0_off1 k) S1.size (k0_off1_inb k)).toLoadRect (hM.unread x) (Shape.Idx.first (numel1_S1.symm ▸ Nat.one_pos)) = x (ix1 (rowOf k)) := by
  refine ld_at M hM x _ _ _ fun q => ?_
  match q with
  | ⟨0, _⟩ =>
    show k0_off1 k (0 : Fin 1) + 0 = k.val
    rw [off1_eq]; rfl

/-! ## The scratch -/

/-- Stores of one row each, row `k` at trip `k`: after `n` trips each earlier row is what its trip stored. -/
theorem rows_read (v : View sig .tc .vmem S128x1x2816 .f32) (f : v.ty.Contents (Elt F)) (L : ℕ → List (View.Piece (Elt F) S128x1x2816 .f32))
    (G : Fin k0_t1_loop.trips → FVec F S1x1x2816 .f32)
    (hs : ∀ k : Fin k0_t1_loop.trips, L (k.val + 1) = [⟨Rect.unit (s := S128x1x2816) (k0_off9 k) S1x1x2816.size (k0_off9_inb k), G k⟩] ++ L k.val) :
    ∀ n, n ≤ k0_t1_loop.trips → ∀ p : Fin k0_t1_loop.trips, p.val < n → ∀ c : Fin 2816,
      v.read (Elt F) (v.writes (Elt F) f (L n)) (ix3 (rowOf p) 0 c) = G p (ix3 0 0 c) := by
  intro n
  induction n with
  | zero => intro _ p hp; exact absurd hp (Nat.not_lt_zero _)
  | succ n ih =>
    intro hn p hp c
    rw [hs ⟨n, hn⟩, List.singleton_append]
    by_cases h : p.val = n
    · obtain rfl : p = ⟨n, hn⟩ := Fin.ext h
      refine View.read_writes_cons_unit_of_mem v f _ _ _ _ (ix3 0 0 c) (off9_eq _) fun q => ?_
      match q with
      | ⟨0, _⟩ => rfl
      | ⟨1, _⟩ => rfl
      | ⟨2, _⟩ => exact (Nat.zero_add _).symm
    · rw [View.read_writes_cons_unit_of_not_mem v f _ _ _ _ (off9_eq _) (0 : Fin 3) (Or.inl (show p.val < n by omega))]
      exact ih (Nat.le_of_succ_le hn) p (by omega) c

end

/-- Row `k` of the scratch after the loop. -/
theorem scratch_eq  (𝒱 : Variants) (c : Dev nD) (bd : Option 𝒱.V) (arg0 : Memref sig .tc .vmem S16x2816 .bf16) (harg0 : arg0.IsWhole) (arg1 : Memref sig .tc .vmem S128x1x2816 .bf16) (harg1 : arg1.IsWhole) (arg2 : Memref sig .tc .smem S128 .i32) (harg2 : arg2.IsWhole) (arg3 : Memref sig .tc .smem S128 .i32) (harg3 : arg3.IsWhole) (arg4 : Memref sig .tc .vmem S16x8x1 .f32) (harg4 : arg4.IsWhole) (arg5 : Memref sig .tc .vmem S32x2816x3072 .fp8e4m3) (harg5 : arg5.IsWhole) (arg6 : Memref sig .tc .vmem S32x1x3072 .f32) (harg6 : arg6.IsWhole) (arg7 : Memref sig .tc .vmem S32x1536x2816 .fp8e4m3) (harg7 : arg7.IsWhole) (arg8 : Memref sig .tc .vmem S32x1x2816 .f32) (harg8 : arg8.IsWhole) (arg9 : Memref sig .tc .vmem S32x8x2816x16 .bf16) (harg9 : arg9.IsWhole) (arg10 : Memref sig .tc .vmem S32x8x16x3072 .bf16) (harg10 : arg10.IsWhole) (arg11 : Memref sig .tc .vmem S16x2816 .bf16) (harg11 : arg11.IsWhole) (arg12 : Memref sig .tc .vmem S16x2816 .fp8e4m3) (harg12 : arg12.IsWhole) (arg13 : Memref sig .tc .vmem S1x16 .f32) (harg13 : arg13.IsWhole) (arg14 : Memref sig .tc .vmem S128x1x2816 .f32) (harg14 : arg14.IsWhole) (x1 : Vec Ideal S128x1x2816 .bf16) (x2 x3 : Vec Ideal S128 .i32) (x5 : Vec Ideal S32x2816x3072 .fp8e4m3) (x6 : Vec Ideal S32x1x3072 .f32) (x7 : Vec Ideal S32x1536x2816 .fp8e4m3) (x8 : Vec Ideal S32x1x2816 .f32) (x9 : Vec Ideal S32x8x2816x16 .bf16) (x10 : Vec Ideal S32x8x16x3072 .bf16)
    (k0_hw1L : ∀ (kq : ℕ) (hkq : kq < k0_t1_loop.trips), k0_chk1 (arg2.view.readAt (Elt Ideal) (Rect.unit (s := S128) (k0_off1 ⟨kq, hkq⟩) S1.size (k0_off1_inb ⟨kq, hkq⟩)).toLoadRect (harg2.unread x2) (Shape.Idx.first (numel1_S1.symm ▸ Nat.one_pos))))
    (k0_hw2L : ∀ (kq : ℕ) (hkq : kq < k0_t1_loop.trips), k0_chk2 (arg2.view.readAt (Elt Ideal) (Rect.unit (s := S128) (k0_off1 ⟨kq, hkq⟩) S1.size (k0_off1_inb ⟨kq, hkq⟩)).toLoadRect (harg2.unread x2) (Shape.Idx.first (numel1_S1.symm ▸ Nat.one_pos)))
      (arg3.view.readAt (Elt Ideal) (Rect.unit (s := S128) (k0_off1 ⟨kq, hkq⟩) S1.size (k0_off1_inb ⟨kq, hkq⟩)).toLoadRect (harg3.unread x3) (Shape.Idx.first (numel1_S1.symm ▸ Nat.one_pos))))
    (v : View sig .tc .vmem S128x1x2816 .f32) (f : v.ty.Contents (Elt Ideal)) (k : Fin k0_t1_loop.trips) (e : Fin 32) (a : Fin 8) (he : (x2 (ix1 (rowOf k))).toNat = e.val) (ha : (x3 (ix1 (rowOf k))).toNat = a.val) (c' : Fin 2816) :
    v.read (Elt Ideal) (v.writes (Elt Ideal) f (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg2.unread x2) (harg3.unread x3) (harg5.unread x5) (harg6.unread x6) (harg7.unread x7) (harg8.unread x8) (harg9.unread x9) (harg10.unread x10) k0_hw1L k0_hw2L k0_t1_loop.trips)) (ix3 (rowOf k) 0 c')
      = down (Quant.hidden (cols (fun i => x1 (ix3 (rowOf k) 0 i)) (fun i q => x5 (ix3 e i q)) (fun q => x6 (ix3 e 0 q)) (fun i r => x9 (ix4 e a i r)) (fun r q => x10 (ix4 e a r q))))
          (fun f => x7 (ix3 e f c')) (x8 (ix3 e 0 c')) := by
  refine (rows_read v f (fun n => pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg2.unread x2) (harg3.unread x3) (harg5.unread x5) (harg6.unread x6) (harg7.unread x7) (harg8.unread x8) (harg9.unread x9) (harg10.unread x10) k0_hw1L k0_hw2L n)
    (fun k => pairRow (arg1.view.readAt (Elt Ideal) (Rect.unit (s := S128x1x2816) (k0_off2 k) S1x1x2816.size (k0_off2_inb k)).toLoadRect (harg1.unread x1))
      (arg5.view.readAt (Elt Ideal) (Rect.unit (s := S32x2816x3072) (k0_off3 (arg2.view.readAt (Elt Ideal) (Rect.unit (s := S128) (k0_off1 k) S1.size (k0_off1_inb k)).toLoadRect (harg2.unread x2) (Shape.Idx.first (numel1_S1.symm ▸ Nat.one_pos)))) S1x2816x3072.size (k0_off3_inb _ (k0_hw1L k.val k.isLt))).toLoadRect (harg5.unread x5))
      (arg6.view.readAt (Elt Ideal) (Rect.unit (s := S32x1x3072) (k0_off4 (arg2.view.readAt (Elt Ideal) (Rect.unit (s := S128) (k0_off1 k) S1.size (k0_off1_inb k)).toLoadRect (harg2.unread x2) (Shape.Idx.first (numel1_S1.symm ▸ Nat.one_pos)))) S1x1x3072.size (k0_off4_inb _ (k0_hw1L k.val k.isLt))).toLoadRect (harg6.unread x6))
      (arg9.view.readAt (Elt Ideal) (Rect.unit (s := S32x8x2816x16) (k0_off5 (arg2.view.readAt (Elt Ideal) (Rect.unit (s := S128) (k0_off1 k) S1.size (k0_off1_inb k)).toLoadRect (harg2.unread x2) (Shape.Idx.first (numel1_S1.symm ▸ Nat.one_pos))) (arg3.view.readAt (Elt Ideal) (Rect.unit (s := S128) (k0_off1 k) S1.size (k0_off1_inb k)).toLoadRect (harg3.unread x3) (Shape.Idx.first (numel1_S1.symm ▸ Nat.one_pos)))) S1x1x2816x16.size (k0_off5_inb _ _ (k0_hw2L k.val k.isLt))).toLoadRect (harg9.unread x9))
      (arg10.view.readAt (Elt Ideal) (Rect.unit (s := S32x8x16x3072) (k0_off6 (arg2.view.readAt (Elt Ideal) (Rect.unit (s := S128) (k0_off1 k) S1.size (k0_off1_inb k)).toLoadRect (harg2.unread x2) (Shape.Idx.first (numel1_S1.symm ▸ Nat.one_pos))) (arg3.view.readAt (Elt Ideal) (Rect.unit (s := S128) (k0_off1 k) S1.size (k0_off1_inb k)).toLoadRect (harg3.unread x3) (Shape.Idx.first (numel1_S1.symm ▸ Nat.one_pos)))) S1x1x16x3072.size (k0_off6_inb _ _ (k0_hw2L k.val k.isLt))).toLoadRect (harg10.unread x10))
      (arg7.view.readAt (Elt Ideal) (Rect.unit (s := S32x1536x2816) (k0_off7 (arg2.view.readAt (Elt Ideal) (Rect.unit (s := S128) (k0_off1 k) S1.size (k0_off1_inb k)).toLoadRect (harg2.unread x2) (Shape.Idx.first (numel1_S1.symm ▸ Nat.one_pos)))) S1x1536x2816.size (k0_off7_inb _ (k0_hw1L k.val k.isLt))).toLoadRect (harg7.unread x7))
      (arg8.view.readAt (Elt Ideal) (Rect.unit (s := S32x1x2816) (k0_off8 (arg2.view.readAt (Elt Ideal) (Rect.unit (s := S128) (k0_off1 k) S1.size (k0_off1_inb k)).toLoadRect (harg2.unread x2) (Shape.Idx.first (numel1_S1.symm ▸ Nat.one_pos)))) S1x1x2816.size (k0_off8_inb _ (k0_hw1L k.val k.isLt))).toLoadRect (harg8.unread x8)))
    (fun k => ?_) _ le_rfl k k.isLt c').trans ?_
  · refine (pb_k0_t1_succ (F := Ideal) ..).trans ?_
    exact congrArg (· ++ _) (trip_eq ..)
  · have w2 := ld_word arg2 harg2 x2 k
    have w3 := ld_word arg3 harg3 x3 k
    have e2 := (congrArg BitVec.toNat w2).trans he
    have e3 := (congrArg BitVec.toNat w3).trans ha
    have o3 : k0_off3 (arg2.view.readAt (Elt Ideal) (Rect.unit (s := S128) (k0_off1 k) S1.size (k0_off1_inb k)).toLoadRect (harg2.unread x2) (Shape.Idx.first (numel1_S1.symm ▸ Nat.one_pos))) = ![e.val, 0, 0] := by rw [← e2]; rfl
    have o4 : k0_off4 (arg2.view.readAt (Elt Ideal) (Rect.unit (s := S128) (k0_off1 k) S1.size (k0_off1_inb k)).toLoadRect (harg2.unread x2) (Shape.Idx.first (numel1_S1.symm ▸ Nat.one_pos))) = ![e.val, 0, 0] := by rw [← e2]; rfl
    have o7 : k0_off7 (arg2.view.readAt (Elt Ideal) (Rect.unit (s := S128) (k0_off1 k) S1.size (k0_off1_inb k)).toLoadRect (harg2.unread x2) (Shape.Idx.first (numel1_S1.symm ▸ Nat.one_pos))) = ![e.val, 0, 0] := by rw [← e2]; rfl
    have o8 : k0_off8 (arg2.view.readAt (Elt Ideal) (Rect.unit (s := S128) (k0_off1 k) S1.size (k0_off1_inb k)).toLoadRect (harg2.unread x2) (Shape.Idx.first (numel1_S1.symm ▸ Nat.one_pos))) = ![e.val, 0, 0] := by rw [← e2]; rfl
    have o5 : k0_off5 (arg2.view.readAt (Elt Ideal) (Rect.unit (s := S128) (k0_off1 k) S1.size (k0_off1_inb k)).toLoadRect (harg2.unread x2) (Shape.Idx.first (numel1_S1.symm ▸ Nat.one_pos))) (arg3.view.readAt (Elt Ideal) (Rect.unit (s := S128) (k0_off1 k) S1.size (k0_off1_inb k)).toLoadRect (harg3.unread x3) (Shape.Idx.first (numel1_S1.symm ▸ Nat.one_pos))) = ![e.val, a.val, 0, 0] := by rw [← e2, ← e3]; rfl
    have o6 : k0_off6 (arg2.view.readAt (Elt Ideal) (Rect.unit (s := S128) (k0_off1 k) S1.size (k0_off1_inb k)).toLoadRect (harg2.unread x2) (Shape.Idx.first (numel1_S1.symm ▸ Nat.one_pos))) (arg3.view.readAt (Elt Ideal) (Rect.unit (s := S128) (k0_off1 k) S1.size (k0_off1_inb k)).toLoadRect (harg3.unread x3) (Shape.Idx.first (numel1_S1.symm ▸ Nat.one_pos))) = ![e.val, a.val, 0, 0] := by rw [← e2, ← e3]; rfl
    have a1 := ld3 arg1 harg1 x1 (rowOf k) (off2_eq k) (inb := k0_off2_inb k)
    have a5 := ld3 arg5 harg5 x5 e o3 (inb := k0_off3_inb _ (k0_hw1L k.val k.isLt))
    have a6 := ld3 arg6 harg6 x6 e o4 (inb := k0_off4_inb _ (k0_hw1L k.val k.isLt))
    have a7 := ld3 arg7 harg7 x7 e o7 (inb := k0_off7_inb _ (k0_hw1L k.val k.isLt))
    have a8 := ld3 arg8 harg8 x8 e o8 (inb := k0_off8_inb _ (k0_hw1L k.val k.isLt))
    have a9 := ld4 arg9 harg9 x9 e a o5 (inb := k0_off5_inb _ _ (k0_hw2L k.val k.isLt))
    have a10 := ld4 arg10 harg10 x10 e a o6 (inb := k0_off6_inb _ _ (k0_hw2L k.val k.isLt))
    refine (pairRow_eq _ _ _ _ _ _ _ c').trans ?_
    refine congr (congrArg₂ down (congrArg Quant.hidden ?_) (funext fun f => a7 f c')) (a8 0 c')
    have b1 := funext fun i => a1 0 i
    have b5 := funext fun i => funext fun q => a5 i q
    have b6 := funext fun q => a6 0 q
    have b9 := funext fun i => funext fun r => a9 i r
    have b10 := funext fun r => funext fun q => a10 r q
    exact congr (congr (congr (congrArg₂ cols b1 b5) b6) b9) b10

end Cert.ReferenceIdeal.Hand
-- ==== Proof.PairOut.lean ====
/-
  The plain value of the first result at one token and column: the sum over the token's eight experts.
-/
module

public import proofs.«01_k».proof.Proof.Pair
public import Idealize.ShloMosaic.Lib.ValueIdx
public import Idealize.ShloMosaic.Lib.Pointwise
public import Idealize.ShloMosaic.Lib.ValueLayout

@[expose] public section

noncomputable section

namespace Cert.Quant

open Idealize.ShloMosaic hiding ix1 ix2 ix3 ix4
open Idealize.ShloMosaic.ValueIdx

/-- One expert's contribution to a token's row, from the argument arrays. -/
def pairAt (a0 : (⟨3, ![16, 1, 2816]⟩ : Shape).Idx → EReal) (a4 : (⟨3, ![32, 2816, 3072]⟩ : Shape).Idx → EReal) (a5 : (⟨2, ![32, 3072]⟩ : Shape).Idx → EReal)
    (a6 : (⟨3, ![32, 1536, 2816]⟩ : Shape).Idx → EReal) (a7 : (⟨2, ![32, 2816]⟩ : Shape).Idx → EReal) (a8 : (⟨4, ![32, 8, 2816, 16]⟩ : Shape).Idx → EReal)
    (a9 : (⟨4, ![32, 8, 16, 3072]⟩ : Shape).Idx → EReal) (t : Fin 16) (e : Fin 32) (a : Fin 8) (c : Fin 2816) : EReal :=
  down (hidden (cols (fun i => a0 (ix3 t 0 i)) (fun i k => a4 (ix3 e i k)) (fun k => a5 (ix2 e k)) (fun i r => a8 (ix4 e a i r)) (fun r k => a9 (ix4 e a r k))))
    (fun f => a6 (ix3 e f c)) (a7 (ix2 e c))

end Cert.Quant
-- ==== Proof.RefY.lean ====
/-
  The reference's first result after the run: the weighted sum of its scratch rows, each the down product of a pair.
-/
module

public import proofs.«01_k».proof.Proof.RefRows
public import proofs.«01_k».proof.Proof.PairOut
public import Idealize.ShloMosaic.Lib.VecWindow

@[expose] public section

set_option maxRecDepth 100000

noncomputable section

namespace Cert.ReferenceIdeal.Hand

open Cert.ReferenceIdeal Cert.ReferenceIdeal.Gen Cert.Quant
open Idealize.ShloMosaic hiding ix1 ix2 ix3 ix4
open Idealize.ShloMosaic.TcCoe Idealize.ShloMosaic.Tactic
open Idealize.ShloMosaic.ValueIdx

attribute [local instance] Cert.ReferenceIdeal.Gen.facts

section
variable {F : FTy → Type} [FloatOps F]
variable (m : (ℓ : Loc nD τ sig) → Buf (Elt F) ℓ)

/-! ## Each window is the whole of its array -/

theorem idx_zero1 : ∀ t : Fin cfg0.N, win0_1.index t (0 : Fin 3) = 0 ∧ win0_1.index t (1 : Fin 3) = 0 ∧ win0_1.index t (2 : Fin 3) = 0 := (by decide +kernel : ∀ t : Fin grid0.N, _)
theorem emb1 (t : Fin cfg0.N) (j : S128x1x2816.Idx) : ((cfg0.win 1).blk t).view.emb j = j := by
  obtain ⟨e0, e1, e2⟩ := idx_zero1 t
  funext a; apply Fin.ext
  match a with
  | ⟨0, _⟩ => show win0_1.index t (0 : Fin 3) * 128 + 1 * (j 0).val = (j 0).val; omega
  | ⟨1, _⟩ => show win0_1.index t (1 : Fin 3) * 1 + 1 * (j 1).val = (j 1).val; omega
  | ⟨2, _⟩ => show win0_1.index t (2 : Fin 3) * 2816 + 1 * (j 2).val = (j 2).val; omega
theorem iblk1_eq (c : Dev nD) (t : Fin cfg0.N) : iblk m c 1 t = V m c main_v5 := by
  funext j; show V m c main_v5 (((cfg0.win 1).blk t).view.emb j) = V m c main_v5 j; rw [emb1]

theorem idx_zero4 : ∀ t : Fin cfg0.N, win0_4.index t (0 : Fin 3) = 0 ∧ win0_4.index t (1 : Fin 3) = 0 ∧ win0_4.index t (2 : Fin 3) = 0 := (by decide +kernel : ∀ t : Fin grid0.N, _)
theorem emb4 (t : Fin cfg0.N) (j : S16x8x1.Idx) : ((cfg0.win 4).blk t).view.emb j = j := by
  obtain ⟨e0, e1, e2⟩ := idx_zero4 t
  funext a; apply Fin.ext
  match a with
  | ⟨0, _⟩ => show win0_4.index t (0 : Fin 3) * 16 + 1 * (j 0).val = (j 0).val; omega
  | ⟨1, _⟩ => show win0_4.index t (1 : Fin 3) * 8 + 1 * (j 1).val = (j 1).val; omega
  | ⟨2, _⟩ => show win0_4.index t (2 : Fin 3) * 1 + 1 * (j 2).val = (j 2).val; omega
theorem iblk4_eq (c : Dev nD) (t : Fin cfg0.N) : iblk m c 4 t = V m c main_v7 := by
  funext j; show V m c main_v7 (((cfg0.win 4).blk t).view.emb j) = V m c main_v7 j; rw [emb4]

theorem idx_zero5 : ∀ t : Fin cfg0.N, win0_5.index t (0 : Fin 3) = 0 ∧ win0_5.index t (1 : Fin 3) = 0 ∧ win0_5.index t (2 : Fin 3) = 0 := (by decide +kernel : ∀ t : Fin grid0.N, _)
theorem emb5 (t : Fin cfg0.N) (j : S32x2816x3072.Idx) : ((cfg0.win 5).blk t).view.emb j = j := by
  obtain ⟨e0, e1, e2⟩ := idx_zero5 t
  funext a; apply Fin.ext
  match a with
  | ⟨0, _⟩ => show win0_5.index t (0 : Fin 3) * 32 + 1 * (j 0).val = (j 0).val; omega
  | ⟨1, _⟩ => show win0_5.index t (1 : Fin 3) * 2816 + 1 * (j 1).val = (j 1).val; omega
  | ⟨2, _⟩ => show win0_5.index t (2 : Fin 3) * 3072 + 1 * (j 2).val = (j 2).val; omega
theorem iblk5_eq (c : Dev nD) (t : Fin cfg0.N) : iblk m c 5 t = V m c main_arg4 := by
  funext j; show V m c main_arg4 (((cfg0.win 5).blk t).view.emb j) = V m c main_arg4 j; rw [emb5]

theorem idx_zero6 : ∀ t : Fin cfg0.N, win0_6.index t (0 : Fin 3) = 0 ∧ win0_6.index t (1 : Fin 3) = 0 ∧ win0_6.index t (2 : Fin 3) = 0 := (by decide +kernel : ∀ t : Fin grid0.N, _)
theorem emb6 (t : Fin cfg0.N) (j : S32x1x3072.Idx) : ((cfg0.win 6).blk t).view.emb j = j := by
  obtain ⟨e0, e1, e2⟩ := idx_zero6 t
  funext a; apply Fin.ext
  match a with
  | ⟨0, _⟩ => show win0_6.index t (0 : Fin 3) * 32 + 1 * (j 0).val = (j 0).val; omega
  | ⟨1, _⟩ => show win0_6.index t (1 : Fin 3) * 1 + 1 * (j 1).val = (j 1).val; omega
  | ⟨2, _⟩ => show win0_6.index t (2 : Fin 3) * 3072 + 1 * (j 2).val = (j 2).val; omega
theorem iblk6_eq (c : Dev nD) (t : Fin cfg0.N) : iblk m c 6 t = V m c main_v8 := by
  funext j; show V m c main_v8 (((cfg0.win 6).blk t).view.emb j) = V m c main_v8 j; rw [emb6]

theorem idx_zero7 : ∀ t : Fin cfg0.N, win0_7.index t (0 : Fin 3) = 0 ∧ win0_7.index t (1 : Fin 3) = 0 ∧ win0_7.index t (2 : Fin 3) = 0 := (by decide +kernel : ∀ t : Fin grid0.N, _)
theorem emb7 (t : Fin cfg0.N) (j : S32x1536x2816.Idx) : ((cfg0.win 7).blk t).view.emb j = j := by
  obtain ⟨e0, e1, e2⟩ := idx_zero7 t
  funext a; apply Fin.ext
  match a with
  | ⟨0, _⟩ => show win0_7.index t (0 : Fin 3) * 32 + 1 * (j 0).val = (j 0).val; omega
  | ⟨1, _⟩ => show win0_7.index t (1 : Fin 3) * 1536 + 1 * (j 1).val = (j 1).val; omega
  | ⟨2, _⟩ => show win0_7.index t (2 : Fin 3) * 2816 + 1 * (j 2).val = (j 2).val; omega
theorem iblk7_eq (c : Dev nD) (t : Fin cfg0.N) : iblk m c 7 t = V m c main_arg6 := by
  funext j; show V m c main_arg6 (((cfg0.win 7).blk t).view.emb j) = V m c main_arg6 j; rw [emb7]

theorem idx_zero8 : ∀ t : Fin cfg0.N, win0_8.index t (0 : Fin 3) = 0 ∧ win0_8.index t (1 : Fin 3) = 0 ∧ win0_8.index t (2 : Fin 3) = 0 := (by decide +kernel : ∀ t : Fin grid0.N, _)
theorem emb8 (t : Fin cfg0.N) (j : S32x1x2816.Idx) : ((cfg0.win 8).blk t).view.emb j = j := by
  obtain ⟨e0, e1, e2⟩ := idx_zero8 t
  funext a; apply Fin.ext
  match a with
  | ⟨0, _⟩ => show win0_8.index t (0 : Fin 3) * 32 + 1 * (j 0).val = (j 0).val; omega
  | ⟨1, _⟩ => show win0_8.index t (1 : Fin 3) * 1 + 1 * (j 1).val = (j 1).val; omega
  | ⟨2, _⟩ => show win0_8.index t (2 : Fin 3) * 2816 + 1 * (j 2).val = (j 2).val; omega
theorem iblk8_eq (c : Dev nD) (t : Fin cfg0.N) : iblk m c 8 t = V m c main_v9 := by
  funext j; show V m c main_v9 (((cfg0.win 8).blk t).view.emb j) = V m c main_v9 j; rw [emb8]

theorem idx_zero9 : ∀ t : Fin cfg0.N, win0_9.index t (0 : Fin 4) = 0 ∧ win0_9.index t (1 : Fin 4) = 0 ∧ win0_9.index t (2 : Fin 4) = 0 ∧ win0_9.index t (3 : Fin 4) = 0 := (by decide +kernel : ∀ t : Fin grid0.N, _)
theorem emb9 (t : Fin cfg0.N) (j : S32x8x2816x16.Idx) : ((cfg0.win 9).blk t).view.emb j = j := by
  obtain ⟨e0, e1, e2, e3⟩ := idx_zero9 t
  funext a; apply Fin.ext
  match a with
  | ⟨0, _⟩ => show win0_9.index t (0 : Fin 4) * 32 + 1 * (j 0).val = (j 0).val; omega
  | ⟨1, _⟩ => show win0_9.index t (1 : Fin 4) * 8 + 1 * (j 1).val = (j 1).val; omega
  | ⟨2, _⟩ => show win0_9.index t (2 : Fin 4) * 2816 + 1 * (j 2).val = (j 2).val; omega
  | ⟨3, _⟩ => show win0_9.index t (3 : Fin 4) * 16 + 1 * (j 3).val = (j 3).val; omega
theorem iblk9_eq (c : Dev nD) (t : Fin cfg0.N) : iblk m c 9 t = V m c main_arg8 := by
  funext j; show V m c main_arg8 (((cfg0.win 9).blk t).view.emb j) = V m c main_arg8 j; rw [emb9]

theorem idx_zero10 : ∀ t : Fin cfg0.N, win0_10.index t (0 : Fin 4) = 0 ∧ win0_10.index t (1 : Fin 4) = 0 ∧ win0_10.index t (2 : Fin 4) = 0 ∧ win0_10.index t (3 : Fin 4) = 0 := (by decide +kernel : ∀ t : Fin grid0.N, _)
theorem emb10 (t : Fin cfg0.N) (j : S32x8x16x3072.Idx) : ((cfg0.win 10).blk t).view.emb j = j := by
  obtain ⟨e0, e1, e2, e3⟩ := idx_zero10 t
  funext a; apply Fin.ext
  match a with
  | ⟨0, _⟩ => show win0_10.index t (0 : Fin 4) * 32 + 1 * (j 0).val = (j 0).val; omega
  | ⟨1, _⟩ => show win0_10.index t (1 : Fin 4) * 8 + 1 * (j 1).val = (j 1).val; omega
  | ⟨2, _⟩ => show win0_10.index t (2 : Fin 4) * 16 + 1 * (j 2).val = (j 2).val; omega
  | ⟨3, _⟩ => show win0_10.index t (3 : Fin 4) * 3072 + 1 * (j 3).val = (j 3).val; omega
theorem iblk10_eq (c : Dev nD) (t : Fin cfg0.N) : iblk m c 10 t = V m c main_arg9 := by
  funext j; show V m c main_arg9 (((cfg0.win 10).blk t).view.emb j) = V m c main_arg9 j; rw [emb10]

theorem idx_zero11 : ∀ t : Fin cfg0.N, win0_11.index t (0 : Fin 2) = 0 ∧ win0_11.index t (1 : Fin 2) = 0 := (by decide +kernel : ∀ t : Fin grid0.N, _)
theorem emb11 (t : Fin cfg0.N) (j : S16x2816.Idx) : ((cfg0.win 11).blk t).view.emb j = j := by
  obtain ⟨e0, e1⟩ := idx_zero11 t
  funext a; apply Fin.ext
  match a with
  | ⟨0, _⟩ => show win0_11.index t (0 : Fin 2) * 16 + 1 * (j 0).val = (j 0).val; omega
  | ⟨1, _⟩ => show win0_11.index t (1 : Fin 2) * 2816 + 1 * (j 1).val = (j 1).val; omega

/-! ## The host's reshapes -/

theorem V_main_v5 (c : Dev nD) : V m c main_v5 = shapeCast S128x1x2816 (broadcastInDim S16x8x2816 ![0, 1, 2] bcast_S16x1x2816_S16x8x2816_0_1_2 (m ((c : Thread nD τ).loc main_arg0) : Vec F S16x1x2816 .bf16)) shapeCasts_S16x8x2816_S128x1x2816 := by
  unfold_abbrev_sides
  after_results
  rfl
theorem V_main_v7 (c : Dev nD) : V m c main_v7 = shapeCast S16x8x1 (m ((c : Thread nD τ).loc main_arg2) : Vec F S16x1x8 .f32) shapeCasts_S16x1x8_S16x8x1 := by
  unfold_abbrev_sides
  after_results
  rfl
theorem V_main_v8 (c : Dev nD) : V m c main_v8 = shapeCast S32x1x3072 (m ((c : Thread nD τ).loc main_arg5) : Vec F S32x3072 .f32) shapeCasts_S32x3072_S32x1x3072 := by
  unfold_abbrev_sides
  after_results
  rfl
theorem V_main_v9 (c : Dev nD) : V m c main_v9 = shapeCast S32x1x2816 (m ((c : Thread nD τ).loc main_arg7) : Vec F S32x2816 .f32) shapeCasts_S32x2816_S32x1x2816 := by
  unfold_abbrev_sides
  after_results
  rfl
theorem V_main_arg4 (c : Dev nD) : V m c main_arg4 = m ((c : Thread nD τ).loc main_arg4) := by
  unfold_abbrev_sides
  after_results
theorem V_main_arg6 (c : Dev nD) : V m c main_arg6 = m ((c : Thread nD τ).loc main_arg6) := by
  unfold_abbrev_sides
  after_results
theorem V_main_arg8 (c : Dev nD) : V m c main_arg8 = m ((c : Thread nD τ).loc main_arg8) := by
  unfold_abbrev_sides
  after_results
theorem V_main_arg9 (c : Dev nD) : V m c main_arg9 = m ((c : Thread nD τ).loc main_arg9) := by
  unfold_abbrev_sides
  after_results
end

/-- The trip of a token's `j`-th expert. -/
def tripOf (t : Fin 16) (j : Fin 8) : Fin k0_t1_loop.trips := ⟨t.val * 8 + j.val, lt_of_lt_of_eq (by omega) trips_eq.symm⟩

/-! ## The reshapes at an index -/

theorem cast_v5 (x : Vec Ideal S16x1x2816 .bf16) (t : Fin 16) (j : Fin 8) (i : Fin 2816) :
    shapeCast S128x1x2816 (broadcastInDim S16x8x2816 ![0, 1, 2] bcast_S16x1x2816_S16x8x2816_0_1_2 x) shapeCasts_S16x8x2816_S128x1x2816 (ix3 (rowOf (tripOf t j)) 0 i) = x (ix3 t 0 i) := by
  pointwise []
  exact congrArg (fun u => x (ix3 u 0 i)) (Fin.ext (by show (t.val * 8 + j.val) / 8 = t.val; omega))
theorem cast_v7 (x : Vec Ideal S16x1x8 .f32) (t : Fin 16) (j : Fin 8) : shapeCast S16x8x1 x shapeCasts_S16x1x8_S16x8x1 (ix3 t j 0) = x (ix3 t 0 j) := by
  pointwise []
  rfl
theorem cast_v8 (x : Vec Ideal S32x3072 .f32) (e : Fin 32) (j : Fin 3072) : shapeCast S32x1x3072 x shapeCasts_S32x3072_S32x1x3072 (ix3 e 0 j) = x (ix2 e j) := by
  pointwise []
  rfl
theorem cast_v9 (x : Vec Ideal S32x2816 .f32) (e : Fin 32) (j : Fin 2816) : shapeCast S32x1x2816 x shapeCasts_S32x2816_S32x1x2816 (ix3 e 0 j) = x (ix2 e j) := by
  pointwise []
  rfl
theorem cast_v0 (x : IVec S16x1x8 32) (t : Fin 16) (j : Fin 8) : shapeCast S128 x shapeCasts_S16x1x8_S128 (ix1 (rowOf (tripOf t j))) = x (ix3 t 0 j) := by
  pointwise []
  exact congrArg₂ (fun u v => x (ix3 u 0 v)) (Fin.ext (by show (t.val * 8 + j.val) / 8 = t.val; omega)) (Fin.ext (by show (t.val * 8 + j.val) % 8 = j.val; omega))
theorem cast_v3 (x : IVec S16 32) (t : Fin 16) (j : Fin 8) : shapeCast S128 (broadcastInDim S16x1x8 ![0, 1, 2] bcast_S16x1x1_S16x1x8_0_1_2 (broadcastInDim S16x1x1 ![0] bcast_S16_S16x1x1_0 x)) shapeCasts_S16x1x8_S128 (ix1 (rowOf (tripOf t j))) = x (ix1 t) := by
  pointwise []
  exact congrArg (fun u => x (ix1 u)) (Fin.ext (by show (t.val * 8 + j.val) / 8 = t.val; omega))

variable (m : (ℓ : Loc nD τ sig) → Buf (Elt Ideal) ℓ)

theorem flushed11_eq (hH : Hyps m) (c : Dev nD) (t : Fin cfg0.N) (id : Fin 16 → Fin 8 → Fin 32) (aid : Fin 16 → Fin 8)
    (hid : ∀ p j, ((m ((c : Thread nD τ).loc main_arg1) : IVec S16x1x8 32) (ix3 p 0 j)).toNat = (id p j).val)
    (haid : ∀ p, ((m ((c : Thread nD τ).loc main_arg3) : IVec S16 32) (ix1 p)).toNat = (aid p).val)
    (Y : Vec Ideal S16x2816 .bf16) (hY : ∀ (p : Fin 16) (q : Fin 2816), Y (ix2 p q) = ∑ j : Fin 8,
      pairAt (m ((c : Thread nD τ).loc main_arg0)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) p (id p j) (aid p) q * (m ((c : Thread nD τ).loc main_arg2) : Vec Ideal S16x1x8 .f32) (ix3 p 0 j)) :
    (dats m hH 0 c).flushed 11 t = ((cfg0.win 11).blk t).view.read (Elt Ideal) Y := by
  rw [Value.flushed11_A]
  refine (congrArg ((cfg0.win 11).cut (grid0.coords t)) (?_ : _ = Y)).trans ?_
  · unfold out0_A_11
    rw [View.read_writes_junk_eq_canon]
    delta kernelRun0_A
    dsimp only
    rw [View.canon_unit_zero hz]
    funext i
    obtain ⟨p, q, rfl⟩ : ∃ p q, i = ix2 p q := ⟨i 0, i 1, (ix2_eta i).symm⟩
    rw [pay3_eq, hY]
    refine Finset.sum_congr rfl fun j _ => ?_
    refine congrArg₂ (· * ·) ?_ ?_
    · refine (congrFun (View.readAt_full _ _ _) _).trans ?_
      have he : (iblk m c 2 t (ix1 (rowOf (tripOf p j)))).toNat = (id p j).val := by
        rw [iblk2_eq, V_main_v0]; exact (congrArg BitVec.toNat (cast_v0 _ p j)).trans (hid p j)
      have ha : (iblk m c 3 t (ix1 (rowOf (tripOf p j)))).toNat = (aid p).val := by
        rw [iblk3_eq, V_main_v3]; exact (congrArg BitVec.toNat (cast_v3 _ p j)).trans (haid p)
      refine (scratch_eq Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
        (iblk m c 1 t) (iblk m c 2 t) (iblk m c 3 t) (iblk m c 5 t) (iblk m c 6 t) (iblk m c 7 t) (iblk m c 8 t) (iblk m c 9 t) (iblk m c 10 t) (Hyps.c0 hH c t) (Hyps.c1 hH c t) _ _ (tripOf p j) (id p j) (aid p) he ha q).trans ?_
      rw [iblk1_eq, iblk5_eq, iblk6_eq, iblk7_eq, iblk8_eq, iblk9_eq, iblk10_eq, V_main_v5, V_main_v8, V_main_v9, V_main_arg4, V_main_arg6, V_main_arg8, V_main_arg9]
      exact congr (congrArg₂ down (congrArg Quant.hidden (congr (congr (congr (congrArg₂ cols (funext fun i => cast_v5 _ p j i) rfl)
        (funext fun k => cast_v8 _ (id p j) k)) rfl) rfl)) rfl) (cast_v9 _ (id p j) q)
    · refine (ld_at (ms0_4 t) (hs0_4 t) (iblk m c 4 t) _ _ (ix3 p j 0) fun a => ?_).trans ?_
      · match a with
        | ⟨0, _⟩ => exact Nat.zero_add _
        | ⟨1, _⟩ => exact Nat.zero_add _
        | ⟨2, _⟩ => rfl
      · rw [iblk4_eq, V_main_v7]; exact cast_v7 _ p j
  · funext j
    show Y j = Y (((cfg0.win 11).blk t).view.emb j)
    rw [emb11]

theorem covered11 (i : S16x2816.Idx) : ∃ t : Fin cfg0.N, (cfg0.win 11).flush t = true ∧ i ∈ ((cfg0.win 11).blk t).view.set :=
  ⟨(⟨0, by decide⟩ : Fin cfg0.N), flush0_11 _, by
    have h := ((cfg0.win 11).blk (⟨0, by decide⟩ : Fin cfg0.N)).view.emb_mem_set i; rwa [emb11] at h⟩

/-- The reference's first result after the run. -/
theorem final11 (hH : Hyps m) (c : Dev nD) (id : Fin 16 → Fin 8 → Fin 32) (aid : Fin 16 → Fin 8)
    (hid : ∀ p j, ((m ((c : Thread nD τ).loc main_arg1) : IVec S16x1x8 32) (ix3 p 0 j)).toNat = (id p j).val)
    (haid : ∀ p, ((m ((c : Thread nD τ).loc main_arg3) : IVec S16 32) (ix1 p)).toNat = (aid p).val)
    (Y : Vec Ideal S16x2816 .bf16) (hY : ∀ (p : Fin 16) (q : Fin 2816), Y (ix2 p q) = ∑ j : Fin 8,
      pairAt (m ((c : Thread nD τ).loc main_arg0)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) p (id p j) (aid p) q * (m ((c : Thread nD τ).loc main_arg2) : Vec Ideal S16x1x8 .f32) (ix3 p 0 j)) :
    (dats m hH 0 c).arrAt 11 cfg0.N = Y :=
  (dats m hH 0 c).arrAt_eq_of_cover 11 Y (fun t _ => flushed11_eq m hH c t id aid hid haid Y hY) covered11

end Cert.ReferenceIdeal.Hand
-- ==== Proof.PairKernel.lean ====
/-
  The columns of one trip of the kernel's expert loop, each as the plain expression over the trip's environment.
-/
module

public import proofs.«01_k».proof.Proof.Pair
public import proofs.«01_k».proof.Proof.Vals
public import proofs.«01_k».proof.Proof.QuantKernel

@[expose] public section

set_option maxRecDepth 100000

noncomputable section

namespace Cert.Kernel.Hand

open Cert.Kernel Cert.Kernel.Gen Cert.Quant
open Idealize.ShloMosaic hiding ix1 ix2 ix3 ix4
open Idealize.ShloMosaic.TcCoe
open Idealize.ShloMosaic.ValueIdx

attribute [local instance] Cert.Kernel.Gen.facts

variable (E : Env Ideal) (e : Fin 32)

/-- One column before the gate, as the kernel has it: the low-rank part over all 128 ranks. -/
def gk (t : Fin 16) (k : Fin 3072) : EReal :=
  mix (∑ i : Fin 2816, E.x8 (ix2 t i) * E.WU (ix3 e i k)) (E.sx (ix2 t 0)) (E.us (ix2 e k)) (∑ r : Fin 128, shrunk E e (ix2 t r) * E.WB (ix3 e r k))

theorem up_at (lo : Nat) (h : lo + 512 ≤ 3072) (i : Fin 2816) (j : Fin 512) :
    upCols E e lo h (ix3 0 i j) = E.WU (ix3 e i ⟨lo + j.val, by omega⟩) := rfl

theorem us_at (lo : Nat) (h : lo + 512 ≤ 3072) (j : Fin 512) :
    usCols E e lo h (ix2 0 j) = E.us (ix2 e ⟨lo + j.val, by omega⟩) := rfl

theorem b_at (lo : Nat) (h : lo + 512 ≤ 3072) (i : Fin 128) (j : Fin 512) :
    bCols E e lo h (ix3 0 i j) = E.WB (ix3 e i ⟨lo + j.val, by omega⟩) := rfl

theorem h616_eq (t : Fin 16) (j : Fin 512) : h616 E e (ix2 t j) = act (gk E e t ⟨0 + j.val, by omega⟩) (gk E e t ⟨1536 + j.val, by omega⟩) := by
  unfold h616 gk
  generalize shrunk E e = s
  pointwise [k0_pay8]
  simp only [ix2_eq_valueIdx, ix3_eq_valueIdx, up_at, us_at, b_at, act, mix, Nat.zero_add]

theorem h653_eq (t : Fin 16) (j : Fin 512) : h653 E e (ix2 t j) = act (gk E e t ⟨512 + j.val, by omega⟩) (gk E e t ⟨2048 + j.val, by omega⟩) := by
  unfold h653 gk
  generalize shrunk E e = s
  pointwise [k0_pay9]
  simp only [ix2_eq_valueIdx, ix3_eq_valueIdx, up_at, us_at, b_at, act, mix]

theorem h657_eq (t : Fin 16) (j : Fin 512) : h657 E e (ix2 t j) = ∑ i : Fin 2816, E.x8 (ix2 t i) * E.WU (ix3 e i ⟨1024 + j.val, by omega⟩) := by
  unfold h657
  pointwise [k0_pay10]
  simp only [ix2_eq_valueIdx, ix3_eq_valueIdx]
  rfl

theorem hid_eq (t : Fin 16) (f : Fin 1536) : hid E e (ix2 t f) = Quant.hidden (gk E e t) f := by
  have h1 := h616_eq E e t
  have h2 := h653_eq E e t
  have h3 := h657_eq E e t
  unfold hid
  generalize h616 E e = a at h1 ⊢
  generalize h653 E e = b at h2 ⊢
  generalize h657 E e = d at h3 ⊢
  unfold Quant.hidden
  pointwise [k0_pay11]
  simp only [ix2_eq_valueIdx, ix3_eq_valueIdx, up_at, us_at, b_at, h1, h2, h3]
  split
  · refine congrArg₂ act (congrArg (gk E e t) (Fin.ext ?_)) (congrArg (gk E e t) (Fin.ext ?_))
    · exact Nat.zero_add _
    · rfl
  · rename_i n1
    have n1 : ¬ f.val < 512 := n1
    split
    · rename_i n2
      refine congrArg₂ act (congrArg (gk E e t) (Fin.ext ?_)) (congrArg (gk E e t) (Fin.ext ?_))
      · show 512 + (f.val - 512) = f.val; omega
      · show 2048 + (f.val - 512) = 1536 + f.val; omega
    · rename_i n2
      have n2 : ¬ f.val - 512 < 512 := n2
      have e1 : (⟨1024 + (f.val - 512 - 512), by omega⟩ : Fin 3072) = lo f := Fin.ext (by show 1024 + (f.val - 512 - 512) = f.val; omega)
      have e2 : (⟨2560 + (f.val - 512 - 512), by omega⟩ : Fin 3072) = hi f := Fin.ext (by show 2560 + (f.val - 512 - 512) = 1536 + f.val; omega)
      rw [← e1, ← e2]
      rfl

theorem hidMax_eq (t : Fin 16) : hidMax E e (ix2 t 0) = rowq fun f => hid E e (ix2 t f) := by
  unfold hidMax hid k0_pay12
  generalize k0_pay11 (F := Ideal) _ _ _ _ _ _ _ _ _ _ _ = H
  pointwise []
  rfl

theorem hexp_eq (t : Fin 16) : k0_pay15 (hidMax E e) cols256 k0_pay13 k0_pay14 (ix2 t 0)
    = expo (BitVec.ofNat 32 (reach (rowq fun f => hid E e (ix2 t f)))) := by
  rw [← hidMax_eq]
  generalize hidMax E e = q
  unfold cols256
  pointwise [k0_pay15, k0_pay13, k0_pay14]
  simp only [ix2_eq_valueIdx, count_eq]
  rfl

theorem h8_eq (t : Fin 16) (f : Fin 1536) : h8 E e (ix2 t f)
    = clip (Ideal.div (Quant.hidden (gk E e t) f) (rscale (rowq (Quant.hidden (gk E e t))))) := by
  have h := hexp_eq E e t
  have hh : (fun f => hid E e (ix2 t f)) = Quant.hidden (gk E e t) := funext fun f => hid_eq E e t f
  rw [hh] at h
  rw [← (scale_eq _).2, kinv, ← h, ← hid_eq]
  unfold h8 k0_pay16
  generalize k0_pay15 (hidMax E e) cols256 k0_pay13 k0_pay14 = x
  generalize hid E e = y
  pointwise []
  rfl

theorem hScale_eq (t : Fin 16) : hScale E e (ix2 t 0) = rscale (rowq (Quant.hidden (gk E e t))) := by
  have h := hexp_eq E e t
  have hh : (fun f => hid E e (ix2 t f)) = Quant.hidden (gk E e t) := funext fun f => hid_eq E e t f
  rw [hh] at h
  rw [← (scale_eq _).1, kscale, ← h]
  unfold hScale hExp k0_pay17
  generalize k0_pay15 (hidMax E e) cols256 k0_pay13 k0_pay14 = x
  pointwise [k0_pay18]
  rfl

end Cert.Kernel.Hand
-- ==== Proof.PairAcc.lean ====
/-
  What one expert's trip adds to the accumulated rows, over the extended reals.
-/
module

public import proofs.«01_k».proof.Proof.PairKernel

@[expose] public section

set_option maxRecDepth 100000

noncomputable section

namespace Cert.Kernel.Hand

open Cert.Kernel Cert.Kernel.Gen Cert.Quant
open Idealize.ShloMosaic hiding ix1 ix2 ix3 ix4
open Idealize.ShloMosaic.TcCoe
open Idealize.ShloMosaic.ValueIdx

attribute [local instance] Cert.Kernel.Gen.facts

variable (E : Env Ideal) (e : Fin 32)

theorem down_at (lo : Nat) (h : lo + 512 ≤ 2816) (i : Fin 1536) (j : Fin 512) :
    downCols E e lo h (ix3 0 i j) = E.WD (ix3 e i ⟨lo + j.val, by omega⟩) := rfl
theorem ds_at (lo : Nat) (h : lo + 512 ≤ 2816) (j : Fin 512) :
    dsCols E e lo h (ix2 0 j) = E.ds (ix2 e ⟨lo + j.val, by omega⟩) := rfl
theorem downLast_at (i : Fin 1536) (j : Fin 256) : downLast E e (ix3 0 i j) = E.WD (ix3 e i ⟨2560 + j.val, by omega⟩) := rfl
theorem dsLast_at (j : Fin 256) : dsLast E e (ix2 0 j) = E.ds (ix2 e ⟨2560 + j.val, by omega⟩) := rfl

/-- What the trip adds at a token and a column. -/
def term (t : Fin 16) (c : Fin 2816) : EReal :=
  Scalar.select (hasRow E e (ix2 t 0)) ((∑ f : Fin 1536, h8 E e (ix2 t f) * E.WD (ix3 e f c)) * hScale E e (ix2 t 0) * E.ds (ix2 e c) * wRow E e (ix2 t 0)) 0

variable (acc : S16x2816.Idx → Elt Ideal .f32)

theorem rd_at (lo : Nat) (h) (t : Fin 16) (j : Fin 512) (hl : lo + 512 ≤ 2816) : rd acc (accR lo h) (ix2 t j) = acc (ix2 t ⟨lo + j.val, by omega⟩) := by
  refine congrArg acc ?_
  funext a
  apply Fin.ext
  fin_cases a
  · show 0 + 1 * t.val = t.val; omega
  · show lo + 1 * j.val = lo + j.val; omega

theorem rdT_at (t : Fin 16) (j : Fin 256) : rd acc accT (ix2 t j) = acc (ix2 t ⟨2560 + j.val, by omega⟩) := by
  refine congrArg acc ?_
  funext a
  apply Fin.ext
  fin_cases a
  · show 0 + 1 * t.val = t.val; omega
  · show 2560 + 1 * j.val = 2560 + j.val; omega

theorem wr_at (lo : Nat) (h) (hl : lo + 512 ≤ 2816) (v : S16x512.Idx → EReal) (t : Fin 16) (c : Fin 2816) :
    wr acc (accR lo h) v (ix2 t c) = if hc : lo ≤ c.val ∧ c.val < lo + 512 then v (ix2 t ⟨c.val - lo, by omega⟩) else acc (ix2 t c) := by
  split
  · rename_i hc
    have hemb : (mAcc.access (accR lo h)).emb (ix2 t ⟨c.val - lo, by omega⟩) = ix2 t c := by
      funext a
      apply Fin.ext
      fin_cases a
      · show 0 + 1 * t.val = t.val; omega
      · show lo + 1 * (c.val - lo) = c.val; omega
    rw [← hemb]
    exact View.write_emb_of_mem _ _ (Finset.mem_univ _)
  · rename_i hc
    exact View.write_of_not_mem _ _ _ (fun hm => by
      obtain ⟨y, -, hy⟩ := Finset.mem_map.mp hm
      have h1 : lo + 1 * (y 1).val = c.val := congrArg (fun i : S16x2816.Idx => (i 1).val) hy
      have h2 : (y 1).val < 512 := (y 1).isLt
      omega)

theorem wrT_at (v : S16x256.Idx → EReal) (t : Fin 16) (c : Fin 2816) :
    wr acc accT v (ix2 t c) = if hc : 2560 ≤ c.val then v (ix2 t ⟨c.val - 2560, by omega⟩) else acc (ix2 t c) := by
  split
  · rename_i hc
    have hemb : (mAcc.access accT).emb (ix2 t ⟨c.val - 2560, by omega⟩) = ix2 t c := by
      funext a
      apply Fin.ext
      fin_cases a
      · show 0 + 1 * t.val = t.val; omega
      · show 2560 + 1 * (c.val - 2560) = c.val; omega
    rw [← hemb]
    exact View.write_emb_of_mem _ _ (Finset.mem_univ _)
  · rename_i hc
    exact View.write_of_not_mem _ _ _ (fun hm => by
      obtain ⟨y, -, hy⟩ := Finset.mem_map.mp hm
      have h1 : 2560 + 1 * (y 1).val = c.val := congrArg (fun i : S16x2816.Idx => (i 1).val) hy
      omega)

theorem pay22_at (t : Fin 16) (j : Fin 512) : v783 E e acc (ix2 t j) = acc (ix2 t ⟨0 + j.val, by omega⟩) + term E e t ⟨0 + j.val, by omega⟩ := by
  unfold v783 term
  rw [← rd_at acc 0 inb_S16x2816_S16x512_0_0 t j (by omega)]
  generalize rd acc (accR 0 inb_S16x2816_S16x512_0_0) = q
  unfold hasRow hScale wRow k0_pay22
  generalize h8 E e = h
  generalize k0_pay18 (F := Ideal) (hExp E e) = sc
  generalize k0_pay20 (F := Ideal) _ _ _ = wt
  generalize k0_pay21 (F := Ideal) _ _ = has
  pointwise []
  simp only [ix2_eq_valueIdx, ix3_eq_valueIdx, down_at, ds_at, Nat.zero_add]

theorem pay24_at (t : Fin 16) (j : Fin 512) : k0_pay24 (h8 E e) (hScale E e) (wRow E e) (hasRow E e) (downCols E e 512 (by decide)) (dsCols E e 512 (by decide))
    (rd acc (accR 512 inb_S16x2816_S16x512_0_512)) (ix2 t j) = acc (ix2 t ⟨512 + j.val, by omega⟩) + term E e t ⟨512 + j.val, by omega⟩ := by
  unfold term
  rw [← rd_at acc 512 inb_S16x2816_S16x512_0_512 t j (by omega)]
  generalize rd acc (accR 512 inb_S16x2816_S16x512_0_512) = q
  generalize h8 E e = h
  generalize hScale E e = sc
  generalize wRow E e = wt
  generalize hasRow E e = has
  pointwise [k0_pay24]
  simp only [ix2_eq_valueIdx, ix3_eq_valueIdx, down_at, ds_at]

theorem pay26_at (t : Fin 16) (j : Fin 512) : k0_pay26 (v825 E e acc) (ix2 t j) = acc2 E e acc (ix2 t ⟨1024 + j.val, by omega⟩) + term E e t ⟨1024 + j.val, by omega⟩ := by
  unfold v825 term
  rw [← rd_at (acc2 E e acc) 1024 inb_S16x2816_S16x512_0_1024 t j (by omega)]
  generalize rd (acc2 E e acc) (accR 1024 inb_S16x2816_S16x512_0_1024) = q
  generalize h8 E e = h
  generalize hScale E e = sc
  generalize wRow E e = wt
  generalize hasRow E e = has
  pointwise [k0_pay25, k0_pay26]
  simp only [ix2_eq_valueIdx, ix3_eq_valueIdx, down_at, ds_at]

theorem pay27_at (t : Fin 16) (j : Fin 512) : k0_pay27 (h8 E e) (hScale E e) (wRow E e) (hasRow E e) (downCols E e 1536 (by decide)) (dsCols E e 1536 (by decide))
    (rd acc (accR 1536 inb_S16x2816_S16x512_0_1536)) (ix2 t j) = acc (ix2 t ⟨1536 + j.val, by omega⟩) + term E e t ⟨1536 + j.val, by omega⟩ := by
  unfold term
  rw [← rd_at acc 1536 inb_S16x2816_S16x512_0_1536 t j (by omega)]
  generalize rd acc (accR 1536 inb_S16x2816_S16x512_0_1536) = q
  generalize h8 E e = h
  generalize hScale E e = sc
  generalize wRow E e = wt
  generalize hasRow E e = has
  pointwise [k0_pay27]
  simp only [ix2_eq_valueIdx, ix3_eq_valueIdx, down_at, ds_at]

theorem pay2_at (t : Fin 16) (j : Fin 512) : k0_pay2 (rd acc (accR 2048 inb_S16x2816_S16x512_0_2048)) (v865 E e) (k0_pay29 (hasRow E e)) k0_pay30 (ix2 t j)
    = acc (ix2 t ⟨2048 + j.val, by omega⟩) + term E e t ⟨2048 + j.val, by omega⟩ := by
  unfold term v865
  rw [← rd_at acc 2048 inb_S16x2816_S16x512_0_2048 t j (by omega)]
  generalize rd acc (accR 2048 inb_S16x2816_S16x512_0_2048) = q
  generalize h8 E e = h
  generalize hScale E e = sc
  generalize wRow E e = wt
  generalize hasRow E e = has
  pointwise [k0_pay2, k0_pay28, k0_pay29, k0_pay30]
  simp only [ix2_eq_valueIdx, ix3_eq_valueIdx, down_at, ds_at]

theorem pay3_at (t : Fin 16) (j : Fin 256) : k0_pay3 (h8 E e) (hScale E e) (wRow E e) (hasRow E e) (downLast E e) (dsLast E e) (rd acc accT) (ix2 t j)
    = acc (ix2 t ⟨2560 + j.val, by omega⟩) + term E e t ⟨2560 + j.val, by omega⟩ := by
  unfold term
  rw [← rdT_at acc t j]
  generalize rd acc accT = q
  generalize h8 E e = h
  generalize hScale E e = sc
  generalize wRow E e = wt
  generalize hasRow E e = has
  pointwise [k0_pay3]
  simp only [ix2_eq_valueIdx, ix3_eq_valueIdx, downLast_at, dsLast_at]

theorem pay23_at (t : Fin 16) (j : Fin 512) : k0_pay23 (v783 E e acc) (ix2 t j) = acc (ix2 t ⟨0 + j.val, by omega⟩) + term E e t ⟨0 + j.val, by omega⟩ := by
  rw [← pay22_at]
  generalize v783 E e acc = q
  pointwise [k0_pay23]

/-- One run written: its columns gain the term, the others stay. -/
theorem step (lo : Nat) (h) (hl : lo + 512 ≤ 2816) (v : S16x512.Idx → EReal)
    (hv : ∀ (t : Fin 16) (j : Fin 512), v (ix2 t j) = acc (ix2 t ⟨lo + j.val, by omega⟩) + term E e t ⟨lo + j.val, by omega⟩) (t : Fin 16) (c : Fin 2816) :
    wr acc (accR lo h) v (ix2 t c) = if lo ≤ c.val ∧ c.val < lo + 512 then acc (ix2 t c) + term E e t c else acc (ix2 t c) := by
  rw [wr_at acc lo h hl]
  split
  · rename_i hc
    rw [hv]
    have : (⟨lo + (c.val - lo), by omega⟩ : Fin 2816) = c := Fin.ext (by show lo + (c.val - lo) = c.val; omega)
    rw [this]
  · rfl

/-- A trip adds its term everywhere. -/
theorem acc6_eq (t : Fin 16) (c : Fin 2816) : acc6 E e acc (ix2 t c) = acc (ix2 t c) + term E e t c := by
  have s1 := step E e acc 0 inb_S16x2816_S16x512_0_0 (by omega) _ (pay23_at E e acc) t c
  have s2 := step E e (acc1 E e acc) 512 inb_S16x2816_S16x512_0_512 (by omega) _ (pay24_at E e _) t c
  have s3 := step E e (acc2 E e acc) 1024 inb_S16x2816_S16x512_0_1024 (by omega) _ (pay26_at E e acc) t c
  have s4 := step E e (acc3 E e acc) 1536 inb_S16x2816_S16x512_0_1536 (by omega) _ (pay27_at E e _) t c
  have s5 := step E e (acc4 E e acc) 2048 inb_S16x2816_S16x512_0_2048 (by omega) _ (pay2_at E e _) t c
  have s6 := (wrT_at (acc5 E e acc) (k0_pay3 (h8 E e) (hScale E e) (wRow E e) (hasRow E e) (downLast E e) (dsLast E e) (rd (acc5 E e acc) accT)) t c)
  change acc1 E e acc (ix2 t c) = _ at s1
  change acc2 E e acc (ix2 t c) = _ at s2
  change acc3 E e acc (ix2 t c) = _ at s3
  change acc4 E e acc (ix2 t c) = _ at s4
  change acc5 E e acc (ix2 t c) = _ at s5
  change acc6 E e acc (ix2 t c) = _ at s6
  rw [s6]
  split
  · rename_i hc
    rw [pay3_at]
    have : (⟨2560 + (c.val - 2560), by omega⟩ : Fin 2816) = c := Fin.ext (by show 2560 + (c.val - 2560) = c.val; omega)
    rw [this, s5, if_neg (by omega), s4, if_neg (by omega), s3, if_neg (by omega), s2, if_neg (by omega), s1, if_neg (by omega)]
  · rename_i hc
    by_cases h1 : c.val < 512
    · rw [s5, if_neg (by omega), s4, if_neg (by omega), s3, if_neg (by omega), s2, if_neg (by omega), s1, if_pos (by omega)]
    by_cases h2 : c.val < 1024
    · rw [s5, if_neg (by omega), s4, if_neg (by omega), s3, if_neg (by omega), s2, if_pos (by omega), s1, if_neg (by omega)]
    by_cases h3 : c.val < 1536
    · rw [s5, if_neg (by omega), s4, if_neg (by omega), s3, if_pos (by omega), s2, if_neg (by omega), s1, if_neg (by omega)]
    by_cases h4 : c.val < 2048
    · rw [s5, if_neg (by omega), s4, if_pos (by omega), s3, if_neg (by omega), s2, if_neg (by omega), s1, if_neg (by omega)]
    · rw [s5, if_pos (by omega), s4, if_neg (by omega), s3, if_neg (by omega), s2, if_neg (by omega), s1, if_neg (by omega)]

end Cert.Kernel.Hand
-- ==== Proof.PairEnv.lean ====
/-
  The columns the kernel builds from its routing rows: each token's ids, weights and adapter.
-/
module

public import proofs.«01_k».proof.Proof.Body
public import proofs.«01_k».proof.Proof.QuantKernel

@[expose] public section

set_option maxRecDepth 100000

noncomputable section

namespace Cert.Kernel.Hand

open Cert.Kernel Cert.Kernel.Gen Cert.Quant
open Idealize.ShloMosaic hiding ix1 ix2 ix3 ix4
open Idealize.ShloMosaic.TcCoe
open Idealize.ShloMosaic.ValueIdx

attribute [local instance] Cert.Kernel.Gen.facts

variable (R : Raw Ideal)

theorem scaleCol_eq (t : Fin 16) : scaleCol R (ix2 t 0) = rscale (rowq fun i => R.X (ix2 t i)) := by
  have h : k0_pay57 R.X (ix2 t 0) = expo (BitVec.ofNat 32 (reach (rowq fun x => R.X (ix2 t x)))) := kernel_expo R.X _
  rw [← (scale_eq _).1, kscale, ← h]
  unfold scaleCol
  pointwise [k0_pay60]
  rfl

theorem codesOf_eq (t : Fin 16) (i : Fin 2816) : codesOf R (ix2 t i) = clip (Ideal.div (R.X (ix2 t i)) (rscale (rowq fun i => R.X (ix2 t i)))) :=
  (kernel_codes R.X _).trans (congrArg clip ((scale_eq _).2 _))

theorem eqs : (∀ x : Fin 16, IntOp.cmpi .eq (BitVec.ofNat 32 x.val) (BitVec.ofNat 32 x.val) = 1#1)
      ∧ ∀ x y : Fin 16, x ≠ y → IntOp.cmpi .eq (BitVec.ofNat 32 x.val) (BitVec.ofNat 32 y.val) = 0#1 := by
  decide +kernel

theorem diag (v : Fin 16 → EReal) (t : Fin 16) :
    (∑ x : Fin 16, Scalar.select (IntOp.cmpi .eq (BitVec.ofNat 32 t.val) (BitVec.ofNat 32 x.val)) (v x) 0) = v t := by
  refine (Finset.sum_eq_single (M := EReal) t ?_ ?_).trans ?_
  · intro b _ hb
    rw [eqs.2 t b (Ne.symm hb)]; rfl
  · intro h; exact absurd (Finset.mem_univ _) h
  · rw [eqs.1 t]; rfl

theorem fold_none (s : Finset (Fin 16)) : Finset.fold IntOp.addi 0#32 (fun _ : Fin 16 => 0#32) s = 0#32 := by
  induction s using Finset.induction_on with
  | empty => rfl
  | insert a s ha ih => rw [Finset.fold_insert ha, ih]; rfl

theorem diagI (v : Fin 16 → BitVec 32) (t : Fin 16) :
    Finset.fold IntOp.addi 0#32 (fun x : Fin 16 => Scalar.select (IntOp.cmpi .eq (BitVec.ofNat 32 t.val) (BitVec.ofNat 32 x.val)) (v x) 0#32) Finset.univ = v t := by
  rw [← Finset.insert_erase (Finset.mem_univ t), Finset.fold_insert (Finset.notMem_erase _ _), eqs.1 t,
    Finset.fold_congr (g := fun _ => 0#32), fold_none]
  · exact BitVec.add_zero _
  · intro b hb
    rw [eqs.2 t b (Ne.symm (Finset.ne_of_mem_erase hb))]; rfl

theorem wsOf_eq (t : Fin 16) (j : Fin 8) : wsOf R (ix2 t j) = R.W (ix2 j t) := by
  unfold wsOf wt6 wt5 wt4 wt2 wt1
  pointwise [k0_pay67, k0_pay64, k0_pay70, k0_pay77, k0_pay72, k0_pay73, k0_pay74, k0_pay75, k0_pay79, k0_pay81, k0_pay82, k0_pay84, k0_pay85, k0_pay87]
  simp only [ix2_eq_valueIdx, diag]
  fin_cases j <;> rfl

theorem idsOf_eq (t : Fin 16) (j : Fin 8) : idsOf R (ix2 t j) = R.I (ix2 j t) := by
  unfold idsOf ch7 ch6 ch4 ch3 ch1
  pointwise [k0_pay63, k0_pay65, k0_pay66, k0_pay68, k0_pay69, k0_pay71, k0_pay76, k0_pay78, k0_pay80, k0_pay83, k0_pay86]
  simp only [ix2_eq_valueIdx, diagI]
  fin_cases j <;> rfl

theorem ranks : ∀ r : Fin 128, Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi gt0 (Scalar.extui (Scalar.cmpi CmpIPredicate.slt 16#32 0#32))))
          (IntOp.cmpi CmpIPredicate.ne (IntOp.remsi ArithUnit.vector (BitVec.ofNat 32 r.val) 16#32) 0#32))
        (IntOp.subi (IntOp.divsi ArithUnit.vector (BitVec.ofNat 32 r.val) 16#32) 1#32)
        (IntOp.divsi ArithUnit.vector (BitVec.ofNat 32 r.val) 16#32) = BitVec.ofNat 32 (r.val / 16) := by decide +kernel

theorem mine_eq (t : Fin 16) (r : Fin 128) : mineOf R (ix2 t r) = IntOp.cmpi .eq (BitVec.ofNat 32 (r.val / 16)) (aidCol R (ix2 t 0)) := by
  rw [← ranks]
  unfold mineOf
  pointwise [k0_pay1, k0_pay94, k0_pay95]
  rfl

theorem aidCol_eq (t : Fin 16) : aidCol R (ix2 t 0) = R.A (ix1 t) := by
  unfold aidCol aid9
  pointwise [k0_pay88, k0_pay89, k0_pay90, k0_pay91, k0_pay92, k0_pay93]
  fin_cases t <;> rfl

end Cert.Kernel.Hand
-- ==== Proof.PairSum.lean ====
/-
  The kernel's accumulated rows, over the extended reals: the sum over the experts in use is the sum over a token's eight positions.
-/
module

public import proofs.«01_k».proof.Proof.PairAcc
public import proofs.«01_k».proof.Proof.PairEnv

@[expose] public section

set_option maxRecDepth 100000

noncomputable section

namespace Cert.Kernel.Hand

open Cert.Kernel Cert.Kernel.Gen Cert.Quant
open Idealize.ShloMosaic hiding ix1 ix2 ix3 ix4
open Idealize.ShloMosaic.TcCoe
open Idealize.ShloMosaic.ValueIdx

attribute [local instance] Cert.Kernel.Gen.facts

theorem mem_row (id : ℕ → Fin 8 → Fin 32) (t : ℕ) (l : List (Fin 32)) (j : Fin 8) : id t j ∈ row id t l := by
  unfold row
  simp only [mem_put]
  fin_cases j <;> simp

theorem sub_row (id : ℕ → Fin 8 → Fin 32) (t : ℕ) {l : List (Fin 32)} {a : Fin 32} (h : a ∈ l) : a ∈ row id t l := by
  unfold row
  simp only [mem_put, h, true_or]

theorem mem_acts (id : ℕ → Fin 8 → Fin 32) (j : Fin 8) : ∀ (n t : ℕ), t < n → id t j ∈ acts id n
  | 0, t, h => absurd h (Nat.not_lt_zero _)
  | n + 1, t, h => by
    show id t j ∈ row id n (acts id n)
    rcases Nat.lt_succ_iff_lt_or_eq.mp h with h | h
    · exact sub_row id n (mem_acts id j n t h)
    · subst h; exact mem_row id t _ j

theorem sum_list (g : Fin 32 → EReal) : ∀ l : List (Fin 32), (∑ k ∈ Finset.range l.length, g (l.getD k 0)) = (l.map g).sum
  | [] => by simp
  | a :: l => by
    rw [List.length_cons, Finset.sum_range_succ', List.map_cons, List.sum_cons, ← sum_list g l, add_comm]
    rfl

theorem accs_eq (E : Env Ideal) (ex : ℕ → Fin 32) (acc : S16x2816.Idx → Elt Ideal .f32) (t : Fin 16) (c : Fin 2816) :
    ∀ n : ℕ, accs E ex acc n (ix2 t c) = acc (ix2 t c) + ∑ k ∈ Finset.range n, term E (ex k) t c
  | 0 => by simp [accs]
  | n + 1 => by
    show acc6 E (ex n) (accs E ex acc n) (ix2 t c) = _
    rw [acc6_eq, accs_eq E ex acc t c n, Finset.sum_range_succ, add_assoc]

variable (E : Env Ideal) (e : Fin 32)

theorem wRow_eq (t : Fin 16) : wRow E e (ix2 t 0) = ∑ j : Fin 8, Scalar.select (IntOp.cmpi .eq (E.ids (ix2 t j)) (word e)) (E.ws (ix2 t j)) 0 := by
  unfold wRow
  pointwise [k0_pay20, k0_pay19]
  simp only [ix2_eq_valueIdx]

theorem hasRow_eq (t : Fin 16) : hasRow E e (ix2 t 0) = if ∃ j : Fin 8, E.ids (ix2 t j) = word e then 1#1 else 0#1 := by
  unfold hasRow
  pointwise [k0_pay21, k0_pay19]
  simp only [ix2_eq_valueIdx]
  have hb : ∀ x : Fin 8, (0 < (FloatOps.sitofp (F := Ideal) FTy.f32 (BitVec.setWidth 32 (IntOp.cmpi CmpIPredicate.eq (E.ids (ix2 t x)) (word e))) : EReal))
      ↔ E.ids (ix2 t x) = word e := by
    intro x
    by_cases h : E.ids (ix2 t x) = word e
    · have : IntOp.cmpi CmpIPredicate.eq (E.ids (ix2 t x)) (word e) = 1#1 := by rw [h]; simp [IntOp.cmpi]
      rw [this]
      refine iff_of_true ?_ h
      show (0 : EReal) < (((BitVec.setWidth 32 1#1).toInt : ℝ) : EReal)
      have h1 : (BitVec.setWidth 32 1#1).toInt = 1 := by decide
      rw [h1]; norm_num
    · have : IntOp.cmpi CmpIPredicate.eq (E.ids (ix2 t x)) (word e) = 0#1 := by show BitVec.ofBool (E.ids (ix2 t x) == word e) = 0#1; rw [beq_eq_false_iff_ne.mpr h]; rfl
      rw [this]
      refine iff_of_false ?_ h
      show ¬ (0 : EReal) < (((BitVec.setWidth 32 0#1).toInt : ℝ) : EReal)
      have h1 : (BitVec.setWidth 32 0#1).toInt = 0 := by decide
      rw [h1]; norm_num
  rw [ofBits_ninf]
  simp only [Finset.lt_fold_max, not_lt_bot, false_or, Finset.mem_univ, true_and, hb]
  split <;> rename_i h <;> simp [h]

/-- The sum over a list without repetitions of values that vanish off a token's own experts. -/
theorem exchange (l : List (Fin 32)) (hl : l.Nodup) (own : Fin 8 → Fin 32) (hown : ∀ j, own j ∈ l) (hinj : Function.Injective own)
    (g : Fin 32 → EReal) (hg : ∀ e, (∀ j, own j ≠ e) → g e = 0) : (l.map g).sum = ∑ j, g (own j) := by
  rw [← List.sum_toFinset g hl, ← Finset.sum_image (s := Finset.univ) (g := own) (f := g) (fun a _ b _ h => hinj h)]
  symm
  refine Finset.sum_subset ?_ ?_
  · intro e he
    obtain ⟨j, -, rfl⟩ := Finset.mem_image.mp he
    exact List.mem_toFinset.mpr (hown j)
  · intro e _ he
    exact hg e (fun j hj => he (Finset.mem_image.mpr ⟨j, Finset.mem_univ _, hj⟩))

theorem word_eq : ∀ a b : Fin 32, IntOp.cmpi .eq (word a) (word b) = if a = b then 1#1 else 0#1 := by decide +kernel
theorem word_ne : ∀ a b : Fin 32, a ≠ b → word a ≠ word b := by decide +kernel

/-- A trip's term at a token that names its expert in position `j` only. -/
theorem term_own (t : Fin 16) (c : Fin 2816) (own : Fin 8 → Fin 32) (hinj : Function.Injective own) (hids : ∀ j, E.ids (ix2 t j) = word (own j)) (j : Fin 8) :
    term E (own j) t c = down (Quant.hidden (gk E (own j) t)) (fun f => E.WD (ix3 (own j) f c)) (E.ds (ix2 (own j) c)) * E.ws (ix2 t j) := by
  have hw : wRow E (own j) (ix2 t 0) = E.ws (ix2 t j) := by
    rw [wRow_eq]
    refine (Finset.sum_eq_single (M := EReal) j ?_ ?_).trans ?_
    · intro b _ hb
      rw [hids, word_eq, if_neg (fun h => hb (hinj h))]; rfl
    · intro h; exact absurd (Finset.mem_univ _) h
    · rw [hids, word_eq, if_pos rfl]; rfl
  unfold term down
  rw [hasRow_eq, if_pos ⟨j, hids j⟩, hw, hScale_eq]
  simp only [h8_eq]
  rfl

theorem term_other (t : Fin 16) (c : Fin 2816) (own : Fin 8 → Fin 32) (hids : ∀ j, E.ids (ix2 t j) = word (own j)) (e : Fin 32) (he : ∀ j, own j ≠ e) :
    term E e t c = 0 := by
  unfold term
  rw [hasRow_eq, if_neg (fun ⟨j, hj⟩ => word_ne _ _ (he j) ((hids j).symm.trans hj))]
  rfl

/-- The low-rank part over all ranks of all adapters is the part over the own adapter's sixteen. -/
theorem ranks_sum (a : Fin 8) (f : Fin 128 → EReal) (g : Fin 128 → EReal) :
    (∑ r : Fin 128, Scalar.select (IntOp.cmpi .eq (BitVec.ofNat 32 (r.val / 16)) (BitVec.ofNat 32 a.val)) (f r) 0 * g r)
      = ∑ r : Fin 16, f ⟨16 * a.val + r.val, by omega⟩ * g ⟨16 * a.val + r.val, by omega⟩ := by
  have hs : ∀ x y : Fin 8, IntOp.cmpi .eq (BitVec.ofNat 32 x.val) (BitVec.ofNat 32 y.val) = if x = y then 1#1 else 0#1 := by decide +kernel
  rw [← (finProdFinEquiv (m := 8) (n := 16)).sum_comp, Fintype.sum_prod_type]
  refine (Finset.sum_eq_single (M := EReal) a ?_ ?_).trans ?_
  · intro b _ hb
    refine Finset.sum_eq_zero fun r _ => ?_
    have hv : (finProdFinEquiv (b, r)).val / 16 = b.val := by
      show (r.val + 16 * b.val) / 16 = b.val; omega
    rw [hv, hs, if_neg hb]
    exact zero_mul _
  · intro h; exact absurd (Finset.mem_univ _) h
  · refine Finset.sum_congr rfl fun r _ => ?_
    have hv : (finProdFinEquiv (a, r)).val / 16 = a.val := by
      show (r.val + 16 * a.val) / 16 = a.val; omega
    have he : finProdFinEquiv (a, r) = (⟨16 * a.val + r.val, by omega⟩ : Fin 128) := Fin.ext (by show r.val + 16 * a.val = 16 * a.val + r.val; omega)
    rw [hv, hs, if_pos rfl, he]
    rfl

variable (R : Raw Ideal)

attribute [local irreducible] acts sumOf

theorem aAll_at (r : Fin 128) (i : Fin 2816) : aAll E e (ix3 0 r i) = E.WA (ix3 e r i) := rfl

theorem shrunk_eq (t : Fin 16) (r : Fin 128) : shrunk E e (ix2 t r) = Scalar.select (E.mine (ix2 t r)) (∑ i : Fin 2816, E.x (ix2 t i) * E.WA (ix3 e r i)) 0 := by
  unfold shrunk
  pointwise [k0_pay7]
  simp only [ix2_eq_valueIdx, ix3_eq_valueIdx, aAll_at]

/-- The kernel's columns are the plain ones. -/
theorem gk_eq (t : Fin 16) (a : Fin 8) (ha : R.A (ix1 t) = BitVec.ofNat 32 a.val) : gk (envOf R) e t
    = cols (fun i => R.X (ix2 t i)) (fun i k => R.WU (ix3 e i k)) (fun k => R.US (ix2 e k)) (fun i r => R.WA (ix3 e ⟨16 * a.val + r.val, by omega⟩ i))
        (fun r k => R.WB (ix3 e ⟨16 * a.val + r.val, by omega⟩ k)) := by
  funext k
  unfold gk cols
  show mix (∑ i, codesOf R (ix2 t i) * R.WU (ix3 e i k)) (scaleCol R (ix2 t 0)) (R.US (ix2 e k)) (∑ r, shrunk (envOf R) e (ix2 t r) * R.WB (ix3 e r k)) = _
  simp only [codesOf_eq, scaleCol_eq, shrunk_eq]
  refine congrArg (mix _ _ _) ?_
  show (∑ r : Fin 128, Scalar.select (mineOf R (ix2 t r)) (∑ i, R.X (ix2 t i) * R.WA (ix3 e r i)) 0 * R.WB (ix3 e r k)) = _
  simp only [mine_eq, aidCol_eq, ha]
  exact ranks_sum a (fun r => ∑ i, R.X (ix2 t i) * R.WA (ix3 e r i)) (fun r => R.WB (ix3 e r k))

/-- What the kernel stores: at each token, the sum over its positions of the plain row of that expert times the weight. -/
theorem yOf_eq (id : ℕ → Fin 8 → Fin 32) (hids : ∀ (j : Fin 8) (t : Fin 16), R.I (ix2 j t) = word (id t.val j))
    (hinj : ∀ t : Fin 16, Function.Injective (id t.val)) (t : Fin 16) (a : Fin 8) (ha : R.A (ix1 t) = BitVec.ofNat 32 a.val) (c : Fin 2816) :
    yOf R id (ix2 t c) = ∑ j : Fin 8, down (Quant.hidden (cols (fun i => R.X (ix2 t i)) (fun i k => R.WU (ix3 (id t.val j) i k)) (fun k => R.US (ix2 (id t.val j) k))
        (fun i r => R.WA (ix3 (id t.val j) ⟨16 * a.val + r.val, by omega⟩ i)) (fun r k => R.WB (ix3 (id t.val j) ⟨16 * a.val + r.val, by omega⟩ k))))
        (fun f => R.WD (ix3 (id t.val j) f c)) (R.DS (ix2 (id t.val j) c)) * R.W (ix2 j t) := by
  have hi : ∀ j, (envOf R).ids (ix2 t j) = word (id t.val j) := fun j => (idsOf_eq R t j).trans (hids j t)
  have h0 : (k0_pay62 (F := Ideal)) (ix2 t c) = 0 := by pointwise [k0_pay62]
  have h1 : yOf R id (ix2 t c) = sumOf R id (ix2 t c) := by
    unfold yOf
    generalize sumOf R id = q
    pointwise [k0_pay6]
  have h2 : sumOf R id (ix2 t c) = ((acts id 16).map fun e => term (envOf R) e t c).sum := by
    unfold sumOf
    rw [accs_eq, h0, zero_add, ← sum_list]
  rw [h1, h2]
  have h3 := exchange (acts id 16) (acts_nodup id 16) (id t.val) (fun j => mem_acts id j 16 t.val t.isLt) (hinj t) (fun e => term (envOf R) e t c)
    (fun e he => term_other (envOf R) t c (id t.val) hi e he)
  refine h3.trans (Finset.sum_congr rfl fun j _ => ?_)
  refine (term_own (envOf R) t c (id t.val) (hinj t) hi j).trans ?_
  rw [gk_eq _ R t a ha]
  exact congrArg _ (wsOf_eq R t j)

end Cert.Kernel.Hand
-- ==== Proof.KerY.lean ====
/-
  The kernel's first result after the run: the plain sum over each token's eight experts.
-/
module

public import proofs.«01_k».proof.Proof.PairSum
public import proofs.«01_k».proof.Proof.PairOut
public import proofs.«01_k».proof.Proof.Outs

@[expose] public section

set_option maxRecDepth 100000

noncomputable section

namespace Cert.Kernel.Hand

open Cert.Kernel Cert.Kernel.Gen Cert.Quant
open Idealize.ShloMosaic hiding ix1 ix2 ix3 ix4
open Idealize.ShloMosaic.TcCoe Idealize.ShloMosaic.Tactic
open Idealize.ShloMosaic.ValueIdx

attribute [local instance] Cert.Kernel.Gen.facts

section
variable {F : FTy → Type} [FloatOps F]
variable (m : (ℓ : Loc nD τ sig) → Buf (Elt F) ℓ)

theorem idx_zero0 : ∀ t : Fin cfg0.N, win0_0.index t (0 : Fin 2) = 0 ∧ win0_0.index t (1 : Fin 2) = 0 := (by decide +kernel : ∀ t : Fin grid0.N, _)

theorem emb0 (t : Fin cfg0.N) (j : S16x2816.Idx) : ((cfg0.win 0).blk t).view.emb j = j := by
  obtain ⟨e0, e1⟩ := idx_zero0 t
  funext a; apply Fin.ext
  match a with
  | ⟨0, _⟩ => show win0_0.index t (0 : Fin 2) * 16 + 1 * (j 0).val = (j 0).val; omega
  | ⟨1, _⟩ => show win0_0.index t (1 : Fin 2) * 2816 + 1 * (j 1).val = (j 1).val; omega

/-- The first result after the run. -/
theorem final0 (c : Dev nD) : (dats m 0 c).arrAt 0 (cfgs 0).N = yOf (rawOf m c) (idOf (rawOf m c)) :=
  (dats m 0 c).arrAt_eq_of_cover 0 (yOf (rawOf m c) (idOf (rawOf m c)))
    (fun t _ => by
      show (cfg0.win 0).cut (grid0.coords t) ((dats m 0 c).after 0 t) = _
      rw [after0_0]
      generalize yOf (rawOf m c) (idOf (rawOf m c)) = Y
      funext j
      show Y j = Y (((cfg0.win 0).blk t).view.emb j)
      rw [emb0])
    (fun i => ⟨(⟨0, by decide⟩ : Fin cfg0.N), by decide +kernel, by
      have h := ((cfg0.win 0).blk (⟨0, by decide⟩ : Fin cfg0.N)).view.emb_mem_set i; rwa [emb0] at h⟩)

theorem V_main_v3 (c : Dev nD) : V m c main_v3 = transpose S8x16 [1, 0] (shapeCast S16x8 (m ((c : Thread nD τ).loc main_arg2) : Vec F S16x1x8 .f32) shapeCasts_S16x1x8_S16x8) transposes_S16x8_S8x16_1_0 := by
  unfold_abbrev_sides
  after_results
  rfl
theorem V_main_v6 (c : Dev nD) : V m c main_v6 = shapeCast S32x128x2816 (transpose S32x8x16x2816 [0, 1, 3, 2] (m ((c : Thread nD τ).loc main_arg8) : Vec F S32x8x2816x16 .bf16) transposes_S32x8x2816x16_S32x8x16x2816_0_1_3_2) shapeCasts_S32x8x16x2816_S32x128x2816 := by
  unfold_abbrev_sides
  after_results
  rfl
theorem V_main_v7 (c : Dev nD) : V m c main_v7 = shapeCast S32x128x3072 (m ((c : Thread nD τ).loc main_arg9) : Vec F S32x8x16x3072 .bf16) shapeCasts_S32x8x16x3072_S32x128x3072 := by
  unfold_abbrev_sides
  after_results
  rfl
end

/-- A word is the word of its number. -/
theorem ofNat_self (w : BitVec 32) : BitVec.ofNat 32 w.toNat = w := by simp

/-! ## The reshapes at an index -/

theorem cast_v1 (x : IVec S16x1x8 32) (t : Fin 16) (j : Fin 8) : transpose S8x16 [1, 0] (shapeCast S16x8 x shapeCasts_S16x1x8_S16x8) transposes_S16x8_S8x16_1_0 (ix2 j t) = x (ix3 t 0 j) := by
  pointwise []
  rfl
theorem cast_v3 (x : Vec Ideal S16x1x8 .f32) (t : Fin 16) (j : Fin 8) : transpose S8x16 [1, 0] (shapeCast S16x8 x shapeCasts_S16x1x8_S16x8) transposes_S16x8_S8x16_1_0 (ix2 j t) = x (ix3 t 0 j) := by
  pointwise []
  rfl
theorem cast_v4 (x : Vec Ideal S16x1x2816 .bf16) (t : Fin 16) (i : Fin 2816) : shapeCast S16x2816 x shapeCasts_S16x1x2816_S16x2816 (ix2 t i) = x (ix3 t 0 i) := by
  pointwise []
  rfl
theorem cast_v6 (x : Vec Ideal S32x8x2816x16 .bf16) (e : Fin 32) (a : Fin 8) (r : Fin 16) (i : Fin 2816) :
    shapeCast S32x128x2816 (transpose S32x8x16x2816 [0, 1, 3, 2] x transposes_S32x8x2816x16_S32x8x16x2816_0_1_3_2) shapeCasts_S32x8x16x2816_S32x128x2816
      (ix3 e ⟨16 * a.val + r.val, by omega⟩ i) = x (ix4 e a i r) := by
  pointwise []
  exact congrArg₂ (fun u v => x (ix4 e u i v)) (Fin.ext (by show (16 * a.val + r.val) / 16 = a.val; omega)) (Fin.ext (by show (16 * a.val + r.val) % 16 = r.val; omega))
theorem cast_v7 (x : Vec Ideal S32x8x16x3072 .bf16) (e : Fin 32) (a : Fin 8) (r : Fin 16) (i : Fin 3072) :
    shapeCast S32x128x3072 x shapeCasts_S32x8x16x3072_S32x128x3072 (ix3 e ⟨16 * a.val + r.val, by omega⟩ i) = x (ix4 e a r i) := by
  pointwise []
  exact congrArg₂ (fun u v => x (ix4 e u v i)) (Fin.ext (by show (16 * a.val + r.val) / 16 = a.val; omega)) (Fin.ext (by show (16 * a.val + r.val) % 16 = r.val; omega))

variable (m : (ℓ : Loc nD τ sig) → Buf (Elt Ideal) ℓ)

/-- The kernel's first result, at one token and column. -/
theorem ker_y (c : Dev nD) (id : Fin 16 → Fin 8 → Fin 32) (aid : Fin 16 → Fin 8)
    (hid : ∀ p j, ((m ((c : Thread nD τ).loc main_arg1) : IVec S16x1x8 32) (ix3 p 0 j)).toNat = (id p j).val)
    (haid : ∀ p, ((m ((c : Thread nD τ).loc main_arg3) : IVec S16 32) (ix1 p)).toNat = (aid p).val)
    (hinj : ∀ p, Function.Injective (id p)) (p : Fin 16) (q : Fin 2816) :
    yOf (rawOf m c) (idOf (rawOf m c)) (ix2 p q) = ∑ j : Fin 8,
      pairAt (m ((c : Thread nD τ).loc main_arg0)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) p (id p j) (aid p) q * (m ((c : Thread nD τ).loc main_arg2) : Vec Ideal S16x1x8 .f32) (ix3 p 0 j) := by
  have hI : ∀ j t, (rawOf m c).I (ix2 j t) = (m ((c : Thread nD τ).loc main_arg1) : IVec S16x1x8 32) (ix3 t 0 j) := fun j t => by
    show V m c main_v1 (ix2 j t) = _
    rw [V_main_v1]; exact cast_v1 _ t j
  have hN : ∀ (j : Fin 8) (t : Fin 16), idOf (rawOf m c) t.val j = id t j := fun j t => by
    have ht : (⟨t.val % 16, Nat.mod_lt _ (by decide)⟩ : Fin 16) = t := Fin.ext (Nat.mod_eq_of_lt t.isLt)
    refine Fin.ext ?_
    show BitVec.toNat ((rawOf m c).I (ix2 j ⟨t.val % 16, _⟩)) % 32 = (id t j).val
    rw [ht, hI, hid]
    exact Nat.mod_eq_of_lt (id t j).isLt
  have hA : (rawOf m c).A (ix1 p) = BitVec.ofNat 32 (aid p).val := by
    rw [← haid]
    show V m c main_arg3 (ix1 p) = _
    rw [V_main_arg3]; exact (ofNat_self _).symm
  have hW : ∀ j t, (rawOf m c).W (ix2 j t) = (m ((c : Thread nD τ).loc main_arg2) : Vec Ideal S16x1x8 .f32) (ix3 t 0 j) := fun j t => by
    show V m c main_v3 (ix2 j t) = _
    rw [V_main_v3]; exact cast_v3 _ t j
  refine (yOf_eq (rawOf m c) (idOf (rawOf m c)) (fun j t => ?_) (fun t => ?_) p (aid p) hA q).trans ?_
  · rw [hN, hI]
    show _ = BitVec.ofNat 32 (id t j).val
    rw [← hid]; exact (ofNat_self _).symm
  · have : idOf (rawOf m c) t.val = id t := funext fun j => hN j t
    rw [this]; exact hinj t
  · refine Finset.sum_congr rfl fun j _ => ?_
    rw [hN, hW]
    refine congrArg (· * _) ?_
    show down (Quant.hidden (cols (fun i => V m c main_v4 (ix2 p i)) (fun i k => V m c main_arg4 (ix3 (id p j) i k)) (fun k => V m c main_arg5 (ix2 (id p j) k))
          (fun i r => V m c main_v6 (ix3 (id p j) ⟨16 * (aid p).val + r.val, _⟩ i)) (fun r k => V m c main_v7 (ix3 (id p j) ⟨16 * (aid p).val + r.val, _⟩ k))))
          (fun f => V m c main_arg6 (ix3 (id p j) f q)) (V m c main_arg7 (ix2 (id p j) q)) = _
    rw [V_main_v4, V_main_v6, V_main_v7, V_main_arg4, V_main_arg5, V_main_arg6, V_main_arg7]
    exact congr (congrArg₂ down (congrArg Quant.hidden (congr (congr (congr (congrArg₂ cols (funext fun i => cast_v4 _ p i) rfl) rfl)
      (funext fun i => funext fun r => cast_v6 _ (id p j) (aid p) r i)) (funext fun r => funext fun k => cast_v7 _ (id p j) (aid p) r k))) rfl) rfl

end Cert.Kernel.Hand
-- ==== Proof.Once.lean ====
/-
  What the precondition of the value claim adds to the ranges: no token names one expert at two of its positions.
-/
module

public import proofs.«01_k».proof.Proof.RefY
public import proofs.«01_k».proof.Proof.KerY
public import proofs.«01_k».proof.Proof.Gen.Pre_routed

@[expose] public section

set_option maxRecDepth 16384

noncomputable section

namespace Cert.Pre_routed.Hand

open Cert.Pre_routed Cert.Pre_routed.Gen
open Idealize.ShloMosaic hiding ix1 ix2 ix3 ix4
open Idealize.ShloMosaic.TcCoe Idealize.ShloMosaic.Tactic
open Idealize.ShloMosaic.ValueIdx Idealize.ShloMosaic.WordCmp

attribute [local instance] Cert.Pre_routed.Gen.facts

theorem word_once {x y a b : BitVec 32} (h : (IntOp.cmpi .ne x y ||| IntOp.cmpi .eq a b) = 1#1) (hxy : x = y) : a = b := by
  subst hxy
  have h1 : IntOp.cmpi .ne x x = 0#1 := by simp [IntOp.cmpi]
  rw [h1] at h
  by_contra hne
  have hb : (a == b) = false := beq_eq_false_iff_ne.mpr hne
  have h2 : IntOp.cmpi .eq a b = 0#1 := by
    show BitVec.ofBool (a == b) = 0#1
    rw [hb]
    rfl
  rw [h2] at h
  exact absurd h (by decide)

theorem once_at (a0 : FVec Ideal S16x1x2816 .bf16) (ids : IVec S16x1x8 32) (a2 : FVec Ideal S16x1x8 .f32) (a3 : IVec S16 32) (a4) (a5) (a6) (a7) (a8) (a9)
    (h : (fn (F := Ideal) a0 ids a2 a3 a4 a5 a6 a7 a8 a9).1 = fun _ => 1#1) (p : Fin 16) (j k : Fin 8) (hjk : ids (ix3 p 0 j) = ids (ix3 p 0 k)) : j = k := by
  have h1 := congrFun h (ix4 p 0 j k)
  have h2 : (IntOp.cmpi .ne (ids (ix3 p 0 j)) (ids (ix3 p 0 k)) ||| IntOp.cmpi .eq (BitVec.ofNat 32 j.val) (BitVec.ofNat 32 k.val)) = 1#1 := by
    rw [← h1]
    unfold fn fn_part1
    pointwise []
    rfl
  have h3 := congrArg BitVec.toNat (word_once h2 hjk)
  rw [BitVec.toNat_ofNat, BitVec.toNat_ofNat] at h3
  exact Fin.ext (by omega)

end Cert.Pre_routed.Hand
-- ==== Proof.lean ====
/-
  The proof of `Cert.Claim`: the frames of the kernel as printed and of its ideal by the one run proved in Proof/Run.lean,
  the reference's frame by its own, and the three results of both runs equal as extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.Pre_in_range
public import proofs.«01_k».proof.Proof.Ids
public import proofs.«01_k».proof.Proof.Same
public import proofs.«01_k».proof.Proof.Gen.ReferenceIdeal.Value
public import proofs.«01_k».proof.Proof.Outs
public import proofs.«01_k».proof.Proof.Gen.Pre_routed
public import proofs.«01_k».proof.Proof.Once
public import Idealize.ShloMosaic.Adequacy
public import Idealize.ShloMosaic.Init

@[expose] public section

noncomputable section

namespace Cert.Proof

open Idealize.ShloMosaic Idealize.ShloMosaic.TcCoe

attribute [local instance] Cert.Kernel.Gen.facts Cert.KernelIdeal.Gen.facts Cert.ReferenceIdeal.Gen.facts Cert.Pre_in_range.Gen.facts
  Cert.Pre_routed.Gen.facts

/-- The kernel as printed runs to its end, its arguments unchanged. -/
theorem kernel_frame : quiescent_Kernel := fun m g h =>
  (θ_run Cert.Kernel.defs _ _).mono (fun _ r => ⟨r.1, r.2.2⟩)
    (Cert.Kernel.Hand.run_full m g fun c => Cert.Kernel.Hand.inRange_of m c (Cert.Kernel.Hand.argsIn_of (h c).1 (h c).2.1 (h c).2.2.1 (h c).2.2.2))

/-- So does the idealized kernel: it is the same program. -/
theorem ideal_frame : quiescent_KernelIdeal := fun m g h => by
  rw [defsEq, mainEq]
  exact (θ_run Cert.Kernel.defs _ _).mono (fun _ r => ⟨r.1, r.2.2⟩)
    (Cert.Kernel.Hand.run_full (F := Ideal) m g fun c => Cert.Kernel.Hand.inRange_of m c (Cert.Kernel.Hand.argsIn_of (h c).1 (h c).2.1 (h c).2.2.1 (h c).2.2.2))

/-- The reference's words are in range, so its run's side conditions hold. -/
theorem ref_hyps (m : (ℓ : Loc Cert.ReferenceIdeal.nD Cert.ReferenceIdeal.τ Cert.ReferenceIdeal.sig) → Buf (Elt Ideal) ℓ) (h : Pre_ReferenceIdeal m) :
    Cert.ReferenceIdeal.Gen.Hyps m :=
  Cert.ReferenceIdeal.Hand.hyps_of m fun c => Cert.Kernel.Hand.argsIn_of (h c).1 (h c).2.1 (h c).2.2.1 (h c).2.2.2

/-- The reference runs to its end, its arguments unchanged. -/
theorem reference_frame : quiescent_ReferenceIdeal := fun m g h => Cert.ReferenceIdeal.Gen.frame m g (ref_hyps m h)

/-- What `routed` says of one device's words, on the kernel's side: the ranges. -/
theorem routed_in (m : (ℓ : Loc Cert.KernelIdeal.nD Cert.KernelIdeal.τ Cert.KernelIdeal.sig) → Buf (Elt Ideal) ℓ) (h : Pre_KernelIdeal_routed m) (c : Dev Cert.KernelIdeal.nD) :
    Cert.Kernel.Hand.ArgsIn (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) :=
  Cert.Kernel.Hand.argsIn_of (h c).2.1 (h c).2.2.1 (h c).2.2.2.1 (h c).2.2.2.2

/-- The frame of the idealized kernel under the value claim's precondition. -/
theorem ideal_frame_routed : quiescent_KernelIdeal_pre_routed := fun m g h => by
  rw [defsEq, mainEq]
  exact (θ_run Cert.Kernel.defs _ _).mono (fun _ r => ⟨r.1, r.2.2⟩)
    (Cert.Kernel.Hand.run_full (F := Ideal) m g fun c => Cert.Kernel.Hand.inRange_of m c (routed_in m h c))

/-- The frame of the reference under the value claim's precondition. -/
theorem reference_frame_routed : quiescent_ReferenceIdeal_pre_routed := fun m g h =>
  Cert.ReferenceIdeal.Gen.frame m g (Cert.ReferenceIdeal.Hand.hyps_of m fun c =>
    Cert.Kernel.Hand.argsIn_of (h c).2.1 (h c).2.2.1 (h c).2.2.2.1 (h c).2.2.2.2)

/-- The three results of the kernel are the reference's. -/
theorem values : algebraic_KernelIdeal_ReferenceIdeal_pre_routed := by
  intro m g m' g' hpre hag
  have hI := routed_in m hpre
  have hR : Cert.ReferenceIdeal.Gen.Hyps m' := Cert.ReferenceIdeal.Hand.hyps_of m' fun c => by
    have h := hI c
    rw [← (hag c).2.1, ← (hag c).2.2.2.1] at h
    exact h
  have hX : ∀ c : Dev Cert.KernelIdeal.nD, Cert.ReferenceIdeal.Gen.V m' c Cert.ReferenceIdeal.main_v6 = Cert.Kernel.Gen.V m c Cert.Kernel.main_v4 := fun c => by
    rw [Cert.ReferenceIdeal.Hand.V_main_v6, Cert.Kernel.Hand.V_main_v4]
    exact congrArg (fun a => shapeCast Cert.Kernel.S16x2816 a Cert.Kernel.Gen.facts.shapeCasts_S16x1x2816_S16x2816) (hag c).1
  refine ⟨fun c => Cert.Kernel.Hand.yOf (Cert.Kernel.Hand.rawOf m c) (Cert.Kernel.Hand.idOf (Cert.Kernel.Hand.rawOf m c)),
    fun c => Cert.Kernel.Hand.codesOf (Cert.Kernel.Hand.rawOf m c), fun c => Cert.Kernel.Hand.scaleRow (Cert.Kernel.Hand.rawOf m c), ?_, ?_⟩
  · rw [defsEq, mainEq]
    refine (θ_run Cert.Kernel.defs _ _).mono (fun r h c => ⟨(h.2.1 c 0).trans (Cert.Kernel.Hand.final0 m c),
      (h.2.1 c 1).trans (Cert.Kernel.Hand.final1 m c), (h.2.1 c 2).trans (Cert.Kernel.Hand.final2 m c), h.1 c⟩)
      (Cert.Kernel.Hand.run_full (F := Ideal) m g fun c => Cert.Kernel.Hand.inRange_of m c (hI c))
  · refine (θ_run Cert.ReferenceIdeal.defs _ _).mono (fun r h c => ⟨(h c).1.trans ?_, (h c).2.1.trans ?_,
      (h c).2.2.1.trans ?_, (h c).2.2.2⟩) (Cert.ReferenceIdeal.Value.run_blocks (F := Ideal) m' g' hR)
    · obtain ⟨g0, g1, g2, g3, g4, g5, g6, g7, g8, g9⟩ := hag c
      refine Cert.ReferenceIdeal.Hand.final11 m' hR c (fun p j => ⟨_, (hI c).1 (ValueIdx.ix3 p 0 j)⟩) (fun p => ⟨_, (hI c).2 (ValueIdx.ix1 p)⟩)
        (fun p j => by rw [g1]) (fun p => by rw [g3]) _ (fun p q => ?_)
      rw [g0, g2, g4, g5, g6, g7, g8, g9]
      exact Cert.Kernel.Hand.ker_y m c (fun p j => ⟨_, (hI c).1 (ValueIdx.ix3 p 0 j)⟩) (fun p => ⟨_, (hI c).2 (ValueIdx.ix1 p)⟩)
        (fun p j => rfl) (fun p => rfl)
        (fun p j k hjk => Cert.Pre_routed.Hand.once_at _ _ _ _ _ _ _ _ _ _ (hpre c).1 p j k (BitVec.eq_of_toNat_eq (Fin.mk.inj hjk))) p q
    · rw [Cert.ReferenceIdeal.Hand.final12, hX]
      exact (Cert.Kernel.Hand.codes_eq _).symm
    · rw [Cert.ReferenceIdeal.Hand.final13, hX]
      exact (Cert.Kernel.Hand.scales_eq _).symm

theorem claim : Cert.Claim :=
  ⟨Cert.Kernel.Gen.facts, Cert.KernelIdeal.Gen.facts, Cert.ReferenceIdeal.Gen.facts, Cert.Pre_in_range.Gen.facts,
    Cert.Pre_routed.Gen.facts, kernel_frame, ideal_frame, ideal_frame_routed, reference_frame, reference_frame_routed, trivial, values⟩

end Cert.Proof
